-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v23) = v3 c
          ∧ r.2.mem ((c.tc : Thread Cert.Reference6Ideal.nD Cert.Reference6Ideal.τ).loc Cert.Reference6Ideal.main_v24) = v4 c
          ∧ r.2.mem ((c.tc : Thread Cert.Reference6Ideal.nD Cert.Reference6Ideal.τ).loc Cert.Reference6Ideal.main_v25) = v5 c
          ∧ r.2.mem ((c.tc : Thread Cert.Reference6Ideal.nD Cert.Reference6Ideal.τ).loc Cert.Reference6Ideal.main_v26) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)) (v6 : (c : Dev Cert.Kernel3Ideal.nD) → Buf (Elt Ideal) ((c.tc : Thread Cert.Kernel3Ideal.nD Cert.Kernel3Ideal.τ).loc Cert.Kernel3Ideal.main_v2_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_v2_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v72) = v3 c
          ∧ r.2.mem ((c.tc : Thread Cert.Reference3Ideal.nD Cert.Reference3Ideal.τ).loc Cert.Reference3Ideal.main_v76) = v4 c
          ∧ r.2.mem ((c.tc : Thread Cert.Reference3Ideal.nD Cert.Reference3Ideal.τ).loc Cert.Reference3Ideal.main_v78) = v5 c
          ∧ r.2.mem ((c.tc : Thread Cert.Reference3Ideal.nD Cert.Reference3Ideal.τ).loc Cert.Reference3Ideal.main_v80) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v30) = v2 c
          ∧ r.2.mem ((c.tc : Thread Cert.Reference10Ideal.nD Cert.Reference10Ideal.τ).loc Cert.Reference10Ideal.main_v31) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg3) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v17) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel3 : Cert.Kernel3.Facts) (hKernel3Ideal : Cert.Kernel3Ideal.Facts) (hReference3Ideal : Cert.Reference3Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel3_Kernel3Ideal
    ∧ algebraic_Kernel3Ideal_Reference3Ideal (hKernel3Ideal := hKernel3Ideal) (hReference3Ideal := hReference3Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S4x1x1024 : Shape := ⟨3, ![4, 1, 1024]⟩
abbrev S2048x1024 : Shape := ⟨2, ![2048, 1024]⟩
abbrev S4x8x1024 : Shape := ⟨3, ![4, 8, 1024]⟩
abbrev S8x1024 : Shape := ⟨2, ![8, 1024]⟩
abbrev S512x2048 : Shape := ⟨2, ![512, 2048]⟩
abbrev S512x1024 : Shape := ⟨2, ![512, 1024]⟩
abbrev S1x1x1024 : Shape := ⟨3, ![1, 1, 1024]⟩
abbrev S1x8x1024 : Shape := ⟨3, ![1, 8, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S1x1024, .f32⟩
  | .hbm, ⟨4, _⟩ => ⟨S4x1x1024, .f32⟩
  | .hbm, ⟨5, _⟩ => ⟨S8192x1024, .f32⟩
  | .hbm, ⟨6, _⟩ => ⟨S1024x2048, .bf16⟩
  | .hbm, ⟨7, _⟩ => ⟨S2048x1024, .bf16⟩
  | .hbm, ⟨8, _⟩ => ⟨S8192x1024, .f32⟩
  | .hbm, ⟨9, _⟩ => ⟨S4x8x1024, .f32⟩
  | .hbm, ⟨10, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x8x1024, .f32⟩
  | .local _ .vmem, ⟨13, _⟩ => ⟨S1x8x1024, .f32⟩
  | .local _ .vmem, ⟨14, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S4x1x1024 : Shape := ⟨3, ![4, 1, 1024]⟩
abbrev S_ : Shape := ⟨0, ![]⟩
abbrev S4x1024 : Shape := ⟨2, ![4, 1024]⟩
abbrev S4x2048x1024 : Shape := ⟨3, ![4, 2048, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2048 : Shape := ⟨3, ![4, 2048, 2048]⟩
abbrev S4x2x1024 : Shape := ⟨3, ![4, 2, 1024]⟩
abbrev S4x8x1024 : Shape := ⟨3, ![4, 8, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S1x1024, .f32⟩
  | .hbm, ⟨4, _⟩ => ⟨S4x1x1024, .f32⟩
  | .hbm, ⟨5, _⟩ => ⟨S8192x1024, .f32⟩
  | .hbm, ⟨6, _⟩ => ⟨S8192x2048, .f32⟩
  | .hbm, ⟨7, _⟩ => ⟨S_, .f32⟩
  | .hbm, ⟨8, _⟩ => ⟨S4x1024, .f32⟩
  | .hbm, ⟨9, _⟩ => ⟨S4x2048x1024, .f32⟩
  | .hbm, ⟨10, _⟩ => ⟨S1024, .f32⟩
  | .hbm, ⟨11, _⟩ => ⟨S4x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S4x1x1024, .f32⟩
  | .hbm, ⟨39, _⟩ => ⟨S4x2048x1024, .f32⟩
  | .hbm, ⟨40, _⟩ => ⟨S4x2048x1024, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S_, .f32⟩
  | .hbm, ⟨48, _⟩ => ⟨S4x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S4x2048x1024, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x1024, .f32⟩
  | .hbm, ⟨70, _⟩ => ⟨S4x2048x1024, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S_, .f32⟩
  | .hbm, ⟨76, _⟩ => ⟨S4x2048, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x1x1024, .f32⟩
  | .hbm, ⟨83, _⟩ => ⟨S4x1x1024, .f32⟩
  | .hbm, ⟨84, _⟩ => ⟨S4x2x1024, .f32⟩
  | .hbm, ⟨85, _⟩ => ⟨S_, .i32⟩
  | .hbm, ⟨86, _⟩ => ⟨S_, .f32⟩
  | .hbm, ⟨87, _⟩ => ⟨S4x8x1024, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S_, .i32⟩
  | .hbm, ⟨92, _⟩ => ⟨S_, .f32⟩
  | .hbm, ⟨93, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c : Ref sig .tc := ⟨.hbm, 85, rfl⟩
abbrev main_call0_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_call1_v0 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel2.lean ====
abbrev S8192x512 : Shape := ⟨2, ![8192, 512]⟩
abbrev S8192x256 : Shape := ⟨2, ![8192, 256]⟩
abbrev S8x8192 : Shape := ⟨2, ![8, 8192]⟩
abbrev S8192x1024 : Shape := ⟨2, ![8192, 1024]⟩
abbrev S1024x3336 : Shape := ⟨2, ![1024, 3336]⟩
abbrev S1x1024 : Shape := ⟨2, ![1, 1024]⟩
abbrev S4x1x1024 : Shape := ⟨3, ![4, 1, 1024]⟩
abbrev S1024x512 : Shape := ⟨2, ![1024, 512]⟩
abbrev S1024x128 : Shape := ⟨2, ![1024, 128]⟩
abbrev S1024x8 : Shape := ⟨2, ![1024, 8]⟩
abbrev S1024x1024 : Shape := ⟨2, ![1024, 1024]⟩
abbrev S1024x3328 : Shape := ⟨2, ![1024, 3328]⟩
abbrev S3328x1024 : Shape := ⟨2, ![3328, 1024]⟩
abbrev S8x1024 : Shape := ⟨2, ![8, 1024]⟩
abbrev S4x8x1024 : Shape := ⟨3, ![4, 8, 1024]⟩
abbrev S512x512 : Shape := ⟨2, ![512, 512]⟩
abbrev S512x1024 : Shape := ⟨2, ![512, 1024]⟩
abbrev S512x256 : Shape := ⟨2, ![512, 256]⟩
abbrev S1x1x1024 : Shape := ⟨3, ![1, 1, 1024]⟩
abbrev S8x512 : Shape := ⟨2, ![8, 512]⟩
abbrev S1x8x1024 : Shape := ⟨3, ![1, 8, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 28
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8x8192, .f32⟩
  | .hbm, ⟨6, _⟩ => ⟨S8192x1024, .bf16⟩
  | .hbm, ⟨7, _⟩ => ⟨S1024x3336, .f32⟩
  | .hbm, ⟨8, _⟩ => ⟨S8192x1024, .f32⟩
  | .hbm, ⟨9, _⟩ => ⟨S1x1024, .f32⟩
  | .hbm, ⟨10, _⟩ => ⟨S4x1x1024, .f32⟩
  | .hbm, ⟨11, _⟩ => ⟨S8192x1024, .f32⟩
  | .hbm, ⟨12, _⟩ => ⟨S1024x3336, .bf16⟩
  | .hbm, ⟨13, _⟩ => ⟨S1024x512, .bf16⟩
  | .hbm, ⟨14, _⟩ => ⟨S1024x128, .bf16⟩
  | .hbm, ⟨15, _⟩ => ⟨S1024x128, .bf16⟩
  | .hbm, ⟨16, _⟩ => ⟨S1024x512, .bf16⟩
  | .hbm, ⟨17, _⟩ => ⟨S1024x512, .bf16⟩
  | .hbm, ⟨18, _⟩ => ⟨S1024x512, .bf16⟩
  | .hbm, ⟨19, _⟩ => ⟨S1024x8, .bf16⟩
  | .hbm, ⟨20, _⟩ => ⟨S1024x1024, .bf16⟩
  | .hbm, ⟨21, _⟩ => ⟨S1024x3328, .bf16⟩
  | .hbm, ⟨22, _⟩ => ⟨S3328x1024, .bf16⟩
  | .hbm, ⟨23, _⟩ => ⟨S8x1024, .bf16⟩
  | .hbm, ⟨24, _⟩ => ⟨S8192x1024, .f32⟩
  | .hbm, ⟨25, _⟩ => ⟨S4x8x1024, .f32⟩
  | .hbm, ⟨26, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S3328x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | .local _ .vmem, ⟨19, _⟩ => ⟨S512x1024, .f32⟩
  | .local _ .vmem, ⟨20, _⟩ => ⟨S8x512, .f32⟩
  | .local _ .vmem, ⟨21, _⟩ => ⟨S8x512, .f32⟩
  | .local _ .vmem, ⟨22, _⟩ => ⟨S8x1024, .bf16⟩
  | .local _ .vmem, ⟨23, _⟩ => ⟨S512x1024, .f32⟩
  | .local _ .vmem, ⟨24, _⟩ => ⟨S512x1024, .f32⟩
  | .local _ .vmem, ⟨25, _⟩ => ⟨S1x8x1024, .f32⟩
  | .local _ .vmem, ⟨26, _⟩ => ⟨S1x8x1024, .f32⟩
  | .local _ .vmem, ⟨27, _⟩ => ⟨S8x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3328x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S8192x512 : Shape := ⟨2, ![8192, 512]⟩
abbrev S8192x256 : Shape := ⟨2, ![8192, 256]⟩
abbrev S8x8192 : Shape := ⟨2, ![8, 8192]⟩
abbrev S8192x1024 : Shape := ⟨2, ![8192, 1024]⟩
abbrev S1024x3336 : Shape := ⟨2, ![1024, 3336]⟩
abbrev S1x1024 : Shape := ⟨2, ![1, 1024]⟩
abbrev S4x1x1024 : Shape := ⟨3, ![4, 1, 1024]⟩
abbrev S8192x8 : Shape := ⟨2, ![8192, 8]⟩
abbrev S8192x3336 : Shape := ⟨2, ![8192, 3336]⟩
abbrev S_ : Shape := ⟨0, ![]⟩
abbrev S4x1024 : Shape := ⟨2, ![4, 1024]⟩
abbrev S4x2048x1024 : Shape := ⟨3, ![4, 2048, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3336 : Shape := ⟨3, ![4, 2048, 3336]⟩
abbrev S4x2x1024 : Shape := ⟨3, ![4, 2, 1024]⟩
abbrev S4x8x1024 : Shape := ⟨3, ![4, 8, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8x8192, .f32⟩
  | .hbm, ⟨6, _⟩ => ⟨S8192x1024, .bf16⟩
  | .hbm, ⟨7, _⟩ => ⟨S1024x3336, .f32⟩
  | .hbm, ⟨8, _⟩ => ⟨S8192x1024, .f32⟩
  | .hbm, ⟨9, _⟩ => ⟨S1x1024, .f32⟩
  | .hbm, ⟨10, _⟩ => ⟨S4x1x1024, .f32⟩
  | .hbm, ⟨11, _⟩ => ⟨S8192x1024, .f32⟩
  | .hbm, ⟨12, _⟩ => ⟨S8192x8, .f32⟩
  | .hbm, ⟨13, _⟩ => ⟨S8192x512, .f32⟩
  | .hbm, ⟨14, _⟩ => ⟨S8192x256, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x1024, .f32⟩
  | .hbm, ⟨19, _⟩ => ⟨S8192x3336, .f32⟩
  | .hbm, ⟨20, _⟩ => ⟨S_, .f32⟩
  | .hbm, ⟨21, _⟩ => ⟨S4x1024, .f32⟩
  | .hbm, ⟨22, _⟩ => ⟨S4x2048x1024, .f32⟩
  | .hbm, ⟨23, _⟩ => ⟨S1024, .f32⟩
  | .hbm, ⟨24, _⟩ => ⟨S4x1024, .f32⟩
  | .hbm, ⟨25, _⟩ => ⟨S4x2048x1024, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x1x1024, .f32⟩
  | .hbm, ⟨46, _⟩ => ⟨S_, .f32⟩
  | .hbm, ⟨47, _⟩ => ⟨S4x1x1024, .f32⟩
  | .hbm, ⟨48, _⟩ => ⟨S4x1x1024, .f32⟩
  | .hbm, ⟨49, _⟩ => ⟨S4x2048x1024, .f32⟩
  | .hbm, ⟨50, _⟩ => ⟨S4x2048x1024, .f32⟩
  | .hbm, ⟨51, _⟩ => ⟨S4x1x1024, .f32⟩
  | .hbm, ⟨52, _⟩ => ⟨S4x2048x1024, .f32⟩
  | .hbm, ⟨53, _⟩ => ⟨S4x2048x1024, .f32⟩
  | .hbm, ⟨54, _⟩ => ⟨S4x2048x3336, .f32⟩
  | .hbm, ⟨55, _⟩ => ⟨S4x2048x3336, .f32⟩
  | .hbm, ⟨56, _⟩ => ⟨S4x2048x1024, .f32⟩
  | .hbm, ⟨57, _⟩ => ⟨S_, .f32⟩
  | .hbm, ⟨58, _⟩ => ⟨S4x1024, .f32⟩
  | .hbm, ⟨59, _⟩ => ⟨S4x1x1024, .f32⟩
  | .hbm, ⟨60, _⟩ => ⟨S_, .f32⟩
  | .hbm, ⟨61, _⟩ => ⟨S4x1024, .f32⟩
  | .hbm, ⟨62, _⟩ => ⟨S4x2048x1024, .f32⟩
  | .hbm, ⟨63, _⟩ => ⟨S_, .f32⟩
  | .hbm, ⟨64, _⟩ => ⟨S4x1024, .f32⟩
  | .hbm, ⟨65, _⟩ => ⟨S4x1x1024, .f32⟩
  | .hbm, ⟨66, _⟩ => ⟨S4x2048x1024, .f32⟩
  | .hbm, ⟨67, _⟩ => ⟨S4x2048x1024, .f32⟩
  | .hbm, ⟨68, _⟩ => ⟨S_, .f32⟩
  | .hbm, ⟨69, _⟩ => ⟨S4x1024, .f32⟩
  | .hbm, ⟨70, _⟩ => ⟨S4x2048x1024, .f32⟩
  | .hbm, ⟨71, _⟩ => ⟨S_, .f32⟩
  | .hbm, ⟨72, _⟩ => ⟨S1024, .f32⟩
  | .hbm, ⟨73, _⟩ => ⟨S1x1x1024, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S1024, .f32⟩
  | .hbm, ⟨78, _⟩ => ⟨S4x2048x1024, .f32⟩
  | .hbm, ⟨79, _⟩ => ⟨S_, .f32⟩
  | .hbm, ⟨80, _⟩ => ⟨S4x2048, .f32⟩
  | .hbm, ⟨81, _⟩ => ⟨S4x2048x1, .f32⟩
  | .hbm, ⟨82, _⟩ => ⟨S4x2048x1024, .f32⟩
  | .hbm, ⟨83, _⟩ => ⟨S4x2048x1024, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S_, .f32⟩
  | .hbm, ⟨89, _⟩ => ⟨S4x2048, .f32⟩
  | .hbm, ⟨90, _⟩ => ⟨S4x2048x1024, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x1x1024, .f32⟩
  | .hbm, ⟨96, _⟩ => ⟨S4x1x1024, .f32⟩
  | .hbm, ⟨97, _⟩ => ⟨S4x2x1024, .f32⟩
  | .hbm, ⟨98, _⟩ => ⟨S_, .i32⟩
  | .hbm, ⟨99, _⟩ => ⟨S_, .f32⟩
  | .hbm, ⟨100, _⟩ => ⟨S4x8x1024, .f32⟩
  | .hbm, ⟨101, _⟩ => ⟨S8192x1024, .f32⟩
  | .hbm, ⟨102, _⟩ => ⟨S8192x1024, .f32⟩
  | .hbm, ⟨103, _⟩ => ⟨S1x1024, .f32⟩
  | .hbm, ⟨104, _⟩ => ⟨S_, .i32⟩
  | .hbm, ⟨105, _⟩ => ⟨S_, .f32⟩
  | .hbm, ⟨106, _⟩ => ⟨S8x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c : Ref sig .tc := ⟨.hbm, 98, rfl⟩
abbrev main_call0_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_14 : Ref sig .tc := ⟨.hbm, 104, rfl⟩
abbrev main_call1_v0 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S8x1024x256 : Shape := ⟨3, ![8, 1024, 256]⟩
abbrev S1024x1024 : Shape := ⟨2, ![1024, 1024]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024x256, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S8192x256 : Shape := ⟨2, ![8192, 256]⟩
abbrev S8x8192 : Shape := ⟨2, ![8, 8192]⟩
abbrev S1024x512 : Shape := ⟨2, ![1024, 512]⟩
abbrev S1024x1024 : Shape := ⟨2, ![1024, 1024]⟩
abbrev S1024x256 : Shape := ⟨2, ![1024, 256]⟩
abbrev S8x1024 : Shape := ⟨2, ![8, 1024]⟩

abbrev nBuf : Space → Nat
  | .hbm => 15
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8x8192, .f32⟩
  | .hbm, ⟨7, _⟩ => ⟨S8192x1024, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x1024, .bf16⟩
  | .hbm, ⟨13, _⟩ => ⟨S1024x256, .bf16⟩
  | .hbm, ⟨14, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x256, .bf16⟩
  | .local _ .vmem, ⟨13, _⟩ => ⟨S1024x256, .bf16⟩
  | .local _ .vmem, ⟨14, _⟩ => ⟨S8x1024, .f32⟩
  | .local _ .vmem, ⟨15, _⟩ => ⟨S8x1024, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x1024, .bf16⟩
  | .local _ .vmem, ⟨21, _⟩ => ⟨S1024x256, .bf16⟩
  | .local _ .vmem, ⟨22, _⟩ => ⟨S8x1024, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x1024, .f32⟩
  | .local _ .vmem, ⟨28, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def k0_cond14 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_52 : BitVec 32 := 0#32
  let v63 : BitVec 1 := Scalar.cmpi .ne v62 c0_i32_52
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S8192x1024 : Shape := ⟨2, ![8192, 1024]⟩
abbrev S8192x512 : Shape := ⟨2, ![8192, 512]⟩
abbrev S8192x256 : Shape := ⟨2, ![8192, 256]⟩
abbrev S8x8192 : Shape := ⟨2, ![8, 8192]⟩
abbrev S8192x8 : Shape := ⟨2, ![8192, 8]⟩
abbrev S8192x3336 : Shape := ⟨2, ![8192, 3336]⟩
abbrev S_ : Shape := ⟨0, ![]⟩
abbrev S1024x3336 : Shape := ⟨2, ![1024, 3336]⟩
abbrev S3336x1024 : Shape := ⟨2, ![3336, 1024]⟩
abbrev S1024x512 : Shape := ⟨2, ![1024, 512]⟩
abbrev S1024x256 : Shape := ⟨2, ![1024, 256]⟩
abbrev S1024x8 : Shape := ⟨2, ![1024, 8]⟩
abbrev S1024x1024 : Shape := ⟨2, ![1024, 1024]⟩
abbrev S8x1024 : Shape := ⟨2, ![8, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8x8192, .f32⟩
  | .hbm, ⟨7, _⟩ => ⟨S8192x1024, .bf16⟩
  | .hbm, ⟨8, _⟩ => ⟨S8192x8, .f32⟩
  | .hbm, ⟨9, _⟩ => ⟨S8192x512, .f32⟩
  | .hbm, ⟨10, _⟩ => ⟨S8192x256, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x1024, .f32⟩
  | .hbm, ⟨15, _⟩ => ⟨S8192x3336, .f32⟩
  | .hbm, ⟨16, _⟩ => ⟨S_, .f32⟩
  | .hbm, ⟨17, _⟩ => ⟨S1024x3336, .f32⟩
  | .hbm, ⟨18, _⟩ => ⟨S8192x1024, .f32⟩
  | .hbm, ⟨19, _⟩ => ⟨S8192x3336, .f32⟩
  | .hbm, ⟨20, _⟩ => ⟨S3336x1024, .f32⟩
  | .hbm, ⟨21, _⟩ => ⟨S1024x3336, .f32⟩
  | .hbm, ⟨22, _⟩ => ⟨S1024x512, .f32⟩
  | .hbm, ⟨23, _⟩ => ⟨S1024x256, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x8, .f32⟩
  | .hbm, ⟨28, _⟩ => ⟨S1024x1024, .f32⟩
  | .hbm, ⟨29, _⟩ => ⟨S1024x512, .bf16⟩
  | .hbm, ⟨30, _⟩ => ⟨S1024x512, .bf16⟩
  | .hbm, ⟨31, _⟩ => ⟨S1024x512, .bf16⟩
  | .hbm, ⟨32, _⟩ => ⟨S1024x512, .bf16⟩
  | .hbm, ⟨33, _⟩ => ⟨S1024x1024, .bf16⟩
  | .hbm, ⟨34, _⟩ => ⟨S1024x256, .bf16⟩
  | .hbm, ⟨35, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S4x1x1024 : Shape := ⟨3, ![4, 1, 1024]⟩
abbrev S1024x3336 : Shape := ⟨2, ![1024, 3336]⟩
abbrev S1024x512 : Shape := ⟨2, ![1024, 512]⟩
abbrev S1024x128 : Shape := ⟨2, ![1024, 128]⟩
abbrev S1024x8 : Shape := ⟨2, ![1024, 8]⟩
abbrev S1024x1024 : Shape := ⟨2, ![1024, 1024]⟩
abbrev S1024x3328 : Shape := ⟨2, ![1024, 3328]⟩
abbrev S8x1024 : Shape := ⟨2, ![8, 1024]⟩
abbrev S8192x3328 : Shape := ⟨2, ![8192, 3328]⟩
abbrev S8x8192 : Shape := ⟨2, ![8, 8192]⟩
abbrev S512x1024 : Shape := ⟨2, ![512, 1024]⟩
abbrev S1x1x1024 : Shape := ⟨3, ![1, 1, 1024]⟩
abbrev S512x3328 : Shape := ⟨2, ![512, 3328]⟩
abbrev S8x512 : Shape := ⟨2, ![8, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x3336, .f32⟩
  | .hbm, ⟨5, _⟩ => ⟨S1024x3336, .bf16⟩
  | .hbm, ⟨6, _⟩ => ⟨S1024x512, .bf16⟩
  | .hbm, ⟨7, _⟩ => ⟨S1024x128, .bf16⟩
  | .hbm, ⟨8, _⟩ => ⟨S1024x128, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x8, .bf16⟩
  | .hbm, ⟨13, _⟩ => ⟨S1024x1024, .bf16⟩
  | .hbm, ⟨14, _⟩ => ⟨S1024x3328, .bf16⟩
  | .hbm, ⟨15, _⟩ => ⟨S8x1024, .bf16⟩
  | .hbm, ⟨16, _⟩ => ⟨S8192x1024, .bf16⟩
  | .hbm, ⟨17, _⟩ => ⟨S8192x3328, .bf16⟩
  | .hbm, ⟨18, _⟩ => ⟨S8x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3328, .bf16⟩
  | .local _ .vmem, ⟨8, _⟩ => ⟨S8x1024, .bf16⟩
  | .local _ .vmem, ⟨9, _⟩ => ⟨S512x1024, .bf16⟩
  | .local _ .vmem, ⟨10, _⟩ => ⟨S512x1024, .bf16⟩
  | .local _ .vmem, ⟨11, _⟩ => ⟨S512x3328, .bf16⟩
  | .local _ .vmem, ⟨12, _⟩ => ⟨S512x3328, .bf16⟩
  | .local _ .vmem, ⟨13, _⟩ => ⟨S8x512, .f32⟩
  | .local _ .vmem, ⟨14, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3328 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x1024 : Shape := ⟨2, ![8192, 1024]⟩
abbrev S1x1024 : Shape := ⟨2, ![1, 1024]⟩
abbrev S4x1x1024 : Shape := ⟨3, ![4, 1, 1024]⟩
abbrev S1024x3336 : Shape := ⟨2, ![1024, 3336]⟩
abbrev S4x1024 : Shape := ⟨2, ![4, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x3336 : Shape := ⟨2, ![8192, 3336]⟩
abbrev S8192x512 : Shape := ⟨2, ![8192, 512]⟩
abbrev S8192x128 : Shape := ⟨2, ![8192, 128]⟩
abbrev S8192x8 : Shape := ⟨2, ![8192, 8]⟩
abbrev S8192x3328 : Shape := ⟨2, ![8192, 3328]⟩
abbrev S8x8192 : Shape := ⟨2, ![8, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x3336, .f32⟩
  | .hbm, ⟨5, _⟩ => ⟨S4x1024, .f32⟩
  | .hbm, ⟨6, _⟩ => ⟨S4x1024, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S8192x1024, .f32⟩
  | .hbm, ⟨35, _⟩ => ⟨S8192x3336, .f32⟩
  | .hbm, ⟨36, _⟩ => ⟨S8192x512, .f32⟩
  | .hbm, ⟨37, _⟩ => ⟨S8192x128, .f32⟩
  | .hbm, ⟨38, _⟩ => ⟨S8192x128, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x8, .f32⟩
  | .hbm, ⟨43, _⟩ => ⟨S8192x1024, .f32⟩
  | .hbm, ⟨44, _⟩ => ⟨S8192x1024, .bf16⟩
  | .hbm, ⟨45, _⟩ => ⟨S8192x3328, .f32⟩
  | .hbm, ⟨46, _⟩ => ⟨S8192x3328, .bf16⟩
  | .hbm, ⟨47, _⟩ => ⟨S8x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S4x1x1024 : Shape := ⟨3, ![4, 1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S512x1024 : Shape := ⟨2, ![512, 1024]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S8192x1024, .bf16⟩
  | .hbm, ⟨9, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S8x1024x256, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .f32⟩
  | .local _ .vmem, ⟨11, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x1024 : Shape := ⟨2, ![8192, 1024]⟩
abbrev S1x1024 : Shape := ⟨2, ![1, 1024]⟩
abbrev S4x1x1024 : Shape := ⟨3, ![4, 1, 1024]⟩
abbrev S1024x2048 : Shape := ⟨2, ![1024, 2048]⟩
abbrev S4x1024 : Shape := ⟨2, ![4, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x2048, .f32⟩
  | .hbm, ⟨5, _⟩ => ⟨S4x1024, .f32⟩
  | .hbm, ⟨6, _⟩ => ⟨S4x1024, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S8192x1024, .f32⟩
  | .hbm, ⟨35, _⟩ => ⟨S8192x1024, .bf16⟩
  | .hbm, ⟨36, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel9.lean ====
abbrev S8192x512 : Shape := ⟨2, ![8192, 512]⟩
abbrev S8192x3328 : Shape := ⟨2, ![8192, 3328]⟩
abbrev S1024x1024 : Shape := ⟨2, ![1024, 1024]⟩
abbrev S8192x1024 : Shape := ⟨2, ![8192, 1024]⟩
abbrev S4x1x1024 : Shape := ⟨3, ![4, 1, 1024]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x3328, .bf16⟩
  | .hbm, ⟨3, _⟩ => ⟨S1024x1024, .f32⟩
  | .hbm, ⟨4, _⟩ => ⟨S8192x1024, .f32⟩
  | .hbm, ⟨5, _⟩ => ⟨S4x1x1024, .f32⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S8192x512 : Shape := ⟨2, ![8192, 512]⟩
abbrev S8192x3328 : Shape := ⟨2, ![8192, 3328]⟩
abbrev S1024x1024 : Shape := ⟨2, ![1024, 1024]⟩
abbrev S8192x1024 : Shape := ⟨2, ![8192, 1024]⟩
abbrev S4x1x1024 : Shape := ⟨3, ![4, 1, 1024]⟩
abbrev S_ : Shape := ⟨0, ![]⟩
abbrev S4x2048x1024 : Shape := ⟨3, ![4, 2048, 1024]⟩
abbrev S4x1024 : Shape := ⟨2, ![4, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x3328, .bf16⟩
  | .hbm, ⟨3, _⟩ => ⟨S1024x1024, .f32⟩
  | .hbm, ⟨4, _⟩ => ⟨S8192x1024, .f32⟩
  | .hbm, ⟨5, _⟩ => ⟨S4x1x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S4x2048x1024, .f32⟩
  | .hbm, ⟨22, _⟩ => ⟨S4x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S8192x1024, .bf16⟩
  | .hbm, ⟨29, _⟩ => ⟨S8192x1024, .bf16⟩
  | .hbm, ⟨30, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel3.lean ====
abbrev S8192x1024 : Shape := ⟨2, ![8192, 1024]⟩
abbrev S8192x2048 : Shape := ⟨2, ![8192, 2048]⟩
abbrev S1024x1024 : Shape := ⟨2, ![1024, 1024]⟩
abbrev S4x1x1024 : Shape := ⟨3, ![4, 1, 1024]⟩
abbrev S1x1024 : Shape := ⟨2, ![1, 1024]⟩
abbrev S8x1024 : Shape := ⟨2, ![8, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x1024, .f32⟩
  | .hbm, ⟨3, _⟩ => ⟨S8192x1024, .f32⟩
  | .hbm, ⟨4, _⟩ => ⟨S4x1x1024, .f32⟩
  | .hbm, ⟨5, _⟩ => ⟨S1x1024, .f32⟩
  | .hbm, ⟨6, _⟩ => ⟨S8192x1024, .f32⟩
  | .hbm, ⟨7, _⟩ => ⟨S1024x1024, .bf16⟩
  | .hbm, ⟨8, _⟩ => ⟨S1024x1024, .bf16⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S4x1x1024, .f32⟩
  | .hbm, ⟨14, _⟩ => ⟨S8x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S1x1x1024, .f32⟩
  | .local _ .vmem, ⟨22, _⟩ => ⟨S1x1x1024, .f32⟩
  | .local _ .vmem, ⟨23, _⟩ => ⟨S8x1024, .f32⟩
  | .local _ .vmem, ⟨24, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x1024 : Shape := ⟨2, ![8192, 1024]⟩
abbrev S8192x2048 : Shape := ⟨2, ![8192, 2048]⟩
abbrev S1024x1024 : Shape := ⟨2, ![1024, 1024]⟩
abbrev S4x1x1024 : Shape := ⟨3, ![4, 1, 1024]⟩
abbrev S1x1024 : Shape := ⟨2, ![1, 1024]⟩
abbrev S_ : Shape := ⟨0, ![]⟩
abbrev S4x2048x1024 : Shape := ⟨3, ![4, 2048, 1024]⟩
abbrev S4x1024 : Shape := ⟨2, ![4, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S8x1024 : Shape := ⟨2, ![8, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x1024, .f32⟩
  | .hbm, ⟨3, _⟩ => ⟨S8192x1024, .f32⟩
  | .hbm, ⟨4, _⟩ => ⟨S4x1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S4x2048x1024, .f32⟩
  | .hbm, ⟨20, _⟩ => ⟨S4x2048x1024, .f32⟩
  | .hbm, ⟨21, _⟩ => ⟨S4x1024, .f32⟩
  | .hbm, ⟨22, _⟩ => ⟨S1024, .f32⟩
  | .hbm, ⟨23, _⟩ => ⟨S4x2048x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1024, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S1024, .f32⟩
  | .hbm, ⟨79, _⟩ => ⟨S4x2048x1024, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S4x2048x1024, .f32⟩
  | .hbm, ⟨84, _⟩ => ⟨S4x2048x1024, .f32⟩
  | .hbm, ⟨85, _⟩ => ⟨S4x2048x1, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S_, .f32⟩
  | .hbm, ⟨90, _⟩ => ⟨S4x2048, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S4x2048x1024, .f32⟩
  | .hbm, ⟨99, _⟩ => ⟨S_, .f32⟩
  | .hbm, ⟨100, _⟩ => ⟨S4x1024, .f32⟩
  | .hbm, ⟨101, _⟩ => ⟨S4x1x1024, .f32⟩
  | .hbm, ⟨102, _⟩ => ⟨S_, .f32⟩
  | .hbm, ⟨103, _⟩ => ⟨S4x1024, .f32⟩
  | .hbm, ⟨104, _⟩ => ⟨S8192x1024, .f32⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x1024, .bf16⟩
  | .hbm, ⟨109, _⟩ => ⟨S4x1x1024, .f32⟩
  | .hbm, ⟨110, _⟩ => ⟨S1x1024, .f32⟩
  | .hbm, ⟨111, _⟩ => ⟨S_, .i32⟩
  | .hbm, ⟨112, _⟩ => ⟨S_, .f32⟩
  | .hbm, ⟨113, _⟩ => ⟨S8x1024, .f32⟩
  | .hbm, ⟨114, _⟩ => ⟨S1x1024, .f32⟩
  | .hbm, ⟨115, _⟩ => ⟨S_, .i32⟩
  | .hbm, ⟨116, _⟩ => ⟨S_, .f32⟩
  | .hbm, ⟨117, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c : Ref sig .tc := ⟨.hbm, 111, rfl⟩
abbrev main_call1_v0 : Ref sig .tc := ⟨.hbm, 112, rfl⟩
abbrev main_v78 : Ref sig .tc := ⟨.hbm, 113, rfl⟩
abbrev main_v79 : Ref sig .tc := ⟨.hbm, 114, rfl⟩
abbrev main_c_17 : Ref sig .tc := ⟨.hbm, 115, rfl⟩
abbrev main_call2_v0 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel10.lean ====
abbrev S8192x1024 : Shape := ⟨2, ![8192, 1024]⟩
abbrev S4x1x1024 : Shape := ⟨3, ![4, 1, 1024]⟩
abbrev S1024x1024 : Shape := ⟨2, ![1024, 1024]⟩
abbrev S8192x512 : Shape := ⟨2, ![8192, 512]⟩
abbrev S8192x3328 : Shape := ⟨2, ![8192, 3328]⟩
abbrev S512x1024 : Shape := ⟨2, ![512, 1024]⟩
abbrev S1x1x1024 : Shape := ⟨3, ![1, 1, 1024]⟩
abbrev S512x512 : Shape := ⟨2, ![512, 512]⟩
abbrev S1x1024 : Shape := ⟨2, ![1, 1024]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S8192x1024, .bf16⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S8192x3328, .bf16⟩
  | .hbm, ⟨7, _⟩ => ⟨S1024x1024, .bf16⟩
  | .hbm, ⟨8, _⟩ => ⟨S1024x1024, .bf16⟩
  | .hbm, ⟨9, _⟩ => ⟨S8192x1024, .bf16⟩
  | .hbm, ⟨10, _⟩ => ⟨S4x1x1024, .f32⟩
  | .hbm, ⟨11, _⟩ => ⟨S8192x512, .bf16⟩
  | .hbm, ⟨12, _⟩ => ⟨S8192x512, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference10Ideal.lean ====
abbrev S8192x1024 : Shape := ⟨2, ![8192, 1024]⟩
abbrev S4x1x1024 : Shape := ⟨3, ![4, 1, 1024]⟩
abbrev S1024x1024 : Shape := ⟨2, ![1024, 1024]⟩
abbrev S8192x512 : Shape := ⟨2, ![8192, 512]⟩
abbrev S8192x3328 : Shape := ⟨2, ![8192, 3328]⟩
abbrev S_ : Shape := ⟨0, ![]⟩
abbrev S4x2048x1024 : Shape := ⟨3, ![4, 2048, 1024]⟩
abbrev S4x1024 : Shape := ⟨2, ![4, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S8192x1024, .bf16⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S8192x3328, .bf16⟩
  | .hbm, ⟨7, _⟩ => ⟨S8192x1024, .bf16⟩
  | .hbm, ⟨8, _⟩ => ⟨S8192x1024, .f32⟩
  | .hbm, ⟨9, _⟩ => ⟨S_, .f32⟩
  | .hbm, ⟨10, _⟩ => ⟨S4x2048x1024, .f32⟩
  | .hbm, ⟨11, _⟩ => ⟨S4x1024, .f32⟩
  | .hbm, ⟨12, _⟩ => ⟨S8192x1024, .f32⟩
  | .hbm, ⟨13, _⟩ => ⟨S4x2048x1024, .f32⟩
  | .hbm, ⟨14, _⟩ => ⟨S4x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x1024, .f32⟩
  | .hbm, ⟨24, _⟩ => ⟨S4x1x1024, .f32⟩
  | .hbm, ⟨25, _⟩ => ⟨S_, .f32⟩
  | .hbm, ⟨26, _⟩ => ⟨S4x1024, .f32⟩
  | .hbm, ⟨27, _⟩ => ⟨S8192x1024, .f32⟩
  | .hbm, ⟨28, _⟩ => ⟨S8192x512, .f32⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x512, .f32⟩
  | .hbm, ⟨45, _⟩ => ⟨S8192x512, .f32⟩
  | .hbm, ⟨46, _⟩ => ⟨S8192x1024, .bf16⟩
  | .hbm, ⟨47, _⟩ => ⟨S4x1x1024, .f32⟩
  | .hbm, ⟨48, _⟩ => ⟨S8192x512, .bf16⟩
  | .hbm, ⟨49, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel11.lean ====
abbrev S8x8192 : Shape := ⟨2, ![8, 8192]⟩
abbrev S8x1 : Shape := ⟨2, ![8, 1]⟩
abbrev S8x128 : Shape := ⟨2, ![8, 128]⟩
abbrev S8x2048 : Shape := ⟨2, ![8, 2048]⟩
abbrev S256x256 : Shape := ⟨2, ![256, 256]⟩
abbrev S8x256 : Shape := ⟨2, ![8, 256]⟩
abbrev S8 : Shape := ⟨1, ![8]⟩

abbrev nBuf : Space → Nat
  | .hbm => 5
  | .vmem => 8
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8x1, .f32⟩
  | .hbm, ⟨3, _⟩ => ⟨S8x8192, .f32⟩
  | .hbm, ⟨4, _⟩ => ⟨S8x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x1, .f32⟩
  | .local _ .vmem, ⟨5, _⟩ => ⟨S8x2048, .f32⟩
  | .local _ .vmem, ⟨6, _⟩ => ⟨S8x2048, .f32⟩
  | .local _ .vmem, ⟨7, _⟩ => ⟨S8x128, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S8x8192 : Shape := ⟨2, ![8, 8192]⟩
abbrev S8x1 : Shape := ⟨2, ![8, 1]⟩
abbrev S8x4x2048 : Shape := ⟨3, ![8, 4, 2048]⟩
abbrev S4x2048x8 : Shape := ⟨3, ![4, 2048, 8]⟩
abbrev S8 : Shape := ⟨1, ![8]⟩
abbrev S1x1x8 : Shape := ⟨3, ![1, 1, 8]⟩
abbrev S_ : Shape := ⟨0, ![]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8x1, .f32⟩
  | .hbm, ⟨3, _⟩ => ⟨S8x4x2048, .f32⟩
  | .hbm, ⟨4, _⟩ => ⟨S4x2048x8, .f32⟩
  | .hbm, ⟨5, _⟩ => ⟨S8, .f32⟩
  | .hbm, ⟨6, _⟩ => ⟨S1x1x8, .f32⟩
  | .hbm, ⟨7, _⟩ => ⟨S4x2048x8, .f32⟩
  | .hbm, ⟨8, _⟩ => ⟨S4x2048x8, .f32⟩
  | .hbm, ⟨9, _⟩ => ⟨S4x2048x8, .f32⟩
  | .hbm, ⟨10, _⟩ => ⟨S_, .f32⟩
  | .hbm, ⟨11, _⟩ => ⟨S4x2048x8, .f32⟩
  | .hbm, ⟨12, _⟩ => ⟨S4x2048x8, .f32⟩
  | .hbm, ⟨13, _⟩ => ⟨S4x2048x8, .f32⟩
  | .hbm, ⟨14, _⟩ => ⟨S4x2048x8, .f32⟩
  | .hbm, ⟨15, _⟩ => ⟨S4x2048x8, .i1⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S4x2048x8, .f32⟩
  | .hbm, ⟨24, _⟩ => ⟨S_, .f32⟩
  | .hbm, ⟨25, _⟩ => ⟨S4x2048x8, .f32⟩
  | .hbm, ⟨26, _⟩ => ⟨S4x2048x8, .i1⟩
  | .hbm, ⟨27, _⟩ => ⟨S_, .f32⟩
  | .hbm, ⟨28, _⟩ => ⟨S4x2048x8, .f32⟩
  | .hbm, ⟨29, _⟩ => ⟨S4x2048x8, .f32⟩
  | .hbm, ⟨30, _⟩ => ⟨S_, .f32⟩
  | .hbm, ⟨31, _⟩ => ⟨S4x2048x8, .f32⟩
  | .hbm, ⟨32, _⟩ => ⟨S4x2048x8, .i1⟩
  | .hbm, ⟨33, _⟩ => ⟨S_, .f32⟩
  | .hbm, ⟨34, _⟩ => ⟨S4x2048x8, .f32⟩
  | .hbm, ⟨35, _⟩ => ⟨S4x2048x8, .f32⟩
  | .hbm, ⟨36, _⟩ => ⟨S4x2048x8, .f32⟩
  | .hbm, ⟨37, _⟩ => ⟨S4x2048x8, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x2048x8, .f32⟩
  | .hbm, ⟨46, _⟩ => ⟨S4x2048x8, .i1⟩
  | .hbm, ⟨47, _⟩ => ⟨S_, .f32⟩
  | .hbm, ⟨48, _⟩ => ⟨S4x2048x8, .f32⟩
  | .hbm, ⟨49, _⟩ => ⟨S4x2048x8, .f32⟩
  | .hbm, ⟨50, _⟩ => ⟨S4x2048x8, .f32⟩
  | .hbm, ⟨51, _⟩ => ⟨S4x2048x8, .f32⟩
  | .hbm, ⟨52, _⟩ => ⟨S4x2048x8, .f32⟩
  | .hbm, ⟨53, _⟩ => ⟨S_, .f32⟩
  | .hbm, ⟨54, _⟩ => ⟨S4x2048x8, .f32⟩
  | .hbm, ⟨55, _⟩ => ⟨S4x2048x8, .f32⟩
  | .hbm, ⟨56, _⟩ => ⟨S4x2048x8, .f32⟩
  | .hbm, ⟨57, _⟩ => ⟨S_, .f32⟩
  | .hbm, ⟨58, _⟩ => ⟨S_, .f32⟩
  | .hbm, ⟨59, _⟩ => ⟨S4x2048x8, .f32⟩
  | .hbm, ⟨60, _⟩ => ⟨S8x4x2048, .f32⟩
  | .hbm, ⟨61, _⟩ => ⟨S4x2048x8, .f32⟩
  | .hbm, ⟨62, _⟩ => ⟨S_, .f32⟩
  | .hbm, ⟨63, _⟩ => ⟨S_, .f32⟩
  | .hbm, ⟨64, _⟩ => ⟨S4x2048x8, .f32⟩
  | .hbm, ⟨65, _⟩ => ⟨S4x2048x8, .f32⟩
  | .hbm, ⟨66, _⟩ => ⟨S4x2048x8, .f32⟩
  | .hbm, ⟨67, _⟩ => ⟨S4x2048x8, .f32⟩
  | .hbm, ⟨68, _⟩ => ⟨S_, .f32⟩
  | .hbm, ⟨69, _⟩ => ⟨S8, .f32⟩
  | .hbm, ⟨70, _⟩ => ⟨S1x1x8, .f32⟩
  | .hbm, ⟨71, _⟩ => ⟨S_, .f32⟩
  | .hbm, ⟨72, _⟩ => ⟨S8, .f32⟩
  | .hbm, ⟨73, _⟩ => ⟨S8x4x2048, .f32⟩
  | .hbm, ⟨74, _⟩ => ⟨S8x8192, .f32⟩
  | .hbm, ⟨75, _⟩ => ⟨S8x1, .f32⟩
  | .hbm, ⟨76, _⟩ => ⟨S8x128, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v6_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v6_2 : Ref sig .tc := ⟨.hbm, 55, rfl⟩
abbrev main_v6_0 : Ref sig .tc := ⟨.hbm, 56, rfl⟩
abbrev main_call1_call0_cst : Ref sig .tc := ⟨.hbm, 57, rfl⟩
abbrev main_call1_call0_v0 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_call2_call0_cst : Ref sig .tc := ⟨.hbm, 62, rfl⟩
abbrev main_call2_call0_v0 : Ref sig .tc := ⟨.hbm, 63, rfl⟩
abbrev main_v10 : Ref sig .tc := ⟨.hbm, 64, rfl⟩
abbrev main_call3_v0 : Ref sig .tc := ⟨.hbm, 65, rfl⟩
abbrev main_call3_v1 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_cst_0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩

abbrev nD : Nat := 1
abbrev τ : Topo := Topo.v7x

variable {F : FTy → Type} [FloatOps F]
-- ==== Kernel13.lean ====
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S1024x417 : Shape := ⟨2, ![1024, 417]⟩
abbrev S8x1024x512 : Shape := ⟨3, ![8, 1024, 512]⟩
abbrev S256x417 : Shape := ⟨2, ![256, 417]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x417, .f32⟩
  | .hbm, ⟨1, _⟩ => ⟨S1024x417, .f32⟩
  | .hbm, ⟨2, _⟩ => ⟨S1024x417, .f32⟩
  | .hbm, ⟨3, _⟩ => ⟨S8x1024x512, .bf16⟩
  | .hbm, ⟨4, _⟩ => ⟨S1024x417, .f32⟩
  | .hbm, ⟨5, _⟩ => ⟨S1024x417, .f32⟩
  | .hbm, ⟨6, _⟩ => ⟨S1024x417, .f32⟩
  | .hbm, ⟨7, _⟩ => ⟨S1024x417, .f32⟩
  | .local _ .vmem, ⟨0, _⟩ => ⟨S256x417, .f32⟩
  | .local _ .vmem, ⟨1, _⟩ => ⟨S256x417, .f32⟩
  | .local _ .vmem, ⟨2, _⟩ => ⟨S256x417, .f32⟩
  | .local _ .vmem, ⟨3, _⟩ => ⟨S256x417, .f32⟩
  | .local _ .vmem, ⟨4, _⟩ => ⟨S256x417, .f32⟩
  | .local _ .vmem, ⟨5, _⟩ => ⟨S256x417, .f32⟩
  | .local _ .vmem, ⟨6, _⟩ => ⟨S8x256x512, .bf16⟩
  | .local _ .vmem, ⟨7, _⟩ => ⟨S8x256x512, .bf16⟩
  | .local _ .vmem, ⟨8, _⟩ => ⟨S256x417, .f32⟩
  | .local _ .vmem, ⟨9, _⟩ => ⟨S256x417, .f32⟩
  | .local _ .vmem, ⟨10, _⟩ => ⟨S256x417, .f32⟩
  | .local _ .vmem, ⟨11, _⟩ => ⟨S256x417, .f32⟩
  | .local _ .vmem, ⟨12, _⟩ => ⟨S256x417, .f32⟩
  | .local _ .vmem, ⟨13, _⟩ => ⟨S256x417, .f32⟩
  | .local _ .vmem, ⟨14, _⟩ => ⟨S256x417, .f32⟩
  | .local _ .vmem, ⟨15, _⟩ => ⟨S256x417, .f32⟩
  | _, _ => ⟨S1024x417, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x417 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x417 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x417 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x417 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1024x417 : Shape := ⟨2, ![1024, 417]⟩
abbrev S8x1024x512 : Shape := ⟨3, ![8, 1024, 512]⟩
abbrev S8x1024x417 : Shape := ⟨3, ![8, 1024, 417]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x417, .f32⟩
  | .hbm, ⟨1, _⟩ => ⟨S1024x417, .f32⟩
  | .hbm, ⟨2, _⟩ => ⟨S1024x417, .f32⟩
  | .hbm, ⟨3, _⟩ => ⟨S8x1024x512, .bf16⟩
  | .hbm, ⟨4, _⟩ => ⟨S8x1024x417, .bf16⟩
  | .hbm, ⟨5, _⟩ => ⟨S8x1024x417, .f32⟩
  | .hbm, ⟨6, _⟩ => ⟨S_, .f32⟩
  | .hbm, ⟨7, _⟩ => ⟨S1024x417, .f32⟩
  | .hbm, ⟨8, _⟩ => ⟨S_, .f32⟩
  | .hbm, ⟨9, _⟩ => ⟨S1024x417, .f32⟩
  | .hbm, ⟨10, _⟩ => ⟨S1024x417, .f32⟩
  | .hbm, ⟨11, _⟩ => ⟨S_, .f32⟩
  | .hbm, ⟨12, _⟩ => ⟨S1024x417, .f32⟩
  | .hbm, ⟨13, _⟩ => ⟨S1024x417, .f32⟩
  | .hbm, ⟨14, _⟩ => ⟨S1024x417, .f32⟩
  | .hbm, ⟨15, _⟩ => ⟨S_, .f32⟩
  | .hbm, ⟨16, _⟩ => ⟨S1024x417, .f32⟩
  | .hbm, ⟨17, _⟩ => ⟨S1024x417, .f32⟩
  | .hbm, ⟨18, _⟩ => ⟨S1024x417, .f32⟩
  | .hbm, ⟨19, _⟩ => ⟨S_, .f32⟩
  | .hbm, ⟨20, _⟩ => ⟨S1024x417, .f32⟩
  | .hbm, ⟨21, _⟩ => ⟨S1024x417, .f32⟩
  | .hbm, ⟨22, _⟩ => ⟨S1024x417, .f32⟩
  | .hbm, ⟨23, _⟩ => ⟨S_, .f32⟩
  | .hbm, ⟨24, _⟩ => ⟨S1024x417, .f32⟩
  | .hbm, ⟨25, _⟩ => ⟨S1024x417, .f32⟩
  | .hbm, ⟨26, _⟩ => ⟨S_, .f32⟩
  | .hbm, ⟨27, _⟩ => ⟨S1024x417, .f32⟩
  | .hbm, ⟨28, _⟩ => ⟨S1024x417, .f32⟩
  | .hbm, ⟨29, _⟩ => ⟨S1024x417, .f32⟩
  | .hbm, ⟨30, _⟩ => ⟨S_, .f32⟩
  | .hbm, ⟨31, _⟩ => ⟨S1024x417, .f32⟩
  | .hbm, ⟨32, _⟩ => ⟨S1024x417, .f32⟩
  | .hbm, ⟨33, _⟩ => ⟨S1024x417, .f32⟩
  | .hbm, ⟨34, _⟩ => ⟨S_, .f32⟩
  | .hbm, ⟨35, _⟩ => ⟨S1024x417, .f32⟩
  | .hbm, ⟨36, _⟩ => ⟨S1024x417, .f32⟩
  | .hbm, ⟨37, _⟩ => ⟨S1024x417, .f32⟩
  | .hbm, ⟨38, _⟩ => ⟨S_, .f32⟩
  | .hbm, ⟨39, _⟩ => ⟨S1024x417, .f32⟩
  | .hbm, ⟨40, _⟩ => ⟨S1024x417, .f32⟩
  | _, _ => ⟨S1024x417, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S2048x384 : Shape := ⟨2, ![2048, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S32x1024 : Shape := ⟨2, ![32, 1024]⟩
abbrev S2x32x384 : Shape := ⟨3, ![2, 32, 384]⟩
abbrev S2x1024x384 : Shape := ⟨3, ![2, 1024, 384]⟩
abbrev S1x32x384 : Shape := ⟨3, ![1, 32, 384]⟩
abbrev S32x384 : Shape := ⟨2, ![32, 384]⟩
abbrev S1024x384 : Shape := ⟨2, ![1024, 384]⟩
abbrev S1x1024x384 : Shape := ⟨3, ![1, 1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S2x32x384, .f32⟩
  | .hbm, ⟨2, _⟩ => ⟨S2x1024x384, .f32⟩
  | .local _ .vmem, ⟨0, _⟩ => ⟨S32x1024, .f32⟩
  | .local _ .vmem, ⟨1, _⟩ => ⟨S2x32x384, .f32⟩
  | .local _ .vmem, ⟨2, _⟩ => ⟨S2x1024x384, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference17Ideal.lean ====
abbrev S32x1024 : Shape := ⟨2, ![32, 1024]⟩
abbrev S2x32x384 : Shape := ⟨3, ![2, 32, 384]⟩
abbrev S_ : Shape := ⟨0, ![]⟩
abbrev S1x32x384 : Shape := ⟨3, ![1, 32, 384]⟩
abbrev S32x384 : Shape := ⟨2, ![32, 384]⟩
abbrev S1024x384 : Shape := ⟨2, ![1024, 384]⟩
abbrev S384x1024 : Shape := ⟨2, ![384, 1024]⟩
abbrev S1x1024x384 : Shape := ⟨3, ![1, 1024, 384]⟩
abbrev S2x1024x384 : Shape := ⟨3, ![2, 1024, 384]⟩

abbrev nBuf : Space → Nat
  | .hbm => 28
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x384, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S1x32x384, .f32⟩
  | .hbm, ⟨12, _⟩ => ⟨S32x384, .f32⟩
  | .hbm, ⟨13, _⟩ => ⟨S_, .f32⟩
  | .hbm, ⟨14, _⟩ => ⟨S1024x384, .f32⟩
  | .hbm, ⟨15, _⟩ => ⟨S32x384, .f32⟩
  | .hbm, ⟨16, _⟩ => ⟨S384x1024, .f32⟩
  | .hbm, ⟨17, _⟩ => ⟨S1024x384, .f32⟩
  | .hbm, ⟨18, _⟩ => ⟨S1x32x384, .f32⟩
  | .hbm, ⟨19, _⟩ => ⟨S32x384, .f32⟩
  | .hbm, ⟨20, _⟩ => ⟨S_, .f32⟩
  | .hbm, ⟨21, _⟩ => ⟨S1024x384, .f32⟩
  | .hbm, ⟨22, _⟩ => ⟨S32x384, .f32⟩
  | .hbm, ⟨23, _⟩ => ⟨S384x1024, .f32⟩
  | .hbm, ⟨24, _⟩ => ⟨S1024x384, .f32⟩
  | .hbm, ⟨25, _⟩ => ⟨S1x1024x384, .f32⟩
  | .hbm, ⟨26, _⟩ => ⟨S1x1024x384, .f32⟩
  | .hbm, ⟨27, _⟩ => ⟨S2x1024x384, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel18.lean ====
abbrev S32x48x128 : Shape := ⟨3, ![32, 48, 128]⟩
abbrev S48x128 : Shape := ⟨2, ![48, 128]⟩
abbrev S1x48x128 : Shape := ⟨3, ![1, 48, 128]⟩

abbrev nBuf : Space → Nat
  | .hbm => 2
  | .vmem => 2
  | .smem => 0
  | _ => 0

abbrev bufTy : (tb : Table) → Fin (tcTables nBuf tb) → BufTy
  | .hbm, ⟨0, _⟩ => ⟨S32x48x128, .f32⟩
  | .hbm, ⟨1, _⟩ => ⟨S48x128, .f32⟩
  | .local _ .vmem, ⟨0, _⟩ => ⟨S32x48x128, .f32⟩
  | .local _ .vmem, ⟨1, _⟩ => ⟨S48x128, .f32⟩
  | _, _ => ⟨S32x48x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference18Ideal.lean ====
abbrev S32x48x128 : Shape := ⟨3, ![32, 48, 128]⟩
abbrev S_ : Shape := ⟨0, ![]⟩
abbrev S48x128 : Shape := ⟨2, ![48, 128]⟩

abbrev nBuf : Space → Nat
  | .hbm => 3
  | .vmem => 0
  | .smem => 0
  | _ => 0

abbrev bufTy : (tb : Table) → Fin (tcTables nBuf tb) → BufTy
  | .hbm, ⟨0, _⟩ => ⟨S32x48x128, .f32⟩
  | .hbm, ⟨1, _⟩ => ⟨S_, .f32⟩
  | .hbm, ⟨2, _⟩ => ⟨S48x128, .f32⟩
  | _, _ => ⟨S32x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8x2048x128 : Shape := ⟨3, ![8, 2048, 128]⟩
abbrev S2048x128 : Shape := ⟨2, ![2048, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .bf16⟩
  | .hbm, ⟨1, _⟩ => ⟨S2048x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference19Ideal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x128, .bf16⟩
  | .hbm, ⟨1, _⟩ => ⟨S8x2048x128, .f32⟩
  | .hbm, ⟨2, _⟩ => ⟨S_, .f32⟩
  | .hbm, ⟨3, _⟩ => ⟨S2048x128, .f32⟩
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S32x1024 : Shape := ⟨2, ![32, 1024]⟩
abbrev S2x1024x384 : Shape := ⟨3, ![2, 1024, 384]⟩
abbrev S2x1x384 : Shape := ⟨3, ![2, 1, 384]⟩
abbrev S2x32x384 : Shape := ⟨3, ![2, 32, 384]⟩
abbrev S1x1024x384 : Shape := ⟨3, ![1, 1024, 384]⟩
abbrev S1024x384 : Shape := ⟨2, ![1024, 384]⟩
abbrev S32x384 : Shape := ⟨2, ![32, 384]⟩
abbrev S1x1x384 : Shape := ⟨3, ![1, 1, 384]⟩
abbrev S1x384 : Shape := ⟨2, ![1, 384]⟩
abbrev S1x32x384 : Shape := ⟨3, ![1, 32, 384]⟩

abbrev nBuf : Space → Nat
  | .hbm => 4
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S2x1024x384, .f32⟩
  | .hbm, ⟨2, _⟩ => ⟨S2x1x384, .f32⟩
  | .hbm, ⟨3, _⟩ => ⟨S2x32x384, .f32⟩
  | .local _ .vmem, ⟨0, _⟩ => ⟨S32x1024, .f32⟩
  | .local _ .vmem, ⟨1, _⟩ => ⟨S2x1024x384, .f32⟩
  | .local _ .vmem, ⟨2, _⟩ => ⟨S2x1x384, .f32⟩
  | .local _ .vmem, ⟨3, _⟩ => ⟨S2x32x384, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference20Ideal.lean ====
abbrev S32x1024 : Shape := ⟨2, ![32, 1024]⟩
abbrev S2x1024x384 : Shape := ⟨3, ![2, 1024, 384]⟩
abbrev S2x1x384 : Shape := ⟨3, ![2, 1, 384]⟩
abbrev S_ : Shape := ⟨0, ![]⟩
abbrev S1x1024x384 : Shape := ⟨3, ![1, 1024, 384]⟩
abbrev S1024x384 : Shape := ⟨2, ![1024, 384]⟩
abbrev S32x384 : Shape := ⟨2, ![32, 384]⟩
abbrev S1x1x384 : Shape := ⟨3, ![1, 1, 384]⟩
abbrev S1x384 : Shape := ⟨2, ![1, 384]⟩
abbrev S1x32x384 : Shape := ⟨3, ![1, 32, 384]⟩
abbrev S2x32x384 : Shape := ⟨3, ![2, 32, 384]⟩

abbrev nBuf : Space → Nat
  | .hbm => 29
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x384, .f32⟩
  | .hbm, ⟨2, _⟩ => ⟨S2x1x384, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1x1024x384, .f32⟩
  | .hbm, ⟨13, _⟩ => ⟨S1024x384, .f32⟩
  | .hbm, ⟨14, _⟩ => ⟨S32x384, .f32⟩
  | .hbm, ⟨15, _⟩ => ⟨S1x1x384, .f32⟩
  | .hbm, ⟨16, _⟩ => ⟨S1x384, .f32⟩
  | .hbm, ⟨17, _⟩ => ⟨S32x384, .f32⟩
  | .hbm, ⟨18, _⟩ => ⟨S32x384, .f32⟩
  | .hbm, ⟨19, _⟩ => ⟨S1x1024x384, .f32⟩
  | .hbm, ⟨20, _⟩ => ⟨S1024x384, .f32⟩
  | .hbm, ⟨21, _⟩ => ⟨S32x384, .f32⟩
  | .hbm, ⟨22, _⟩ => ⟨S1x1x384, .f32⟩
  | .hbm, ⟨23, _⟩ => ⟨S1x384, .f32⟩
  | .hbm, ⟨24, _⟩ => ⟨S32x384, .f32⟩
  | .hbm, ⟨25, _⟩ => ⟨S32x384, .f32⟩
  | .hbm, ⟨26, _⟩ => ⟨S1x32x384, .f32⟩
  | .hbm, ⟨27, _⟩ => ⟨S1x32x384, .f32⟩
  | .hbm, ⟨28, _⟩ => ⟨S2x32x384, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.NormAlgebra.lean ====
/-
  The gradient of a row's RMS normalisation on the extended reals.

  A row `x` of 1024 numbers is normalised to `x · r` with `r = 1/√(mean(x²) + ε)`. Given the cotangent `d` of
  the normalised row, the cotangent of `x` is written in two ways: as the fused closed form
  `r · (d − x̂ · mean(d · x̂))` with `x̂ = x · r`, and as the chain rule of the forward lines gives it,
  `d · r + x · u + u · x` with `u = (Σ x · d) · (−½ · (r / (mean(x²) + ε))) / 1024`. `dx_eq` proves the two equal for
  EVERY extended-real row and cotangent: `mean(x²) + ε` is positive, so `r` is a nonnegative real, and multiplication
  by a nonnegative real distributes over every sum of extended reals. When `mean(x²)` is `+∞`, both are 0.
-/
module

public import Idealize.ShloMosaic.PureOps.Ideal
public import Idealize.ShloMosaic.PureOps.Ideal.Laws

@[expose] public section

noncomputable section

namespace Cert.Norm

open Idealize.ShloMosaic

/-! ## The literals -/

/-- The printed literal for the row length is the number 1024. -/
theorem lit_width : Ideal.ofBits .f32 0x44800000#32 = ((1024 : ℝ) : EReal) := by
  simp [Ideal.ofBits, Ideal.ieee, -EReal.coe_mul]; norm_num

/-- The printed literal of the chain rule's factor is −1/2. -/
theorem lit_neg_half : Ideal.ofBits .f32 0xBF000000#32 = ((-(1/2) : ℝ) : EReal) := by
  simp [Ideal.ofBits, Ideal.ieee, -EReal.coe_mul]; norm_num

/-- The printed ε is a positive real. -/
theorem lit_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-! ## Multiplication by a nonnegative real -/

/-- A nonnegative real factor distributes over a finite sum of extended reals. -/
theorem mul_sum {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A nonnegative real factor distributes over a difference of extended reals. -/
theorem mul_sub {r : ℝ} (hr : 0 ≤ r) (a b : EReal) : (r : EReal) * (a - b) = r * a - r * b := by
  rw [sub_eq_add_neg, EReal.left_distrib_of_nonneg_of_ne_top (EReal.coe_nonneg.mpr hr) (EReal.coe_ne_top r),
    mul_neg, ← sub_eq_add_neg]

/-- An extended real added to itself is its double. -/
theorem add_self (a : EReal) : a + a = ((2 : ℝ) : EReal) * a := by
  have h : ((2 : ℝ) : EReal) = 1 + 1 := by rw [← one_add_one_eq_two]; rfl
  rw [h, EReal.right_distrib_of_nonneg zero_le_one zero_le_one, one_mul]

/-! ## The row -/

/-- `mean(x²) + ε` of a row. -/
def meanSq (x : Fin 1024 → EReal) : EReal :=
  Ideal.div (∑ k, x k * x k) (Ideal.ofBits .f32 0x44800000#32) + Ideal.ofBits .f32 0x358637BD#32

/-- The reciprocal root of a row, `1/√(mean(x²) + ε)`. -/
def rstd (x : Fin 1024 → EReal) : EReal := Ideal.rsqrt (meanSq x)

/-- A square is nonnegative. -/
theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- `mean(x²) + ε` is `+∞` or a positive real. -/
theorem meanSq_cases (x : Fin 1024 → EReal) : meanSq x = ⊤ ∨ ∃ a : ℝ, 0 < a ∧ meanSq x = a := by
  obtain ⟨e, he, hE⟩ := lit_eps
  have hs : 0 ≤ ∑ k, x k * x k := Finset.sum_nonneg fun k _ => square_nonneg (x k)
  unfold meanSq
  rw [hE, lit_width, Ideal.div_coe (by norm_num)]
  generalize (∑ k, x k * x k) = s at hs
  induction s using EReal.rec with
  | bot => exact absurd hs (by simp)
  | top =>
    left
    rw [EReal.top_mul_coe_of_pos (by norm_num)]
    exact EReal.top_add_coe e
  | coe s =>
    right
    have hs : 0 ≤ s := EReal.coe_nonneg.mp hs
    exact ⟨s * (1 / 1024) + e, by positivity, by rw [EReal.coe_add, EReal.coe_mul]⟩

/-- So the reciprocal root is a nonnegative real, and divided by `mean(x²) + ε` it is its own cube. -/
theorem rstd_real (x : Fin 1024 → EReal) :
    ∃ r : ℝ, 0 ≤ r ∧ rstd x = r ∧ Ideal.div (rstd x) (meanSq x) = ((r * r * r : ℝ) : EReal) := by
  unfold rstd
  rcases meanSq_cases x with h | ⟨a, ha, h⟩
  · refine ⟨0, le_rfl, by rw [h]; rfl, ?_⟩
    rw [h, Ideal.rsqrt_top, Ideal.div, if_neg (by simp)]
    simp
  · refine ⟨(Real.sqrt a)⁻¹, by positivity, ?_, ?_⟩
    · rw [h, Ideal.rsqrt_coe, if_neg (not_lt.mpr ha.le), if_neg ha.ne']
    · rw [h, Ideal.rsqrt_coe, if_neg (not_lt.mpr ha.le), if_neg ha.ne', Ideal.div_coe ha.ne', ← EReal.coe_mul]
      congr 1
      have hs : Real.sqrt a * Real.sqrt a = a := Real.mul_self_sqrt ha.le
      have hp : 0 < Real.sqrt a := Real.sqrt_pos.mpr ha
      field_simp
      rw [pow_two, hs]

/-! ## The two forms of the gradient -/

/-- The fused form: `r · (d − x̂ · mean(d · x̂))`. -/
def dxFused (x d : Fin 1024 → EReal) (j : Fin 1024) : EReal :=
  rstd x * (d j - x j * rstd x *
    Ideal.div (∑ k, d k * (x k * rstd x)) (Ideal.ofBits .f32 0x44800000#32))

/-- The chain rule's inner term `u`: the cotangent of every `x²` of the row. -/
def chainTerm (x d : Fin 1024 → EReal) : EReal :=
  Ideal.div ((∑ k, x k * d k) * (Ideal.ofBits .f32 0xBF000000#32 * Ideal.div (rstd x) (meanSq x)))
    (Ideal.ofBits .f32 0x44800000#32)

/-- The chain rule's form: `d · r + x · u + u · x`. -/
def dxChain (x d : Fin 1024 → EReal) (j : Fin 1024) : EReal :=
  d j * rstd x + x j * chainTerm x d + chainTerm x d * x j

/-- The two forms are equal, on every extended-real row and cotangent. -/
theorem dx_eq (x d : Fin 1024 → EReal) (j : Fin 1024) : dxFused x d j = dxChain x d j := by
  obtain ⟨r, hr, h1, h3⟩ := rstd_real x
  have hsum : (∑ k, d k * (x k * (r : EReal))) = r * ∑ k, x k * d k := by
    rw [mul_sum _ _ hr]
    refine Finset.sum_congr rfl fun k _ => ?_
    rw [← mul_assoc, mul_comm (d k), mul_comm _ (r : EReal)]
  unfold dxFused dxChain chainTerm
  rw [h3, h1, hsum, lit_width, lit_neg_half, Ideal.div_coe (by norm_num), Ideal.div_coe (by norm_num), mul_sub hr,
    mul_comm (d j)]
  generalize (∑ k, x k * d k) = S
  rw [add_assoc, mul_comm (S * _ * _) (x j), add_self, sub_eq_add_neg]
  congr 1
  have e1 : (r : EReal) * (x j * r * (r * S * ((1 / 1024 : ℝ) : EReal)))
      = x j * S * ((r * r * r * (1 / 1024) : ℝ) : EReal) := by
    simp only [EReal.coe_mul]
    ac_rfl
  have e2 : ((2 : ℝ) : EReal) * (x j * (S * (((-(1/2) : ℝ) : EReal) * ((r * r * r : ℝ) : EReal)) * ((1 / 1024 : ℝ) : EReal)))
      = x j * S * ((2 * (-(1/2)) * (r * r * r) * (1 / 1024) : ℝ) : EReal) := by
    simp only [EReal.coe_mul]
    ac_rfl
  rw [e1, e2, show (2 * (-(1/2)) * (r * r * r) * (1 / 1024) : ℝ) = -(r * r * r * (1 / 1024)) by ring, EReal.coe_neg,
    mul_neg]

end Cert.Norm

end
-- ==== Proof.NormSpec.lean ====
/-
  What the gradient of the modulated RMS norm computes, array by array, on the extended reals.

  A token `t` of 8192 is token `t mod 2048` of sequence `t / 2048`. The forward step is
  `h = (x · r · g) · (1 + scale) + shift` row by row; given the cotangent `dh` of `h`, the results are the cotangent of
  `x` with the residual branch's added (`dxAt`), the cotangents of `shift` and `scale` per sequence (`modAt`: row 0 and
  row 1 of eight, the rest zero) and that of `g` (`gainAt`: row 0 of eight, the rest zero).
-/
module

public import proofs.«01_k».proof.Proof.NormAlgebra
public import Idealize.ShloMosaic.Lib.ValueIdx
public import Idealize.ShloMosaic.Lib.Pointwise.Sums
public import Idealize.ShloMosaic.Lib.Pointwise.Reduce

@[expose] public section

noncomputable section

namespace Cert.Norm

open Idealize.ShloMosaic

/-- Token `i` of sequence `s`, among all tokens. -/
abbrev tok (s : Fin 4) (i : Fin 2048) : Fin 8192 := ⟨s.val * 2048 + i.val, by have := s.isLt; have := i.isLt; omega⟩

/-- The sequence a token is in. -/
abbrev seqOf (t : Fin 8192) : Fin 4 := ⟨t.val / 2048, by have := t.isLt; omega⟩

section
variable (dh : Fin 8192 → Fin 1024 → EReal) (x : (⟨2, ![8192, 1024]⟩ : Shape).Idx → EReal) (g : (⟨2, ![1, 1024]⟩ : Shape).Idx → EReal)
  (sc : (⟨3, ![4, 1, 1024]⟩ : Shape).Idx → EReal) (res : (⟨2, ![8192, 1024]⟩ : Shape).Idx → EReal)

/-- Row `t` of `x`. -/
def row (t : Fin 8192) : Fin 1024 → EReal := fun k => x (ix2 t k)

/-- The normalised row. -/
def xhat (t : Fin 8192) (j : Fin 1024) : EReal := x (ix2 t j) * rstd (row x t)

/-- The cotangent of `x̂ · g`. -/
def dn (t : Fin 8192) (j : Fin 1024) : EReal := dh t j * (1 + sc (ix3 (seqOf t) 0 j))

/-- The cotangent of `x̂`. -/
def dxhat (t : Fin 8192) (j : Fin 1024) : EReal := dn dh sc t j * g (ix2 0 j)

/-- The cotangent of `x`, and the residual branch's added. -/
def dxAt (t : Fin 8192) (j : Fin 1024) : EReal := dxFused (row x t) (dxhat dh g sc t) j + res (ix2 t j)

/-- Token `t`'s share of row `k` of the modulation's gradient. -/
def modRow (k : Fin 8) (t : Fin 8192) (j : Fin 1024) : EReal :=
  if k = 0 then dh t j else if k = 1 then dh t j * (xhat x t j * g (ix2 0 j)) else 0

/-- The gradient of the modulation: a sequence's sum over its tokens. -/
def modAt (s : Fin 4) (k : Fin 8) (j : Fin 1024) : EReal := ∑ i : Fin 2048, modRow dh x g k (tok s i) j

/-- Token `t`'s share of row `k` of the gain's gradient. -/
def gainRow (k : Fin 8) (t : Fin 8192) (j : Fin 1024) : EReal :=
  if k = 0 then dn dh sc t j * xhat x t j else 0

/-- The gradient of the gain: the sum over all tokens. -/
def gainAt (k : Fin 8) (j : Fin 1024) : EReal := ∑ t : Fin 8192, gainRow dh x sc k t j

end

/-- The cotangent of a product's left factor: the incoming gradient times the transposed weight. -/
def projCot (a : (⟨2, ![8192, 2048]⟩ : Shape).Idx → EReal) (w : (⟨2, ![1024, 2048]⟩ : Shape).Idx → EReal) (t : Fin 8192) (j : Fin 1024) :
    EReal := ∑ k : Fin 2048, a (ix2 t k) * w (ix2 j k)

/-! ## A sum over the first two of three axes, on the host -/

variable {n0 n1 n2 : Nat} {t : Shape}

/-- The source indices that drop to `j` when the first two of three axes are summed: any two first coordinates, and
    `j`'s on the last axis. -/
theorem fiber_first_two (h : (⟨3, ![n0, n1, n2]⟩ : Shape).ReducesTo [0, 1] t) (hr : t.rank = 1) (j : t.Idx) (z : Fin n2)
    (hz : (j ⟨0, by omega⟩).val = z.val) (i : (⟨3, ![n0, n1, n2]⟩ : Shape).Idx) :
    h.drop i = j ↔ ∃ k : Fin n0 × Fin n1, ix3 k.1 k.2 z = i := by
  constructor
  · intro e
    refine ⟨(i 0, i 1), ?_⟩
    funext a; apply Fin.ext
    match a with
    | ⟨0, _⟩ => rfl
    | ⟨1, _⟩ => rfl
    | ⟨2, _⟩ => exact hz.symm.trans (congrArg Fin.val (congrFun e ⟨0, by omega⟩)).symm
  · rintro ⟨k, rfl⟩
    funext b
    apply Fin.ext
    match b with
    | ⟨0, _⟩ => exact hz.symm
    | ⟨_ + 1, hb⟩ => exact absurd hb (by omega)

/-- Summing the first two of three axes is a double sum, from the initial value. -/
theorem hostReduceAdd_first_two (h : (⟨3, ![n0, n1, n2]⟩ : Shape).ReducesTo [0, 1] t) (hr : t.rank = 1) (j : t.Idx) (z : Fin n2)
    (hz : (j ⟨0, by omega⟩).val = z.val) (v : (⟨3, ![n0, n1, n2]⟩ : Shape).Idx → EReal) (b : EReal) :
    Ideal.hostReduceAdd h v b j = b + ∑ p : Fin n0, ∑ q : Fin n1, v (ix3 p q z) := by
  unfold Ideal.hostReduceAdd
  rw [Finset.sum_filter_eq_sum_of_fiber _ (fun k : Fin n0 × Fin n1 => ix3 k.1 k.2 z)
    (fun _ _ e => Prod.ext (congrFun e 0) (congrFun e 1)) (fiber_first_two h hr j z hz) v, Fintype.sum_prod_type]

end Cert.Norm

end
-- ==== Proof.RowWrites.lean ====
/-
  A buffer of rows after a store of one row, read at an element: the stored row's element on that row, what was there
  before on every other. Stated for `[1, n, w]` buffers and `[n, w]` buffers, over any earlier contents and over the
  contents a covering list of stores leaves.
-/
module

public import Idealize.ShloMosaic.Lib.WritesUnit
public import Idealize.ShloMosaic.Lib.ValueIdx
public import Idealize.ShloMosaic.Lib.Pointwise.Reduce
public import Idealize.ShloMosaic.Lib.Pipeline.Value

@[expose] public section

noncomputable section

namespace Cert.RowWrites

open Idealize.ShloMosaic Idealize.ShloMosaic.View

variable {sig : RefSig} {κ : Kind} {sp : Space} {e : EltTy} {Val : EltTy → Type}

section Three
variable {n w : Nat} {o : Nat} (inb : ∀ a, (![0, o, 0] : Fin 3 → Nat) a + (![1, 1, w] : Fin 3 → Nat) a ≤ (⟨3, ![1, n, w]⟩ : Shape).size a)
  (p : (Rect.unit (s := ⟨3, ![1, n, w]⟩) ![0, o, 0] ![1, 1, w] inb).shape.Idx → Val e) (L : List (Piece Val ⟨3, ![1, n, w]⟩ e))

/-- After a store of row `o` of a `[1, n, w]` buffer: that row reads the stored row, another what it held. -/
theorem read_row3 (v : View sig κ sp ⟨3, ![1, n, w]⟩ e) (f : v.ty.Contents Val) (k : Fin n) (j : Fin w) :
    v.read Val (v.writes Val f (⟨Rect.unit ![0, o, 0] ![1, 1, w] inb, p⟩ :: L)) (ix3 0 k j)
      = if k.val = o then p (ix3 (0 : Fin 1) (0 : Fin 1) j) else v.read Val (v.writes Val f L) (ix3 0 k j) := by
  split
  · rename_i h
    refine View.read_writes_cons_unit_of_mem v f inb p L _ (ix3 (0 : Fin 1) (0 : Fin 1) j) rfl fun a => ?_
    match a with
    | ⟨0, _⟩ => rfl
    | ⟨1, _⟩ => exact h
    | ⟨2, _⟩ => exact (Nat.zero_add _).symm
  · rename_i h
    refine View.read_writes_cons_unit_of_not_mem v f inb p L _ rfl (1 : Fin 3) ?_
    show k.val < o ∨ o + 1 ≤ k.val
    omega

/-- The same over the contents a list of stores leaves. -/
theorem canon_row3 [∀ e, Nonempty (Val e)] (k : Fin n) (j : Fin w) :
    View.canon (⟨Rect.unit ![0, o, 0] ![1, 1, w] inb, p⟩ :: L) (ix3 0 k j)
      = if k.val = o then p (ix3 (0 : Fin 1) (0 : Fin 1) j) else View.canon L (ix3 0 k j) := by
  split
  · rename_i h
    have hy : (Rect.unit (s := ⟨3, ![1, n, w]⟩) ![0, o, 0] ![1, 1, w] inb).emb (ix3 (0 : Fin 1) (0 : Fin 1) j) = ix3 0 k j :=
      funext fun a => Fin.ext (by
        match a with
        | ⟨0, _⟩ => rfl
        | ⟨1, _⟩ => exact h.symm
        | ⟨2, _⟩ => show 0 + 1 * j.val = j.val; omega)
    rw [← hy]
    exact View.canon_cons_emb _ p L _
  · rename_i h
    refine View.canon_cons_of_not_mem _ L ?_
    rw [Rect.mem_set_unit]
    intro hall
    have := hall (1 : Fin 3)
    have h1 : o ≤ k.val := this.1
    have h2 : k.val < o + 1 := this.2
    omega

/-- A load of row `o` reads that row. -/
theorem ld_row3 (X : (⟨3, ![1, n, w]⟩ : Shape).Idx → Val e) (k : Fin n) (hk : k.val = o) (j : Fin w) :
    View.ld X (Rect.unit (s := ⟨3, ![1, n, w]⟩) ![0, o, 0] ![1, 1, w] inb) (ix3 (0 : Fin 1) (0 : Fin 1) j) = X (ix3 0 k j) :=
  congrArg X (funext fun a => Fin.ext (by
    match a with
    | ⟨0, _⟩ => rfl
    | ⟨1, _⟩ => exact hk.symm
    | ⟨2, _⟩ => show 0 + 1 * j.val = j.val; omega))

/-- A load of row `o` of what a list of stores left reads that row of it. -/
theorem readCov_row3 [∀ e, Nonempty (Val e)] (v : View sig κ sp ⟨3, ![1, n, w]⟩ e) (k : Fin n) (hk : k.val = o) (j : Fin w) :
    v.readCov L (Rect.unit (s := ⟨3, ![1, n, w]⟩) ![0, o, 0] ![1, 1, w] inb).toLoadRect (ix3 (0 : Fin 1) (0 : Fin 1) j)
      = View.canon L (ix3 0 k j) := by
  rw [View.readCov_eq_canon']
  exact ld_row3 inb (View.canon L) k hk j

end Three

section Two
variable {n w : Nat} {o : Nat} (inb : ∀ a, (![o, 0] : Fin 2 → Nat) a + (![1, w] : Fin 2 → Nat) a ≤ (⟨2, ![n, w]⟩ : Shape).size a)
  (p : (Rect.unit (s := ⟨2, ![n, w]⟩) ![o, 0] ![1, w] inb).shape.Idx → Val e) (L : List (Piece Val ⟨2, ![n, w]⟩ e))

/-- After a store of row `o` of an `[n, w]` buffer: that row reads the stored row, another what it held. -/
theorem read_row2 (v : View sig κ sp ⟨2, ![n, w]⟩ e) (f : v.ty.Contents Val) (k : Fin n) (j : Fin w) :
    v.read Val (v.writes Val f (⟨Rect.unit ![o, 0] ![1, w] inb, p⟩ :: L)) (ix2 k j)
      = if k.val = o then p (ix2 (0 : Fin 1) j) else v.read Val (v.writes Val f L) (ix2 k j) := by
  split
  · rename_i h
    refine View.read_writes_cons_unit_of_mem v f inb p L _ (ix2 (0 : Fin 1) j) rfl fun a => ?_
    match a with
    | ⟨0, _⟩ => exact h
    | ⟨1, _⟩ => exact (Nat.zero_add _).symm
  · rename_i h
    refine View.read_writes_cons_unit_of_not_mem v f inb p L _ rfl (0 : Fin 2) ?_
    show k.val < o ∨ o + 1 ≤ k.val
    omega

/-- The same over the contents a list of stores leaves. -/
theorem canon_row2 [∀ e, Nonempty (Val e)] (k : Fin n) (j : Fin w) :
    View.canon (⟨Rect.unit ![o, 0] ![1, w] inb, p⟩ :: L) (ix2 k j)
      = if k.val = o then p (ix2 (0 : Fin 1) j) else View.canon L (ix2 k j) := by
  split
  · rename_i h
    have hy : (Rect.unit (s := ⟨2, ![n, w]⟩) ![o, 0] ![1, w] inb).emb (ix2 (0 : Fin 1) j) = ix2 k j :=
      funext fun a => Fin.ext (by
        match a with
        | ⟨0, _⟩ => exact h.symm
        | ⟨1, _⟩ => show 0 + 1 * j.val = j.val; omega)
    rw [← hy]
    exact View.canon_cons_emb _ p L _
  · rename_i h
    refine View.canon_cons_of_not_mem _ L ?_
    rw [Rect.mem_set_unit]
    intro hall
    have := hall (0 : Fin 2)
    have h1 : o ≤ k.val := this.1
    have h2 : k.val < o + 1 := this.2
    omega

/-- A load of row `o` reads that row. -/
theorem ld_row2 (X : (⟨2, ![n, w]⟩ : Shape).Idx → Val e) (k : Fin n) (hk : k.val = o) (j : Fin w) :
    View.ld X (Rect.unit (s := ⟨2, ![n, w]⟩) ![o, 0] ![1, w] inb) (ix2 (0 : Fin 1) j) = X (ix2 k j) :=
  congrArg X (funext fun a => Fin.ext (by
    match a with
    | ⟨0, _⟩ => exact hk.symm
    | ⟨1, _⟩ => show 0 + 1 * j.val = j.val; omega))

/-- A load of row `o` of what a list of stores left reads that row of it. -/
theorem readCov_row2 [∀ e, Nonempty (Val e)] (v : View sig κ sp ⟨2, ![n, w]⟩ e) (k : Fin n) (hk : k.val = o) (j : Fin w) :
    v.readCov L (Rect.unit (s := ⟨2, ![n, w]⟩) ![o, 0] ![1, w] inb).toLoadRect (ix2 (0 : Fin 1) j)
      = View.canon L (ix2 k j) := by
  rw [View.readCov_eq_canon']
  exact ld_row2 inb (View.canon L) k hk j

end Two

end Cert.RowWrites

end
-- ==== Proof.NormBody.lean ====
/-
  One grid point of the kernel at an element: the three blocks it leaves, in terms of the blocks it reads.

  The gradient block `dx` is the fused row gradient with the residual branch's block added. The two accumulators hold
  what they held before — zero after a reset — with this block's rows added to row 0 (and row 1 of the first).
-/
module

public import proofs.«01_k».proof.Proof.Gen.KernelIdeal.Value
public import proofs.«01_k».proof.Proof.NormSpec
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import proofs.«01_k».proof.Proof.RowWrites

@[expose] public section

noncomputable section

namespace Cert.KernelIdeal.NormBody

open Cert.KernelIdeal Cert.KernelIdeal.Gen Idealize.ShloMosaic Idealize.ShloMosaic.TcCoe Cert.Norm Cert.RowWrites

theorem hz : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S512x2048 .bf16) (x1 : Vec Ideal S2048x1024 .bf16) (x2 : Vec Ideal S512x1024 .f32)
  (x3 : Vec Ideal S1x1024 .f32) (x4 : Vec Ideal S1x1x1024 .f32) (x5 : Vec Ideal S512x1024 .f32)

/-- The block's cotangent of the modulated norm. -/
def bdh (r : Fin 512) (j : Fin 1024) : EReal := ∑ k : Fin 2048, x0 (ix2 r k) * x1 (ix2 k j)

/-- Row `r` of the block of `x`. -/
def brow (r : Fin 512) : Fin 1024 → EReal := fun k => x2 (ix2 r k)

/-- The normalised row. -/
def bxhat (r : Fin 512) (j : Fin 1024) : EReal := x2 (ix2 r j) * rstd (brow x2 r)

/-- The cotangent of `x̂ · g`. -/
def bdn (r : Fin 512) (j : Fin 1024) : EReal := bdh x0 x1 r j * (1 + x4 (ix3 0 0 j))

/-- The cotangent of `x`, and the residual branch's added. -/
def bdx (r : Fin 512) (j : Fin 1024) : EReal :=
  dxFused (brow x2 r) (fun k => bdn x0 x1 x4 r k * x3 (ix2 0 k)) j + x5 (ix2 r j)

/-- The block's share of row `k` of the modulation's gradient. -/
def bmod (k : Fin 8) (j : Fin 1024) : EReal :=
  ∑ r : Fin 512, if k = 0 then bdh x0 x1 r j else if k = 1 then bdh x0 x1 r j * (bxhat x2 r j * x3 (ix2 0 j)) else 0

/-- The block's share of row `k` of the gain's gradient. -/
def bgain (k : Fin 8) (j : Fin 1024) : EReal := ∑ r : Fin 512, if k = 0 then bdn x0 x1 x4 r j * bxhat x2 r j else 0

end

/-! ## The body's pure steps at an element -/

section
variable (x0 : Vec Ideal S512x2048 .bf16) (x1 : Vec Ideal S2048x1024 .bf16) (x2 : Vec Ideal S512x1024 .f32)
  (x3 : Vec Ideal S1x1024 .f32) (x4 : Vec Ideal S1x1x1024 .f32) (x5 : Vec Ideal S512x1024 .f32)

theorem pay2_eq (r : Fin 512) (j : Fin 1024) : k0_pay2 (F := Ideal) x0 x1 (ix2 r j) = bdh x0 x1 r j := by
  pointwise [k0_pay2]
  rfl

theorem pay3_eq (r : Fin 512) (z : Fin 1) : k0_pay3 (F := Ideal) x2 (ix2 r z) = rstd (brow x2 r) := by
  pointwise [k0_pay3]
  rfl

theorem pay4_eq (r : Fin 512) (j : Fin 1024) : k0_pay4 (F := Ideal) x2 (ix2 r j) = bxhat x2 r j := by
  pointwise [k0_pay4, pay3_eq]
  rfl

theorem pay5_eq (r : Fin 512) (j : Fin 1024) : k0_pay5 (F := Ideal) x2 x3 (ix2 r j) = bxhat x2 r j * x3 (ix2 0 j) := by
  pointwise [k0_pay5, pay4_eq]

theorem pay6_eq (y : S1x8x1024.Idx) : k0_pay6 (F := Ideal) y = 0 := by pointwise [k0_pay6]

theorem pay7_eq (y : S8x1024.Idx) : k0_pay7 (F := Ideal) y = 0 := by pointwise [k0_pay7]

theorem pay8_eq (v : Vec Ideal S1x1x1024 .f32) (a b : Fin 1) (j : Fin 1024) :
    k0_pay8 (F := Ideal) (k0_pay2 x0 x1) v (ix3 a b j) = v (ix3 0 0 j) + ∑ r, bdh x0 x1 r j := by
  pointwise [k0_pay8, pay2_eq]

theorem pay9_eq (v : Vec Ideal S1x1x1024 .f32) (a b : Fin 1) (j : Fin 1024) :
    k0_pay9 (F := Ideal) (k0_pay2 x0 x1) (k0_pay5 x2 x3) v (ix3 a b j)
      = v (ix3 0 0 j) + ∑ r, bdh x0 x1 r j * (bxhat x2 r j * x3 (ix2 0 j)) := by
  pointwise [k0_pay9, pay2_eq, pay5_eq]

theorem pay11_eq (v : Vec Ideal S1x1024 .f32) (a : Fin 1) (j : Fin 1024) :
    k0_pay11 (F := Ideal) (k0_pay2 x0 x1) (k0_pay4 x2) x4 v (ix2 a j)
      = v (ix2 0 j) + ∑ r, bdn x0 x1 x4 r j * bxhat x2 r j := by
  rw [show a = 0 from Subsingleton.elim _ _]
  pointwise [k0_pay11, k0_pay10, pay2_eq, pay4_eq]
  rfl

theorem pay1_eq (r : Fin 512) (j : Fin 1024) :
    k0_pay1 (F := Ideal) (k0_pay3 x2) (k0_pay4 x2) (k0_pay12 (k0_pay2 x0 x1) x3 x4) x5 (ix2 r j)
      = bdx x0 x1 x2 x3 x4 x5 r j := by
  pointwise [k0_pay1, k0_pay12, k0_pay10, pay2_eq, pay3_eq, pay4_eq]
  rfl

end

section
variable (c : Dev nD) (i : grid0.Coords) (arg1 : Memref sig .tc .vmem S512x2048 .bf16) (harg1 : arg1.IsWhole) (arg2 : Memref sig .tc .vmem S2048x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x8x1024 .f32) (harg8 : arg8.IsWhole) (arg9 : Memref sig .tc .vmem S8x1024 .f32) (harg9 : arg9.IsWhole)
  (x0 : Vec Ideal S512x2048 .bf16) (x1 : Vec Ideal S2048x1024 .bf16) (x2 : Vec Ideal S512x1024 .f32)
  (x3 : Vec Ideal S1x1024 .f32) (x4 : Vec Ideal S1x1x1024 .f32) (x5 : Vec Ideal S512x1024 .f32)
  (xo7 : Vec Ideal S1x8x1024 .f32) (xo8 : Vec Ideal S8x1024 .f32)

/-- Case A: the gradient block. -/
theorem dx_A (hc0 : cond0_0 i) (hc1 : cond0_1 i) (r : Fin 512) (j : Fin 1024) :
    out0_A_6 (F := Ideal) c i arg1 harg1 arg2 harg2 arg3 harg3 arg4 harg4 arg5 harg5 arg6 harg6 arg7 harg7 arg8 harg8 arg9 harg9 hc0 hc1 x0 x1 x2 x3 x4 x5 (ix2 r j) = bdx x0 x1 x2 x3 x4 x5 r j := by
  unfold out0_A_6
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3]
  exact pay1_eq x0 x1 x2 x3 x4 x5 r j

/-- Case B: the gradient block. -/
theorem dx_B (hc0 : ¬cond0_0 i) (hc1 : ¬cond0_1 i) (r : Fin 512) (j : Fin 1024) :
    out0_B_6 (F := Ideal) c i arg1 harg1 arg2 harg2 arg3 harg3 arg4 harg4 arg5 harg5 arg6 harg6 arg7 harg7 arg8 harg8 arg9 harg9 hc0 hc1 x0 x1 x2 x3 x4 x5 xo7 xo8 (ix2 r j) = bdx x0 x1 x2 x3 x4 x5 r j := by
  unfold out0_B_6
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3]
  exact pay1_eq x0 x1 x2 x3 x4 x5 r j

/-- Case C: the gradient block. -/
theorem dx_C (hc0 : cond0_0 i) (hc1 : ¬cond0_1 i) (r : Fin 512) (j : Fin 1024) :
    out0_C_6 (F := Ideal) c i arg1 harg1 arg2 harg2 arg3 harg3 arg4 harg4 arg5 harg5 arg6 harg6 arg7 harg7 arg8 harg8 arg9 harg9 hc0 hc1 x0 x1 x2 x3 x4 x5 xo8 (ix2 r j) = bdx x0 x1 x2 x3 x4 x5 r j := by
  unfold out0_C_6
  rw [View.read_writes_junk_eq_canon]
  unfold kernelRun0_C
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3]
  exact pay1_eq x0 x1 x2 x3 x4 x5 r j

/-- Case A: the modulation's accumulator, reset, then this block's share. -/
theorem mod_A (hc0 : cond0_0 i) (hc1 : cond0_1 i) (k : Fin 8) (j : Fin 1024) :
    out0_A_7 (F := Ideal) c i arg1 harg1 arg2 harg2 arg3 harg3 arg4 harg4 arg5 harg5 arg6 harg6 arg7 harg7 arg8 harg8 arg9 harg9 hc0 hc1 x0 x1 x2 x3 x4 x5 (ix3 0 k j) = bmod x0 x1 x2 x3 k j := by
  unfold out0_A_7
  rw [View.read_writes_junk_eq_canon]
  unfold kernelRun0_A
  dsimp only
  sl_unfold_words
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3, canon_row3, pay8_eq, pay9_eq]
  rw [readCov_row3 (o := 0) inb_S1x8x1024_S1x1x1024_0_0_0 _ _ 0 rfl, readCov_row3 (o := 1) inb_S1x8x1024_S1x1x1024_0_1_0 _ _ 1 rfl]
  simp only [canon_row3, View.canon_unit_zero (S := S1x8x1024) hz3, pay6_eq, zero_add]
  unfold bmod
  match k with
  | 0 => simp
  | 1 => simp
  | ⟨k + 2, hk⟩ => simp [Fin.ext_iff]

/-- Case B: the modulation's accumulator, what it held and this block's share. -/
theorem mod_B (hc0 : ¬cond0_0 i) (hc1 : ¬cond0_1 i) (k : Fin 8) (j : Fin 1024) :
    out0_B_7 (F := Ideal) c i arg1 harg1 arg2 harg2 arg3 harg3 arg4 harg4 arg5 harg5 arg6 harg6 arg7 harg7 arg8 harg8 arg9 harg9 hc0 hc1 x0 x1 x2 x3 x4 x5 xo7 xo8 (ix3 0 k j) = xo7 (ix3 0 k j) + bmod x0 x1 x2 x3 k j := by
  unfold out0_B_7
  unfold kernelRun0_B
  dsimp only
  sl_unfold_words
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3, read_row3, pay8_eq, pay9_eq, View.writes_nil, harg8.read_unread]
  rw [ld_row3 (o := 0) inb_S1x8x1024_S1x1x1024_0_0_0 xo7 0 rfl, ld_row3 (o := 1) inb_S1x8x1024_S1x1x1024_0_1_0 xo7 1 rfl]
  unfold bmod
  match k with
  | 0 => simp
  | 1 => simp
  | ⟨k + 2, hk⟩ => simp [Fin.ext_iff]

/-- Case C: the modulation's accumulator, reset, then this block's share. -/
theorem mod_C (hc0 : cond0_0 i) (hc1 : ¬cond0_1 i) (k : Fin 8) (j : Fin 1024) :
    out0_C_7 (F := Ideal) c i arg1 harg1 arg2 harg2 arg3 harg3 arg4 harg4 arg5 harg5 arg6 harg6 arg7 harg7 arg8 harg8 arg9 harg9 hc0 hc1 x0 x1 x2 x3 x4 x5 xo8 (ix3 0 k j) = bmod x0 x1 x2 x3 k j := by
  unfold out0_C_7
  rw [View.read_writes_junk_eq_canon]
  unfold kernelRun0_C
  dsimp only
  sl_unfold_words
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3, canon_row3, pay8_eq, pay9_eq]
  rw [readCov_row3 (o := 0) inb_S1x8x1024_S1x1x1024_0_0_0 _ _ 0 rfl, readCov_row3 (o := 1) inb_S1x8x1024_S1x1x1024_0_1_0 _ _ 1 rfl]
  simp only [canon_row3, View.canon_unit_zero (S := S1x8x1024) hz3, pay6_eq, zero_add]
  unfold bmod
  match k with
  | 0 => simp
  | 1 => simp
  | ⟨k + 2, hk⟩ => simp [Fin.ext_iff]

/-- Case A: the gain's accumulator, reset, then this block's share. -/
theorem gain_A (hc0 : cond0_0 i) (hc1 : cond0_1 i) (k : Fin 8) (j : Fin 1024) :
    out0_A_8 (F := Ideal) c i arg1 harg1 arg2 harg2 arg3 harg3 arg4 harg4 arg5 harg5 arg6 harg6 arg7 harg7 arg8 harg8 arg9 harg9 hc0 hc1 x0 x1 x2 x3 x4 x5 (ix2 k j) = bgain x0 x1 x2 x4 k j := by
  unfold out0_A_8
  rw [View.read_writes_junk_eq_canon]
  unfold kernelRun0_A
  dsimp only
  sl_unfold_words
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3, canon_row2, pay11_eq]
  rw [readCov_row2 (o := 0) inb_S8x1024_S1x1024_0_0 _ _ 0 rfl]
  simp only [View.canon_unit_zero (S := S8x1024) hz, pay7_eq, zero_add]
  unfold bgain
  match k with
  | 0 => simp
  | ⟨k + 1, hk⟩ => simp [Fin.ext_iff]

/-- Case B: the gain's accumulator, what it held and this block's share. -/
theorem gain_B (hc0 : ¬cond0_0 i) (hc1 : ¬cond0_1 i) (k : Fin 8) (j : Fin 1024) :
    out0_B_8 (F := Ideal) c i arg1 harg1 arg2 harg2 arg3 harg3 arg4 harg4 arg5 harg5 arg6 harg6 arg7 harg7 arg8 harg8 arg9 harg9 hc0 hc1 x0 x1 x2 x3 x4 x5 xo7 xo8 (ix2 k j) = xo8 (ix2 k j) + bgain x0 x1 x2 x4 k j := by
  unfold out0_B_8
  unfold kernelRun0_B
  dsimp only
  sl_unfold_words
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3, read_row2, pay11_eq, View.writes_nil, harg9.read_unread]
  rw [ld_row2 (o := 0) inb_S8x1024_S1x1024_0_0 xo8 0 rfl]
  unfold bgain
  match k with
  | 0 => simp
  | ⟨k + 1, hk⟩ => simp [Fin.ext_iff]

/-- Case C: the gain's accumulator, what it held and this block's share. -/
theorem gain_C (hc0 : cond0_0 i) (hc1 : ¬cond0_1 i) (k : Fin 8) (j : Fin 1024) :
    out0_C_8 (F := Ideal) c i arg1 harg1 arg2 harg2 arg3 harg3 arg4 harg4 arg5 harg5 arg6 harg6 arg7 harg7 arg8 harg8 arg9 harg9 hc0 hc1 x0 x1 x2 x3 x4 x5 xo8 (ix2 k j) = xo8 (ix2 k j) + bgain x0 x1 x2 x4 k j := by
  unfold out0_C_8
  unfold kernelRun0_C
  dsimp only
  sl_unfold_words
  simp only [View.readAt_eq_ld, harg1.read_unread, harg2.read_unread, harg3.read_unread, harg4.read_unread, harg5.read_unread, harg6.read_unread,
    View.ld_unit_zero (S := S512x2048) hz, View.ld_unit_zero (S := S2048x1024) hz, View.ld_unit_zero (S := S512x1024) hz,
    View.ld_unit_zero (S := S1x1024) hz, View.ld_unit_zero (S := S1x1x1024) hz3, read_row2, pay11_eq, View.writes_nil, harg9.read_unread]
  rw [ld_row2 (o := 0) inb_S8x1024_S1x1024_0_0 xo8 0 rfl]
  unfold bgain
  match k with
  | 0 => simp
  | ⟨k + 1, hk⟩ => simp [Fin.ext_iff]

end

end Cert.KernelIdeal.NormBody

end
-- ==== Proof.NormBlocks.lean ====
/-
  The kernel's three result arrays, element by element: `Cert.Norm`'s `dxAt`, `modAt` and `gainAt` of its arguments.

  Point `t` of 16 reads token rows `512 t … 512 t + 511`. The gradient of `x` is written back block by block; the
  modulation's accumulator is reset at the first of the four points of a sequence and written back at the last, the
  gain's runs over all 16 points.
-/
module

public import proofs.«01_k».proof.Proof.NormBody
public import Idealize.ShloMosaic.Lib.Pipeline.ValueKit
public import Idealize.ShloMosaic.Lib.Claim

@[expose] public section

noncomputable section

namespace Cert.KernelIdeal.NormBlocks

open Cert.KernelIdeal Cert.KernelIdeal.Gen Cert.KernelIdeal.NormBody Idealize.ShloMosaic Idealize.ShloMosaic.TcCoe Cert.Norm

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val / 4, 0, 0] := (by decide +kernel : ∀ t : Fin grid0.N, _)
theorem index8 : ∀ t : Fin cfg0.N, win0_8.index t = ![0, 0] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

/-! ## The blocks the windows read, at an element of the argument arrays -/

theorem blk0 (c : Dev nD) (t : Fin cfg0.N) (r : Fin 512) (k : Fin 2048) :
    iblk m c 0 t (ix2 r k) = m (c.tc.loc main_arg0) (ix2 (ptok t r) k) := by
  blk_simp [iblk]
  entry_read
  refine congrArg _ ?_
  blk_ext [index0]

theorem blk1 (c : Dev nD) (t : Fin cfg0.N) (k : Fin 2048) (j : Fin 1024) :
    iblk m c 1 t (ix2 k j) = m (c.tc.loc main_arg1) (ix2 j k) := by
  blk_simp [iblk]
  entry_read
  have e : ((View.whole main_v1).slice (win0_1.rect t)).emb (ix2 k j) = ix2 k j := by blk_ext [index1]
  rw [e]
  pointwise []

theorem blk2 (c : Dev nD) (t : Fin cfg0.N) (r : Fin 512) (k : Fin 1024) :
    iblk m c 2 t (ix2 r k) = m (c.tc.loc main_arg2) (ix2 (ptok t r) k) := by
  blk_simp [iblk]
  entry_read
  refine congrArg _ ?_
  blk_ext [index2]

theorem blk3 (c : Dev nD) (t : Fin cfg0.N) (j : Fin 1024) :
    iblk m c 3 t (ix2 0 j) = m (c.tc.loc main_arg3) (ix2 0 j) := by
  blk_simp [iblk]
  entry_read
  refine congrArg _ ?_
  blk_ext [index3]

theorem blk4 (c : Dev nD) (t : Fin cfg0.N) (r : Fin 512) (j : Fin 1024) :
    iblk m c 4 t (ix3 0 0 j) = m (c.tc.loc main_arg4) (ix3 (seqOf (ptok t r)) 0 j) := by
  blk_simp [iblk]
  entry_read
  refine congrArg _ ?_
  blk_ext [index4]

theorem blk5 (c : Dev nD) (t : Fin cfg0.N) (r : Fin 512) (k : Fin 1024) :
    iblk m c 5 t (ix2 r k) = m (c.tc.loc main_arg5) (ix2 (ptok t r) k) := by
  blk_simp [iblk]
  entry_read
  refine congrArg _ ?_
  blk_ext [index5]

/-! ## A point's results, at the token rows it reads -/

/-- The cotangent of the modulated norm, of the argument arrays. -/
abbrev kdh (c : Dev nD) : Fin 8192 → Fin 1024 → EReal := projCot (m (c.tc.loc main_arg0)) (m (c.tc.loc main_arg1))

theorem bdh_eq (c : Dev nD) (t : Fin cfg0.N) (r : Fin 512) (j : Fin 1024) :
    bdh (iblk m c 0 t) (iblk m c 1 t) r j = kdh m c (ptok t r) j := by
  unfold bdh kdh projCot
  simp only [blk0, blk1]

theorem brow_eq (c : Dev nD) (t : Fin cfg0.N) (r : Fin 512) :
    brow (iblk m c 2 t) r = row (m (c.tc.loc main_arg2)) (ptok t r) := by
  unfold brow row
  simp only [blk2]

theorem bxhat_eq (c : Dev nD) (t : Fin cfg0.N) (r : Fin 512) (j : Fin 1024) :
    bxhat (iblk m c 2 t) r j = xhat (m (c.tc.loc main_arg2)) (ptok t r) j := by
  unfold bxhat xhat
  simp only [blk2, brow_eq]

theorem bdn_eq (c : Dev nD) (t : Fin cfg0.N) (r : Fin 512) (j : Fin 1024) :
    bdn (iblk m c 0 t) (iblk m c 1 t) (iblk m c 4 t) r j = dn (kdh m c) (m (c.tc.loc main_arg4)) (ptok t r) j := by
  unfold bdn dn
  rw [bdh_eq, blk4 m c t r]

theorem bdx_eq (c : Dev nD) (t : Fin cfg0.N) (r : Fin 512) (j : Fin 1024) :
    bdx (iblk m c 0 t) (iblk m c 1 t) (iblk m c 2 t) (iblk m c 3 t) (iblk m c 4 t) (iblk m c 5 t) r j
      = dxAt (kdh m c) (m (c.tc.loc main_arg2)) (m (c.tc.loc main_arg3)) (m (c.tc.loc main_arg4)) (m (c.tc.loc main_arg5)) (ptok t r) j := by
  unfold bdx dxAt dxhat
  simp only [bdn_eq, brow_eq, blk3, blk5]

theorem bmod_eq (c : Dev nD) (t : Fin cfg0.N) (k : Fin 8) (j : Fin 1024) :
    bmod (iblk m c 0 t) (iblk m c 1 t) (iblk m c 2 t) (iblk m c 3 t) k j
      = ∑ r : Fin 512, modRow (kdh m c) (m (c.tc.loc main_arg2)) (m (c.tc.loc main_arg3)) k (ptok t r) j := by
  unfold bmod modRow
  simp only [bdh_eq, bxhat_eq, blk3]

theorem bgain_eq (c : Dev nD) (t : Fin cfg0.N) (k : Fin 8) (j : Fin 1024) :
    bgain (iblk m c 0 t) (iblk m c 1 t) (iblk m c 2 t) (iblk m c 4 t) k j
      = ∑ r : Fin 512, gainRow (kdh m c) (m (c.tc.loc main_arg2)) (m (c.tc.loc main_arg4)) k (ptok t r) j := by
  unfold bgain gainRow
  simp only [bdn_eq, bxhat_eq]

/-! ## What the buffers hold after a point -/

/-- The gradient block of point `t`. -/
theorem outs_dx (c : Dev nD) (t : Fin cfg0.N) (r : Fin 512) (j : Fin 1024) :
    (outsAt0 m c t.val t.isLt).1 (ix2 r j)
      = bdx (iblk m c 0 t) (iblk m c 1 t) (iblk m c 2 t) (iblk m c 3 t) (iblk m c 4 t) (iblk m c 5 t) r j := by
  by_cases h0 : t.val % 4 = 0
  · by_cases h1 : t.val % 16 = 0
    · rw [outsAt0_A m c t h0 h1]; dsimp only; exact dx_A ..
    · rw [outsAt0_C m c t h0 h1]; dsimp only; exact dx_C ..
  · have h1 : ¬t.val % 16 = 0 := by omega
    rw [outsAt0_B m c t h0 h1]; dsimp only; exact dx_B ..

/-- The modulation's accumulator at the last point of a sequence: the four points' shares. -/
theorem outs_mod (c : Dev nD) (t : Fin cfg0.N) (hr : t.val % 4 = 3) (k : Fin 8) (j : Fin 1024) :
    (outsAt0 m c t.val t.isLt).2.1 (ix3 0 k j)
      = ∑ s : Fin 4, bmod (iblk m c 0 ⟨4 * (t.val / 4) + s.val, by have := s.isLt; have := t.isLt; omega⟩)
          (iblk m c 1 ⟨4 * (t.val / 4) + s.val, by have := s.isLt; have := t.isLt; omega⟩)
          (iblk m c 2 ⟨4 * (t.val / 4) + s.val, by have := s.isLt; have := t.isLt; omega⟩)
          (iblk m c 3 ⟨4 * (t.val / 4) + s.val, by have := s.isLt; have := t.isLt; omega⟩) k j := by
  refine (Pipeline.eq_sum_fin_of_reset_step_apply_of_flush
    (fun n h (i : Fin 8 × Fin 1024) => (outsAt0 m c n h).2.1 (ix3 0 i.1 i.2)) 4 (fun _ => 0)
    (fun p i => bmod (iblk m c 0 p) (iblk m c 1 p) (iblk m c 2 p) (iblk m c 3 p) i.1 i.2)
    (fun p h0 i => ?_) (fun p h0 i => ?_) t hr (k, j)).trans (zero_add _)
  · rw [zero_add]
    by_cases h1 : p.val % 16 = 0
    · rw [outsAt0_A m c p h0 h1]; dsimp only; exact mod_A ..
    · rw [outsAt0_C m c p h0 h1]; dsimp only; exact mod_C ..
  · have h1 : ¬p.val % 16 = 0 := by omega
    rw [outsAt0_B m c p h0 h1]; dsimp only; exact mod_B ..

/-- The gain's accumulator at the last point: all 16 points' shares. -/
theorem outs_gain (c : Dev nD) (t : Fin cfg0.N) (hr : t.val + 1 = cfg0.N) (k : Fin 8) (j : Fin 1024) :
    (outsAt0 m c t.val t.isLt).2.2 (ix2 k j)
      = ∑ p : Fin cfg0.N, bgain (iblk m c 0 p) (iblk m c 1 p) (iblk m c 2 p) (iblk m c 4 p) k j := by
  refine (Pipeline.eq_sum_fin_of_reset_step_apply_last
    (fun n h (i : Fin 8 × Fin 1024) => (outsAt0 m c n h).2.2 (ix2 i.1 i.2)) 16 (fun _ => 0)
    (fun p i => bgain (iblk m c 0 p) (iblk m c 1 p) (iblk m c 2 p) (iblk m c 4 p) i.1 i.2)
    (fun p h1 i => ?_) (fun p h1 i => ?_) (le_of_eq N_0) t hr (k, j)).trans (zero_add _)
  · rw [zero_add]
    have h0 : p.val % 4 = 0 := by omega
    rw [outsAt0_A m c p h0 h1]; dsimp only; exact gain_A ..
  · by_cases h0 : p.val % 4 = 0
    · rw [outsAt0_C m c p h0 h1]; dsimp only; exact gain_C ..
    · rw [outsAt0_B m c p h0 h1]; dsimp only; exact gain_B ..

/-! ## The result arrays -/

/-- The first result array: the cotangent of `x`. -/
abbrev resDx (c : Dev nD) : Buf (Elt Ideal) ((c.tc : Thread nD τ).loc main_v2_0) := fun y : S8192x1024.Idx =>
  dxAt (kdh m c) (m (c.tc.loc main_arg2)) (m (c.tc.loc main_arg3)) (m (c.tc.loc main_arg4)) (m (c.tc.loc main_arg5)) (y 0) (y 1)

/-- The second: the modulation's gradient. -/
abbrev resMod (c : Dev nD) : Buf (Elt Ideal) ((c.tc : Thread nD τ).loc main_v2_1) := fun y : S4x8x1024.Idx =>
  modAt (kdh m c) (m (c.tc.loc main_arg2)) (m (c.tc.loc main_arg3)) (y 0) (y 1) (y 2)

/-- The third: the gain's gradient. -/
abbrev resGain (c : Dev nD) : Buf (Elt Ideal) ((c.tc : Thread nD τ).loc main_v2_2) := fun y : S8x1024.Idx =>
  gainAt (kdh m c) (m (c.tc.loc main_arg2)) (m (c.tc.loc main_arg4)) (y 0) (y 1)

theorem final_dx (c : Dev nD) : (dats m 0 c).arrAt 6 cfg0.N = resDx m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, funext fun a => by
    match a with
    | ⟨0, _⟩ => rfl
    | ⟨1, _⟩ => rfl⟩
  refine (outs_dx m c t r j).trans ((bdx_eq m c t r j).trans ?_)
  have e : (win0_6.blk t).view.emb (ix2 r j) = ix2 (ptok t r) j := by blk_ext [index6]
  rw [e]
  rfl

theorem final_mod (c : Dev nD) : (dats m 0 c).arrAt 7 cfg0.N = resMod m c := by
  refine (dats m 0 c).arrAt_eq_of_covers 7 _ (by decide +kernel) fun t hf y => ?_
  blk_simp
  rw [after0_7]
  have hr : t.val % 4 = 3 := (flush0_7 t).mp hf
  have ht : t.val < 16 := lt_of_lt_of_eq t.isLt N_0
  obtain ⟨k, j, rfl⟩ : ∃ (k : Fin 8) (j : Fin 1024), y = ix3 0 k j := ⟨y 1, y 2, funext fun a => by
    match a with
    | ⟨0, _⟩ => exact Subsingleton.elim (α := Fin 1) _ _
    | ⟨1, _⟩ => rfl
    | ⟨2, _⟩ => rfl⟩
  refine (outs_mod m c t hr k j).trans ?_
  have e : (win0_7.blk t).view.emb (ix3 0 k j) = ix3 (⟨t.val / 4, by omega⟩ : Fin 4) k j := by blk_ext [index7]
  rw [e]
  show _ = modAt (kdh m c) (m (c.tc.loc main_arg2)) (m (c.tc.loc main_arg3)) ⟨t.val / 4, by omega⟩ k j
  unfold modAt
  rw [Fin.sum_univ_tiles 4 512 rfl]
  refine Finset.sum_congr rfl fun s _ => (bmod_eq m c _ k j).trans (Finset.sum_congr rfl fun r _ => ?_)
  refine congrArg (fun u => modRow _ _ _ k u j) (Fin.ext ?_)
  show (4 * (t.val / 4) + s.val) * 512 + r.val = t.val / 4 * 2048 + (s.val * 512 + r.val)
  omega

theorem final_gain (c : Dev nD) : (dats m 0 c).arrAt 8 cfg0.N = resGain m c := by
  refine (dats m 0 c).arrAt_eq_of_covers 8 _ (by decide +kernel) fun t hf y => ?_
  blk_simp
  rw [after0_8]
  have hN : cfg0.N = 16 := N_0
  have hr : t.val + 1 = cfg0.N := by
    have h := (flush0_8 t).mp hf
    have := t.isLt
    omega
  obtain ⟨k, j, rfl⟩ : ∃ (k : Fin 8) (j : Fin 1024), y = ix2 k j := ⟨y 0, y 1, funext fun a => by
    match a with
    | ⟨0, _⟩ => rfl
    | ⟨1, _⟩ => rfl⟩
  refine (outs_gain m c t hr k j).trans ?_
  have e : (win0_8.blk t).view.emb (ix2 k j) = ix2 k j := by blk_ext [index8]
  rw [e]
  show _ = gainAt (kdh m c) (m (c.tc.loc main_arg2)) (m (c.tc.loc main_arg4)) k j
  unfold gainAt
  rw [Fin.sum_univ_tiles 16 512 rfl]
  refine Fintype.sum_equiv (finCongr hN) _ _ fun p => (bgain_eq m c p k j).trans rfl

end Cert.KernelIdeal.NormBlocks

end
-- ==== Proof.NormRef.lean ====
/-
  The reference's three results, element by element: `Cert.Norm`'s `dxAt`, `modAt` and `gainAt` of its arguments, with
  the cotangent `dh` the product of the incoming gradient with the transposed weight.
-/
module

public import proofs.«01_k».proof.Proof.Gen.ReferenceIdeal.Read
public import proofs.«01_k».proof.Proof.NormSpec
public import Idealize.ShloMosaic.Lib.Pointwise.Tactic
public import Idealize.ShloMosaic.Lib.Pointwise.Contract
public import Idealize.ShloMosaic.Lib.Pointwise.Reshape
public import Idealize.ShloMosaic.Lib.Pointwise.Select

@[expose] public section

noncomputable section

namespace Cert.ReferenceIdeal.NormValue

open Cert.ReferenceIdeal Cert.ReferenceIdeal.Gen Cert.ReferenceIdeal.Read Idealize.ShloMosaic Idealize.ShloMosaic.TcCoe Cert.Norm

variable (x0 : (⟨S8192x2048, .bf16⟩ : BufTy).Contents (Elt Ideal)) (x1 : (⟨S1024x2048, .f32⟩ : BufTy).Contents (Elt Ideal))
  (x2 : (⟨S8192x1024, .f32⟩ : BufTy).Contents (Elt Ideal)) (x3 : (⟨S1x1024, .f32⟩ : BufTy).Contents (Elt Ideal))
  (x4 : (⟨S4x1x1024, .f32⟩ : BufTy).Contents (Elt Ideal)) (x5 : (⟨S8192x1024, .f32⟩ : BufTy).Contents (Elt Ideal))

/-- Token `i` of sequence `s` is in sequence `s`. -/
theorem seqOf_tok (s : Fin 4) (i : Fin 2048) : seqOf (tok s i) = s := Fin.ext (by
  have := i.isLt
  show (s.val * 2048 + i.val) / 2048 = s.val
  omega)

/-- `mean(x²) + ε` of a token's row. -/
theorem v11_eq (s : Fin 4) (i : Fin 2048) (z : Fin 1) :
    val_main_v11 (F := Ideal) x2 (ix3 s i z) = meanSq (row x2 (tok s i)) := by
  pointwise [val_main_v11, val_main_v10, val_main_v9, val_main_v8, val_main_v7, val_main_v6, val_main_v5,
    val_main_v2, val_main_cst_0, val_main_cst_1, val_main_cst_2]
  rfl

/-- The reciprocal root of a token's row. -/
theorem v12_eq (s : Fin 4) (i : Fin 2048) (z : Fin 1) :
    val_main_v12 (F := Ideal) x2 (ix3 s i z) = rstd (row x2 (tok s i)) := by
  pointwise [val_main_v12, v11_eq]
  rfl

/-- The cotangent of the modulated norm: the incoming gradient times the transposed weight. -/
theorem v31_eq (s : Fin 4) (i : Fin 2048) (j : Fin 1024) :
    val_main_v31 (F := Ideal) x0 x1 (ix3 s i j) = projCot x0 x1 (tok s i) j := by
  pointwise [val_main_v31, val_main_v30, val_main_v0]
  rfl

/-- The normalised row. -/
theorem v17_eq (s : Fin 4) (i : Fin 2048) (j : Fin 1024) :
    val_main_v17 (F := Ideal) x2 (ix3 s i j) = xhat x2 (tok s i) j := by
  pointwise [val_main_v17, val_main_v16, val_main_v2, v12_eq]
  rfl

/-- The cotangent of the norm before the modulation. -/
theorem v39_eq (s : Fin 4) (i : Fin 2048) (j : Fin 1024) :
    val_main_v39 (F := Ideal) x0 x1 x4 (ix3 s i j) = dn (projCot x0 x1) x4 (tok s i) j := by
  pointwise [val_main_v39, val_main_v38, val_main_v23, val_main_v22, val_main_v21, val_main_v4, val_main_cst_4, v31_eq]
  unfold dn
  rw [seqOf_tok]

/-- The cotangent of the normalised row. -/
theorem v45_eq (s : Fin 4) (i : Fin 2048) (j : Fin 1024) :
    val_main_v45 (F := Ideal) x0 x1 x3 x4 (ix3 s i j) = dxhat (projCot x0 x1) x3 x4 (tok s i) j := by
  pointwise [val_main_v45, val_main_v44, val_main_v18, val_main_v3, v39_eq]
  rfl

/-- The chain rule's inner term. -/
theorem v55_eq (s : Fin 4) (i : Fin 2048) :
    val_main_v55 (F := Ideal) x0 x1 x2 x3 x4 (ix2 s i) = chainTerm (row x2 (tok s i)) (dxhat (projCot x0 x1) x3 x4 (tok s i)) := by
  pointwise [val_main_v55, val_main_v54, val_main_v53, val_main_v52, val_main_v49, val_main_v48, val_main_v47, val_main_v15,
    val_main_v14, val_main_v13, val_main_cst_3, val_main_cst_11, val_main_cst_12, val_main_cst_13, val_main_v2, v45_eq, v12_eq, v11_eq]
  exact Fin.sum_univ_one _

/-- The cotangent of `x`, in the fused form. -/
theorem v60_eq (s : Fin 4) (i : Fin 2048) (j : Fin 1024) :
    val_main_v60 (F := Ideal) x0 x1 x2 x3 x4 (ix3 s i j) = dxFused (row x2 (tok s i)) (dxhat (projCot x0 x1) x3 x4 (tok s i)) j := by
  rw [dx_eq]
  pointwise [val_main_v60, val_main_v59, val_main_v58, val_main_v57, val_main_v56, val_main_v51, val_main_v50, val_main_v2, v45_eq, v12_eq, v55_eq]
  rfl

/-- The first result: the cotangent of `x` with the residual branch's. -/
theorem dx_apply (t : Fin 8192) (j : Fin 1024) :
    val_main_v66 (F := Ideal) x0 x1 x2 x3 x4 x5 (ix2 t j) = dxAt (projCot x0 x1) x2 x3 x4 x5 t j := by
  pointwise [val_main_v66, val_main_v65, v60_eq]
  have e : (⟨t.val / 2048 * 2048 + t.val % 2048, by have := t.isLt; omega⟩ : Fin 8192) = t := Fin.ext (Nat.div_add_mod' _ _)
  unfold dxAt
  exact congrArg (fun u => dxFused (row x2 u) (dxhat (projCot x0 x1) x3 x4 u) j + x5 (ix2 t j)) e

/-- The shift's cotangent. -/
theorem v34_eq (s : Fin 4) (j : Fin 1024) :
    val_main_v34 (F := Ideal) x0 x1 (ix2 s j) = ∑ i : Fin 2048, projCot x0 x1 (tok s i) j := by
  pointwise [val_main_v34, val_main_v33, val_main_v32, val_main_cst_6, val_main_cst_5, v31_eq]
  exact Fin.sum_univ_one _

/-- The scale's cotangent. -/
theorem v40_eq (s : Fin 4) (j : Fin 1024) :
    val_main_v40 (F := Ideal) x0 x1 x2 x3 (ix2 s j)
      = ∑ i : Fin 2048, projCot x0 x1 (tok s i) j * (xhat x2 (tok s i) j * x3 (ix2 0 j)) := by
  pointwise [val_main_v40, val_main_v37, val_main_v36, val_main_v35, val_main_v20, val_main_v19, val_main_v18, val_main_v3,
    val_main_cst_7, val_main_cst_8, v31_eq, v17_eq]
  refine (Fin.sum_univ_one _).trans (Finset.sum_congr rfl fun i _ => mul_comm _ _)

/-- The number read from the integer zero is zero. -/
theorem zero_of_int : FloatOps.sitofp (F := Ideal) .f32 0#32 = 0 := by
  show (((0#32 : BitVec 32).toInt : ℝ) : EReal) = 0
  simp

/-- The second result: the modulation's gradient. -/
theorem mod_apply (s : Fin 4) (k : Fin 8) (j : Fin 1024) :
    val_main_v64 (F := Ideal) x0 x1 x2 x3 (ix3 s k j) = modAt (projCot x0 x1) x2 x3 s k j := by
  pointwise [val_main_v64, val_main_v63, Cert.ReferenceIdeal.Value.fn_main_v63, val_main_call0_v0, val_main_c, val_main_v61, val_main_v62,
    v34_eq, v40_eq, zero_of_int]
  unfold modAt modRow
  match k with
  | 0 => rfl
  | 1 => rfl
  | ⟨k + 2, hk⟩ =>
    have h2 : ¬ k + 2 < 2 := by omega
    have e0 : (⟨k + 2, hk⟩ : Fin 8) ≠ 0 := fun e => by simpa using congrArg Fin.val e
    have e1 : (⟨k + 2, hk⟩ : Fin 8) ≠ 1 := fun e => by simpa using congrArg Fin.val e
    simp [h2, e0, e1]

/-- The third result: the gain's gradient. -/
theorem gain_apply (k : Fin 8) (j : Fin 1024) :
    val_main_v68 (F := Ideal) x0 x1 x2 x4 (ix2 k j) = gainAt (projCot x0 x1) x2 x4 k j := by
  have h42 : ∀ j, val_main_v42 (F := Ideal) x0 x1 x2 x4 (ix1 j) = ∑ s : Fin 4, ∑ i : Fin 2048, dn (projCot x0 x1) x4 (tok s i) j * xhat x2 (tok s i) j := fun j => by
    unfold val_main_v42
    simp only [Host.reduceAdd, Ideal.hostReduceAdd_def]
    rw [hostReduceAdd_first_two _ rfl _ j rfl]
    pointwise [val_main_v41, v39_eq, v17_eq, val_main_cst_9]
    exact Finset.sum_congr rfl fun s _ => Finset.sum_congr rfl fun i _ => mul_comm _ _
  have h46 : val_main_v46 (F := Ideal) x0 x1 x2 x4 (ix1 j) = ∑ s : Fin 4, ∑ i : Fin 2048, dn (projCot x0 x1) x4 (tok s i) j * xhat x2 (tok s i) j := by
    unfold val_main_v46
    simp only [Host.reduceAdd, Ideal.hostReduceAdd_def]
    rw [hostReduceAdd_first_two _ rfl _ j rfl]
    pointwise [val_main_v43, h42, val_main_cst_10]
    exact (Fin.sum_univ_one _).trans (Fin.sum_univ_one _)
  pointwise [val_main_v68, val_main_v67, val_main_call1_v0, val_main_c_14, h46, zero_of_int]
  unfold gainAt gainRow
  match k with
  | 0 =>
    simp only [if_pos]
    exact (Fin.sum_univ_tiles 4 2048 rfl (fun t => dn (projCot x0 x1) x4 t j * xhat x2 t j)).symm
  | ⟨k + 1, hk⟩ =>
    have e0 : (⟨k + 1, hk⟩ : Fin 8) ≠ 0 := fun e => by simpa using congrArg Fin.val e
    simp [e0]

end Cert.ReferenceIdeal.NormValue
end
-- ==== Proof.NormValue.lean ====
/-
  The two programs' results agree: the kernel's three result arrays and the reference's are the same functions of the
  arguments, element by element.
-/
module

public import proofs.«01_k».proof.Proof.NormBlocks
public import proofs.«01_k».proof.Proof.NormRef
public import proofs.«01_k».proof.Proof.Gen.ReferenceIdeal.Run
public import proofs.«01_k».proof.Defs

@[expose] public section

noncomputable section

namespace Cert.NormValue

open Idealize.ShloMosaic Idealize.SL.Sem Cert.Norm

/-- Every index of a rank-2 array is a pair. -/
theorem eta2 {n0 n1 : Nat} (y : (⟨2, ![n0, n1]⟩ : Shape).Idx) : y = ix2 (n0 := n0) (n1 := n1) (y 0) (y 1) := funext fun a => by
  match a with
  | ⟨0, _⟩ => rfl
  | ⟨1, _⟩ => rfl

/-- Every index of a rank-3 array is a triple. -/
theorem eta3 {n0 n1 n2 : Nat} (y : (⟨3, ![n0, n1, n2]⟩ : Shape).Idx) : y = ix3 (n0 := n0) (n1 := n1) (n2 := n2) (y 0) (y 1) (y 2) := funext fun a => by
  match a with
  | ⟨0, _⟩ => rfl
  | ⟨1, _⟩ => rfl
  | ⟨2, _⟩ => rfl

/-- On equal arguments the kernel and the reference end with equal results. -/
theorem agree : Cert.algebraic_KernelIdeal_ReferenceIdeal (hKernelIdeal := Cert.KernelIdeal.Gen.facts) (hReferenceIdeal := Cert.ReferenceIdeal.Gen.facts) := by
  intro m g m' g' _ hm
  refine ⟨Cert.KernelIdeal.NormBlocks.resDx m, Cert.KernelIdeal.NormBlocks.resMod m, Cert.KernelIdeal.NormBlocks.resGain m,
    (θ_run _ _ _).mono (fun r h c => ?_) (Cert.KernelIdeal.Value.run_blocks m g),
    (θ_run _ _ _).mono (fun r h c => ?_) (Cert.ReferenceIdeal.Value.run m' g')⟩
  · obtain ⟨h0, h1, h2, h3⟩ := h c
    exact ⟨h0.trans (Cert.KernelIdeal.NormBlocks.final_dx m c), h1.trans (Cert.KernelIdeal.NormBlocks.final_mod m c),
      h2.trans (Cert.KernelIdeal.NormBlocks.final_gain m c), h3⟩
  · obtain ⟨h0, h1, h2, h3⟩ := h c
    obtain ⟨e0, e1, e2, e3, e4, e5⟩ := hm c
    refine ⟨h0.trans ((Cert.ReferenceIdeal.Read.val_main_v66_eq m' c).trans (funext fun y => ?_)),
      h1.trans ((Cert.ReferenceIdeal.Read.val_main_v64_eq _ _ _ _).trans (funext fun y => ?_)),
      h2.trans ((Cert.ReferenceIdeal.Read.val_main_v68_eq _ _ _ _).trans (funext fun y => ?_)), h3⟩
    · refine (congrArg _ (eta2 y)).trans ((Cert.ReferenceIdeal.NormValue.dx_apply _ _ _ _ _ _ (y 0) (y 1)).trans ?_)
      rw [e0, e1, e2, e3, e4, e5]
    · refine (congrArg _ (eta3 y)).trans ((Cert.ReferenceIdeal.NormValue.mod_apply _ _ _ _ (y 0) (y 1) (y 2)).trans ?_)
      rw [e0, e1, e2, e3]
    · refine (congrArg _ (eta2 y)).trans ((Cert.ReferenceIdeal.NormValue.gain_apply _ _ _ _ (y 0) (y 1)).trans ?_)
      rw [e0, e1, e2, e4]

end Cert.NormValue

end
-- ==== Proof.Norm0Body.lean ====
/-
  One grid point of the first block's norm kernel at an element: the three blocks it leaves, in terms of the blocks it
  reads.

  The cotangent `dh` of the modulated norm is the sum of seven products, one per part of the incoming gradient, each
  with its own rows of the weight. The rest of the body is `NormBody`'s, over that block.
-/
module

public import proofs.«01_k».proof.Proof.Gen.Kernel2Ideal.Value
public import proofs.«01_k».proof.Proof.NormSpec
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import proofs.«01_k».proof.Proof.RowWrites

@[expose] public section

noncomputable section

namespace Cert.Kernel2Ideal.NormBody

open Cert.Kernel2Ideal Cert.Kernel2Ideal.Gen Idealize.ShloMosaic Idealize.ShloMosaic.TcCoe Cert.Norm Cert.RowWrites

theorem hz : (![0, 0] : Fin 2 → Nat) = fun _ => 0 := funext fun a => by fin_cases a <;> rfl
theorem hz3 : (![0, 0, 0] : Fin 3 → Nat) = fun _ => 0 := funext fun a => by fin_cases a <;> rfl

section
variable (V : FVec Ideal S512x1024 .f32) (x7 : Vec Ideal S512x1024 .f32) (x8 : Vec Ideal S1x1024 .f32)
  (x9 : Vec Ideal S1x1x1024 .f32) (x10 : Vec Ideal S512x1024 .f32)

/-- Row `r` of the block of `x`. -/
def brow (r : Fin 512) : Fin 1024 → EReal := fun k => x7 (ix2 r k)

/-- The normalised row. -/
def bxhat (r : Fin 512) (j : Fin 1024) : EReal := x7 (ix2 r j) * rstd (brow x7 r)

/-- The cotangent of `x̂ · g`. -/
def bdn (r : Fin 512) (j : Fin 1024) : EReal := (V (ix2 r j) : EReal) * (1 + x9 (ix3 0 0 j))

/-- The cotangent of `x`, and the residual branch's added. -/
def bdx (r : Fin 512) (j : Fin 1024) : EReal :=
  dxFused (brow x7 r) (fun k => bdn V x9 r k * x8 (ix2 0 k)) j + x10 (ix2 r j)

/-- The block's share of row `k` of the modulation's gradient. -/
def bmod (k : Fin 8) (j : Fin 1024) : EReal :=
  ∑ r : Fin 512, if k = 0 then (V (ix2 r j) : EReal) else if k = 1 then V (ix2 r j) * (bxhat x7 r j * x8 (ix2 0 j)) else 0

/-- The block's share of row `k` of the gain's gradient. -/
def bgain (k : Fin 8) (j : Fin 1024) : EReal := ∑ r : Fin 512, if k = 0 then bdn V x9 r j * bxhat x7 r j else 0

end

/-! ## The body's pure steps at an element -/

/-- Row `o + k` of the weight, of the `n` rows from `o` on. -/
theorem ld_rows {n o w l : Nat} {e : EltTy} {Val : EltTy → Type} (inb : ∀ a, (![o, 0] : Fin 2 → Nat) a + (![l, w] : Fin 2 → Nat) a ≤ (⟨2, ![n, w]⟩ : Shape).size a)
    (X : (⟨2, ![n, w]⟩ : Shape).Idx → Val e) (k : Fin l) (z : Fin n) (hk : z.val = o + k.val) (j : Fin w) :
    View.ld X (Rect.unit (s := ⟨2, ![n, w]⟩) ![o, 0] ![l, w] inb) (ix2 k j) = X (ix2 z j) :=
  congrArg X (funext fun a => Fin.ext (by
    match a with
    | ⟨0, _⟩ => show o + 1 * k.val = z.val; omega
    | ⟨1, _⟩ => show 0 + 1 * j.val = j.val; omega))

section
variable (x0 : Vec Ideal S512x512 .bf16) (x1 : Vec Ideal S512x512 .bf16) (x2 : Vec Ideal S512x512 .bf16) (x3 : Vec Ideal S512x512 .bf16) (x4 : Vec Ideal S512x1024 .bf16) (x5 : Vec Ideal S512x256 .bf16) (x6 : Vec Ideal S3328x1024 .bf16) (x7 : Vec Ideal S512x1024 .f32) (x8 : Vec Ideal S1x1024 .f32) (x9 : Vec Ideal S1x1x1024 .f32) (x10 : Vec Ideal S512x1024 .f32) (x11 : Vec Ideal S8x512 .f32) (x12 : Vec Ideal S8x1024 .bf16)

/-- The block of cotangents the body computes: the seven products, added up. -/
abbrev dhv : FVec Ideal S512x1024 .f32 :=
  k0_pay3 (F := Ideal) (k0_pay2 x11 x12 x0 (View.ld x6 (Rect.unit ![0, 0] ![512, 1024] inb_S3328x1024_S512x1024_0_0))
      x1 (View.ld x6 (Rect.unit ![512, 0] ![512, 1024] inb_S3328x1024_S512x1024_512_0))
      x2 (View.ld x6 (Rect.unit ![1024, 0] ![512, 1024] inb_S3328x1024_S512x1024_1024_0))
      x3 (View.ld x6 (Rect.unit ![1536, 0] ![512, 1024] inb_S3328x1024_S512x1024_1536_0)))
    x4 (View.ld x6 (Rect.unit ![2048, 0] ![1024, 1024] inb_S3328x1024_S1024x1024_2048_0))
    x5 (View.ld x6 (Rect.unit ![3072, 0] ![256, 1024] inb_S3328x1024_S256x1024_3072_0))

/-- The same at an element. -/
def bdh (r : Fin 512) (j : Fin 1024) : EReal :=
  (∑ k : Fin 8, x11 (ix2 k r) * x12 (ix2 k j)) + (∑ k : Fin 512, x0 (ix2 r k) * x6 (ix2 ⟨0 + k.val, by omega⟩ j))
    + (∑ k : Fin 512, x1 (ix2 r k) * x6 (ix2 ⟨512 + k.val, by omega⟩ j))
    + (∑ k : Fin 512, x2 (ix2 r k) * x6 (ix2 ⟨1024 + k.val, by omega⟩ j))
    + (∑ k : Fin 512, x3 (ix2 r k) * x6 (ix2 ⟨1536 + k.val, by omega⟩ j))
    + (∑ k : Fin 1024, x4 (ix2 r k) * x6 (ix2 ⟨2048 + k.val, by omega⟩ j))
    + (∑ k : Fin 256, x5 (ix2 r k) * x6 (ix2 ⟨3072 + k.val, by omega⟩ j))

theorem dhv_eq (r : Fin 512) (j : Fin 1024) : dhv x0 x1 x2 x3 x4 x5 x6 x11 x12 (ix2 r j) = bdh x0 x1 x2 x3 x4 x5 x6 x11 x12 r j := by
  have h0 := fun k : Fin 512 => ld_rows inb_S3328x1024_S512x1024_0_0 x6 k ⟨0 + k.val, by omega⟩ rfl j
  have h1 := fun k : Fin 512 => ld_rows inb_S3328x1024_S512x1024_512_0 x6 k ⟨512 + k.val, by omega⟩ rfl j
  have h2 := fun k : Fin 512 => ld_rows inb_S3328x1024_S512x1024_1024_0 x6 k ⟨1024 + k.val, by omega⟩ rfl j
  have h3 := fun k : Fin 512 => ld_rows inb_S3328x1024_S512x1024_1536_0 x6 k ⟨1536 + k.val, by omega⟩ rfl j
  have h4 := fun k : Fin 1024 => ld_rows inb_S3328x1024_S1024x1024_2048_0 x6 k ⟨2048 + k.val, by omega⟩ rfl j
  have h5 := fun k : Fin 256 => ld_rows inb_S3328x1024_S256x1024_3072_0 x6 k ⟨3072 + k.val, by omega⟩ rfl j
  unfold dhv bdh
  revert h0 h1 h2 h3 h4 h5
  generalize View.ld x6 (Rect.unit ![0, 0] ![512, 1024] inb_S3328x1024_S512x1024_0_0) = w0
  generalize View.ld x6 (Rect.unit ![512, 0] ![512, 1024] inb_S3328x1024_S512x1024_512_0) = w1
  generalize View.ld x6 (Rect.unit ![1024, 0] ![512, 1024] inb_S3328x1024_S512x1024_1024_0) = w2
  generalize View.ld x6 (Rect.unit ![1536, 0] ![512, 1024] inb_S3328x1024_S512x1024_1536_0) = w3
  generalize View.ld x6 (Rect.unit ![2048, 0] ![1024, 1024] inb_S3328x1024_S1024x1024_2048_0) = w4
  generalize View.ld x6 (Rect.unit ![3072, 0] ![256, 1024] inb_S3328x1024_S256x1024_3072_0) = w5
  intro h0 h1 h2 h3 h4 h5
  simp only [← h0, ← h1, ← h2, ← h3, ← h4, ← h5]
  pointwise [k0_pay3, k0_pay2]

end

section
variable (V : FVec Ideal S512x1024 .f32) (x7 : Vec Ideal S512x1024 .f32) (x8 : Vec Ideal S1x1024 .f32)
  (x9 : Vec Ideal S1x1x1024 .f32) (x10 : Vec Ideal S512x1024 .f32)

theorem pay4_eq (r : Fin 512) (z : Fin 1) : k0_pay4 (F := Ideal) x7 (ix2 r z) = rstd (brow x7 r) := by
  pointwise [k0_pay4]
  rfl

theorem pay5_eq (r : Fin 512) (j : Fin 1024) : k0_pay5 (F := Ideal) x7 (ix2 r j) = bxhat x7 r j := by
  pointwise [k0_pay5, pay4_eq]
  rfl

theorem pay6_eq (r : Fin 512) (j : Fin 1024) : k0_pay6 (F := Ideal) x7 x8 (ix2 r j) = bxhat x7 r j * x8 (ix2 0 j) := by
  pointwise [k0_pay6, pay5_eq]

theorem pay7_eq (y : S1x8x1024.Idx) : k0_pay7 (F := Ideal) y = 0 := by pointwise [k0_pay7]

theorem pay8_eq (y : S8x1024.Idx) : k0_pay8 (F := Ideal) y = 0 := by pointwise [k0_pay8]

theorem pay9_eq (v : Vec Ideal S1x1x1024 .f32) (a b : Fin 1) (j : Fin 1024) :
    k0_pay9 (F := Ideal) V v (ix3 a b j) = v (ix3 0 0 j) + ∑ r : Fin 512, (V (ix2 r j) : EReal) := by
  pointwise [k0_pay9]

theorem pay10_eq (v : Vec Ideal S1x1x1024 .f32) (a b : Fin 1) (j : Fin 1024) :
    k0_pay10 (F := Ideal) V (k0_pay6 x7 x8) v (ix3 a b j)
      = v (ix3 0 0 j) + ∑ r : Fin 512, (V (ix2 r j) : EReal) * (bxhat x7 r j * x8 (ix2 0 j)) := by
  pointwise [k0_pay10, pay6_eq]

theorem pay12_eq (v : Vec Ideal S1x1024 .f32) (a : Fin 1) (j : Fin 1024) :
    k0_pay12 (F := Ideal) V (k0_pay5 x7) x9 v (ix2 a j)
      = v (ix2 0 j) + ∑ r, bdn V x9 r j * bxhat x7 r j := by
  rw [show a = 0 from Subsingleton.elim _ _]
  pointwise [k0_pay12, k0_pay11, pay5_eq]
  rfl

theorem pay1_eq (r : Fin 512) (j : Fin 1024) :
    k0_pay1 (F := Ideal) (k0_pay4 x7) (k0_pay5 x7) (k0_pay11 V x9) (k0_pay13 x8) x10 (ix2 r j)
      = bdx V x7 x8 x9 x10 r j := by
  pointwise [k0_pay1, k0_pay13, k0_pay11, pay4_eq, pay5_eq]
  rfl

end

section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S3328x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S8x512 .f32) (harg12 : arg12.IsWhole) (arg13 : Memref sig .tc .vmem S8x1024 .bf16) (harg13 : arg13.IsWhole) (arg14 : Memref sig .tc .vmem S512x1024 .f32) (harg14 : arg14.IsWhole) (arg15 : Memref sig .tc .vmem S1x8x1024 .f32) (harg15 : arg15.IsWhole) (arg16 : Memref sig .tc .vmem S8x1024 .f32) (harg16 : arg16.IsWhole)
  (x0 : Vec Ideal S512x512 .bf16) (x1 : Vec Ideal S512x512 .bf16) (x2 : Vec Ideal S512x512 .bf16) (x3 : Vec Ideal S512x512 .bf16) (x4 : Vec Ideal S512x1024 .bf16) (x5 : Vec Ideal S512x256 .bf16) (x6 : Vec Ideal S3328x1024 .bf16) (x7 : Vec Ideal S512x1024 .f32) (x8 : Vec Ideal S1x1024 .f32) (x9 : Vec Ideal S1x1x1024 .f32) (x10 : Vec Ideal S512x1024 .f32) (x11 : Vec Ideal S8x512 .f32) (x12 : Vec Ideal S8x1024 .bf16)
  (xo14 : Vec Ideal S1x8x1024 .f32) (xo15 : Vec Ideal S8x1024 .f32)

/-- Case A: the gradient block. -/
theorem dx_A (hc0 : cond0_0 i) (hc1 : cond0_1 i) (r : Fin 512) (j : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 (ix2 r j) = bdx (dhv x0 x1 x2 x3 x4 x5 x6 x11 x12) x7 x8 x9 x10 r j := by
  unfold out0_A_13
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz]
  exact pay1_eq (dhv x0 x1 x2 x3 x4 x5 x6 x11 x12) x7 x8 x9 x10 r j

/-- Case B: the gradient block. -/
theorem dx_B (hc0 : ¬cond0_0 i) (hc1 : ¬cond0_1 i) (r : Fin 512) (j : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15 (ix2 r j) = bdx (dhv x0 x1 x2 x3 x4 x5 x6 x11 x12) x7 x8 x9 x10 r j := by
  unfold out0_B_13
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz]
  exact pay1_eq (dhv x0 x1 x2 x3 x4 x5 x6 x11 x12) x7 x8 x9 x10 r j

/-- Case C: the gradient block. -/
theorem dx_C (hc0 : cond0_0 i) (hc1 : ¬cond0_1 i) (r : Fin 512) (j : Fin 1024) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo15 (ix2 r j) = bdx (dhv x0 x1 x2 x3 x4 x5 x6 x11 x12) x7 x8 x9 x10 r j := by
  unfold out0_C_13
  rw [View.read_writes_junk_eq_canon]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz]
  exact pay1_eq (dhv x0 x1 x2 x3 x4 x5 x6 x11 x12) x7 x8 x9 x10 r j

/-- Case A: the modulation's accumulator, reset, then this block's share. -/
theorem mod_A (hc0 : cond0_0 i) (hc1 : cond0_1 i) (k : Fin 8) (j : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 (ix3 0 k j) = bmod (dhv x0 x1 x2 x3 x4 x5 x6 x11 x12) x7 x8 k j := by
  unfold out0_A_14
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz, canon_row3, pay9_eq, pay10_eq]
  rw [readCov_row3 (o := 0) inb_S1x8x1024_S1x1x1024_0_0_0 _ _ 0 rfl, readCov_row3 (o := 1) inb_S1x8x1024_S1x1x1024_0_1_0 _ _ 1 rfl]
  simp only [canon_row3, View.canon_unit_zero (S := S1x8x1024) hz3, pay7_eq, zero_add]
  unfold bmod
  match k with
  | 0 => simp
  | 1 => simp
  | ⟨k + 2, hk⟩ => simp [Fin.ext_iff]

/-- Case B: the modulation's accumulator, what it held and this block's share. -/
theorem mod_B (hc0 : ¬cond0_0 i) (hc1 : ¬cond0_1 i) (k : Fin 8) (j : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15 (ix3 0 k j) = xo14 (ix3 0 k j) + bmod (dhv x0 x1 x2 x3 x4 x5 x6 x11 x12) x7 x8 k j := by
  unfold out0_B_14
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz, read_row3, pay9_eq, pay10_eq, View.writes_nil, harg15.read_unread]
  rw [ld_row3 (o := 0) inb_S1x8x1024_S1x1x1024_0_0_0 xo14 0 rfl, ld_row3 (o := 1) inb_S1x8x1024_S1x1x1024_0_1_0 xo14 1 rfl]
  unfold bmod
  match k with
  | 0 => simp
  | 1 => simp
  | ⟨k + 2, hk⟩ => simp [Fin.ext_iff]

/-- Case C: the modulation's accumulator, reset, then this block's share. -/
theorem mod_C (hc0 : cond0_0 i) (hc1 : ¬cond0_1 i) (k : Fin 8) (j : Fin 1024) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo15 (ix3 0 k j) = bmod (dhv x0 x1 x2 x3 x4 x5 x6 x11 x12) x7 x8 k j := by
  unfold out0_C_14
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz, canon_row3, pay9_eq, pay10_eq]
  rw [readCov_row3 (o := 0) inb_S1x8x1024_S1x1x1024_0_0_0 _ _ 0 rfl, readCov_row3 (o := 1) inb_S1x8x1024_S1x1x1024_0_1_0 _ _ 1 rfl]
  simp only [canon_row3, View.canon_unit_zero (S := S1x8x1024) hz3, pay7_eq, zero_add]
  unfold bmod
  match k with
  | 0 => simp
  | 1 => simp
  | ⟨k + 2, hk⟩ => simp [Fin.ext_iff]

/-- Case A: the gain's accumulator, reset, then this block's share. -/
theorem gain_A (hc0 : cond0_0 i) (hc1 : cond0_1 i) (k : Fin 8) (j : Fin 1024) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 (ix2 k j) = bgain (dhv x0 x1 x2 x3 x4 x5 x6 x11 x12) x7 x9 k j := by
  unfold out0_A_15
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz, canon_row2, pay12_eq]
  rw [readCov_row2 (o := 0) inb_S8x1024_S1x1024_0_0 _ _ 0 rfl]
  simp only [View.canon_unit_zero (S := S8x1024) hz, pay8_eq, zero_add]
  unfold bgain
  match k with
  | 0 => simp
  | ⟨k + 1, hk⟩ => simp [Fin.ext_iff]

/-- Case B: the gain's accumulator, what it held and this block's share. -/
theorem gain_B (hc0 : ¬cond0_0 i) (hc1 : ¬cond0_1 i) (k : Fin 8) (j : Fin 1024) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15 (ix2 k j) = xo15 (ix2 k j) + bgain (dhv x0 x1 x2 x3 x4 x5 x6 x11 x12) x7 x9 k j := by
  unfold out0_B_15
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz, read_row2, pay12_eq, View.writes_nil, harg16.read_unread]
  rw [ld_row2 (o := 0) inb_S8x1024_S1x1024_0_0 xo15 0 rfl]
  unfold bgain
  match k with
  | 0 => simp
  | ⟨k + 1, hk⟩ => simp [Fin.ext_iff]

/-- Case C: the gain's accumulator, what it held and this block's share. -/
theorem gain_C (hc0 : cond0_0 i) (hc1 : ¬cond0_1 i) (k : Fin 8) (j : Fin 1024) :
    out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo15 (ix2 k j) = xo15 (ix2 k j) + bgain (dhv x0 x1 x2 x3 x4 x5 x6 x11 x12) x7 x9 k j := by
  unfold out0_C_15
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S512x512) hz, View.ld_unit_zero (S := S512x1024) hz, View.ld_unit_zero (S := S512x256) hz, View.ld_unit_zero (S := S1x1024) hz, View.ld_unit_zero (S := S1x1x1024) hz3, View.ld_unit_zero (S := S8x512) hz, View.ld_unit_zero (S := S8x1024) hz, read_row2, pay12_eq, View.writes_nil, harg16.read_unread]
  rw [ld_row2 (o := 0) inb_S8x1024_S1x1024_0_0 xo15 0 rfl]
  unfold bgain
  match k with
  | 0 => simp
  | ⟨k + 1, hk⟩ => simp [Fin.ext_iff]

end

end Cert.Kernel2Ideal.NormBody

end
-- ==== Proof.Norm0Spec.lean ====
/-
  The cotangent `dh` of the first block's modulated norm: the sum of seven products, one per part of the incoming
  gradient, each with its own columns of the weight; and a sum over all 3336 columns as seven sums.
-/
module

public import proofs.«01_k».proof.Proof.NormSpec

@[expose] public section

noncomputable section

namespace Cert.Norm

open Idealize.ShloMosaic

/-- The seven parts' products with their columns of the weight, added up. -/
@[irreducible] def partsCot (aq : (⟨2, ![8192, 512]⟩ : Shape).Idx → EReal) (akv : (⟨2, ![8192, 256]⟩ : Shape).Idx → EReal)
    (bq bk bv : (⟨2, ![8192, 512]⟩ : Shape).Idx → EReal) (f : (⟨2, ![8, 8192]⟩ : Shape).Idx → EReal)
    (gate : (⟨2, ![8192, 1024]⟩ : Shape).Idx → EReal) (w : (⟨2, ![1024, 3336]⟩ : Shape).Idx → EReal)
    (t : Fin 8192) (j : Fin 1024) : EReal :=
  (∑ k : Fin 8, f (ix2 k t) * w (ix2 j ⟨2304 + k.val, by omega⟩)) + (∑ k : Fin 512, bq (ix2 t k) * w (ix2 j ⟨768 + k.val, by omega⟩))
    + (∑ k : Fin 512, bk (ix2 t k) * w (ix2 j ⟨1280 + k.val, by omega⟩))
    + (∑ k : Fin 512, bv (ix2 t k) * w (ix2 j ⟨1792 + k.val, by omega⟩))
    + (∑ k : Fin 512, aq (ix2 t k) * w (ix2 j ⟨0 + k.val, by omega⟩))
    + (∑ k : Fin 1024, gate (ix2 t k) * w (ix2 j ⟨2312 + k.val, by omega⟩))
    + (∑ k : Fin 256, akv (ix2 t k) * w (ix2 j ⟨512 + k.val, by omega⟩))

/-- The first `n` and the next `m` columns. -/
theorem sum_range_split (F : ℕ → EReal) (n m : ℕ) :
    ∑ k ∈ Finset.range (n + m), F k = ∑ k ∈ Finset.range n, F k + ∑ k : Fin m, F (n + k.val) := by
  rw [Finset.sum_range_add, Finset.sum_range (fun x => F (n + x))]

/-- A sum over the 3336 columns, part by part. -/
theorem sum_parts (F : Fin 3336 → EReal) :
    ∑ k, F k = (∑ k : Fin 512, F ⟨0 + k.val, by omega⟩) + (∑ k : Fin 256, F ⟨512 + k.val, by omega⟩)
      + (∑ k : Fin 512, F ⟨768 + k.val, by omega⟩) + (∑ k : Fin 512, F ⟨1280 + k.val, by omega⟩)
      + (∑ k : Fin 512, F ⟨1792 + k.val, by omega⟩) + (∑ k : Fin 8, F ⟨2304 + k.val, by omega⟩)
      + (∑ k : Fin 1024, F ⟨2312 + k.val, by omega⟩) := by
  obtain ⟨G, hG⟩ : ∃ G : ℕ → EReal, ∀ (k : ℕ) (h : k < 3336), F ⟨k, h⟩ = G k :=
    ⟨fun k => if h : k < 3336 then F ⟨k, h⟩ else 0, fun k h => by simp only [dif_pos h]⟩
  have e : ∑ k, F k = ∑ k ∈ Finset.range 3336, G k :=
    (Finset.sum_congr rfl fun k _ => hG k.val k.isLt).trans (Finset.sum_range G).symm
  rw [e]
  simp only [hG]
  rw [sum_range_split G 2312 1024, sum_range_split G 2304 8, sum_range_split G 1792 512, sum_range_split G 1280 512,
    sum_range_split G 768 512, sum_range_split G 512 256, Finset.sum_range G]
  simp only [zero_add]

end Cert.Norm

end
-- ==== Proof.Norm0Blocks.lean ====
/-
  The first block's norm kernel's three result arrays, element by element: `Cert.Norm`'s `dxAt`, `modAt` and `gainAt` of its arguments.

  Point `t` of 16 reads token rows `512 t … 512 t + 511`. The gradient of `x` is written back block by block; the
  modulation's accumulator is reset at the first of the four points of a sequence and written back at the last, the
  gain's runs over all 16 points.
-/
module

public import proofs.«01_k».proof.Proof.Norm0Body
public import proofs.«01_k».proof.Proof.Norm0Spec
public import Idealize.ShloMosaic.Lib.Pipeline.ValueKit
public import Idealize.ShloMosaic.Lib.Claim
public import Idealize.ShloMosaic.Lib.StableHlo.RunRead

@[expose] public section

noncomputable section

namespace Cert.Kernel2Ideal.NormBlocks

open Cert.Kernel2Ideal Cert.Kernel2Ideal.Gen Cert.Kernel2Ideal.NormBody Idealize.ShloMosaic Idealize.ShloMosaic.TcCoe Cert.Norm

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val / 4, 0, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![0, t.val] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val / 4, 0, 0] := (by decide +kernel : ∀ t : Fin grid0.N, _)
theorem index15 : ∀ t : Fin cfg0.N, win0_15.index t = ![0, 0] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

/-! ## The blocks the windows read, at an element of the argument arrays -/

theorem blk0 (c : Dev nD) (t : Fin cfg0.N) (r : Fin 512) (k : Fin 512) :
    iblk m c 0 t (ix2 r k) = m (c.tc.loc main_arg2) (ix2 (ptok t r) k) := by
  blk_simp [iblk]
  entry_read
  refine congrArg _ ?_
  blk_ext [index0]

theorem blk1 (c : Dev nD) (t : Fin cfg0.N) (r : Fin 512) (k : Fin 512) :
    iblk m c 1 t (ix2 r k) = m (c.tc.loc main_arg3) (ix2 (ptok t r) k) := by
  blk_simp [iblk]
  entry_read
  refine congrArg _ ?_
  blk_ext [index1]

theorem blk2 (c : Dev nD) (t : Fin cfg0.N) (r : Fin 512) (k : Fin 512) :
    iblk m c 2 t (ix2 r k) = m (c.tc.loc main_arg4) (ix2 (ptok t r) k) := by
  blk_simp [iblk]
  entry_read
  refine congrArg _ ?_
  blk_ext [index2]

theorem blk3 (c : Dev nD) (t : Fin cfg0.N) (r : Fin 512) (k : Fin 512) :
    iblk m c 3 t (ix2 r k) = m (c.tc.loc main_arg0) (ix2 (ptok t r) k) := by
  blk_simp [iblk]
  entry_read
  refine congrArg _ ?_
  blk_ext [index3]

theorem blk4 (c : Dev nD) (t : Fin cfg0.N) (r : Fin 512) (k : Fin 1024) :
    iblk m c 4 t (ix2 r k) = m (c.tc.loc main_arg6) (ix2 (ptok t r) k) := by
  blk_simp [iblk]
  entry_read
  refine congrArg _ ?_
  blk_ext [index4]

theorem blk5 (c : Dev nD) (t : Fin cfg0.N) (r : Fin 512) (k : Fin 256) :
    iblk m c 5 t (ix2 r k) = m (c.tc.loc main_arg1) (ix2 (ptok t r) k) := by
  blk_simp [iblk]
  entry_read
  refine congrArg _ ?_
  blk_ext [index5]

/-- The weight's rows as the kernel is given them: one group of columns after another, transposed. -/
theorem blk6 (c : Dev nD) (t : Fin cfg0.N) (k : Fin 3328) (j : Fin 1024) :
    iblk m c 6 t (ix2 k j) = (V m c main_v10 : S3328x1024.Idx → EReal) (ix2 k j) := by
  blk_simp [iblk]
  refine congrArg _ ?_
  blk_ext [index6]

/-- The weight's groups of columns side by side, in the order the kernel is given them. -/
def wcat (u4 : FVec Ideal S1024x512 .bf16) (u5 : FVec Ideal S1024x512 .bf16) (u6 : FVec Ideal S1024x512 .bf16) (u1 : FVec Ideal S1024x512 .bf16) (u8 : FVec Ideal S1024x1024 .bf16) (u2 : FVec Ideal S1024x128 .bf16) (u3 : FVec Ideal S1024x128 .bf16) : FVec Ideal S1024x3328 .bf16 :=
  (concatenate S1024x3328 1 [⟨S1024x512, (u4 : (⟨S1024x512, .bf16⟩ : BufTy).Contents (Elt Ideal))⟩, ⟨S1024x512, (u5 : (⟨S1024x512, .bf16⟩ : BufTy).Contents (Elt Ideal))⟩, ⟨S1024x512, (u6 : (⟨S1024x512, .bf16⟩ : BufTy).Contents (Elt Ideal))⟩, ⟨S1024x512, (u1 : (⟨S1024x512, .bf16⟩ : BufTy).Contents (Elt Ideal))⟩, ⟨S1024x1024, (u8 : (⟨S1024x1024, .bf16⟩ : BufTy).Contents (Elt Ideal))⟩, ⟨S1024x128, (u2 : (⟨S1024x128, .bf16⟩ : BufTy).Contents (Elt Ideal))⟩, ⟨S1024x128, (u3 : (⟨S1024x128, .bf16⟩ : BufTy).Contents (Elt Ideal))⟩] concatenates_S1024x512_S1024x512_S1024x512_S1024x512_S1024x1024_S1024x128_S1024x128_S1024x3328_d1 : (⟨S1024x3328, .bf16⟩ : BufTy).Contents (Elt Ideal))

/-- The host's operations before the kernel, the one that joins the groups named. -/
abbrev hostNamed : List (HloOp τ sig (Elt Ideal)) :=
  [ StableHlo.unary main_arg7 main_v0 ((truncf (F := Ideal) .bf16 · bitsLt_bf16_f32) : (⟨S1024x3336, .f32⟩ : BufTy).Contents (Elt Ideal) → (⟨S1024x3336, .bf16⟩ : BufTy).Contents (Elt Ideal)),
    StableHlo.unary main_v0 main_v1 ((extractStridedSlice S1024x512 ![0, 0] · slices_S1024x3336_S1024x512_0_0) : (⟨S1024x3336, .bf16⟩ : BufTy).Contents (Elt Ideal) → (⟨S1024x512, .bf16⟩ : BufTy).Contents (Elt Ideal)),
    StableHlo.unary main_v0 main_v2 ((extractStridedSlice S1024x128 ![0, 512] · slices_S1024x3336_S1024x128_0_512) : (⟨S1024x3336, .bf16⟩ : BufTy).Contents (Elt Ideal) → (⟨S1024x128, .bf16⟩ : BufTy).Contents (Elt Ideal)),
    StableHlo.unary main_v0 main_v3 ((extractStridedSlice S1024x128 ![0, 640] · slices_S1024x3336_S1024x128_0_640) : (⟨S1024x3336, .bf16⟩ : BufTy).Contents (Elt Ideal) → (⟨S1024x128, .bf16⟩ : BufTy).Contents (Elt Ideal)),
    StableHlo.unary main_v0 main_v4 ((extractStridedSlice S1024x512 ![0, 768] · slices_S1024x3336_S1024x512_0_768) : (⟨S1024x3336, .bf16⟩ : BufTy).Contents (Elt Ideal) → (⟨S1024x512, .bf16⟩ : BufTy).Contents (Elt Ideal)),
    StableHlo.unary main_v0 main_v5 ((extractStridedSlice S1024x512 ![0, 1280] · slices_S1024x3336_S1024x512_0_1280) : (⟨S1024x3336, .bf16⟩ : BufTy).Contents (Elt Ideal) → (⟨S1024x512, .bf16⟩ : BufTy).Contents (Elt Ideal)),
    StableHlo.unary main_v0 main_v6 ((extractStridedSlice S1024x512 ![0, 1792] · slices_S1024x3336_S1024x512_0_1792) : (⟨S1024x3336, .bf16⟩ : BufTy).Contents (Elt Ideal) → (⟨S1024x512, .bf16⟩ : BufTy).Contents (Elt Ideal)),
    StableHlo.unary main_v0 main_v7 ((extractStridedSlice S1024x8 ![0, 2304] · slices_S1024x3336_S1024x8_0_2304) : (⟨S1024x3336, .bf16⟩ : BufTy).Contents (Elt Ideal) → (⟨S1024x8, .bf16⟩ : BufTy).Contents (Elt Ideal)),
    StableHlo.unary main_v0 main_v8 ((extractStridedSlice S1024x1024 ![0, 2312] · slices_S1024x3336_S1024x1024_0_2312) : (⟨S1024x3336, .bf16⟩ : BufTy).Contents (Elt Ideal) → (⟨S1024x1024, .bf16⟩ : BufTy).Contents (Elt Ideal)),
    StableHlo.nary ![main_v4, main_v5, main_v6, main_v1, main_v8, main_v2, main_v3] main_v9 (fun u => wcat (u 0) (u 1) (u 2) (u 3) (u 4) (u 5) (u 6)),
    StableHlo.unary main_v9 main_v10 ((transpose S3328x1024 [1, 0] · transposes_S1024x3328_S3328x1024_1_0) : (⟨S1024x3328, .bf16⟩ : BufTy).Contents (Elt Ideal) → (⟨S3328x1024, .bf16⟩ : BufTy).Contents (Elt Ideal)),
    StableHlo.unary main_v7 main_v11 ((transpose S8x1024 [1, 0] · transposes_S1024x8_S8x1024_1_0) : (⟨S1024x8, .bf16⟩ : BufTy).Contents (Elt Ideal) → (⟨S8x1024, .bf16⟩ : BufTy).Contents (Elt Ideal)) ]

/-- The weight as the kernel is given it, rounded. -/
abbrev wbf (c : Dev nD) : FVec Ideal S1024x3336 .bf16 :=
  truncf (F := Ideal) .bf16 (m (c.tc.loc main_arg7)) bitsLt_bf16_f32

theorem v10_eq (c : Dev nD) : (V m c main_v10 : FVec Ideal S3328x1024 .bf16) =
    transpose S3328x1024 [1, 0] (wcat (extractStridedSlice S1024x512 ![0, 768] (wbf m c) slices_S1024x3336_S1024x512_0_768) (extractStridedSlice S1024x512 ![0, 1280] (wbf m c) slices_S1024x3336_S1024x512_0_1280) (extractStridedSlice S1024x512 ![0, 1792] (wbf m c) slices_S1024x3336_S1024x512_0_1792) (extractStridedSlice S1024x512 ![0, 0] (wbf m c) slices_S1024x3336_S1024x512_0_0) (extractStridedSlice S1024x1024 ![0, 2312] (wbf m c) slices_S1024x3336_S1024x1024_0_2312) (extractStridedSlice S1024x128 ![0, 512] (wbf m c) slices_S1024x3336_S1024x128_0_512) (extractStridedSlice S1024x128 ![0, 640] (wbf m c) slices_S1024x3336_S1024x128_0_640)) transposes_S1024x3328_S3328x1024_1_0 := by
  show StableHlo.after hostNamed (fun b => m (c, b)) main_v10 = _
  after_reads_simp
  rfl

theorem wrow0 (c : Dev nD) (t : Fin cfg0.N) (k : Fin 512) (j : Fin 1024) :
    iblk m c 6 t (ix2 ⟨0 + k.val, by omega⟩ j) = m (c.tc.loc main_arg7) (ix2 j ⟨768 + k.val, by omega⟩) := by
  rw [blk6, v10_eq]
  pointwise [wcat]

theorem wrow1 (c : Dev nD) (t : Fin cfg0.N) (k : Fin 512) (j : Fin 1024) :
    iblk m c 6 t (ix2 ⟨512 + k.val, by omega⟩ j) = m (c.tc.loc main_arg7) (ix2 j ⟨1280 + k.val, by omega⟩) := by
  rw [blk6, v10_eq]
  pointwise [wcat]

theorem wrow2 (c : Dev nD) (t : Fin cfg0.N) (k : Fin 512) (j : Fin 1024) :
    iblk m c 6 t (ix2 ⟨1024 + k.val, by omega⟩ j) = m (c.tc.loc main_arg7) (ix2 j ⟨1792 + k.val, by omega⟩) := by
  rw [blk6, v10_eq]
  pointwise [wcat]
  rw [dif_neg (by omega), dif_neg (by omega), dif_pos (by omega)]
  exact congrArg (fun z => (m (c.tc.loc main_arg7) : S1024x3336.Idx → EReal) (ix2 j z)) (Fin.ext (by dsimp only; omega))

theorem wrow3 (c : Dev nD) (t : Fin cfg0.N) (k : Fin 512) (j : Fin 1024) :
    iblk m c 6 t (ix2 ⟨1536 + k.val, by omega⟩ j) = m (c.tc.loc main_arg7) (ix2 j ⟨0 + k.val, by omega⟩) := by
  rw [blk6, v10_eq]
  pointwise [wcat]
  rw [dif_neg (by omega), dif_neg (by omega), dif_neg (by omega), dif_pos (by omega)]
  exact congrArg (fun z => (m (c.tc.loc main_arg7) : S1024x3336.Idx → EReal) (ix2 j z)) (Fin.ext (by dsimp only; omega))

theorem wrow4 (c : Dev nD) (t : Fin cfg0.N) (k : Fin 1024) (j : Fin 1024) :
    iblk m c 6 t (ix2 ⟨2048 + k.val, by omega⟩ j) = m (c.tc.loc main_arg7) (ix2 j ⟨2312 + k.val, by omega⟩) := by
  rw [blk6, v10_eq]
  pointwise [wcat]
  rw [dif_neg (by omega), dif_neg (by omega), dif_neg (by omega), dif_neg (by omega), dif_pos (by omega)]
  exact congrArg (fun z => (m (c.tc.loc main_arg7) : S1024x3336.Idx → EReal) (ix2 j z)) (Fin.ext (by dsimp only; omega))

theorem wrow5 (c : Dev nD) (t : Fin cfg0.N) (k : Fin 256) (j : Fin 1024) :
    iblk m c 6 t (ix2 ⟨3072 + k.val, by omega⟩ j) = m (c.tc.loc main_arg7) (ix2 j ⟨512 + k.val, by omega⟩) := by
  rw [blk6, v10_eq]
  pointwise [wcat]
  rw [dif_neg (by omega), dif_neg (by omega), dif_neg (by omega), dif_neg (by omega), dif_neg (by omega)]
  by_cases hk : k.val < 128
  · rw [dif_pos (by omega)]
    exact congrArg (fun z => (m (c.tc.loc main_arg7) : S1024x3336.Idx → EReal) (ix2 j z)) (Fin.ext (by dsimp only; omega))
  · rw [dif_neg (by omega)]
    exact congrArg (fun z => (m (c.tc.loc main_arg7) : S1024x3336.Idx → EReal) (ix2 j z)) (Fin.ext (by dsimp only; omega))

theorem blk7 (c : Dev nD) (t : Fin cfg0.N) (r : Fin 512) (k : Fin 1024) :
    iblk m c 7 t (ix2 r k) = m (c.tc.loc main_arg8) (ix2 (ptok t r) k) := by
  blk_simp [iblk]
  entry_read
  refine congrArg _ ?_
  blk_ext [index7]

theorem blk8 (c : Dev nD) (t : Fin cfg0.N) (j : Fin 1024) :
    iblk m c 8 t (ix2 0 j) = m (c.tc.loc main_arg9) (ix2 0 j) := by
  blk_simp [iblk]
  entry_read
  refine congrArg _ ?_
  blk_ext [index8]

theorem blk9 (c : Dev nD) (t : Fin cfg0.N) (r : Fin 512) (j : Fin 1024) :
    iblk m c 9 t (ix3 0 0 j) = m (c.tc.loc main_arg10) (ix3 (seqOf (ptok t r)) 0 j) := by
  blk_simp [iblk]
  entry_read
  refine congrArg _ ?_
  blk_ext [index9]

theorem blk10 (c : Dev nD) (t : Fin cfg0.N) (r : Fin 512) (k : Fin 1024) :
    iblk m c 10 t (ix2 r k) = m (c.tc.loc main_arg11) (ix2 (ptok t r) k) := by
  blk_simp [iblk]
  entry_read
  refine congrArg _ ?_
  blk_ext [index10]

theorem blk11 (c : Dev nD) (t : Fin cfg0.N) (k : Fin 8) (r : Fin 512) :
    iblk m c 11 t (ix2 k r) = m (c.tc.loc main_arg5) (ix2 k (ptok t r)) := by
  blk_simp [iblk]
  entry_read
  refine congrArg _ ?_
  blk_ext [index11]

theorem blk12 (c : Dev nD) (t : Fin cfg0.N) (k : Fin 8) (j : Fin 1024) :
    iblk m c 12 t (ix2 k j) = m (c.tc.loc main_arg7) (ix2 j ⟨2304 + k.val, by omega⟩) := by
  blk_simp [iblk]
  entry_read
  have e : ((View.whole main_v11).slice (win0_12.rect t)).emb (ix2 k j) = ix2 k j := by blk_ext [index12]
  rw [e]
  pointwise []

/-! ## A point's results, at the token rows it reads -/

/-- The cotangent of the modulated norm, of the argument arrays. -/
abbrev kdh (c : Dev nD) : Fin 8192 → Fin 1024 → EReal :=
  partsCot (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7))

/-- The block of cotangents point `t` computes. -/
abbrev pdh (c : Dev nD) (t : Fin cfg0.N) : FVec Ideal S512x1024 .f32 :=
  dhv (iblk m c 0 t) (iblk m c 1 t) (iblk m c 2 t) (iblk m c 3 t) (iblk m c 4 t) (iblk m c 5 t) (iblk m c 6 t) (iblk m c 11 t) (iblk m c 12 t)

theorem pdh_eq (c : Dev nD) (t : Fin cfg0.N) (r : Fin 512) (j : Fin 1024) :
    pdh m c t (ix2 r j) = kdh m c (ptok t r) j := by
  unfold pdh kdh
  rw [dhv_eq]
  unfold bdh partsCot
  simp only [blk0, blk1, blk2, blk3, blk4, blk5, blk11, blk12, wrow0, wrow1, wrow2, wrow3, wrow4, wrow5]

theorem brow_eq (c : Dev nD) (t : Fin cfg0.N) (r : Fin 512) :
    brow (iblk m c 7 t) r = row (m (c.tc.loc main_arg8)) (ptok t r) := by
  unfold brow row
  simp only [blk7]

theorem bxhat_eq (c : Dev nD) (t : Fin cfg0.N) (r : Fin 512) (j : Fin 1024) :
    bxhat (iblk m c 7 t) r j = xhat (m (c.tc.loc main_arg8)) (ptok t r) j := by
  unfold bxhat xhat
  simp only [blk7, brow_eq]

theorem bdn_eq (c : Dev nD) (t : Fin cfg0.N) (r : Fin 512) (j : Fin 1024) :
    bdn (pdh m c t) (iblk m c 9 t) r j = dn (kdh m c) (m (c.tc.loc main_arg10)) (ptok t r) j := by
  unfold bdn dn
  rw [pdh_eq, blk9 m c t r]

theorem bdx_eq (c : Dev nD) (t : Fin cfg0.N) (r : Fin 512) (j : Fin 1024) :
    bdx (pdh m c t) (iblk m c 7 t) (iblk m c 8 t) (iblk m c 9 t) (iblk m c 10 t) r j
      = dxAt (kdh m c) (m (c.tc.loc main_arg8)) (m (c.tc.loc main_arg9)) (m (c.tc.loc main_arg10)) (m (c.tc.loc main_arg11)) (ptok t r) j := by
  unfold bdx dxAt dxhat
  simp only [bdn_eq, brow_eq, blk8, blk10]

theorem bmod_eq (c : Dev nD) (t : Fin cfg0.N) (k : Fin 8) (j : Fin 1024) :
    bmod (pdh m c t) (iblk m c 7 t) (iblk m c 8 t) k j
      = ∑ r : Fin 512, modRow (kdh m c) (m (c.tc.loc main_arg8)) (m (c.tc.loc main_arg9)) k (ptok t r) j := by
  unfold bmod modRow
  simp only [pdh_eq, bxhat_eq, blk8]

theorem bgain_eq (c : Dev nD) (t : Fin cfg0.N) (k : Fin 8) (j : Fin 1024) :
    bgain (pdh m c t) (iblk m c 7 t) (iblk m c 9 t) k j
      = ∑ r : Fin 512, gainRow (kdh m c) (m (c.tc.loc main_arg8)) (m (c.tc.loc main_arg10)) k (ptok t r) j := by
  unfold bgain gainRow
  simp only [bdn_eq, bxhat_eq]

/-! ## What the buffers hold after a point -/

/-- The gradient block of point `t`. -/
theorem outs_dx (c : Dev nD) (t : Fin cfg0.N) (r : Fin 512) (j : Fin 1024) :
    (outsAt0 m c t.val t.isLt).1 (ix2 r j)
      = bdx (pdh m c t) (iblk m c 7 t) (iblk m c 8 t) (iblk m c 9 t) (iblk m c 10 t) r j := by
  by_cases h0 : t.val % 4 = 0
  · by_cases h1 : t.val % 16 = 0
    · rw [outsAt0_A m c t h0 h1]; dsimp only; exact dx_A ..
    · rw [outsAt0_C m c t h0 h1]; dsimp only; exact dx_C ..
  · have h1 : ¬t.val % 16 = 0 := by omega
    rw [outsAt0_B m c t h0 h1]; dsimp only; exact dx_B ..

/-- The modulation's accumulator at the last point of a sequence: the four points' shares. -/
theorem outs_mod (c : Dev nD) (t : Fin cfg0.N) (hr : t.val % 4 = 3) (k : Fin 8) (j : Fin 1024) :
    (outsAt0 m c t.val t.isLt).2.1 (ix3 0 k j)
      = ∑ s : Fin 4, bmod (pdh m c ⟨4 * (t.val / 4) + s.val, by have := s.isLt; have := t.isLt; omega⟩)
          (iblk m c 7 ⟨4 * (t.val / 4) + s.val, by have := s.isLt; have := t.isLt; omega⟩)
          (iblk m c 8 ⟨4 * (t.val / 4) + s.val, by have := s.isLt; have := t.isLt; omega⟩) k j := by
  refine (Pipeline.eq_sum_fin_of_reset_step_apply_of_flush
    (fun n h (i : Fin 8 × Fin 1024) => (outsAt0 m c n h).2.1 (ix3 0 i.1 i.2)) 4 (fun _ => 0)
    (fun p i => bmod (pdh m c p) (iblk m c 7 p) (iblk m c 8 p) i.1 i.2)
    (fun p h0 i => ?_) (fun p h0 i => ?_) t hr (k, j)).trans (zero_add _)
  · rw [zero_add]
    by_cases h1 : p.val % 16 = 0
    · rw [outsAt0_A m c p h0 h1]; dsimp only; exact mod_A ..
    · rw [outsAt0_C m c p h0 h1]; dsimp only; exact mod_C ..
  · have h1 : ¬p.val % 16 = 0 := by omega
    rw [outsAt0_B m c p h0 h1]; dsimp only; exact mod_B ..

/-- The gain's accumulator at the last point: all 16 points' shares. -/
theorem outs_gain (c : Dev nD) (t : Fin cfg0.N) (hr : t.val + 1 = cfg0.N) (k : Fin 8) (j : Fin 1024) :
    (outsAt0 m c t.val t.isLt).2.2 (ix2 k j)
      = ∑ p : Fin cfg0.N, bgain (pdh m c p) (iblk m c 7 p) (iblk m c 9 p) k j := by
  refine (Pipeline.eq_sum_fin_of_reset_step_apply_last
    (fun n h (i : Fin 8 × Fin 1024) => (outsAt0 m c n h).2.2 (ix2 i.1 i.2)) 16 (fun _ => 0)
    (fun p i => bgain (pdh m c p) (iblk m c 7 p) (iblk m c 9 p) i.1 i.2)
    (fun p h1 i => ?_) (fun p h1 i => ?_) (le_of_eq N_0) t hr (k, j)).trans (zero_add _)
  · rw [zero_add]
    have h0 : p.val % 4 = 0 := by omega
    rw [outsAt0_A m c p h0 h1]; dsimp only; exact gain_A ..
  · by_cases h0 : p.val % 4 = 0
    · rw [outsAt0_C m c p h0 h1]; dsimp only; exact gain_C ..
    · rw [outsAt0_B m c p h0 h1]; dsimp only; exact gain_B ..

/-! ## The result arrays -/

/-- The first result array: the cotangent of `x`. -/
abbrev resDx (c : Dev nD) : Buf (Elt Ideal) ((c.tc : Thread nD τ).loc main_v12_0) := fun y : S8192x1024.Idx =>
  dxAt (kdh m c) (m (c.tc.loc main_arg8)) (m (c.tc.loc main_arg9)) (m (c.tc.loc main_arg10)) (m (c.tc.loc main_arg11)) (y 0) (y 1)

/-- The second: the modulation's gradient. -/
abbrev resMod (c : Dev nD) : Buf (Elt Ideal) ((c.tc : Thread nD τ).loc main_v12_1) := fun y : S4x8x1024.Idx =>
  modAt (kdh m c) (m (c.tc.loc main_arg8)) (m (c.tc.loc main_arg9)) (y 0) (y 1) (y 2)

/-- The third: the gain's gradient. -/
abbrev resGain (c : Dev nD) : Buf (Elt Ideal) ((c.tc : Thread nD τ).loc main_v12_2) := fun y : S8x1024.Idx =>
  gainAt (kdh m c) (m (c.tc.loc main_arg8)) (m (c.tc.loc main_arg10)) (y 0) (y 1)

theorem final_dx (c : Dev nD) : (dats m 0 c).arrAt 13 cfg0.N = resDx m c := by
  refine (dats m 0 c).arrAt_eq_of_covers 13 _ (by decide +kernel) fun t hf y => ?_
  blk_simp
  rw [after0_13]
  obtain ⟨r, j, rfl⟩ : ∃ (r : Fin 512) (j : Fin 1024), y = ix2 r j := ⟨y 0, y 1, funext fun a => by
    match a with
    | ⟨0, _⟩ => rfl
    | ⟨1, _⟩ => rfl⟩
  refine (outs_dx m c t r j).trans ((bdx_eq m c t r j).trans ?_)
  have e : (win0_13.blk t).view.emb (ix2 r j) = ix2 (ptok t r) j := by blk_ext [index13]
  rw [e]
  rfl

theorem final_mod (c : Dev nD) : (dats m 0 c).arrAt 14 cfg0.N = resMod m c := by
  refine (dats m 0 c).arrAt_eq_of_covers 14 _ (by decide +kernel) fun t hf y => ?_
  blk_simp
  rw [after0_14]
  have hr : t.val % 4 = 3 := (flush0_14 t).mp hf
  have ht : t.val < 16 := lt_of_lt_of_eq t.isLt N_0
  obtain ⟨k, j, rfl⟩ : ∃ (k : Fin 8) (j : Fin 1024), y = ix3 0 k j := ⟨y 1, y 2, funext fun a => by
    match a with
    | ⟨0, _⟩ => exact Subsingleton.elim (α := Fin 1) _ _
    | ⟨1, _⟩ => rfl
    | ⟨2, _⟩ => rfl⟩
  refine (outs_mod m c t hr k j).trans ?_
  have e : (win0_14.blk t).view.emb (ix3 0 k j) = ix3 (⟨t.val / 4, by omega⟩ : Fin 4) k j := by blk_ext [index14]
  rw [e]
  show _ = modAt (kdh m c) (m (c.tc.loc main_arg8)) (m (c.tc.loc main_arg9)) ⟨t.val / 4, by omega⟩ k j
  unfold modAt
  rw [Fin.sum_univ_tiles 4 512 rfl]
  refine Finset.sum_congr rfl fun s _ => (bmod_eq m c _ k j).trans (Finset.sum_congr rfl fun r _ => ?_)
  refine congrArg (fun u => modRow _ _ _ k u j) (Fin.ext ?_)
  show (4 * (t.val / 4) + s.val) * 512 + r.val = t.val / 4 * 2048 + (s.val * 512 + r.val)
  omega

theorem final_gain (c : Dev nD) : (dats m 0 c).arrAt 15 cfg0.N = resGain m c := by
  refine (dats m 0 c).arrAt_eq_of_covers 15 _ (by decide +kernel) fun t hf y => ?_
  blk_simp
  rw [after0_15]
  have hN : cfg0.N = 16 := N_0
  have hr : t.val + 1 = cfg0.N := by
    have h := (flush0_15 t).mp hf
    have := t.isLt
    omega
  obtain ⟨k, j, rfl⟩ : ∃ (k : Fin 8) (j : Fin 1024), y = ix2 k j := ⟨y 0, y 1, funext fun a => by
    match a with
    | ⟨0, _⟩ => rfl
    | ⟨1, _⟩ => rfl⟩
  refine (outs_gain m c t hr k j).trans ?_
  have e : (win0_15.blk t).view.emb (ix2 k j) = ix2 k j := by blk_ext [index15]
  rw [e]
  show _ = gainAt (kdh m c) (m (c.tc.loc main_arg8)) (m (c.tc.loc main_arg10)) k j
  unfold gainAt
  rw [Fin.sum_univ_tiles 16 512 rfl]
  refine Fintype.sum_equiv (finCongr hN) _ _ fun p => (bgain_eq m c p k j).trans rfl

end Cert.Kernel2Ideal.NormBlocks

end
-- ==== Proof.Norm0Ref.lean ====
/-
  The first block's reference, element by element: `Cert.Norm`'s `dxAt`, `modAt` and `gainAt` of its arguments, with
  the cotangent `dh` the product of the joined incoming gradients with the transposed weight (`partsCot`).
-/
module

public import proofs.«01_k».proof.Proof.Gen.Reference2Ideal.Read
public import proofs.«01_k».proof.Proof.Norm0Spec
public import Idealize.ShloMosaic.Lib.Pointwise.Tactic
public import Idealize.ShloMosaic.Lib.Pointwise.Contract
public import Idealize.ShloMosaic.Lib.Pointwise.Reshape
public import Idealize.ShloMosaic.Lib.Pointwise.Select
public import proofs.«01_k».proof.Proof.NormRef

@[expose] public section

noncomputable section

namespace Cert.Reference2Ideal.NormValue

open Cert.ReferenceIdeal.NormValue (seqOf_tok zero_of_int)
open Cert.Reference2Ideal Cert.Reference2Ideal.Gen Cert.Reference2Ideal.Read Idealize.ShloMosaic Idealize.ShloMosaic.TcCoe Cert.Norm

variable (x0 : (⟨S8192x512, .bf16⟩ : BufTy).Contents (Elt Ideal)) (x1 : (⟨S8192x256, .bf16⟩ : BufTy).Contents (Elt Ideal))
  (x2 x3 x4 : (⟨S8192x512, .bf16⟩ : BufTy).Contents (Elt Ideal)) (x5 : (⟨S8x8192, .f32⟩ : BufTy).Contents (Elt Ideal))
  (x6 : (⟨S8192x1024, .bf16⟩ : BufTy).Contents (Elt Ideal)) (x7 : (⟨S1024x3336, .f32⟩ : BufTy).Contents (Elt Ideal))
  (x8 : (⟨S8192x1024, .f32⟩ : BufTy).Contents (Elt Ideal)) (x9 : (⟨S1x1024, .f32⟩ : BufTy).Contents (Elt Ideal))
  (x10 : (⟨S4x1x1024, .f32⟩ : BufTy).Contents (Elt Ideal)) (x11 : (⟨S8192x1024, .f32⟩ : BufTy).Contents (Elt Ideal))

/-- `mean(x²) + ε` of a token's row. -/
theorem v18_eq (s : Fin 4) (i : Fin 2048) (z : Fin 1) :
    val_main_v18 (F := Ideal) x8 (ix3 s i z) = meanSq (row x8 (tok s i)) := by
  pointwise [val_main_v18, val_main_v17, val_main_v16, val_main_v15, val_main_v14, val_main_v13, val_main_v12,
    val_main_v9, val_main_cst_0, val_main_cst_1, val_main_cst_2]
  rfl

/-- The reciprocal root of a token's row. -/
theorem v19_eq (s : Fin 4) (i : Fin 2048) (z : Fin 1) :
    val_main_v19 (F := Ideal) x8 (ix3 s i z) = rstd (row x8 (tok s i)) := by
  pointwise [val_main_v19, v18_eq]
  rfl

/-! The joined gradient, part by part. -/

theorem cat0 (t : Fin 8192) (k : Fin 512) :
    val_main_v7 (F := Ideal) x0 x1 x2 x3 x4 x5 x6 (ix2 t ⟨0 + k.val, by omega⟩) = x0 (ix2 t k) := by
  pointwise [val_main_v7, Cert.Reference2Ideal.Value.fn_main_v7, val_main_v0, val_main_v1, val_main_v2, val_main_v3, val_main_v4, val_main_v5, val_main_v6]

theorem cat1 (t : Fin 8192) (k : Fin 256) :
    val_main_v7 (F := Ideal) x0 x1 x2 x3 x4 x5 x6 (ix2 t ⟨512 + k.val, by omega⟩) = x1 (ix2 t k) := by
  pointwise [val_main_v7, Cert.Reference2Ideal.Value.fn_main_v7, val_main_v0, val_main_v1, val_main_v2, val_main_v3, val_main_v4, val_main_v5, val_main_v6]

theorem cat2 (t : Fin 8192) (k : Fin 512) :
    val_main_v7 (F := Ideal) x0 x1 x2 x3 x4 x5 x6 (ix2 t ⟨768 + k.val, by omega⟩) = x2 (ix2 t k) := by
  pointwise [val_main_v7, Cert.Reference2Ideal.Value.fn_main_v7, val_main_v0, val_main_v1, val_main_v2, val_main_v3, val_main_v4, val_main_v5, val_main_v6]
  rw [dif_neg (by omega), dif_neg (by omega), dif_pos (by omega)]
  exact congrArg (fun z => x2 (ix2 t z)) (Fin.ext (by dsimp only; omega))

theorem cat3 (t : Fin 8192) (k : Fin 512) :
    val_main_v7 (F := Ideal) x0 x1 x2 x3 x4 x5 x6 (ix2 t ⟨1280 + k.val, by omega⟩) = x3 (ix2 t k) := by
  pointwise [val_main_v7, Cert.Reference2Ideal.Value.fn_main_v7, val_main_v0, val_main_v1, val_main_v2, val_main_v3, val_main_v4, val_main_v5, val_main_v6]
  rw [dif_neg (by omega), dif_neg (by omega), dif_neg (by omega), dif_pos (by omega)]
  exact congrArg (fun z => x3 (ix2 t z)) (Fin.ext (by dsimp only; omega))

theorem cat4 (t : Fin 8192) (k : Fin 512) :
    val_main_v7 (F := Ideal) x0 x1 x2 x3 x4 x5 x6 (ix2 t ⟨1792 + k.val, by omega⟩) = x4 (ix2 t k) := by
  pointwise [val_main_v7, Cert.Reference2Ideal.Value.fn_main_v7, val_main_v0, val_main_v1, val_main_v2, val_main_v3, val_main_v4, val_main_v5, val_main_v6]
  rw [dif_neg (by omega), dif_neg (by omega), dif_neg (by omega), dif_neg (by omega), dif_pos (by omega)]
  exact congrArg (fun z => x4 (ix2 t z)) (Fin.ext (by dsimp only; omega))

theorem cat5 (t : Fin 8192) (k : Fin 8) :
    val_main_v7 (F := Ideal) x0 x1 x2 x3 x4 x5 x6 (ix2 t ⟨2304 + k.val, by omega⟩) = x5 (ix2 k t) := by
  pointwise [val_main_v7, Cert.Reference2Ideal.Value.fn_main_v7, val_main_v0, val_main_v1, val_main_v2, val_main_v3, val_main_v4, val_main_v5, val_main_v6]
  rw [dif_neg (by omega), dif_neg (by omega), dif_neg (by omega), dif_neg (by omega), dif_neg (by omega), dif_pos (by omega)]
  exact congrArg (fun z => x5 (ix2 z t)) (Fin.ext (by dsimp only; omega))

theorem cat6 (t : Fin 8192) (k : Fin 1024) :
    val_main_v7 (F := Ideal) x0 x1 x2 x3 x4 x5 x6 (ix2 t ⟨2312 + k.val, by omega⟩) = x6 (ix2 t k) := by
  pointwise [val_main_v7, Cert.Reference2Ideal.Value.fn_main_v7, val_main_v0, val_main_v1, val_main_v2, val_main_v3, val_main_v4, val_main_v5, val_main_v6]
  rw [dif_neg (by omega), dif_neg (by omega), dif_neg (by omega), dif_neg (by omega), dif_neg (by omega), dif_neg (by omega)]
  exact congrArg (fun z => x6 (ix2 t z)) (Fin.ext (by dsimp only; omega))

/-- The cotangent of the modulated norm: the joined incoming gradients times the transposed weight. -/
theorem v38_eq (s : Fin 4) (i : Fin 2048) (j : Fin 1024) :
    val_main_v38 (F := Ideal) x0 x1 x2 x3 x4 x5 x6 x7 (ix3 s i j) = partsCot x0 x1 x2 x3 x4 x5 x6 x7 (tok s i) j := by
  have h : val_main_v38 (F := Ideal) x0 x1 x2 x3 x4 x5 x6 x7 (ix3 s i j)
      = ∑ k : Fin 3336, (val_main_v7 (F := Ideal) x0 x1 x2 x3 x4 x5 x6 (ix2 (tok s i) k) : EReal) * x7 (ix2 j k) := by
    pointwise [val_main_v38, val_main_v37]
  rw [h, sum_parts]
  have e0 := fun k : Fin 512 => cat0 x0 x1 x2 x3 x4 x5 x6 (tok s i) k
  unfold partsCot
  simp only [cat0, cat1, cat2, cat3, cat4, cat5, cat6]
  abel

/-- The normalised row. -/
theorem v24_eq (s : Fin 4) (i : Fin 2048) (j : Fin 1024) :
    val_main_v24 (F := Ideal) x8 (ix3 s i j) = xhat x8 (tok s i) j := by
  pointwise [val_main_v24, val_main_v23, val_main_v9, v19_eq]
  rfl

/-- One plus the scale, of a token's sequence. -/
theorem v45_eq (s : Fin 4) (i : Fin 2048) (j : Fin 1024) :
    val_main_v45 (F := Ideal) x10 (ix3 s i j) = 1 + x10 (ix3 s 0 j) := by
  pointwise [val_main_v45, val_main_v30, val_main_v29, val_main_v28, val_main_v11, val_main_cst_4]

/-! ## The rest of the reference, over any cotangent

The operations after the product read the cotangent only through its array, so they are stated over any array `W` that
holds a function `dh` of token and column. -/

def r39 (W : (⟨S4x2048x1024, .f32⟩ : BufTy).Contents (Elt Ideal))  : FVec Ideal S4x1024 .f32 :=
  Host.reduceAdd (W) (val_main_cst_5 (F := Ideal)) reducesTo_S4x2048x1024_S4x1024_d1 h_S_
def r40 (W : (⟨S4x2048x1024, .f32⟩ : BufTy).Contents (Elt Ideal))  : FVec Ideal S4x1x1024 .f32 :=
  shapeCast _ (r39 W) shapeCasts_S4x1024_S4x1x1024
def r41 (W : (⟨S4x2048x1024, .f32⟩ : BufTy).Contents (Elt Ideal))  : FVec Ideal S4x1024 .f32 :=
  Host.reduceAdd (r40 W) (val_main_cst_6 (F := Ideal)) reducesTo_S4x1x1024_S4x1024_d1 h_S_
def r42 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x2048x1024 .f32 :=
  mulf (val_main_v27 (F := Ideal) x8 x9) (W)
def r43 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x1024 .f32 :=
  Host.reduceAdd (r42 W x8 x9) (val_main_cst_7 (F := Ideal)) reducesTo_S4x2048x1024_S4x1024_d1 h_S_
def r44 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x1x1024 .f32 :=
  shapeCast _ (r43 W x8 x9) shapeCasts_S4x1024_S4x1x1024
def r46 (W : (⟨S4x2048x1024, .f32⟩ : BufTy).Contents (Elt Ideal)) (x10 : (⟨S4x1x1024, .f32⟩ : BufTy).Contents (Elt Ideal)) : FVec Ideal S4x2048x1024 .f32 :=
  mulf (W) (val_main_v45 (F := Ideal) x10)
def r47 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x1024 .f32 :=
  Host.reduceAdd (r44 W x8 x9) (val_main_cst_8 (F := Ideal)) reducesTo_S4x1x1024_S4x1024_d1 h_S_
def r48 (W : (⟨S4x2048x1024, .f32⟩ : BufTy).Contents (Elt Ideal)) (x8 : (⟨S8192x1024, .f32⟩ : BufTy).Contents (Elt Ideal)) (x10 : (⟨S4x1x1024, .f32⟩ : BufTy).Contents (Elt Ideal)) : FVec Ideal S4x2048x1024 .f32 :=
  mulf (val_main_v24 (F := Ideal) x8) (r46 W x10)
def r49 (W : (⟨S4x2048x1024, .f32⟩ : BufTy).Contents (Elt Ideal)) (x8 : (⟨S8192x1024, .f32⟩ : BufTy).Contents (Elt Ideal)) (x10 : (⟨S4x1x1024, .f32⟩ : BufTy).Contents (Elt Ideal)) : FVec Ideal S1024 .f32 :=
  Host.reduceAdd (r48 W x8 x10) (val_main_cst_9 (F := Ideal)) reducesTo_S4x2048x1024_S1024_d0_1 h_S_
def r50 (W : (⟨S4x2048x1024, .f32⟩ : BufTy).Contents (Elt Ideal)) (x8 : (⟨S8192x1024, .f32⟩ : BufTy).Contents (Elt Ideal)) (x10 : (⟨S4x1x1024, .f32⟩ : BufTy).Contents (Elt Ideal)) : FVec Ideal S1x1x1024 .f32 :=
  shapeCast _ (r49 W x8 x10) shapeCasts_S1024_S1x1x1024
def r52 (W : (⟨S4x2048x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  mulf (r46 W x10) (val_main_v51 (F := Ideal) x9)
def r53 (W : (⟨S4x2048x1024, .f32⟩ : BufTy).Contents (Elt Ideal)) (x8 : (⟨S8192x1024, .f32⟩ : BufTy).Contents (Elt Ideal)) (x10 : (⟨S4x1x1024, .f32⟩ : BufTy).Contents (Elt Ideal)) : FVec Ideal S1024 .f32 :=
  Host.reduceAdd (r50 W x8 x10) (val_main_cst_10 (F := Ideal)) reducesTo_S1x1x1024_S1024_d0_1 h_S_
def r54 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  mulf (val_main_v9 (F := Ideal) x8) (r52 W x9 x10)
def r55 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048 .f32 :=
  Host.reduceAdd (r54 W x8 x9 x10) (val_main_cst_11 (F := Ideal)) reducesTo_S4x2048x1024_S4x2048_d2 h_S_
def r56 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1 .f32 :=
  shapeCast _ (r55 W x8 x9 x10) shapeCasts_S4x2048_S4x2048x1
def r58 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  mulf (r52 W x9 x10) (val_main_v57 (F := Ideal) x8)
def r59 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1 .f32 :=
  mulf (r56 W x8 x9 x10) (val_main_v22 (F := Ideal) x8)
def r61 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1 .f32 :=
  Host.divf (r59 W x8 x9 x10) (val_main_v60 (F := Ideal))
def r62 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048 .f32 :=
  Host.reduceAdd (r61 W x8 x9 x10) (val_main_cst_13 (F := Ideal)) reducesTo_S4x2048x1_S4x2048_d2 h_S_
def r63 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  broadcastInDim S4x2048x1024 ![0, 1] bcast_S4x2048_S4x2048x1024_0_1 (r62 W x8 x9 x10)
def r64 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  mulf (val_main_v9 (F := Ideal) x8) (r63 W x8 x9 x10)
def r65 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  addf (r58 W x8 x9 x10) (r64 W x8 x9 x10)
def r66 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  mulf (r63 W x8 x9 x10) (val_main_v9 (F := Ideal) x8)
def r67 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S4x2048x1024 .f32 :=
  addf (r65 W x8 x9 x10) (r66 W x8 x9 x10)
def r68 (W : (⟨S4x2048x1024, .f32⟩ : BufTy).Contents (Elt Ideal))  : FVec Ideal S4x1x1024 .f32 :=
  broadcastInDim S4x1x1024 ![0, 2] bcast_S4x1024_S4x1x1024_0_2 (r41 W)
def r69 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x1x1024 .f32 :=
  broadcastInDim S4x1x1024 ![0, 2] bcast_S4x1024_S4x1x1024_0_2 (r47 W x8 x9)
def r70 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x2x1024 .f32 :=
  concatenate S4x2x1024 1 [⟨S4x1x1024, (r68 W)⟩, ⟨S4x1x1024, (r69 W x8 x9)⟩] concatenates_S4x1x1024_S4x1x1024_S4x2x1024_d1
def r71 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) : FVec Ideal S4x8x1024 .f32 :=
  pad S4x8x1024 ![0, 0, 0] ![0, 6, 0] ![0, 0, 0] (r70 W x8 x9) (val_main_call0_v0 (F := Ideal)) pads_S4x2x1024_S4x8x1024_000_060_000 h_S_
def r72 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) : FVec Ideal S8192x1024 .f32 :=
  shapeCast _ (r67 W x8 x9 x10) shapeCasts_S4x2048x1024_S8192x1024
def r73 (W : (⟨S4x2048x1024, .f32⟩ : BufTy).Contents (Elt Ideal)) (x8 : (⟨S8192x1024, .f32⟩ : BufTy).Contents (Elt Ideal)) (x9 : (⟨S1x1024, .f32⟩ : BufTy).Contents (Elt Ideal)) (x10 : (⟨S4x1x1024, .f32⟩ : BufTy).Contents (Elt Ideal)) (x11 : (⟨S8192x1024, .f32⟩ : BufTy).Contents (Elt Ideal)) : FVec Ideal S8192x1024 .f32 :=
  addf (r72 W x8 x9 x10) (x11)
def r74 (W : (⟨S4x2048x1024, .f32⟩ : BufTy).Contents (Elt Ideal)) (x8 : (⟨S8192x1024, .f32⟩ : BufTy).Contents (Elt Ideal)) (x10 : (⟨S4x1x1024, .f32⟩ : BufTy).Contents (Elt Ideal)) : FVec Ideal S1x1024 .f32 :=
  broadcastInDim S1x1024 ![1] bcast_S1024_S1x1024_1 (r53 W x8 x10)
def r75 (W : (⟨S4x2048x1024, .f32⟩ : BufTy).Contents (Elt Ideal)) (x8 : (⟨S8192x1024, .f32⟩ : BufTy).Contents (Elt Ideal)) (x10 : (⟨S4x1x1024, .f32⟩ : BufTy).Contents (Elt Ideal)) : FVec Ideal S8x1024 .f32 :=
  pad S8x1024 ![0, 0] ![7, 0] ![0, 0] (r74 W x8 x10) (val_main_call1_v0 (F := Ideal)) pads_S1x1024_S8x1024_070_000 h_S_

section
variable (W : (⟨S4x2048x1024, .f32⟩ : BufTy).Contents (Elt Ideal)) (dh : Fin 8192 → Fin 1024 → EReal)
  (hW : ∀ s i j, W (ix3 s i j) = dh (tok s i) j)

include hW

/-- The cotangent of the norm before the modulation. -/
theorem r46_eq (s : Fin 4) (i : Fin 2048) (j : Fin 1024) :
    r46 W x10 (ix3 s i j) = dn dh x10 (tok s i) j := by
  pointwise [r46, v45_eq, hW]
  unfold dn
  rw [seqOf_tok]

/-- The cotangent of the normalised row. -/
theorem r52_eq (s : Fin 4) (i : Fin 2048) (j : Fin 1024) :
    r52 W x9 x10 (ix3 s i j) = dxhat dh x9 x10 (tok s i) j := by
  pointwise [r52, val_main_v51, val_main_v25, val_main_v10, r46_eq x10 W dh hW]
  rfl

/-- The chain rule's inner term. -/
theorem r62_eq (s : Fin 4) (i : Fin 2048) :
    r62 W x8 x9 x10 (ix2 s i) = chainTerm (row x8 (tok s i)) (dxhat dh x9 x10 (tok s i)) := by
  pointwise [r62, r61, val_main_v60, r59, r56, r55, r54, val_main_v22,
    val_main_v21, val_main_v20, val_main_cst_3, val_main_cst_11, val_main_cst_12, val_main_cst_13, val_main_v9, r52_eq x9 x10 W dh hW, v19_eq, v18_eq]
  exact Fin.sum_univ_one _

/-- The cotangent of `x`, in the fused form. -/
theorem r67_eq (s : Fin 4) (i : Fin 2048) (j : Fin 1024) :
    r67 W x8 x9 x10 (ix3 s i j) = dxFused (row x8 (tok s i)) (dxhat dh x9 x10 (tok s i)) j := by
  rw [dx_eq]
  pointwise [r67, r66, r65, r64, r63, r58, val_main_v57, val_main_v9, r52_eq x9 x10 W dh hW, v19_eq, r62_eq x8 x9 x10 W dh hW]
  rfl

/-- The first result: the cotangent of `x` with the residual branch's. -/
theorem dx_of (t : Fin 8192) (j : Fin 1024) :
    r73 W x8 x9 x10 x11 (ix2 t j) = dxAt dh x8 x9 x10 x11 t j := by
  pointwise [r73, r72, r67_eq x8 x9 x10 W dh hW]
  have e : (⟨t.val / 2048 * 2048 + t.val % 2048, by have := t.isLt; omega⟩ : Fin 8192) = t := Fin.ext (Nat.div_add_mod' _ _)
  unfold dxAt
  exact congrArg (fun u => dxFused (row x8 u) (dxhat dh x9 x10 u) j + x11 (ix2 t j)) e

/-- The shift's cotangent. -/
theorem r41_eq (s : Fin 4) (j : Fin 1024) :
    r41 W (ix2 s j) = ∑ i : Fin 2048, dh (tok s i) j := by
  pointwise [r41, r40, r39, val_main_cst_6, val_main_cst_5, hW]
  exact Fin.sum_univ_one _

/-- The scale's cotangent. -/
theorem r47_eq (s : Fin 4) (j : Fin 1024) :
    r47 W x8 x9 (ix2 s j)
      = ∑ i : Fin 2048, dh (tok s i) j * (xhat x8 (tok s i) j * x9 (ix2 0 j)) := by
  pointwise [r47, r44, r43, r42, val_main_v27, val_main_v26, val_main_v25, val_main_v10,
    val_main_cst_7, val_main_cst_8, hW, v24_eq]
  refine (Fin.sum_univ_one _).trans (Finset.sum_congr rfl fun i _ => mul_comm _ _)

/-- The second result: the modulation's gradient. -/
theorem mod_of (s : Fin 4) (k : Fin 8) (j : Fin 1024) :
    r71 W x8 x9 (ix3 s k j) = modAt dh x8 x9 s k j := by
  pointwise [r71, r70, Cert.Reference2Ideal.Value.fn_main_v70, val_main_call0_v0, val_main_c, r68, r69,
    r41_eq W dh hW, r47_eq x8 x9 W dh hW, zero_of_int]
  unfold modAt modRow
  match k with
  | 0 => rfl
  | 1 => rfl
  | ⟨k + 2, hk⟩ =>
    have h2 : ¬ k + 2 < 2 := by omega
    have e0 : (⟨k + 2, hk⟩ : Fin 8) ≠ 0 := fun e => by simpa using congrArg Fin.val e
    have e1 : (⟨k + 2, hk⟩ : Fin 8) ≠ 1 := fun e => by simpa using congrArg Fin.val e
    simp [h2, e0, e1]

/-- The third result: the gain's gradient. -/
theorem gain_of (k : Fin 8) (j : Fin 1024) :
    r75 W x8 x10 (ix2 k j) = gainAt dh x8 x10 k j := by
  have h49 : ∀ j, r49 W x8 x10 (ix1 j) = ∑ s : Fin 4, ∑ i : Fin 2048, dn dh x10 (tok s i) j * xhat x8 (tok s i) j := fun j => by
    unfold r49
    simp only [Host.reduceAdd, Ideal.hostReduceAdd_def]
    rw [hostReduceAdd_first_two _ rfl _ j rfl]
    pointwise [r48, r46_eq x10 W dh hW, v24_eq, val_main_cst_9]
    exact Finset.sum_congr rfl fun s _ => Finset.sum_congr rfl fun i _ => mul_comm _ _
  have h53 : r53 W x8 x10 (ix1 j) = ∑ s : Fin 4, ∑ i : Fin 2048, dn dh x10 (tok s i) j * xhat x8 (tok s i) j := by
    unfold r53
    simp only [Host.reduceAdd, Ideal.hostReduceAdd_def]
    rw [hostReduceAdd_first_two _ rfl _ j rfl]
    pointwise [r50, h49, val_main_cst_10]
    exact (Fin.sum_univ_one _).trans (Fin.sum_univ_one _)
  pointwise [r75, r74, val_main_call1_v0, val_main_c_14, h53, zero_of_int]
  unfold gainAt gainRow
  match k with
  | 0 =>
    simp only [if_pos]
    exact (Fin.sum_univ_tiles 4 2048 rfl (fun t => dn dh x10 t j * xhat x8 t j)).symm
  | ⟨k + 1, hk⟩ =>
    have e0 : (⟨k + 1, hk⟩ : Fin 8) ≠ 0 := fun e => by simpa using congrArg Fin.val e
    simp [e0]

end

/-! ## The results -/

/-- The first result: the cotangent of `x` with the residual branch's. -/
theorem dx_apply (t : Fin 8192) (j : Fin 1024) :
    val_main_v73 (F := Ideal) x0 x1 x2 x3 x4 x5 x6 x7 x8 x9 x10 x11 (ix2 t j) = dxAt (partsCot x0 x1 x2 x3 x4 x5 x6 x7) x8 x9 x10 x11 t j :=
  dx_of x8 x9 x10 x11 (val_main_v38 (F := Ideal) x0 x1 x2 x3 x4 x5 x6 x7) _ (v38_eq x0 x1 x2 x3 x4 x5 x6 x7) t j

/-- The second result: the modulation's gradient. -/
theorem mod_apply (s : Fin 4) (k : Fin 8) (j : Fin 1024) :
    val_main_v71 (F := Ideal) x0 x1 x2 x3 x4 x5 x6 x7 x8 x9 (ix3 s k j) = modAt (partsCot x0 x1 x2 x3 x4 x5 x6 x7) x8 x9 s k j :=
  mod_of x8 x9 (val_main_v38 (F := Ideal) x0 x1 x2 x3 x4 x5 x6 x7) _ (v38_eq x0 x1 x2 x3 x4 x5 x6 x7) s k j

/-- The third result: the gain's gradient. -/
theorem gain_apply (k : Fin 8) (j : Fin 1024) :
    val_main_v75 (F := Ideal) x0 x1 x2 x3 x4 x5 x6 x7 x8 x10 (ix2 k j) = gainAt (partsCot x0 x1 x2 x3 x4 x5 x6 x7) x8 x10 k j :=
  gain_of x8 x10 (val_main_v38 (F := Ideal) x0 x1 x2 x3 x4 x5 x6 x7) _ (v38_eq x0 x1 x2 x3 x4 x5 x6 x7) k j

end Cert.Reference2Ideal.NormValue
end
-- ==== Proof.Norm0Value.lean ====
/-
  The first block's norm: the two programs' results agree; the kernel's three result arrays and the reference's are the same functions of the
  arguments, element by element.
-/
module

public import proofs.«01_k».proof.Proof.Norm0Blocks
public import proofs.«01_k».proof.Proof.Norm0Ref
public import proofs.«01_k».proof.Proof.Gen.Reference2Ideal.Run
public import proofs.«01_k».proof.Proof.NormValue

@[expose] public section

noncomputable section

namespace Cert.Norm0Value

open Cert.NormValue Idealize.ShloMosaic Idealize.SL.Sem Cert.Norm

/-- On equal arguments the kernel and the reference end with equal results. -/
theorem agree : Cert.algebraic_Kernel2Ideal_Reference2Ideal (hKernel2Ideal := Cert.Kernel2Ideal.Gen.facts) (hReference2Ideal := Cert.Reference2Ideal.Gen.facts) := by
  intro m g m' g' _ hm
  refine ⟨Cert.Kernel2Ideal.NormBlocks.resDx m, Cert.Kernel2Ideal.NormBlocks.resMod m, Cert.Kernel2Ideal.NormBlocks.resGain m,
    (θ_run _ _ _).mono (fun r h c => ?_) (Cert.Kernel2Ideal.Value.run_blocks m g),
    (θ_run _ _ _).mono (fun r h c => ?_) (Cert.Reference2Ideal.Value.run m' g')⟩
  · obtain ⟨h0, h1, h2, h3⟩ := h c
    exact ⟨h0.trans (Cert.Kernel2Ideal.NormBlocks.final_dx m c), h1.trans (Cert.Kernel2Ideal.NormBlocks.final_mod m c),
      h2.trans (Cert.Kernel2Ideal.NormBlocks.final_gain m c), h3⟩
  · obtain ⟨h0, h1, h2, h3⟩ := h c
    obtain ⟨e0, e1, e2, e3, e4, e5, e6, e7, e8, e9, e10, e11⟩ := hm c
    refine ⟨h0.trans ((Cert.Reference2Ideal.Read.val_main_v73_eq m' c).trans (funext fun y => ?_)),
      h1.trans ((Cert.Reference2Ideal.Read.val_main_v71_eq m' c).trans (funext fun y => ?_)),
      h2.trans ((Cert.Reference2Ideal.Read.val_main_v75_eq _ _ _ _ _ _ _ _ _ _).trans (funext fun y => ?_)), h3⟩
    · refine (congrArg _ (eta2 y)).trans ((Cert.Reference2Ideal.NormValue.dx_apply _ _ _ _ _ _ _ _ _ _ _ _ (y 0) (y 1)).trans ?_)
      rw [e0, e1, e2, e3, e4, e5, e6, e7, e8, e9, e10, e11]
    · refine (congrArg _ (eta3 y)).trans ((Cert.Reference2Ideal.NormValue.mod_apply _ _ _ _ _ _ _ _ _ _ (y 0) (y 1) (y 2)).trans ?_)
      rw [e0, e1, e2, e3, e4, e5, e6, e7, e8, e9]
    · refine (congrArg _ (eta2 y)).trans ((Cert.Reference2Ideal.NormValue.gain_apply _ _ _ _ _ _ _ _ _ _ (y 0) (y 1)).trans ?_)
      rw [e0, e1, e2, e3, e4, e5, e6, e7, e8, e10]

end Cert.Norm0Value

end
-- ==== Proof.DwSpec.lean ====
/-
  A weight's gradient at an element: the sum over the 8192 tokens of the input's column by the cotangent's.
-/
module

public import Idealize.ShloMosaic.Lib.ValueIdx
public import Idealize.ShloMosaic.Lib.Pointwise.Sums
public import Idealize.ShloMosaic.Lib.Pointwise.Reduce
public import Idealize.ShloMosaic.Lib.Pipeline.Value

@[expose] public section

noncomputable section

namespace Cert.Dw

open Idealize.ShloMosaic

/-- The token point `t` of 8 reads as row `r` of its block. -/
def tok8 (t r : Nat) (ht : t < 8) (hr : r < 1024) : Fin 8192 := ⟨t * 1024 + r, by omega⟩

/-- `(hᵀ · d)[i, j]`. -/
def dwAt {ka n : Nat} (h : (⟨2, ![8192, ka]⟩ : Shape).Idx → EReal) (d : (⟨2, ![8192, n]⟩ : Shape).Idx → EReal) (i : Fin ka) (j : Fin n) : EReal :=
  ∑ t : Fin 8192, h (ix2 t i) * d (ix2 t j)

/-- One block's share. -/
def blkdw {ka n : Nat} (x : (⟨2, ![1024, ka]⟩ : Shape).Idx → EReal) (y : (⟨2, ![1024, n]⟩ : Shape).Idx → EReal) (i : Fin ka) (j : Fin n) : EReal :=
  ∑ r : Fin 1024, x (ix2 r i) * y (ix2 r j)

/-- Eight blocks' shares make the whole sum. -/
theorem sum_blkdw {ka n N : Nat} (hN : N = 8) (h : (⟨2, ![8192, ka]⟩ : Shape).Idx → EReal) (d : (⟨2, ![8192, n]⟩ : Shape).Idx → EReal)
    (x : Fin N → (⟨2, ![1024, ka]⟩ : Shape).Idx → EReal) (y : Fin N → (⟨2, ![1024, n]⟩ : Shape).Idx → EReal)
    (hx : ∀ p r i, x p (ix2 r i) = h (ix2 (tok8 p.val r.val (by omega) r.isLt) i))
    (hy : ∀ p r j, y p (ix2 r j) = d (ix2 (tok8 p.val r.val (by omega) r.isLt) j)) (i : Fin ka) (j : Fin n) :
    ∑ p, blkdw (x p) (y p) i j = dwAt h d i j := by
  subst hN
  unfold dwAt blkdw
  rw [Fin.sum_univ_tiles 8 1024 rfl]
  refine Finset.sum_congr rfl fun p _ => Finset.sum_congr rfl fun r _ => ?_
  rw [hx, hy]
  rfl

end Cert.Dw
end
-- ==== Proof.Dw4Body.lean ====
/-
  One grid point of the output weight's gradient (layer 1) at an element: the accumulator holds what it held, or nothing at
  the first point, with the block's share added; the last point writes it back.
-/
module

public import proofs.«01_k».proof.Proof.Gen.Kernel4Ideal.Value
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import proofs.«01_k».proof.Proof.DwSpec
public import Idealize.ShloMosaic.Lib.WritesUnit
public import Idealize.ShloMosaic.Lib.ValueIdx

@[expose] public section

noncomputable section

namespace Cert.Kernel4Ideal.DwBody

open Cert.Kernel4Ideal Cert.Kernel4Ideal.Gen Idealize.ShloMosaic Idealize.ShloMosaic.TcCoe Cert.Dw

theorem hz : (![0, 0] : Fin 2 → Nat) = fun _ => 0 := funext fun a => by fin_cases a <;> rfl

theorem pay1_eq (x0 x1 : Vec Ideal S1024x1024 .bf16) (i j : Fin 1024) : k0_pay1 (F := Ideal) x0 x1 (ix2 i j) = blkdw x0 x1 i j := by
  pointwise [k0_pay1]
  rfl

theorem pay2_eq (x0 x1 : Vec Ideal S1024x1024 .bf16) (i j : Fin 1024) : k0_pay2 (F := Ideal) x0 x1 (ix2 i j) = blkdw x0 x1 i j := by
  pointwise [k0_pay2, pay1_eq]

theorem pay3_eq (x0 x1 : Vec Ideal S1024x1024 .bf16) (a : Vec Ideal S1024x1024 .f32) (i j : Fin 1024) :
    k0_pay3 (F := Ideal) x0 x1 a (ix2 i j) = a (ix2 i j) + blkdw x0 x1 i j := by
  pointwise [k0_pay3, pay1_eq]

theorem pay4_eq (a : Vec Ideal S1024x1024 .f32) (i j : Fin 1024) : k0_pay4 (F := Ideal) a (ix2 i j) = a (ix2 i j) := by
  pointwise [k0_pay4]

section
variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole)
  (x0 x1 : Vec Ideal S1024x1024 .bf16) (xs0 : Vec Ideal S1024x1024 .f32)

/-- Case A: the accumulator. -/
theorem acc_A (hc0 : cond0_0 i) (hc1 : ¬cond0_1 i) (hc2 : ¬cond0_2 i) (a b : Fin 1024) :
    sout0_A_0 (F := Ideal) c i arg1 harg1 arg2 harg2 arg3 harg3 arg4 harg4 hc0 hc1 hc2 x0 x1 (ix2 a b) = blkdw x0 x1 a b := by
  unfold sout0_A_0
  rw [View.read_writes_junk_eq_canon]
  unfold kernelRun0_A
  dsimp only
  sl_unfold_words
  rw [View.canon_unit_zero hz]
  simp only [View.readAt_eq_ld, harg1.read_unread, harg2.read_unread, harg4.read_unread, View.ld_unit_zero (S := S1024x1024) hz]
  exact pay2_eq x0 x1 a b

/-- Case B: the accumulator. -/
theorem acc_B (hc0 : ¬cond0_0 i) (hc1 : cond0_1 i) (hc2 : ¬cond0_2 i) (a b : Fin 1024) :
    sout0_B_0 (F := Ideal) c i arg1 harg1 arg2 harg2 arg3 harg3 arg4 harg4 hc0 hc1 hc2 x0 x1 xs0 (ix2 a b) = xs0 (ix2 a b) + blkdw x0 x1 a b := by
  unfold sout0_B_0
  rw [View.read_writes_junk_eq_canon]
  unfold kernelRun0_B
  dsimp only
  sl_unfold_words
  rw [View.canon_unit_zero hz]
  simp only [View.readAt_eq_ld, harg1.read_unread, harg2.read_unread, harg4.read_unread, View.ld_unit_zero (S := S1024x1024) hz]
  exact pay3_eq x0 x1 xs0 a b

/-- Case C: the accumulator. -/
theorem acc_C (hc0 : ¬cond0_0 i) (hc1 : cond0_1 i) (hc2 : cond0_2 i) (a b : Fin 1024) :
    sout0_C_0 (F := Ideal) c i arg1 harg1 arg2 harg2 arg3 harg3 arg4 harg4 hc0 hc1 hc2 x0 x1 xs0 (ix2 a b) = xs0 (ix2 a b) + blkdw x0 x1 a b := by
  unfold sout0_C_0
  rw [View.read_writes_junk_eq_canon]
  unfold kernelRun0_C
  dsimp only
  sl_unfold_words
  rw [View.canon_unit_zero hz]
  simp only [View.readAt_eq_ld, harg1.read_unread, harg2.read_unread, harg4.read_unread, View.ld_unit_zero (S := S1024x1024) hz]
  exact pay3_eq x0 x1 xs0 a b

/-- Case C: the block written back. -/
theorem out_C (hc0 : ¬cond0_0 i) (hc1 : cond0_1 i) (hc2 : cond0_2 i) (a b : Fin 1024) :
    out0_C_2 (F := Ideal) c i arg1 harg1 arg2 harg2 arg3 harg3 arg4 harg4 hc0 hc1 hc2 x0 x1 xs0 (ix2 a b) = xs0 (ix2 a b) + blkdw x0 x1 a b := by
  unfold out0_C_2
  rw [View.read_writes_junk_eq_canon]
  unfold kernelRun0_C
  dsimp only
  sl_unfold_words
  rw [View.canon_unit_zero hz]
  rw [View.readCov_unit_zero _ hz]
  simp only [View.readAt_eq_ld, harg1.read_unread, harg2.read_unread, harg4.read_unread, View.ld_unit_zero (S := S1024x1024) hz]
  exact (pay4_eq _ a b).trans (pay3_eq x0 x1 xs0 a b)

end

end Cert.Kernel4Ideal.DwBody
end
-- ==== Proof.Dw4Value.lean ====
/-
  Layer 1's output weight's gradient: the kernel's result and the reference's are the same function of the arguments.
-/
module

public import proofs.«01_k».proof.Proof.Dw4Body
public import proofs.«01_k».proof.Proof.NormValue
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

noncomputable section

namespace Cert.Kernel4Ideal.DwBlocks

open Cert.Kernel4Ideal Cert.Kernel4Ideal.Gen Cert.Kernel4Ideal.DwBody Idealize.ShloMosaic Idealize.ShloMosaic.TcCoe Cert.Dw

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)

theorem lt8 (t : Fin cfg0.N) : t.val < 8 := lt_of_lt_of_eq t.isLt N_0

theorem blk0 (c : Dev nD) (t : Fin cfg0.N) (r k : Fin 1024) :
    iblk m c 0 t (ix2 r k) = m (c.tc.loc main_arg0) (ix2 (tok8 t.val r.val (lt8 t) r.isLt) k) := by
  blk_simp [iblk]
  entry_read
  refine congrArg _ ?_
  unfold tok8
  blk_ext [index0]

theorem blk1 (c : Dev nD) (t : Fin cfg0.N) (r k : Fin 1024) :
    iblk m c 1 t (ix2 r k) = m (c.tc.loc main_arg1) (ix2 (tok8 t.val r.val (lt8 t) r.isLt) k) := by
  blk_simp [iblk]
  entry_read
  refine congrArg _ ?_
  unfold tok8
  blk_ext [index1]

/-- The accumulator after the last point: all 8 points' shares. -/
theorem outs_acc (c : Dev nD) (t : Fin cfg0.N) (hr : t.val + 1 = cfg0.N) (a b : Fin 1024) :
    (outsAt0 m c t.val t.isLt).2 (ix2 a b) = ∑ p : Fin cfg0.N, blkdw (iblk m c 0 p) (iblk m c 1 p) a b := by
  refine (Pipeline.eq_sum_fin_of_reset_step_apply_last
    (fun n h (i : Fin 1024 × Fin 1024) => (outsAt0 m c n h).2 (ix2 i.1 i.2)) 8 (fun _ => 0)
    (fun p i => blkdw (iblk m c 0 p) (iblk m c 1 p) i.1 i.2)
    (fun p h1 i => ?_) (fun p h1 i => ?_) (le_of_eq N_0) t hr (a, b)).trans (zero_add _)
  · rw [zero_add, outsAt0_A m c p h1 (by have := lt8 p; omega) (by have := lt8 p; omega)]; dsimp only; exact acc_A ..
  · by_cases h2 : p.val % 8 = 7
    · rw [outsAt0_C m c p h1 (by omega) h2]; dsimp only; exact acc_C ..
    · rw [outsAt0_B m c p h1 (by omega) h2]; dsimp only; exact acc_B ..

/-- The last point writes the accumulator back. -/
theorem outs_out (c : Dev nD) (t : Fin cfg0.N) (hr : t.val % 8 = 7) (a b : Fin 1024) :
    (outsAt0 m c t.val t.isLt).1 (ix2 a b) = (outsAt0 m c t.val t.isLt).2 (ix2 a b) := by
  rw [outsAt0_C m c t (by omega) (by omega) hr]
  dsimp only
  exact (out_C ..).trans (acc_C ..).symm

/-- The result array. -/
abbrev res (c : Dev nD) : Buf (Elt Ideal) ((c.tc : Thread nD τ).loc main_v0) := fun y : S1024x1024.Idx =>
  dwAt (m (c.tc.loc main_arg0)) (m (c.tc.loc main_arg1)) (y 0) (y 1)

theorem final (c : Dev nD) : (dats m 0 c).arrAt 2 cfg0.N = res m c := by
  refine (dats m 0 c).arrAt_eq_of_covers 2 _ (by decide +kernel) fun t hf y => ?_
  blk_simp
  rw [after0_2]
  have hr : t.val % 8 = 7 := (flush0_2 t).mp hf
  obtain ⟨a, b, rfl⟩ : ∃ (a b : Fin 1024), y = ix2 a b := ⟨y 0, y 1, Cert.NormValue.eta2 y⟩
  refine (outs_out m c t hr a b).trans ((outs_acc m c t (by have := lt8 t; have : cfg0.N = 8 := N_0; omega) a b).trans ?_)
  have e : (win0_2.blk t).view.emb (ix2 a b) = ix2 a b := by blk_ext [index2]
  rw [e]
  exact sum_blkdw N_0 (m (c.tc.loc main_arg0)) (m (c.tc.loc main_arg1)) _ _ (fun p r i => blk0 m c p r i) (fun p r j => blk1 m c p r j) a b

end Cert.Kernel4Ideal.DwBlocks

namespace Cert.Dw4Value

open Cert.NormValue Idealize.ShloMosaic Idealize.SL.Sem Cert.Dw

open Cert.Reference4Ideal Cert.Reference4Ideal.Read in
theorem ref_apply (x0 x1 : FVec Ideal S8192x1024 .bf16) (i j : Fin 1024) :
    val_main_v6 (F := Ideal) x0 x1 (ix2 i j) = dwAt x0 x1 i j := by
  pointwise [val_main_v6, val_main_v5, val_main_v4, val_main_v3, val_main_v1]
  exact Finset.sum_congr rfl fun t _ => mul_comm _ _

/-- On equal arguments the kernel and the reference end with equal results. -/
theorem agree : Cert.algebraic_Kernel4Ideal_Reference4Ideal (hKernel4Ideal := Cert.Kernel4Ideal.Gen.facts) (hReference4Ideal := Cert.Reference4Ideal.Gen.facts) := by
  intro m g m' g' _ hm
  refine ⟨Cert.Kernel4Ideal.DwBlocks.res m,
    (θ_run _ _ _).mono (fun r h c => ?_) (Cert.Kernel4Ideal.Value.run_blocks m g),
    (θ_run _ _ _).mono (fun r h c => ?_) (Cert.Reference4Ideal.Value.run m' g')⟩
  · obtain ⟨h0, h1⟩ := h c
    exact ⟨h0.trans (Cert.Kernel4Ideal.DwBlocks.final m c), h1⟩
  · obtain ⟨h0, h1⟩ := h c
    obtain ⟨e0, e1⟩ := hm c
    refine ⟨h0.trans ((Cert.Reference4Ideal.Read.val_main_v6_eq _ _).trans (funext fun y => ?_)), h1⟩
    refine (congrArg _ (eta2 y)).trans ((ref_apply _ _ (y 0) (y 1)).trans ?_)
    rw [e0, e1]

end Cert.Dw4Value

end
-- ==== Proof.Dw5Body.lean ====
/-
  One grid point of the gradient of layer 1's input product's weight at an element: the accumulator holds what it held, or nothing at
  the first point, with the block's share added; the last point writes it back in eight planes of 256 columns.
-/
module

public import proofs.«01_k».proof.Proof.Gen.Kernel5Ideal.Value
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import proofs.«01_k».proof.Proof.DwSpec
public import Idealize.ShloMosaic.Lib.WritesUnit
public import Idealize.ShloMosaic.Lib.ValueIdx

@[expose] public section

noncomputable section

namespace Cert.Kernel5Ideal.DwBody

open Cert.Kernel5Ideal Cert.Kernel5Ideal.Gen Idealize.ShloMosaic Idealize.ShloMosaic.TcCoe Cert.Dw

theorem hz : (![0, 0] : Fin 2 → Nat) = fun _ => 0 := funext fun a => by fin_cases a <;> rfl

theorem hz3 : (![0, 0, 0] : Fin 3 → Nat) = fun _ => 0 := funext fun a => by fin_cases a <;> rfl

section
variable {e : EltTy} {Val : EltTy → Type} [∀ e, Nonempty (Val e)]

/-- What a list of stores leaves, the last of them one plane: that plane reads the stored one, another what the others left. -/
theorem canon_plane {q n w o : Nat} (inb : ∀ a, (![o, 0, 0] : Fin 3 → Nat) a + (![1, n, w] : Fin 3 → Nat) a ≤ (⟨3, ![q, n, w]⟩ : Shape).size a)
    (p : (Rect.unit (s := ⟨3, ![q, n, w]⟩) ![o, 0, 0] ![1, n, w] inb).shape.Idx → Val e) (L : List (View.Piece Val ⟨3, ![q, n, w]⟩ e))
    (k : Fin q) (i : Fin n) (j : Fin w) :
    View.canon (⟨Rect.unit ![o, 0, 0] ![1, n, w] inb, p⟩ :: L) (ix3 k i j)
      = if k.val = o then p (ix3 (0 : Fin 1) i j) else View.canon L (ix3 k i j) := by
  split
  · rename_i h
    have hy : (Rect.unit (s := ⟨3, ![q, n, w]⟩) ![o, 0, 0] ![1, n, w] inb).emb (ix3 (0 : Fin 1) i j) = ix3 k i j :=
      funext fun a => Fin.ext (by
        match a with
        | ⟨0, _⟩ => exact h.symm
        | ⟨1, _⟩ => show 0 + 1 * i.val = i.val; omega
        | ⟨2, _⟩ => show 0 + 1 * j.val = j.val; omega)
    rw [← hy]
    exact View.canon_cons_emb _ p L _
  · rename_i h
    refine View.canon_cons_of_not_mem _ L ?_
    rw [Rect.mem_set_unit]
    intro hall
    have := hall (0 : Fin 3)
    have h1 : o ≤ k.val := this.1
    have h2 : k.val < o + 1 := this.2
    omega

/-- A load of `w` columns of a buffer stored whole reads those columns of what was stored. -/
theorem readCov_cols {n N w o : Nat} {sig : RefSig} {κ : Kind} {sp : Space} (v : View sig κ sp ⟨2, ![n, N]⟩ e)
    (inb : ∀ a, (![0, 0] : Fin 2 → Nat) a + (⟨2, ![n, N]⟩ : Shape).size a ≤ (⟨2, ![n, N]⟩ : Shape).size a)
    (p : (⟨2, ![n, N]⟩ : Shape).Idx → Val e)
    (inb' : ∀ a, (![0, o] : Fin 2 → Nat) a + (![n, w] : Fin 2 → Nat) a ≤ (⟨2, ![n, N]⟩ : Shape).size a)
    (i : Fin n) (j : Fin w) (z : Fin N) (hk : z.val = o + j.val) :
    v.readCov [(⟨Rect.unit ![0, 0] (⟨2, ![n, N]⟩ : Shape).size inb, p⟩ : View.Piece Val ⟨2, ![n, N]⟩ e)]
      (Rect.unit (s := ⟨2, ![n, N]⟩) ![0, o] ![n, w] inb').toLoadRect (ix2 i j) = p (ix2 i z) := by
  rw [View.readCov_eq_canon']
  rw [View.canon_unit_zero hz]
  exact congrArg p (funext fun a => Fin.ext (by
    match a with
    | ⟨0, _⟩ => show 0 + 1 * i.val = i.val; omega
    | ⟨1, _⟩ => show o + 1 * j.val = z.val; omega))
end

theorem pay1_eq (x0 : Vec Ideal S1024x1024 .bf16) (x1 : Vec Ideal S1024x2048 .bf16) (i : Fin 1024) (j : Fin 2048) : k0_pay1 (F := Ideal) x0 x1 (ix2 i j) = blkdw x0 x1 i j := by
  pointwise [k0_pay1]
  rfl

theorem pay2_eq (x0 : Vec Ideal S1024x1024 .bf16) (x1 : Vec Ideal S1024x2048 .bf16) (i : Fin 1024) (j : Fin 2048) : k0_pay2 (F := Ideal) x0 x1 (ix2 i j) = blkdw x0 x1 i j := by
  pointwise [k0_pay2, pay1_eq]

theorem pay3_eq (x0 : Vec Ideal S1024x1024 .bf16) (x1 : Vec Ideal S1024x2048 .bf16) (a : Vec Ideal S1024x2048 .f32) (i : Fin 1024) (j : Fin 2048) :
    k0_pay3 (F := Ideal) x0 x1 a (ix2 i j) = a (ix2 i j) + blkdw x0 x1 i j := by
  pointwise [k0_pay3, pay1_eq]

section
variable (c : Dev nD) (i : grid0.Coords) (arg1 : Memref sig .tc .vmem S1024x1024 .bf16) (harg1 : arg1.IsWhole) (arg2 : Memref sig .tc .vmem S1024x2048 .bf16) (harg2 : arg2.IsWhole) (arg3 : Memref sig .tc .vmem S8x1024x256 .bf16) (harg3 : arg3.IsWhole) (arg4 : Memref sig .tc .vmem S1024x2048 .f32) (harg4 : arg4.IsWhole)
  (x0 : Vec Ideal S1024x1024 .bf16) (x1 : Vec Ideal S1024x2048 .bf16) (xs0 : Vec Ideal S1024x2048 .f32)

/-- Case A: the accumulator. -/
theorem acc_A (hc0 : cond0_0 i) (hc1 : ¬cond0_1 i) (hc2 : ¬cond0_2 i) (a : Fin 1024) (b : Fin 2048) :
    sout0_A_0 (F := Ideal) c i arg1 harg1 arg2 harg2 arg3 harg3 arg4 harg4 hc0 hc1 hc2 x0 x1 (ix2 a b) = blkdw x0 x1 a b := by
  unfold sout0_A_0
  rw [View.read_writes_junk_eq_canon]
  unfold kernelRun0_A
  dsimp only
  sl_unfold_words
  rw [View.canon_unit_zero hz]
  simp only [View.readAt_eq_ld, harg1.read_unread, harg2.read_unread, harg4.read_unread, View.ld_unit_zero (S := S1024x1024) hz, View.ld_unit_zero (S := S1024x2048) hz]
  exact pay2_eq x0 x1 a b

/-- Case B: the accumulator. -/
theorem acc_B (hc0 : ¬cond0_0 i) (hc1 : cond0_1 i) (hc2 : ¬cond0_2 i) (a : Fin 1024) (b : Fin 2048) :
    sout0_B_0 (F := Ideal) c i arg1 harg1 arg2 harg2 arg3 harg3 arg4 harg4 hc0 hc1 hc2 x0 x1 xs0 (ix2 a b) = xs0 (ix2 a b) + blkdw x0 x1 a b := by
  unfold sout0_B_0
  rw [View.read_writes_junk_eq_canon]
  unfold kernelRun0_B
  dsimp only
  sl_unfold_words
  rw [View.canon_unit_zero hz]
  simp only [View.readAt_eq_ld, harg1.read_unread, harg2.read_unread, harg4.read_unread, View.ld_unit_zero (S := S1024x1024) hz, View.ld_unit_zero (S := S1024x2048) hz]
  exact pay3_eq x0 x1 xs0 a b

/-- Case C: the accumulator. -/
theorem acc_C (hc0 : ¬cond0_0 i) (hc1 : cond0_1 i) (hc2 : cond0_2 i) (a : Fin 1024) (b : Fin 2048) :
    sout0_C_0 (F := Ideal) c i arg1 harg1 arg2 harg2 arg3 harg3 arg4 harg4 hc0 hc1 hc2 x0 x1 xs0 (ix2 a b) = xs0 (ix2 a b) + blkdw x0 x1 a b := by
  unfold sout0_C_0
  rw [View.read_writes_junk_eq_canon]
  unfold kernelRun0_C
  dsimp only
  sl_unfold_words
  rw [View.canon_unit_zero hz]
  simp only [View.readAt_eq_ld, harg1.read_unread, harg2.read_unread, harg4.read_unread, View.ld_unit_zero (S := S1024x1024) hz, View.ld_unit_zero (S := S1024x2048) hz]
  exact pay3_eq x0 x1 xs0 a b

/-- Case C: the planes written back. -/
theorem out_C (hc0 : ¬cond0_0 i) (hc1 : cond0_1 i) (hc2 : cond0_2 i) (k : Fin 8) (a : Fin 1024) (b : Fin 256) :
    out0_C_2 (F := Ideal) c i arg1 harg1 arg2 harg2 arg3 harg3 arg4 harg4 hc0 hc1 hc2 x0 x1 xs0 (ix3 k a b)
      = xs0 (ix2 a ⟨256 * k.val + b.val, by omega⟩) + blkdw x0 x1 a ⟨256 * k.val + b.val, by omega⟩ := by
  unfold out0_C_2
  rw [View.read_writes_junk_eq_canon]
  unfold kernelRun0_C
  dsimp only
  sl_unfold_words
  simp only [View.readAt_eq_ld, harg1.read_unread, harg2.read_unread, harg4.read_unread, View.ld_unit_zero (S := S1024x1024) hz, View.ld_unit_zero (S := S1024x2048) hz]
  rw [canon_plane, canon_plane, canon_plane, canon_plane, canon_plane, canon_plane, canon_plane, canon_plane]
  split
  · rename_i hk
    pointwise [k0_pay6]
    exact (readCov_cols _ _ _ _ a b ⟨256 * k.val + b.val, by omega⟩ (by dsimp only; omega)).trans (pay3_eq x0 x1 xs0 a _)
  rename_i h7
  split
  · rename_i hk
    pointwise [k0_pay5]
    exact (readCov_cols _ _ _ _ a b ⟨256 * k.val + b.val, by omega⟩ (by dsimp only; omega)).trans (pay3_eq x0 x1 xs0 a _)
  rename_i h6
  split
  · rename_i hk
    pointwise [k0_pay4, k0_pay12]
    exact (readCov_cols _ _ _ _ a b ⟨256 * k.val + b.val, by omega⟩ (by dsimp only; omega)).trans (pay3_eq x0 x1 xs0 a _)
  rename_i h5
  split
  · rename_i hk
    pointwise [k0_pay11]
    exact (readCov_cols _ _ _ _ a b ⟨256 * k.val + b.val, by omega⟩ (by dsimp only; omega)).trans (pay3_eq x0 x1 xs0 a _)
  rename_i h4
  split
  · rename_i hk
    pointwise [k0_pay10]
    exact (readCov_cols _ _ _ _ a b ⟨256 * k.val + b.val, by omega⟩ (by dsimp only; omega)).trans (pay3_eq x0 x1 xs0 a _)
  rename_i h3
  split
  · rename_i hk
    pointwise [k0_pay9]
    exact (readCov_cols _ _ _ _ a b ⟨256 * k.val + b.val, by omega⟩ (by dsimp only; omega)).trans (pay3_eq x0 x1 xs0 a _)
  rename_i h2
  split
  · rename_i hk
    pointwise [k0_pay8]
    exact (readCov_cols _ _ _ _ a b ⟨256 * k.val + b.val, by omega⟩ (by dsimp only; omega)).trans (pay3_eq x0 x1 xs0 a _)
  rename_i h1
  split
  · rename_i hk
    pointwise [k0_pay7]
    exact (readCov_cols _ _ _ _ a b ⟨256 * k.val + b.val, by omega⟩ (by dsimp only; omega)).trans (pay3_eq x0 x1 xs0 a _)
  rename_i h0
  exfalso
  omega

end

end Cert.Kernel5Ideal.DwBody
end
-- ==== Proof.Dw5Value.lean ====
/-
  The gradient of layer 1's input product's weight, in eight planes of columns: the kernel's result and the reference's are the same function of the arguments.
-/
module

public import proofs.«01_k».proof.Proof.Dw5Body
public import proofs.«01_k».proof.Proof.NormValue
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

noncomputable section

namespace Cert.Kernel5Ideal.DwBlocks

open Cert.Kernel5Ideal Cert.Kernel5Ideal.Gen Cert.Kernel5Ideal.DwBody Idealize.ShloMosaic Idealize.ShloMosaic.TcCoe Cert.Dw

/-- Plane `k` of the product: its columns `256 k … 256 k + 255`. -/
def planeAt (h : FVec Ideal S8192x1024 .bf16) (d : FVec Ideal S8192x2048 .bf16) (k : Fin 8) (i : Fin 1024) (j : Fin 256) : EReal :=
  dwAt h d i ⟨256 * k.val + j.val, by omega⟩

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0, 0] := (by decide +kernel : ∀ t : Fin grid0.N, _)

theorem lt8 (t : Fin cfg0.N) : t.val < 8 := lt_of_lt_of_eq t.isLt N_0

theorem blk0 (c : Dev nD) (t : Fin cfg0.N) (r k : Fin 1024) :
    iblk m c 0 t (ix2 r k) = m (c.tc.loc main_arg0) (ix2 (tok8 t.val r.val (lt8 t) r.isLt) k) := by
  blk_simp [iblk]
  entry_read
  refine congrArg _ ?_
  unfold tok8
  blk_ext [index0]

theorem blk1 (c : Dev nD) (t : Fin cfg0.N) (r : Fin 1024) (k : Fin 2048) :
    iblk m c 1 t (ix2 r k) = m (c.tc.loc main_arg1) (ix2 (tok8 t.val r.val (lt8 t) r.isLt) k) := by
  blk_simp [iblk]
  entry_read
  refine congrArg _ ?_
  unfold tok8
  blk_ext [index1]

/-- The accumulator after the last point: all 8 points' shares. -/
theorem outs_acc (c : Dev nD) (t : Fin cfg0.N) (hr : t.val + 1 = cfg0.N) (a : Fin 1024) (b : Fin 2048) :
    (outsAt0 m c t.val t.isLt).2 (ix2 a b) = ∑ p : Fin cfg0.N, blkdw (iblk m c 0 p) (iblk m c 1 p) a b := by
  refine (Pipeline.eq_sum_fin_of_reset_step_apply_last
    (fun n h (i : Fin 1024 × Fin 2048) => (outsAt0 m c n h).2 (ix2 i.1 i.2)) 8 (fun _ => 0)
    (fun p i => blkdw (iblk m c 0 p) (iblk m c 1 p) i.1 i.2)
    (fun p h1 i => ?_) (fun p h1 i => ?_) (le_of_eq N_0) t hr (a, b)).trans (zero_add _)
  · rw [zero_add, outsAt0_A m c p h1 (by have := lt8 p; omega) (by have := lt8 p; omega)]; dsimp only; exact acc_A ..
  · by_cases h2 : p.val % 8 = 7
    · rw [outsAt0_C m c p h1 (by omega) h2]; dsimp only; exact acc_C ..
    · rw [outsAt0_B m c p h1 (by omega) h2]; dsimp only; exact acc_B ..

/-- The last point writes the accumulator back, 256 columns to a plane. -/
theorem outs_out (c : Dev nD) (t : Fin cfg0.N) (hr : t.val % 8 = 7) (k : Fin 8) (a : Fin 1024) (b : Fin 256) :
    (outsAt0 m c t.val t.isLt).1 (ix3 k a b) = (outsAt0 m c t.val t.isLt).2 (ix2 a ⟨256 * k.val + b.val, by omega⟩) := by
  rw [outsAt0_C m c t (by omega) (by omega) hr]
  dsimp only
  exact (out_C ..).trans (acc_C ..).symm

/-- The result array. -/
abbrev res (c : Dev nD) : Buf (Elt Ideal) ((c.tc : Thread nD τ).loc main_v0) := fun y : S8x1024x256.Idx =>
  planeAt (m (c.tc.loc main_arg0)) (m (c.tc.loc main_arg1)) (y 0) (y 1) (y 2)

theorem final (c : Dev nD) : (dats m 0 c).arrAt 2 cfg0.N = res m c := by
  refine (dats m 0 c).arrAt_eq_of_covers 2 _ (by decide +kernel) fun t hf y => ?_
  blk_simp
  rw [after0_2]
  have hr : t.val % 8 = 7 := (flush0_2 t).mp hf
  obtain ⟨k, a, b, rfl⟩ : ∃ (k : Fin 8) (a : Fin 1024) (b : Fin 256), y = ix3 k a b := ⟨y 0, y 1, y 2, Cert.NormValue.eta3 y⟩
  refine (outs_out m c t hr k a b).trans ((outs_acc m c t (by have := lt8 t; have : cfg0.N = 8 := N_0; omega) a _).trans ?_)
  have e : (win0_2.blk t).view.emb (ix3 k a b) = ix3 k a b := by blk_ext [index2]
  rw [e]
  exact sum_blkdw N_0 (m (c.tc.loc main_arg0)) (m (c.tc.loc main_arg1)) _ _ (fun p r i => blk0 m c p r i) (fun p r j => blk1 m c p r j) a _

end Cert.Kernel5Ideal.DwBlocks

namespace Cert.Dw5Value

open Cert.NormValue Idealize.ShloMosaic Idealize.SL.Sem Cert.Dw

open Cert.Reference5Ideal Cert.Reference5Ideal.Read in
theorem ref_apply (x0 : FVec Ideal S8192x1024 .bf16) (x1 : FVec Ideal S8192x2048 .bf16) (k : Fin 8) (i : Fin 1024) (j : Fin 256) :
    val_main_v8 (F := Ideal) x0 x1 (ix3 k i j) = Cert.Kernel5Ideal.DwBlocks.planeAt x0 x1 k i j := by
  pointwise [val_main_v8, val_main_v7, val_main_v6, val_main_v5, val_main_v4, val_main_v3, val_main_v1]
  unfold Cert.Kernel5Ideal.DwBlocks.planeAt dwAt
  refine Finset.sum_congr rfl fun t _ => (mul_comm _ _).trans ?_
  exact congrArg (fun z => x0 (ix2 t i) * x1 (ix2 t z)) (Fin.ext (by dsimp only; omega))

/-- On equal arguments the kernel and the reference end with equal results. -/
theorem agree : Cert.algebraic_Kernel5Ideal_Reference5Ideal (hKernel5Ideal := Cert.Kernel5Ideal.Gen.facts) (hReference5Ideal := Cert.Reference5Ideal.Gen.facts) := by
  intro m g m' g' _ hm
  refine ⟨Cert.Kernel5Ideal.DwBlocks.res m,
    (θ_run _ _ _).mono (fun r h c => ?_) (Cert.Kernel5Ideal.Value.run_blocks m g),
    (θ_run _ _ _).mono (fun r h c => ?_) (Cert.Reference5Ideal.Value.run m' g')⟩
  · obtain ⟨h0, h1⟩ := h c
    exact ⟨h0.trans (Cert.Kernel5Ideal.DwBlocks.final m c), h1⟩
  · obtain ⟨h0, h1⟩ := h c
    obtain ⟨e0, e1⟩ := hm c
    refine ⟨h0.trans ((Cert.Reference5Ideal.Read.val_main_v8_eq _ _).trans (funext fun y => ?_)), h1⟩
    refine (congrArg _ (eta3 y)).trans ((ref_apply _ _ (y 0) (y 1) (y 2)).trans ?_)
    rw [e0, e1]

end Cert.Dw5Value

end
-- ==== Proof.Dw6Body.lean ====
/-
  One grid point of the gradient of layer 0's input product's weight at an element: each accumulator holds what it held, or nothing at the
  first point, with the block's share added; the rows of the forget gates are accumulated in the result's own block; the last point
  writes the accumulators back.
-/
module

public import proofs.«01_k».proof.Proof.Gen.Kernel6Ideal.Value
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import proofs.«01_k».proof.Proof.DwSpec
public import Idealize.ShloMosaic.Lib.WritesUnit
public import Idealize.ShloMosaic.Lib.ValueIdx

@[expose] public section

noncomputable section

namespace Cert.Kernel6Ideal.DwBody

open Cert.Kernel6Ideal Cert.Kernel6Ideal.Gen Idealize.ShloMosaic Idealize.ShloMosaic.TcCoe Cert.Dw

theorem hz : (![0, 0] : Fin 2 → Nat) = fun _ => 0 := funext fun a => by fin_cases a <;> rfl

/-- A block's rows, read as columns. -/
def cols {q n : Nat} (x : (⟨2, ![q, n]⟩ : Shape).Idx → EReal) : (⟨2, ![n, q]⟩ : Shape).Idx → EReal := fun z => x (ix2 (z 1) (z 0))

theorem rows_eq (x0 : Vec Ideal S1024x1024 .bf16) (x7 v : Vec Ideal S8x1024 .f32) (a : Fin 8) (b : Fin 1024) :
    k0_pay10 (F := Ideal) v x7 x0 (ix2 a b) = v (ix2 a b) + blkdw x0 (cols x7) b a := by
  pointwise [k0_pay10]
  refine congrArg (_ + ·) (Finset.sum_congr rfl fun r _ => ?_)
  exact mul_comm _ _

theorem nothing_eq (a : Fin 8) (b : Fin 1024) : k0_pay9 (F := Ideal) (ix2 a b) = 0 := by pointwise [k0_pay9]

section
variable (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x256 .bf16) (harg7 : arg7.IsWhole) (arg8 : Memref sig .tc .vmem S8x1024 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S8x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x1024 .f32) (harg20 : arg20.IsWhole) (arg21 : Memref sig .tc .vmem S1024x256 .f32) (harg21 : arg21.IsWhole)
  (x0 : Vec Ideal S1024x1024 .bf16) (x1 : Vec Ideal S1024x512 .bf16) (x2 : Vec Ideal S1024x512 .bf16) (x3 : Vec Ideal S1024x512 .bf16) (x4 : Vec Ideal S1024x512 .bf16) (x5 : Vec Ideal S1024x1024 .bf16) (x6 : Vec Ideal S1024x256 .bf16) (x7 : Vec Ideal S8x1024 .f32) (xo14 : Vec Ideal S8x1024 .f32) (xs0 : Vec Ideal S1024x512 .f32) (xs1 : Vec Ideal S1024x512 .f32) (xs2 : Vec Ideal S1024x512 .f32) (xs3 : Vec Ideal S1024x512 .f32) (xs4 : Vec Ideal S1024x1024 .f32) (xs5 : Vec Ideal S1024x256 .f32)

/-- Case A: the accumulators and the rows. -/
theorem point_A (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : ¬cond0_13 i) :
    (∀ (a : Fin 1024) (b : Fin 512), sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 x1 a b)
    ∧ (∀ (a : Fin 1024) (b : Fin 512), sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 x2 a b)
    ∧ (∀ (a : Fin 1024) (b : Fin 512), sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 x3 a b)
    ∧ (∀ (a : Fin 1024) (b : Fin 512), sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 x4 a b)
    ∧ (∀ (a : Fin 1024) (b : Fin 1024), sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 x5 a b)
    ∧ (∀ (a : Fin 1024) (b : Fin 256), sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 x6 a b)
    ∧ (∀ (a : Fin 8) (b : Fin 1024), out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 (ix2 a b) = blkdw x0 (cols x7) b a) := by
  refine ⟨fun a b => ?_, fun a b => ?_, fun a b => ?_, fun a b => ?_, fun a b => ?_, fun a b => ?_, fun a b => ?_⟩
  on_goal 1 => unfold sout0_A_0
  on_goal 2 => unfold sout0_A_1
  on_goal 3 => unfold sout0_A_2
  on_goal 4 => unfold sout0_A_3
  on_goal 5 => unfold sout0_A_4
  on_goal 6 => unfold sout0_A_5
  on_goal 7 => unfold out0_A_14
  all_goals
    rw [View.read_writes_junk_eq_canon]
    unfold kernelRun0_A
    dsimp only
    sl_unfold_words
    rw [View.canon_cons_unit_zero hz]
    try rw [View.readCov_unit_zero _ hz]
    simp only [View.readAt_eq_ld, harg1.read_unread, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread,
      View.ld_unit_zero (S := S1024x1024) hz, View.ld_unit_zero (S := S1024x512) hz, View.ld_unit_zero (S := S1024x256) hz, View.ld_unit_zero (S := S8x1024) hz]
  on_goal 7 => exact (rows_eq ..).trans ((congrArg (· + _) (nothing_eq a b)).trans (zero_add _))
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    rfl

/-- Case B: the accumulators and the rows. -/
theorem point_B (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) :
    (∀ (a : Fin 1024) (b : Fin 512), sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs0 (ix2 a b) + blkdw x0 x1 a b)
    ∧ (∀ (a : Fin 1024) (b : Fin 512), sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs1 (ix2 a b) + blkdw x0 x2 a b)
    ∧ (∀ (a : Fin 1024) (b : Fin 512), sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs2 (ix2 a b) + blkdw x0 x3 a b)
    ∧ (∀ (a : Fin 1024) (b : Fin 512), sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs3 (ix2 a b) + blkdw x0 x4 a b)
    ∧ (∀ (a : Fin 1024) (b : Fin 1024), sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs4 (ix2 a b) + blkdw x0 x5 a b)
    ∧ (∀ (a : Fin 1024) (b : Fin 256), sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs5 (ix2 a b) + blkdw x0 x6 a b)
    ∧ (∀ (a : Fin 8) (b : Fin 1024), out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xo14 (ix2 a b) + blkdw x0 (cols x7) b a) := by
  refine ⟨fun a b => ?_, fun a b => ?_, fun a b => ?_, fun a b => ?_, fun a b => ?_, fun a b => ?_, fun a b => ?_⟩
  on_goal 1 => unfold sout0_B_0
  on_goal 2 => unfold sout0_B_1
  on_goal 3 => unfold sout0_B_2
  on_goal 4 => unfold sout0_B_3
  on_goal 5 => unfold sout0_B_4
  on_goal 6 => unfold sout0_B_5
  on_goal 7 => unfold out0_B_14
  all_goals
    rw [View.read_writes_junk_eq_canon]
    unfold kernelRun0_B
    dsimp only
    sl_unfold_words
    rw [View.canon_cons_unit_zero hz]
    try rw [View.readCov_unit_zero _ hz]
    simp only [View.readAt_eq_ld, harg1.read_unread, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread,
      View.ld_unit_zero (S := S1024x1024) hz, View.ld_unit_zero (S := S1024x512) hz, View.ld_unit_zero (S := S1024x256) hz, View.ld_unit_zero (S := S8x1024) hz]
  on_goal 7 => exact rows_eq ..
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    rfl

/-- Case C: the accumulators and the rows. -/
theorem point_C (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : cond0_13 i) :
    (∀ (a : Fin 1024) (b : Fin 512), sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs0 (ix2 a b) + blkdw x0 x1 a b)
    ∧ (∀ (a : Fin 1024) (b : Fin 512), sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs1 (ix2 a b) + blkdw x0 x2 a b)
    ∧ (∀ (a : Fin 1024) (b : Fin 512), sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs2 (ix2 a b) + blkdw x0 x3 a b)
    ∧ (∀ (a : Fin 1024) (b : Fin 512), sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs3 (ix2 a b) + blkdw x0 x4 a b)
    ∧ (∀ (a : Fin 1024) (b : Fin 1024), sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs4 (ix2 a b) + blkdw x0 x5 a b)
    ∧ (∀ (a : Fin 1024) (b : Fin 256), sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs5 (ix2 a b) + blkdw x0 x6 a b)
    ∧ (∀ (a : Fin 8) (b : Fin 1024), out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xo14 (ix2 a b) + blkdw x0 (cols x7) b a) := by
  refine ⟨fun a b => ?_, fun a b => ?_, fun a b => ?_, fun a b => ?_, fun a b => ?_, fun a b => ?_, fun a b => ?_⟩
  on_goal 1 => unfold sout0_C_0
  on_goal 2 => unfold sout0_C_1
  on_goal 3 => unfold sout0_C_2
  on_goal 4 => unfold sout0_C_3
  on_goal 5 => unfold sout0_C_4
  on_goal 6 => unfold sout0_C_5
  on_goal 7 => unfold out0_C_14
  all_goals
    rw [View.read_writes_junk_eq_canon]
    unfold kernelRun0_C
    dsimp only
    sl_unfold_words
    rw [View.canon_cons_unit_zero hz]
    try rw [View.readCov_unit_zero _ hz]
    simp only [View.readAt_eq_ld, harg1.read_unread, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread,
      View.ld_unit_zero (S := S1024x1024) hz, View.ld_unit_zero (S := S1024x512) hz, View.ld_unit_zero (S := S1024x256) hz, View.ld_unit_zero (S := S8x1024) hz]
  on_goal 7 => exact rows_eq ..
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    rfl

/-- Case C: the blocks written back. -/
theorem back_C (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : cond0_13 i) :
    (∀ (a : Fin 1024) (b : Fin 512), out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs0 (ix2 a b) + blkdw x0 x1 a b)
    ∧ (∀ (a : Fin 1024) (b : Fin 512), out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs1 (ix2 a b) + blkdw x0 x2 a b)
    ∧ (∀ (a : Fin 1024) (b : Fin 512), out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs2 (ix2 a b) + blkdw x0 x3 a b)
    ∧ (∀ (a : Fin 1024) (b : Fin 512), out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs3 (ix2 a b) + blkdw x0 x4 a b)
    ∧ (∀ (a : Fin 1024) (b : Fin 1024), out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs4 (ix2 a b) + blkdw x0 x5 a b)
    ∧ (∀ (a : Fin 1024) (b : Fin 256), out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 hc4 hc5 hc6 hc7 hc8 hc9 hc10 hc11 hc12 hc13 x0 x1 x2 x3 x4 x5 x6 x7 xo14 xs0 xs1 xs2 xs3 xs4 xs5 (ix2 a b) = xs5 (ix2 a b) + blkdw x0 x6 a b) := by
  refine ⟨fun a b => ?_, fun a b => ?_, fun a b => ?_, fun a b => ?_, fun a b => ?_, fun a b => ?_⟩
  on_goal 1 => unfold out0_C_8
  on_goal 2 => unfold out0_C_9
  on_goal 3 => unfold out0_C_10
  on_goal 4 => unfold out0_C_11
  on_goal 5 => unfold out0_C_12
  on_goal 6 => unfold out0_C_13
  all_goals
    rw [View.read_writes_junk_eq_canon]
    unfold kernelRun0_C
    dsimp only
    sl_unfold_words
    rw [View.canon_cons_unit_zero hz]
    try rw [View.readCov_unit_zero _ hz]
    simp only [View.readAt_eq_ld, harg1.read_unread, harg2.read_unread, harg3.read_unread, harg4.read_unread, harg5.read_unread, harg6.read_unread, harg7.read_unread, harg8.read_unread, harg15.read_unread, harg16.read_unread, harg17.read_unread, harg18.read_unread, harg19.read_unread, harg20.read_unread, harg21.read_unread,
      View.ld_unit_zero (S := S1024x1024) hz, View.ld_unit_zero (S := S1024x512) hz, View.ld_unit_zero (S := S1024x256) hz, View.ld_unit_zero (S := S8x1024) hz]
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    rfl

end

end Cert.Kernel6Ideal.DwBody
end
-- ==== Proof.Dw6Value.lean ====
/-
  The gradient of layer 0's input product's weight, by the columns' uses: the kernel's results and the reference's are the same functions of
  the arguments.
-/
module

public import proofs.«01_k».proof.Proof.Dw6Body
public import proofs.«01_k».proof.Proof.Norm0Ref
public import proofs.«01_k».proof.Proof.NormValue
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

noncomputable section

namespace Cert.Kernel6Ideal.DwBlocks

open Cert.Kernel6Ideal Cert.Kernel6Ideal.Gen Cert.Kernel6Ideal.DwBody Idealize.ShloMosaic Idealize.ShloMosaic.TcCoe Cert.Dw

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, t.val] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)

theorem lt8 (t : Fin cfg0.N) : t.val < 8 := lt_of_lt_of_eq t.isLt N_0

theorem blk0 (c : Dev nD) (t : Fin cfg0.N) (r : Fin 1024) (k : Fin 1024) :
    iblk m c 0 t (ix2 r k) = m (c.tc.loc main_arg0) (ix2 (tok8 t.val r.val (lt8 t) r.isLt) k) := by
  blk_simp [iblk]
  entry_read
  refine congrArg _ ?_
  unfold tok8
  blk_ext [index0]

theorem blk1 (c : Dev nD) (t : Fin cfg0.N) (r : Fin 1024) (k : Fin 512) :
    iblk m c 1 t (ix2 r k) = m (c.tc.loc main_arg3) (ix2 (tok8 t.val r.val (lt8 t) r.isLt) k) := by
  blk_simp [iblk]
  entry_read
  refine congrArg _ ?_
  unfold tok8
  blk_ext [index1]

theorem blk2 (c : Dev nD) (t : Fin cfg0.N) (r : Fin 1024) (k : Fin 512) :
    iblk m c 2 t (ix2 r k) = m (c.tc.loc main_arg4) (ix2 (tok8 t.val r.val (lt8 t) r.isLt) k) := by
  blk_simp [iblk]
  entry_read
  refine congrArg _ ?_
  unfold tok8
  blk_ext [index2]

theorem blk3 (c : Dev nD) (t : Fin cfg0.N) (r : Fin 1024) (k : Fin 512) :
    iblk m c 3 t (ix2 r k) = m (c.tc.loc main_arg5) (ix2 (tok8 t.val r.val (lt8 t) r.isLt) k) := by
  blk_simp [iblk]
  entry_read
  refine congrArg _ ?_
  unfold tok8
  blk_ext [index3]

theorem blk4 (c : Dev nD) (t : Fin cfg0.N) (r : Fin 1024) (k : Fin 512) :
    iblk m c 4 t (ix2 r k) = m (c.tc.loc main_arg1) (ix2 (tok8 t.val r.val (lt8 t) r.isLt) k) := by
  blk_simp [iblk]
  entry_read
  refine congrArg _ ?_
  unfold tok8
  blk_ext [index4]

theorem blk5 (c : Dev nD) (t : Fin cfg0.N) (r : Fin 1024) (k : Fin 1024) :
    iblk m c 5 t (ix2 r k) = m (c.tc.loc main_arg7) (ix2 (tok8 t.val r.val (lt8 t) r.isLt) k) := by
  blk_simp [iblk]
  entry_read
  refine congrArg _ ?_
  unfold tok8
  blk_ext [index5]

theorem blk6 (c : Dev nD) (t : Fin cfg0.N) (r : Fin 1024) (k : Fin 256) :
    iblk m c 6 t (ix2 r k) = m (c.tc.loc main_arg2) (ix2 (tok8 t.val r.val (lt8 t) r.isLt) k) := by
  blk_simp [iblk]
  entry_read
  refine congrArg _ ?_
  unfold tok8
  blk_ext [index6]

theorem blk7 (c : Dev nD) (t : Fin cfg0.N) (r : Fin 1024) (k : Fin 8) :
    iblk m c 7 t (ix2 k r) = m (c.tc.loc main_arg6) (ix2 k (tok8 t.val r.val (lt8 t) r.isLt)) := by
  blk_simp [iblk]
  entry_read
  refine congrArg _ ?_
  unfold tok8
  blk_ext [index7]

section
variable (c : Dev nD) (t : Fin cfg0.N)

/-- The first point starts every accumulator with its share. -/
theorem start (h0 : t.val % 8 = 0) :
    (∀ (a : Fin 1024) (b : Fin 512), (outsAt0 m c t.val t.isLt).2.2.2.2.2.2.2.1 (ix2 a b) = blkdw (iblk m c 0 t) (iblk m c 1 t) a b)
    ∧ (∀ (a : Fin 1024) (b : Fin 512), (outsAt0 m c t.val t.isLt).2.2.2.2.2.2.2.2.1 (ix2 a b) = blkdw (iblk m c 0 t) (iblk m c 2 t) a b)
    ∧ (∀ (a : Fin 1024) (b : Fin 512), (outsAt0 m c t.val t.isLt).2.2.2.2.2.2.2.2.2.1 (ix2 a b) = blkdw (iblk m c 0 t) (iblk m c 3 t) a b)
    ∧ (∀ (a : Fin 1024) (b : Fin 512), (outsAt0 m c t.val t.isLt).2.2.2.2.2.2.2.2.2.2.1 (ix2 a b) = blkdw (iblk m c 0 t) (iblk m c 4 t) a b)
    ∧ (∀ (a : Fin 1024) (b : Fin 1024), (outsAt0 m c t.val t.isLt).2.2.2.2.2.2.2.2.2.2.2.1 (ix2 a b) = blkdw (iblk m c 0 t) (iblk m c 5 t) a b)
    ∧ (∀ (a : Fin 1024) (b : Fin 256), (outsAt0 m c t.val t.isLt).2.2.2.2.2.2.2.2.2.2.2.2 (ix2 a b) = blkdw (iblk m c 0 t) (iblk m c 6 t) a b)
    ∧ (∀ (a : Fin 8) (b : Fin 1024), (outsAt0 m c t.val t.isLt).2.2.2.2.2.2.1 (ix2 a b) = blkdw (iblk m c 0 t) (cols (iblk m c 7 t)) b a) := by
  have h1 : ¬1 ≤ t.val := by have := lt8 t; omega
  have h7 : ¬t.val % 8 = 7 := by omega
  refine ⟨fun a b => ?_, fun a b => ?_, fun a b => ?_, fun a b => ?_, fun a b => ?_, fun a b => ?_, fun a b => ?_⟩ <;>
    (rw [outsAt0_A m c t h0 h0 h1 h0 h1 h0 h1 h0 h1 h0 h1 h0 h1 h7]; dsimp only)
  · exact (point_A ..).1 a b
  · exact (point_A ..).2.1 a b
  · exact (point_A ..).2.2.1 a b
  · exact (point_A ..).2.2.2.1 a b
  · exact (point_A ..).2.2.2.2.1 a b
  · exact (point_A ..).2.2.2.2.2.1 a b
  · exact (point_A ..).2.2.2.2.2.2 a b

/-- Every other point adds its share. -/
theorem step (h0 : ¬t.val % 8 = 0) :
    (∀ (a : Fin 1024) (b : Fin 512), (outsAt0 m c t.val t.isLt).2.2.2.2.2.2.2.1 (ix2 a b) = (outsAt0 m c (t.val - 1) (Nat.lt_of_le_of_lt (Nat.sub_le _ _) t.isLt)).2.2.2.2.2.2.2.1 (ix2 a b) + blkdw (iblk m c 0 t) (iblk m c 1 t) a b)
    ∧ (∀ (a : Fin 1024) (b : Fin 512), (outsAt0 m c t.val t.isLt).2.2.2.2.2.2.2.2.1 (ix2 a b) = (outsAt0 m c (t.val - 1) (Nat.lt_of_le_of_lt (Nat.sub_le _ _) t.isLt)).2.2.2.2.2.2.2.2.1 (ix2 a b) + blkdw (iblk m c 0 t) (iblk m c 2 t) a b)
    ∧ (∀ (a : Fin 1024) (b : Fin 512), (outsAt0 m c t.val t.isLt).2.2.2.2.2.2.2.2.2.1 (ix2 a b) = (outsAt0 m c (t.val - 1) (Nat.lt_of_le_of_lt (Nat.sub_le _ _) t.isLt)).2.2.2.2.2.2.2.2.2.1 (ix2 a b) + blkdw (iblk m c 0 t) (iblk m c 3 t) a b)
    ∧ (∀ (a : Fin 1024) (b : Fin 512), (outsAt0 m c t.val t.isLt).2.2.2.2.2.2.2.2.2.2.1 (ix2 a b) = (outsAt0 m c (t.val - 1) (Nat.lt_of_le_of_lt (Nat.sub_le _ _) t.isLt)).2.2.2.2.2.2.2.2.2.2.1 (ix2 a b) + blkdw (iblk m c 0 t) (iblk m c 4 t) a b)
    ∧ (∀ (a : Fin 1024) (b : Fin 1024), (outsAt0 m c t.val t.isLt).2.2.2.2.2.2.2.2.2.2.2.1 (ix2 a b) = (outsAt0 m c (t.val - 1) (Nat.lt_of_le_of_lt (Nat.sub_le _ _) t.isLt)).2.2.2.2.2.2.2.2.2.2.2.1 (ix2 a b) + blkdw (iblk m c 0 t) (iblk m c 5 t) a b)
    ∧ (∀ (a : Fin 1024) (b : Fin 256), (outsAt0 m c t.val t.isLt).2.2.2.2.2.2.2.2.2.2.2.2 (ix2 a b) = (outsAt0 m c (t.val - 1) (Nat.lt_of_le_of_lt (Nat.sub_le _ _) t.isLt)).2.2.2.2.2.2.2.2.2.2.2.2 (ix2 a b) + blkdw (iblk m c 0 t) (iblk m c 6 t) a b)
    ∧ (∀ (a : Fin 8) (b : Fin 1024), (outsAt0 m c t.val t.isLt).2.2.2.2.2.2.1 (ix2 a b) = (outsAt0 m c (t.val - 1) (Nat.lt_of_le_of_lt (Nat.sub_le _ _) t.isLt)).2.2.2.2.2.2.1 (ix2 a b) + blkdw (iblk m c 0 t) (cols (iblk m c 7 t)) b a) := by
  have h1 : 1 ≤ t.val := by omega
  by_cases h7 : t.val % 8 = 7
  · refine ⟨fun a b => ?_, fun a b => ?_, fun a b => ?_, fun a b => ?_, fun a b => ?_, fun a b => ?_, fun a b => ?_⟩ <;>
      (rw [outsAt0_C m c t h0 h0 h1 h0 h1 h0 h1 h0 h1 h0 h1 h0 h1 h7]; dsimp only)
    · exact (point_C ..).1 a b
    · exact (point_C ..).2.1 a b
    · exact (point_C ..).2.2.1 a b
    · exact (point_C ..).2.2.2.1 a b
    · exact (point_C ..).2.2.2.2.1 a b
    · exact (point_C ..).2.2.2.2.2.1 a b
    · exact (point_C ..).2.2.2.2.2.2 a b
  · refine ⟨fun a b => ?_, fun a b => ?_, fun a b => ?_, fun a b => ?_, fun a b => ?_, fun a b => ?_, fun a b => ?_⟩ <;>
      (rw [outsAt0_B m c t h0 h0 h1 h0 h1 h0 h1 h0 h1 h0 h1 h0 h1 h7]; dsimp only)
    · exact (point_B ..).1 a b
    · exact (point_B ..).2.1 a b
    · exact (point_B ..).2.2.1 a b
    · exact (point_B ..).2.2.2.1 a b
    · exact (point_B ..).2.2.2.2.1 a b
    · exact (point_B ..).2.2.2.2.2.1 a b
    · exact (point_B ..).2.2.2.2.2.2 a b

/-- The last point writes the accumulators back. -/
theorem back (h7 : t.val % 8 = 7) :
    (∀ (a : Fin 1024) (b : Fin 512), (outsAt0 m c t.val t.isLt).1 (ix2 a b) = (outsAt0 m c t.val t.isLt).2.2.2.2.2.2.2.1 (ix2 a b))
    ∧ (∀ (a : Fin 1024) (b : Fin 512), (outsAt0 m c t.val t.isLt).2.1 (ix2 a b) = (outsAt0 m c t.val t.isLt).2.2.2.2.2.2.2.2.1 (ix2 a b))
    ∧ (∀ (a : Fin 1024) (b : Fin 512), (outsAt0 m c t.val t.isLt).2.2.1 (ix2 a b) = (outsAt0 m c t.val t.isLt).2.2.2.2.2.2.2.2.2.1 (ix2 a b))
    ∧ (∀ (a : Fin 1024) (b : Fin 512), (outsAt0 m c t.val t.isLt).2.2.2.1 (ix2 a b) = (outsAt0 m c t.val t.isLt).2.2.2.2.2.2.2.2.2.2.1 (ix2 a b))
    ∧ (∀ (a : Fin 1024) (b : Fin 1024), (outsAt0 m c t.val t.isLt).2.2.2.2.1 (ix2 a b) = (outsAt0 m c t.val t.isLt).2.2.2.2.2.2.2.2.2.2.2.1 (ix2 a b))
    ∧ (∀ (a : Fin 1024) (b : Fin 256), (outsAt0 m c t.val t.isLt).2.2.2.2.2.1 (ix2 a b) = (outsAt0 m c t.val t.isLt).2.2.2.2.2.2.2.2.2.2.2.2 (ix2 a b)) := by
  have h0 : ¬t.val % 8 = 0 := by omega
  have h1 : 1 ≤ t.val := by omega
  refine ⟨fun a b => ?_, fun a b => ?_, fun a b => ?_, fun a b => ?_, fun a b => ?_, fun a b => ?_⟩ <;>
    (rw [outsAt0_C m c t h0 h0 h1 h0 h1 h0 h1 h0 h1 h0 h1 h0 h1 h7]; dsimp only)
  · exact ((back_C ..).1 a b).trans ((point_C ..).1 a b).symm
  · exact ((back_C ..).2.1 a b).trans ((point_C ..).2.1 a b).symm
  · exact ((back_C ..).2.2.1 a b).trans ((point_C ..).2.2.1 a b).symm
  · exact ((back_C ..).2.2.2.1 a b).trans ((point_C ..).2.2.2.1 a b).symm
  · exact ((back_C ..).2.2.2.2.1 a b).trans ((point_C ..).2.2.2.2.1 a b).symm
  · exact ((back_C ..).2.2.2.2.2 a b).trans ((point_C ..).2.2.2.2.2.1 a b).symm

end

theorem total0 (c : Dev nD) (t : Fin cfg0.N) (hr : t.val + 1 = cfg0.N) (a : Fin 1024) (b : Fin 512) :
    (outsAt0 m c t.val t.isLt).2.2.2.2.2.2.2.1 (ix2 a b) = ∑ p : Fin cfg0.N, blkdw (iblk m c 0 p) (iblk m c 1 p) a b := by
  refine (Pipeline.eq_sum_fin_of_reset_step_apply_last
    (fun n h (i : Fin 1024 × Fin 512) => (outsAt0 m c n h).2.2.2.2.2.2.2.1 (ix2 i.1 i.2)) 8 (fun _ => 0)
    (fun p i => blkdw (iblk m c 0 p) (iblk m c 1 p) i.1 i.2)
    (fun p h i => ?_) (fun p h i => ?_) (le_of_eq N_0) t hr (a, b)).trans (zero_add _)
  · exact ((start m c p h).1 i.1 i.2).trans (zero_add _).symm
  · exact (step m c p h).1 i.1 i.2

theorem total1 (c : Dev nD) (t : Fin cfg0.N) (hr : t.val + 1 = cfg0.N) (a : Fin 1024) (b : Fin 512) :
    (outsAt0 m c t.val t.isLt).2.2.2.2.2.2.2.2.1 (ix2 a b) = ∑ p : Fin cfg0.N, blkdw (iblk m c 0 p) (iblk m c 2 p) a b := by
  refine (Pipeline.eq_sum_fin_of_reset_step_apply_last
    (fun n h (i : Fin 1024 × Fin 512) => (outsAt0 m c n h).2.2.2.2.2.2.2.2.1 (ix2 i.1 i.2)) 8 (fun _ => 0)
    (fun p i => blkdw (iblk m c 0 p) (iblk m c 2 p) i.1 i.2)
    (fun p h i => ?_) (fun p h i => ?_) (le_of_eq N_0) t hr (a, b)).trans (zero_add _)
  · exact ((start m c p h).2.1 i.1 i.2).trans (zero_add _).symm
  · exact (step m c p h).2.1 i.1 i.2

theorem total2 (c : Dev nD) (t : Fin cfg0.N) (hr : t.val + 1 = cfg0.N) (a : Fin 1024) (b : Fin 512) :
    (outsAt0 m c t.val t.isLt).2.2.2.2.2.2.2.2.2.1 (ix2 a b) = ∑ p : Fin cfg0.N, blkdw (iblk m c 0 p) (iblk m c 3 p) a b := by
  refine (Pipeline.eq_sum_fin_of_reset_step_apply_last
    (fun n h (i : Fin 1024 × Fin 512) => (outsAt0 m c n h).2.2.2.2.2.2.2.2.2.1 (ix2 i.1 i.2)) 8 (fun _ => 0)
    (fun p i => blkdw (iblk m c 0 p) (iblk m c 3 p) i.1 i.2)
    (fun p h i => ?_) (fun p h i => ?_) (le_of_eq N_0) t hr (a, b)).trans (zero_add _)
  · exact ((start m c p h).2.2.1 i.1 i.2).trans (zero_add _).symm
  · exact (step m c p h).2.2.1 i.1 i.2

theorem total3 (c : Dev nD) (t : Fin cfg0.N) (hr : t.val + 1 = cfg0.N) (a : Fin 1024) (b : Fin 512) :
    (outsAt0 m c t.val t.isLt).2.2.2.2.2.2.2.2.2.2.1 (ix2 a b) = ∑ p : Fin cfg0.N, blkdw (iblk m c 0 p) (iblk m c 4 p) a b := by
  refine (Pipeline.eq_sum_fin_of_reset_step_apply_last
    (fun n h (i : Fin 1024 × Fin 512) => (outsAt0 m c n h).2.2.2.2.2.2.2.2.2.2.1 (ix2 i.1 i.2)) 8 (fun _ => 0)
    (fun p i => blkdw (iblk m c 0 p) (iblk m c 4 p) i.1 i.2)
    (fun p h i => ?_) (fun p h i => ?_) (le_of_eq N_0) t hr (a, b)).trans (zero_add _)
  · exact ((start m c p h).2.2.2.1 i.1 i.2).trans (zero_add _).symm
  · exact (step m c p h).2.2.2.1 i.1 i.2

theorem total4 (c : Dev nD) (t : Fin cfg0.N) (hr : t.val + 1 = cfg0.N) (a : Fin 1024) (b : Fin 1024) :
    (outsAt0 m c t.val t.isLt).2.2.2.2.2.2.2.2.2.2.2.1 (ix2 a b) = ∑ p : Fin cfg0.N, blkdw (iblk m c 0 p) (iblk m c 5 p) a b := by
  refine (Pipeline.eq_sum_fin_of_reset_step_apply_last
    (fun n h (i : Fin 1024 × Fin 1024) => (outsAt0 m c n h).2.2.2.2.2.2.2.2.2.2.2.1 (ix2 i.1 i.2)) 8 (fun _ => 0)
    (fun p i => blkdw (iblk m c 0 p) (iblk m c 5 p) i.1 i.2)
    (fun p h i => ?_) (fun p h i => ?_) (le_of_eq N_0) t hr (a, b)).trans (zero_add _)
  · exact ((start m c p h).2.2.2.2.1 i.1 i.2).trans (zero_add _).symm
  · exact (step m c p h).2.2.2.2.1 i.1 i.2

theorem total5 (c : Dev nD) (t : Fin cfg0.N) (hr : t.val + 1 = cfg0.N) (a : Fin 1024) (b : Fin 256) :
    (outsAt0 m c t.val t.isLt).2.2.2.2.2.2.2.2.2.2.2.2 (ix2 a b) = ∑ p : Fin cfg0.N, blkdw (iblk m c 0 p) (iblk m c 6 p) a b := by
  refine (Pipeline.eq_sum_fin_of_reset_step_apply_last
    (fun n h (i : Fin 1024 × Fin 256) => (outsAt0 m c n h).2.2.2.2.2.2.2.2.2.2.2.2 (ix2 i.1 i.2)) 8 (fun _ => 0)
    (fun p i => blkdw (iblk m c 0 p) (iblk m c 6 p) i.1 i.2)
    (fun p h i => ?_) (fun p h i => ?_) (le_of_eq N_0) t hr (a, b)).trans (zero_add _)
  · exact ((start m c p h).2.2.2.2.2.1 i.1 i.2).trans (zero_add _).symm
  · exact (step m c p h).2.2.2.2.2.1 i.1 i.2

theorem total6 (c : Dev nD) (t : Fin cfg0.N) (hr : t.val + 1 = cfg0.N) (a : Fin 8) (b : Fin 1024) :
    (outsAt0 m c t.val t.isLt).2.2.2.2.2.2.1 (ix2 a b) = ∑ p : Fin cfg0.N, blkdw (iblk m c 0 p) (cols (iblk m c 7 p)) b a := by
  refine (Pipeline.eq_sum_fin_of_reset_step_apply_last
    (fun n h (i : Fin 8 × Fin 1024) => (outsAt0 m c n h).2.2.2.2.2.2.1 (ix2 i.1 i.2)) 8 (fun _ => 0)
    (fun p i => blkdw (iblk m c 0 p) (cols (iblk m c 7 p)) i.2 i.1)
    (fun p h i => ?_) (fun p h i => ?_) (le_of_eq N_0) t hr (a, b)).trans (zero_add _)
  · exact ((start m c p h).2.2.2.2.2.2 i.1 i.2).trans (zero_add _).symm
  · exact (step m c p h).2.2.2.2.2.2 i.1 i.2

/-- Result 0. -/
abbrev res0 (c : Dev nD) : Buf (Elt Ideal) ((c.tc : Thread nD τ).loc main_v0_0) := fun y : S1024x512.Idx =>
  dwAt (m (c.tc.loc main_arg0)) (m (c.tc.loc main_arg3)) (y 0) (y 1)

theorem final0 (c : Dev nD) : (dats m 0 c).arrAt 8 cfg0.N = res0 m c := by
  refine (dats m 0 c).arrAt_eq_of_covers 8 _ (by decide +kernel) fun t hf y => ?_
  blk_simp
  rw [after0_8]
  have hr : t.val % 8 = 7 := (flush0_8 t).mp hf
  obtain ⟨a, b, rfl⟩ : ∃ (a : Fin 1024) (b : Fin 512), y = ix2 a b := ⟨y 0, y 1, Cert.NormValue.eta2 y⟩
  refine ((back m c t hr).1 a b).trans ((total0 m c t (by have := lt8 t; have : cfg0.N = 8 := N_0; omega) a b).trans ?_)
  have e : (win0_8.blk t).view.emb (ix2 a b) = ix2 a b := by blk_ext [index8]
  rw [e]
  exact sum_blkdw N_0 (m (c.tc.loc main_arg0)) (m (c.tc.loc main_arg3)) _ _ (fun p r i => blk0 m c p r i) (fun p r j => blk1 m c p r j) a b

/-- Result 1. -/
abbrev res1 (c : Dev nD) : Buf (Elt Ideal) ((c.tc : Thread nD τ).loc main_v0_1) := fun y : S1024x512.Idx =>
  dwAt (m (c.tc.loc main_arg0)) (m (c.tc.loc main_arg4)) (y 0) (y 1)

theorem final1 (c : Dev nD) : (dats m 0 c).arrAt 9 cfg0.N = res1 m c := by
  refine (dats m 0 c).arrAt_eq_of_covers 9 _ (by decide +kernel) fun t hf y => ?_
  blk_simp
  rw [after0_9]
  have hr : t.val % 8 = 7 := (flush0_9 t).mp hf
  obtain ⟨a, b, rfl⟩ : ∃ (a : Fin 1024) (b : Fin 512), y = ix2 a b := ⟨y 0, y 1, Cert.NormValue.eta2 y⟩
  refine ((back m c t hr).2.1 a b).trans ((total1 m c t (by have := lt8 t; have : cfg0.N = 8 := N_0; omega) a b).trans ?_)
  have e : (win0_9.blk t).view.emb (ix2 a b) = ix2 a b := by blk_ext [index9]
  rw [e]
  exact sum_blkdw N_0 (m (c.tc.loc main_arg0)) (m (c.tc.loc main_arg4)) _ _ (fun p r i => blk0 m c p r i) (fun p r j => blk2 m c p r j) a b

/-- Result 2. -/
abbrev res2 (c : Dev nD) : Buf (Elt Ideal) ((c.tc : Thread nD τ).loc main_v0_2) := fun y : S1024x512.Idx =>
  dwAt (m (c.tc.loc main_arg0)) (m (c.tc.loc main_arg5)) (y 0) (y 1)

theorem final2 (c : Dev nD) : (dats m 0 c).arrAt 10 cfg0.N = res2 m c := by
  refine (dats m 0 c).arrAt_eq_of_covers 10 _ (by decide +kernel) fun t hf y => ?_
  blk_simp
  rw [after0_10]
  have hr : t.val % 8 = 7 := (flush0_10 t).mp hf
  obtain ⟨a, b, rfl⟩ : ∃ (a : Fin 1024) (b : Fin 512), y = ix2 a b := ⟨y 0, y 1, Cert.NormValue.eta2 y⟩
  refine ((back m c t hr).2.2.1 a b).trans ((total2 m c t (by have := lt8 t; have : cfg0.N = 8 := N_0; omega) a b).trans ?_)
  have e : (win0_10.blk t).view.emb (ix2 a b) = ix2 a b := by blk_ext [index10]
  rw [e]
  exact sum_blkdw N_0 (m (c.tc.loc main_arg0)) (m (c.tc.loc main_arg5)) _ _ (fun p r i => blk0 m c p r i) (fun p r j => blk3 m c p r j) a b

/-- Result 3. -/
abbrev res3 (c : Dev nD) : Buf (Elt Ideal) ((c.tc : Thread nD τ).loc main_v0_3) := fun y : S1024x512.Idx =>
  dwAt (m (c.tc.loc main_arg0)) (m (c.tc.loc main_arg1)) (y 0) (y 1)

theorem final3 (c : Dev nD) : (dats m 0 c).arrAt 11 cfg0.N = res3 m c := by
  refine (dats m 0 c).arrAt_eq_of_covers 11 _ (by decide +kernel) fun t hf y => ?_
  blk_simp
  rw [after0_11]
  have hr : t.val % 8 = 7 := (flush0_11 t).mp hf
  obtain ⟨a, b, rfl⟩ : ∃ (a : Fin 1024) (b : Fin 512), y = ix2 a b := ⟨y 0, y 1, Cert.NormValue.eta2 y⟩
  refine ((back m c t hr).2.2.2.1 a b).trans ((total3 m c t (by have := lt8 t; have : cfg0.N = 8 := N_0; omega) a b).trans ?_)
  have e : (win0_11.blk t).view.emb (ix2 a b) = ix2 a b := by blk_ext [index11]
  rw [e]
  exact sum_blkdw N_0 (m (c.tc.loc main_arg0)) (m (c.tc.loc main_arg1)) _ _ (fun p r i => blk0 m c p r i) (fun p r j => blk4 m c p r j) a b

/-- Result 4. -/
abbrev res4 (c : Dev nD) : Buf (Elt Ideal) ((c.tc : Thread nD τ).loc main_v0_4) := fun y : S1024x1024.Idx =>
  dwAt (m (c.tc.loc main_arg0)) (m (c.tc.loc main_arg7)) (y 0) (y 1)

theorem final4 (c : Dev nD) : (dats m 0 c).arrAt 12 cfg0.N = res4 m c := by
  refine (dats m 0 c).arrAt_eq_of_covers 12 _ (by decide +kernel) fun t hf y => ?_
  blk_simp
  rw [after0_12]
  have hr : t.val % 8 = 7 := (flush0_12 t).mp hf
  obtain ⟨a, b, rfl⟩ : ∃ (a : Fin 1024) (b : Fin 1024), y = ix2 a b := ⟨y 0, y 1, Cert.NormValue.eta2 y⟩
  refine ((back m c t hr).2.2.2.2.1 a b).trans ((total4 m c t (by have := lt8 t; have : cfg0.N = 8 := N_0; omega) a b).trans ?_)
  have e : (win0_12.blk t).view.emb (ix2 a b) = ix2 a b := by blk_ext [index12]
  rw [e]
  exact sum_blkdw N_0 (m (c.tc.loc main_arg0)) (m (c.tc.loc main_arg7)) _ _ (fun p r i => blk0 m c p r i) (fun p r j => blk5 m c p r j) a b

/-- Result 5. -/
abbrev res5 (c : Dev nD) : Buf (Elt Ideal) ((c.tc : Thread nD τ).loc main_v0_5) := fun y : S1024x256.Idx =>
  dwAt (m (c.tc.loc main_arg0)) (m (c.tc.loc main_arg2)) (y 0) (y 1)

theorem final5 (c : Dev nD) : (dats m 0 c).arrAt 13 cfg0.N = res5 m c := by
  refine (dats m 0 c).arrAt_eq_of_covers 13 _ (by decide +kernel) fun t hf y => ?_
  blk_simp
  rw [after0_13]
  have hr : t.val % 8 = 7 := (flush0_13 t).mp hf
  obtain ⟨a, b, rfl⟩ : ∃ (a : Fin 1024) (b : Fin 256), y = ix2 a b := ⟨y 0, y 1, Cert.NormValue.eta2 y⟩
  refine ((back m c t hr).2.2.2.2.2 a b).trans ((total5 m c t (by have := lt8 t; have : cfg0.N = 8 := N_0; omega) a b).trans ?_)
  have e : (win0_13.blk t).view.emb (ix2 a b) = ix2 a b := by blk_ext [index13]
  rw [e]
  exact sum_blkdw N_0 (m (c.tc.loc main_arg0)) (m (c.tc.loc main_arg2)) _ _ (fun p r i => blk0 m c p r i) (fun p r j => blk6 m c p r j) a b

/-- The forget gates' rows. -/
abbrev res6 (c : Dev nD) : Buf (Elt Ideal) ((c.tc : Thread nD τ).loc main_v0_6) := fun y : S8x1024.Idx =>
  dwAt (m (c.tc.loc main_arg0)) (cols (q := 8) (n := 8192) (m (c.tc.loc main_arg6))) (y 1) (y 0)

theorem final6 (c : Dev nD) : (dats m 0 c).arrAt 14 cfg0.N = res6 m c := by
  refine (dats m 0 c).arrAt_eq_of_covers 14 _ (by decide +kernel) fun t hf y => ?_
  blk_simp
  rw [after0_14]
  have hr : t.val % 8 = 7 := (flush0_14 t).mp hf
  obtain ⟨a, b, rfl⟩ : ∃ (a : Fin 8) (b : Fin 1024), y = ix2 a b := ⟨y 0, y 1, Cert.NormValue.eta2 y⟩
  refine (total6 m c t (by have := lt8 t; have : cfg0.N = 8 := N_0; omega) a b).trans ?_
  have e : (win0_14.blk t).view.emb (ix2 a b) = ix2 a b := by blk_ext [index14]
  rw [e]
  exact sum_blkdw N_0 (m (c.tc.loc main_arg0)) (cols (q := 8) (n := 8192) (m (c.tc.loc main_arg6))) _ _ (fun p r i => blk0 m c p r i) (fun p r j => blk7 m c p r j) b a

end Cert.Kernel6Ideal.DwBlocks

namespace Cert.Dw6Value

open Cert.NormValue Idealize.ShloMosaic Idealize.SL.Sem Cert.Dw

section
open Cert.Reference6Ideal Cert.Reference6Ideal.Read
variable (x0 : FVec Ideal S8192x1024 .bf16) (x1 : FVec Ideal S8192x512 .bf16) (x2 : FVec Ideal S8192x256 .bf16) (x3 x4 x5 : FVec Ideal S8192x512 .bf16)
  (x6 : FVec Ideal S8x8192 .f32) (x7 : FVec Ideal S8192x1024 .bf16)

/-- The whole weight's gradient at an element. -/
theorem whole (i : Fin 1024) (j : Fin 3336) :
    val_main_v12 (F := Ideal) x0 x1 x2 x3 x4 x5 x6 x7 (ix2 i j) = ∑ t : Fin 8192, x0 (ix2 t i) * val_main_v7 (F := Ideal) x1 x2 x3 x4 x5 x6 x7 (ix2 t j) := by
  pointwise [val_main_v12, val_main_v11, val_main_v9]
  exact Finset.sum_congr rfl fun t _ => mul_comm _ _

/-- The columns side by side are those of layer 0's norm. -/
theorem side : val_main_v7 (F := Ideal) x1 x2 x3 x4 x5 x6 x7 = Cert.Reference2Ideal.Read.val_main_v7 (F := Ideal) x1 x2 x3 x4 x5 x6 x7 := rfl

/-- The whole gradient at a part's column. -/
theorem part {n : Nat} (d : (⟨2, ![8192, n]⟩ : Shape).Idx → EReal) (i : Fin 1024) (j : Fin n) (z : Fin 3336)
    (h : ∀ t, Cert.Reference2Ideal.Read.val_main_v7 (F := Ideal) x1 x2 x3 x4 x5 x6 x7 (ix2 t z) = d (ix2 t j)) :
    val_main_v12 (F := Ideal) x0 x1 x2 x3 x4 x5 x6 x7 (ix2 i z) = dwAt x0 d i j := by
  rw [whole, side]
  exact Finset.sum_congr rfl fun t _ => congrArg (x0 (ix2 t i) * ·) (h t)

theorem ref0 (i : Fin 1024) (j : Fin 512) : val_main_v20 (F := Ideal) x0 x1 x2 x3 x4 x5 x6 x7 (ix2 i j) = dwAt x0 x3 i j := by
  refine Eq.trans ?_ (part x0 x1 x2 x3 x4 x5 x6 x7 x3 i j ⟨768 + j.val, by omega⟩ fun t => Cert.Reference2Ideal.NormValue.cat2 x1 x2 x3 x4 x5 x6 x7 t j)
  pointwise [val_main_v20, val_main_v15]

theorem ref1 (i : Fin 1024) (j : Fin 512) : val_main_v21 (F := Ideal) x0 x1 x2 x3 x4 x5 x6 x7 (ix2 i j) = dwAt x0 x4 i j := by
  refine Eq.trans ?_ (part x0 x1 x2 x3 x4 x5 x6 x7 x4 i j ⟨1280 + j.val, by omega⟩ fun t => Cert.Reference2Ideal.NormValue.cat3 x1 x2 x3 x4 x5 x6 x7 t j)
  pointwise [val_main_v21, val_main_v16]

theorem ref2 (i : Fin 1024) (j : Fin 512) : val_main_v22 (F := Ideal) x0 x1 x2 x3 x4 x5 x6 x7 (ix2 i j) = dwAt x0 x5 i j := by
  refine Eq.trans ?_ (part x0 x1 x2 x3 x4 x5 x6 x7 x5 i j ⟨1792 + j.val, by omega⟩ fun t => Cert.Reference2Ideal.NormValue.cat4 x1 x2 x3 x4 x5 x6 x7 t j)
  pointwise [val_main_v22, val_main_v17]

theorem ref3 (i : Fin 1024) (j : Fin 512) : val_main_v23 (F := Ideal) x0 x1 x2 x3 x4 x5 x6 x7 (ix2 i j) = dwAt x0 x1 i j := by
  refine Eq.trans ?_ (part x0 x1 x2 x3 x4 x5 x6 x7 x1 i j ⟨0 + j.val, by omega⟩ fun t => Cert.Reference2Ideal.NormValue.cat0 x1 x2 x3 x4 x5 x6 x7 t j)
  pointwise [val_main_v23, val_main_v13]

theorem ref4 (i : Fin 1024) (j : Fin 1024) : val_main_v24 (F := Ideal) x0 x1 x2 x3 x4 x5 x6 x7 (ix2 i j) = dwAt x0 x7 i j := by
  refine Eq.trans ?_ (part x0 x1 x2 x3 x4 x5 x6 x7 x7 i j ⟨2312 + j.val, by omega⟩ fun t => Cert.Reference2Ideal.NormValue.cat6 x1 x2 x3 x4 x5 x6 x7 t j)
  pointwise [val_main_v24, val_main_v19]

theorem ref5 (i : Fin 1024) (j : Fin 256) : val_main_v25 (F := Ideal) x0 x1 x2 x3 x4 x5 x6 x7 (ix2 i j) = dwAt x0 x2 i j := by
  refine Eq.trans ?_ (part x0 x1 x2 x3 x4 x5 x6 x7 x2 i j ⟨512 + j.val, by omega⟩ fun t => Cert.Reference2Ideal.NormValue.cat1 x1 x2 x3 x4 x5 x6 x7 t j)
  pointwise [val_main_v25, val_main_v14]

theorem ref6 (i : Fin 8) (j : Fin 1024) : val_main_v26 (F := Ideal) x0 x1 x2 x3 x4 x5 x6 x7 (ix2 i j) = dwAt x0 (Cert.Kernel6Ideal.DwBody.cols x6) j i := by
  refine Eq.trans ?_ (part x0 x1 x2 x3 x4 x5 x6 x7 (Cert.Kernel6Ideal.DwBody.cols x6) j i ⟨2304 + i.val, by omega⟩ fun t => Cert.Reference2Ideal.NormValue.cat5 x1 x2 x3 x4 x5 x6 x7 t i)
  pointwise [val_main_v26, val_main_v18]

end

/-- On equal arguments the kernel and the reference end with equal results. -/
theorem agree : Cert.algebraic_Kernel6Ideal_Reference6Ideal (hKernel6Ideal := Cert.Kernel6Ideal.Gen.facts) (hReference6Ideal := Cert.Reference6Ideal.Gen.facts) := by
  intro m g m' g' _ hm
  refine ⟨Cert.Kernel6Ideal.DwBlocks.res0 m, Cert.Kernel6Ideal.DwBlocks.res1 m, Cert.Kernel6Ideal.DwBlocks.res2 m, Cert.Kernel6Ideal.DwBlocks.res3 m, Cert.Kernel6Ideal.DwBlocks.res4 m, Cert.Kernel6Ideal.DwBlocks.res5 m, Cert.Kernel6Ideal.DwBlocks.res6 m,
    (θ_run _ _ _).mono (fun r h c => ?_) (Cert.Kernel6Ideal.Value.run_blocks m g),
    (θ_run _ _ _).mono (fun r h c => ?_) (Cert.Reference6Ideal.Value.run m' g')⟩
  · obtain ⟨h0, h1, h2, h3, h4, h5, h6, hk⟩ := h c
    exact ⟨h0.trans (Cert.Kernel6Ideal.DwBlocks.final0 m c), h1.trans (Cert.Kernel6Ideal.DwBlocks.final1 m c), h2.trans (Cert.Kernel6Ideal.DwBlocks.final2 m c), h3.trans (Cert.Kernel6Ideal.DwBlocks.final3 m c), h4.trans (Cert.Kernel6Ideal.DwBlocks.final4 m c), h5.trans (Cert.Kernel6Ideal.DwBlocks.final5 m c), h6.trans (Cert.Kernel6Ideal.DwBlocks.final6 m c), hk⟩
  · obtain ⟨h0, h1, h2, h3, h4, h5, h6, hk⟩ := h c
    obtain ⟨e0, e1, e2, e3, e4, e5, e6, e7⟩ := hm c
    refine ⟨h0.trans ((Cert.Reference6Ideal.Read.val_main_v20_eq _ _ _ _ _ _ _ _).trans (funext fun y => (congrArg _ (eta2 y)).trans ((ref0 _ _ _ _ _ _ _ _ (y 0) (y 1)).trans ?_))),
      h1.trans ((Cert.Reference6Ideal.Read.val_main_v21_eq _ _ _ _ _ _ _ _).trans (funext fun y => (congrArg _ (eta2 y)).trans ((ref1 _ _ _ _ _ _ _ _ (y 0) (y 1)).trans ?_))),
      h2.trans ((Cert.Reference6Ideal.Read.val_main_v22_eq _ _ _ _ _ _ _ _).trans (funext fun y => (congrArg _ (eta2 y)).trans ((ref2 _ _ _ _ _ _ _ _ (y 0) (y 1)).trans ?_))),
      h3.trans ((Cert.Reference6Ideal.Read.val_main_v23_eq _ _ _ _ _ _ _ _).trans (funext fun y => (congrArg _ (eta2 y)).trans ((ref3 _ _ _ _ _ _ _ _ (y 0) (y 1)).trans ?_))),
      h4.trans ((Cert.Reference6Ideal.Read.val_main_v24_eq _ _ _ _ _ _ _ _).trans (funext fun y => (congrArg _ (eta2 y)).trans ((ref4 _ _ _ _ _ _ _ _ (y 0) (y 1)).trans ?_))),
      h5.trans ((Cert.Reference6Ideal.Read.val_main_v25_eq _ _ _ _ _ _ _ _).trans (funext fun y => (congrArg _ (eta2 y)).trans ((ref5 _ _ _ _ _ _ _ _ (y 0) (y 1)).trans ?_))),
      h6.trans ((Cert.Reference6Ideal.Read.val_main_v26_eq _ _ _ _ _ _ _ _).trans (funext fun y => (congrArg _ (eta2 y)).trans ((ref6 _ _ _ _ _ _ _ _ (y 0) (y 1)).trans ?_))), hk⟩
    · rw [e0, e3]
    · rw [e0, e4]
    · rw [e0, e5]
    · rw [e0, e1]
    · rw [e0, e7]
    · rw [e0, e2]
    · rw [e0, e6]

end Cert.Dw6Value

end
-- ==== Proof.ProjSpec.lean ====
/-
  What the modulated RMS norm and the product that follows it compute, element by element, on the extended reals: of all
  token rows (`normAt`, `prodAt`), and of one block of 512 rows (`bnorm`, `bprod`). Also how a list of stores of whole
  column ranges reads at a column.
-/
module

public import proofs.«01_k».proof.Proof.NormSpec
public import Idealize.ShloMosaic.Lib.WritesUnit
public import Idealize.ShloMosaic.Lib.Pipeline.FrameBody

@[expose] public section

noncomputable section

namespace Cert.Proj

open Idealize.ShloMosaic Cert.Norm

section
variable (x : (⟨2, ![8192, 1024]⟩ : Shape).Idx → EReal) (g : (⟨2, ![1, 1024]⟩ : Shape).Idx → EReal)
  (sh sc : (⟨3, ![4, 1, 1024]⟩ : Shape).Idx → EReal)

/-- The normalised row times the gain, modulated by its sequence's scale and shift. -/
def normAt (t : Fin 8192) (j : Fin 1024) : EReal :=
  x (ix2 t j) * rstd (row x t) * g (ix2 0 j) * (1 + sc (ix3 (seqOf t) 0 j)) + sh (ix3 (seqOf t) 0 j)

/-- Its product with column `j` of a weight. -/
def prodAt {n : Nat} (w : (⟨2, ![1024, n]⟩ : Shape).Idx → EReal) (t : Fin 8192) (j : Fin n) : EReal :=
  ∑ k : Fin 1024, normAt x g sh sc t k * w (ix2 k j)
end

section
variable (x0 : (⟨2, ![512, 1024]⟩ : Shape).Idx → EReal) (x1 : (⟨2, ![1, 1024]⟩ : Shape).Idx → EReal)
  (x2 x3 : (⟨3, ![1, 1, 1024]⟩ : Shape).Idx → EReal)

/-- The block's modulated norm. -/
def bnorm (r : Fin 512) (j : Fin 1024) : EReal :=
  x0 (ix2 r j) * rstd (fun k => x0 (ix2 r k)) * x1 (ix2 0 j) * (1 + x3 (ix3 0 0 j)) + x2 (ix3 0 0 j)

end

section
variable {e : EltTy} {Val : EltTy → Type} [∀ e, Nonempty (Val e)]

/-- What a list of stores leaves, the last of them of `w` whole columns: those columns read the stored ones, another
    what the others left. -/
theorem canon_cols {n N w o : Nat} (inb : ∀ a, (![0, o] : Fin 2 → Nat) a + (![n, w] : Fin 2 → Nat) a ≤ (⟨2, ![n, N]⟩ : Shape).size a)
    (p : (Rect.unit (s := ⟨2, ![n, N]⟩) ![0, o] ![n, w] inb).shape.Idx → Val e) (L : List (View.Piece Val ⟨2, ![n, N]⟩ e))
    (i : Fin n) (z : Fin N) :
    View.canon (⟨Rect.unit ![0, o] ![n, w] inb, p⟩ :: L) (ix2 i z)
      = if h : o ≤ z.val ∧ z.val < o + w then p (ix2 i (⟨z.val - o, by omega⟩ : Fin w)) else View.canon L (ix2 i z) := by
  split
  · rename_i h
    have hy : (Rect.unit (s := ⟨2, ![n, N]⟩) ![0, o] ![n, w] inb).emb (ix2 i (⟨z.val - o, by omega⟩ : Fin w)) = ix2 i z :=
      funext fun a => Fin.ext (by
        match a with
        | ⟨0, _⟩ => show 0 + 1 * i.val = i.val; omega
        | ⟨1, _⟩ => show o + 1 * (z.val - o) = z.val; omega)
    rw [← hy]
    exact View.canon_cons_emb _ p L _
  · rename_i h
    refine View.canon_cons_of_not_mem _ L ?_
    rw [Rect.mem_set_unit]
    intro hall
    have := hall (1 : Fin 2)
    have h1 : o ≤ z.val := this.1
    have h2 : z.val < o + w := this.2
    omega

/-- Such a list of stores reads `v` at a column if the last store does in its range and the others do outside it. -/
theorem canon_cols_cases {n N w o : Nat} (inb : ∀ a, (![0, o] : Fin 2 → Nat) a + (![n, w] : Fin 2 → Nat) a ≤ (⟨2, ![n, N]⟩ : Shape).size a)
    (p : (Rect.unit (s := ⟨2, ![n, N]⟩) ![0, o] ![n, w] inb).shape.Idx → Val e) (L : List (View.Piece Val ⟨2, ![n, N]⟩ e))
    (i : Fin n) (z : Fin N) (v : Val e) (h1 : ∀ h : o ≤ z.val ∧ z.val < o + w, p (ix2 i (⟨z.val - o, by omega⟩ : Fin w)) = v)
    (h2 : ¬(o ≤ z.val ∧ z.val < o + w) → View.canon L (ix2 i z) = v) :
    View.canon (⟨Rect.unit ![0, o] ![n, w] inb, p⟩ :: L) (ix2 i z) = v := by
  rw [canon_cols]
  split
  · exact h1 ‹_›
  · exact h2 ‹_›
end

/-! ## The order of the attention layer's columns -/

/-- The weight's column that column `z` of the joined groups is: the groups stand in the weight in another order, and the
    forget gate's eight columns are left out. -/
def colOf (z : Fin 3328) : Fin 3336 :=
  if h : z.val < 1536 then ⟨z.val + 768, by omega⟩
  else if h : z.val < 2048 then ⟨z.val - 1536, by omega⟩
  else if h : z.val < 3072 then ⟨z.val + 264, by omega⟩
  else ⟨z.val - 2560, by omega⟩

theorem colOf_eq (z : Fin 3328) (y : Fin 3336)
    (h : z.val < 1536 ∧ y.val = z.val + 768 ∨ 1536 ≤ z.val ∧ z.val < 2048 ∧ y.val = z.val - 1536
      ∨ 2048 ≤ z.val ∧ z.val < 3072 ∧ y.val = z.val + 264 ∨ 3072 ≤ z.val ∧ y.val = z.val - 2560) : y = colOf z := by
  unfold colOf
  split
  · exact Fin.ext (by dsimp only; omega)
  split
  · exact Fin.ext (by dsimp only; omega)
  split
  · exact Fin.ext (by dsimp only; omega)
  · exact Fin.ext (by dsimp only; omega)

end Cert.Proj

end
-- ==== Proof.Proj7Value.lean ====
/-
  Layer 0's norm and input product: the kernel's three results and the reference's are the same functions of the arguments.
-/
module

public import proofs.«01_k».proof.Proof.ProjSpec
public import proofs.«01_k».proof.Proof.Norm0Blocks
public import proofs.«01_k».proof.Proof.NormValue
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim
public import Idealize.ShloMosaic.Lib.StableHlo.RunRead

@[expose] public section

noncomputable section

namespace Cert.Kernel7Ideal.ProjBody

open Cert.Kernel7Ideal Cert.Kernel7Ideal.Gen Idealize.ShloMosaic Idealize.ShloMosaic.TcCoe Cert.Norm Cert.Proj

theorem hz : (![0, 0] : Fin 2 → Nat) = fun _ => 0 := funext fun a => by fin_cases a <;> rfl
theorem hz3 : (![0, 0, 0] : Fin 3 → Nat) = fun _ => 0 := funext fun a => by fin_cases a <;> rfl

/-- A row of the block's norm times a column of a group of the weight's. -/
def rowDot (h : FVec Ideal S512x1024 .bf16) (w : Vec Ideal S1024x256 .bf16) (r : Fin 512) (j : Fin 256) : EReal :=
  ∑ k : Fin 1024, h (ix2 r k) * w (ix2 k j)

section
variable (h : FVec Ideal S512x1024 .bf16) (w : Vec Ideal S1024x256 .bf16) (r : Fin 512) (j : Fin 256)
  (x0 : Vec Ideal S512x1024 .f32) (x1 : Vec Ideal S1x1024 .f32) (x2 x3 : Vec Ideal S1x1x1024 .f32) (x4 : Vec Ideal S1024x3328 .bf16)
  (x5 : Vec Ideal S8x1024 .bf16)

theorem pay7_eq : k0_pay7 (F := Ideal) h w (ix2 r j) = rowDot h w r j := by
  pointwise [k0_pay7]
  rfl
theorem pay8_eq : k0_pay8 (F := Ideal) h w (ix2 r j) = rowDot h w r j := pay7_eq h w r j
theorem pay9_eq : k0_pay9 (F := Ideal) h w (ix2 r j) = rowDot h w r j := pay7_eq h w r j
theorem pay10_eq : k0_pay10 (F := Ideal) h w (ix2 r j) = rowDot h w r j := pay7_eq h w r j
theorem pay11_eq : k0_pay11 (F := Ideal) h w (ix2 r j) = rowDot h w r j := pay7_eq h w r j
theorem pay12_eq : k0_pay12 (F := Ideal) h w (ix2 r j) = rowDot h w r j := pay7_eq h w r j
theorem pay13_eq : k0_pay13 (F := Ideal) h w (ix2 r j) = rowDot h w r j := pay7_eq h w r j
theorem pay14_eq : k0_pay14 (F := Ideal) h w (ix2 r j) = rowDot h w r j := pay7_eq h w r j
theorem pay15_eq : k0_pay15 (F := Ideal) h w (ix2 r j) = rowDot h w r j := pay7_eq h w r j
theorem pay16_eq : k0_pay16 (F := Ideal) h w (ix2 r j) = rowDot h w r j := pay7_eq h w r j
theorem pay1_eq : k0_pay1 (F := Ideal) h (k0_pay17 (F := Ideal) w) (ix2 r j) = rowDot h w r j := pay7_eq h w r j
theorem pay6_eq : k0_pay6 (F := Ideal) h (k0_pay5 (F := Ideal) w) (constant S512x256 .f32 0x00000000#32) (ix2 r j) = rowDot h w r j :=
  pay7_eq h w r j
theorem pay4_eq : k0_pay4 (F := Ideal) x0 x1 x3 x2 w (ix2 r j) = rowDot (k0_pay3 (F := Ideal) x0 x1 x3 x2) w r j :=
  pay7_eq (k0_pay3 (F := Ideal) x0 x1 x3 x2) w r j

theorem pay3_eq (z : Fin 1024) : k0_pay3 (F := Ideal) x0 x1 x3 x2 (ix2 r z) = bnorm x0 x1 x2 x3 r z := by
  pointwise [k0_pay3]
  rfl

theorem pay2_eq (i : Fin 8) : k0_pay2 (F := Ideal) h x5 (ix2 i r) = ∑ k : Fin 1024, x5 (ix2 i k) * h (ix2 r k) := by
  pointwise [k0_pay2]

/-- The first output block: the norm. -/
theorem out6_eq (z : Fin 1024) : out0_6 (F := Ideal) x0 x1 x2 x3 x4 x5 (ix2 r z) = bnorm x0 x1 x2 x3 r z := by
  unfold out0_6
  rw [View.canon_unit_zero hz]
  simp only [View.ld_unit_zero (S := S512x1024) hz, View.ld_unit_zero (S := S1x1024) hz, View.ld_unit_zero (S := S1x1x1024) hz3]
  exact pay3_eq r x0 x1 x2 x3 z

/-- The norm, as the body names it. -/
theorem pay18_eq (z : Fin 1024) : k0_pay18 (F := Ideal) x0 x1 x2 x3 x4 x5 (ix2 r z) = bnorm x0 x1 x2 x3 r z := by
  unfold k0_pay18
  rw [View.ld_unit_zero (S := S512x1024) hz, View.ld_unit_zero (S := S1x1024) hz, View.ld_unit_zero (S := S1x1x1024) hz3,
    View.ld_unit_zero (S := S1x1x1024) hz3]
  exact pay3_eq r x0 x1 x2 x3 z

/-- The third: the forget gate's logits, transposed. -/
theorem out8_eq (i : Fin 8) :
    out0_8 (F := Ideal) x0 x1 x2 x3 x4 x5 (ix2 i r) = ∑ k : Fin 1024, bnorm x0 x1 x2 x3 r k * x5 (ix2 i k) := by
  unfold out0_8
  rw [View.canon_unit_zero hz, View.ld_unit_zero (S := S8x1024) hz]
  refine (pay2_eq ..).trans (Finset.sum_congr rfl fun k _ => ?_)
  rw [pay18_eq, mul_comm]

/-- Some whole columns of the weight, loaded. -/
theorem ld_cols {o : Nat} (inb : ∀ a, (![0, o] : Fin 2 → Nat) a + S1024x256.size a ≤ S1024x3328.size a)
    (z : Fin 3328) (hz : z.val = o + j.val) (k : Fin 1024) :
    View.ld x4 (Rect.unit (s := S1024x3328) ![0, o] S1024x256.size inb) (ix2 k j) = x4 (ix2 k z) :=
  congrArg x4 (funext fun a => Fin.ext (by
    match a with
    | ⟨0, _⟩ => show 0 + 1 * k.val = k.val; omega
    | ⟨1, _⟩ => show o + 1 * j.val = z.val; omega))

/-- The second output block: the norm times the weight's columns. -/
def bprod (z : Fin 3328) : EReal := ∑ k : Fin 1024, bnorm x0 x1 x2 x3 r k * x4 (ix2 k z)

theorem rowDot_eq {o : Nat} (inb : ∀ a, (![0, o] : Fin 2 → Nat) a + S1024x256.size a ≤ S1024x3328.size a) (z : Fin 3328)
    (hz : o ≤ z.val ∧ z.val < o + 256) (hj : j.val = z.val - o) :
    rowDot (k0_pay18 (F := Ideal) x0 x1 x2 x3 x4 x5) (View.ld x4 (Rect.unit (s := S1024x3328) ![0, o] S1024x256.size inb)) r j
      = bprod r x0 x1 x2 x3 x4 z := by
  unfold rowDot bprod
  refine Finset.sum_congr rfl fun k _ => ?_
  rw [pay18_eq, ld_cols j x4 inb z (by omega)]

theorem out7_eq (z : Fin 3328) : out0_7 (F := Ideal) x0 x1 x2 x3 x4 x5 (ix2 r z) = bprod r x0 x1 x2 x3 x4 z := by
  unfold out0_7
  refine canon_cols_cases _ _ _ r z _ (fun h => (pay1_eq ..).trans (rowDot_eq r _ x0 x1 x2 x3 x4 x5 _ z h rfl)) fun h0 => ?_
  refine canon_cols_cases _ _ _ r z _ (fun h => (pay16_eq ..).trans (rowDot_eq r _ x0 x1 x2 x3 x4 x5 _ z h rfl)) fun h1 => ?_
  refine canon_cols_cases _ _ _ r z _ (fun h => (pay15_eq ..).trans (rowDot_eq r _ x0 x1 x2 x3 x4 x5 _ z h rfl)) fun h2 => ?_
  refine canon_cols_cases _ _ _ r z _ (fun h => (pay14_eq ..).trans (rowDot_eq r _ x0 x1 x2 x3 x4 x5 _ z h rfl)) fun h3 => ?_
  refine canon_cols_cases _ _ _ r z _ (fun h => (pay13_eq ..).trans (rowDot_eq r _ x0 x1 x2 x3 x4 x5 _ z h rfl)) fun h4 => ?_
  refine canon_cols_cases _ _ _ r z _ (fun h => (pay12_eq ..).trans (rowDot_eq r _ x0 x1 x2 x3 x4 x5 _ z h rfl)) fun h5 => ?_
  refine canon_cols_cases _ _ _ r z _ (fun h => (pay11_eq ..).trans (rowDot_eq r _ x0 x1 x2 x3 x4 x5 _ z h rfl)) fun h6 => ?_
  refine canon_cols_cases _ _ _ r z _ (fun h => (pay10_eq ..).trans (rowDot_eq r _ x0 x1 x2 x3 x4 x5 _ z h rfl)) fun h7 => ?_
  refine canon_cols_cases _ _ _ r z _ (fun h => (pay9_eq ..).trans (rowDot_eq r _ x0 x1 x2 x3 x4 x5 _ z h rfl)) fun h8 => ?_
  refine canon_cols_cases _ _ _ r z _ (fun h => (pay8_eq ..).trans (rowDot_eq r _ x0 x1 x2 x3 x4 x5 _ z h rfl)) fun h9 => ?_
  refine canon_cols_cases _ _ _ r z _ (fun h => (pay7_eq ..).trans (rowDot_eq r _ x0 x1 x2 x3 x4 x5 _ z h rfl)) fun h10 => ?_
  refine canon_cols_cases _ _ _ r z _ (fun h => (pay6_eq ..).trans (rowDot_eq r _ x0 x1 x2 x3 x4 x5 _ z h rfl)) fun h11 => ?_
  refine canon_cols_cases _ _ _ r z _ (fun h => (pay4_eq ..).trans (rowDot_eq r _ x0 x1 x2 x3 x4 x5 _ z h rfl)) fun h12 => ?_
  omega
end

end Cert.Kernel7Ideal.ProjBody

namespace Cert.Kernel7Ideal.ProjBlocks

open Cert.Kernel7Ideal Cert.Kernel7Ideal.Gen Cert.Kernel7Ideal.ProjBody Idealize.ShloMosaic Idealize.ShloMosaic.TcCoe Cert.Norm Cert.Proj

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 4, 0, 0] := (by decide +kernel : ∀ t : Fin grid0.N, _)
theorem index3 : ∀ t : Fin cfg0.N, win0_3.index t = ![t.val / 4, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, t.val] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

theorem blk0 (c : Dev nD) (t : Fin cfg0.N) (r : Fin 512) (k : Fin 1024) :
    iblk m c 0 t (ix2 r k) = m (c.tc.loc main_arg0) (ix2 (ptok t r) k) := by
  blk_simp [iblk]
  entry_read
  refine congrArg _ ?_
  blk_ext [index0]

theorem blk1 (c : Dev nD) (t : Fin cfg0.N) (j : Fin 1024) :
    iblk m c 1 t (ix2 0 j) = m (c.tc.loc main_arg1) (ix2 0 j) := by
  blk_simp [iblk]
  entry_read
  refine congrArg _ ?_
  blk_ext [index1]

theorem blk2 (c : Dev nD) (t : Fin cfg0.N) (r : Fin 512) (j : Fin 1024) :
    iblk m c 2 t (ix3 0 0 j) = m (c.tc.loc main_arg2) (ix3 (seqOf (ptok t r)) 0 j) := by
  blk_simp [iblk]
  entry_read
  refine congrArg _ ?_
  blk_ext [index2]

theorem blk3 (c : Dev nD) (t : Fin cfg0.N) (r : Fin 512) (j : Fin 1024) :
    iblk m c 3 t (ix3 0 0 j) = m (c.tc.loc main_arg3) (ix3 (seqOf (ptok t r)) 0 j) := by
  blk_simp [iblk]
  entry_read
  refine congrArg _ ?_
  blk_ext [index3]

/-- The weight's columns as the kernel is given them, one group after another. -/
theorem blk4 (c : Dev nD) (t : Fin cfg0.N) (k : Fin 1024) (z : Fin 3328) :
    iblk m c 4 t (ix2 k z) = (V m c main_v9 : S1024x3328.Idx → EReal) (ix2 k z) := by
  blk_simp [iblk]
  refine congrArg _ ?_
  blk_ext [index4]

/-- The host's operations before the kernel, the one that joins the groups named. -/
abbrev hostNamed : List (HloOp τ sig (Elt Ideal)) :=
  [ StableHlo.unary main_arg4 main_v0 ((truncf (F := Ideal) .bf16 · bitsLt_bf16_f32) : (⟨S1024x3336, .f32⟩ : BufTy).Contents (Elt Ideal) → (⟨S1024x3336, .bf16⟩ : BufTy).Contents (Elt Ideal)),
    StableHlo.unary main_v0 main_v1 ((extractStridedSlice S1024x512 ![0, 0] · slices_S1024x3336_S1024x512_0_0) : (⟨S1024x3336, .bf16⟩ : BufTy).Contents (Elt Ideal) → (⟨S1024x512, .bf16⟩ : BufTy).Contents (Elt Ideal)),
    StableHlo.unary main_v0 main_v2 ((extractStridedSlice S1024x128 ![0, 512] · slices_S1024x3336_S1024x128_0_512) : (⟨S1024x3336, .bf16⟩ : BufTy).Contents (Elt Ideal) → (⟨S1024x128, .bf16⟩ : BufTy).Contents (Elt Ideal)),
    StableHlo.unary main_v0 main_v3 ((extractStridedSlice S1024x128 ![0, 640] · slices_S1024x3336_S1024x128_0_640) : (⟨S1024x3336, .bf16⟩ : BufTy).Contents (Elt Ideal) → (⟨S1024x128, .bf16⟩ : BufTy).Contents (Elt Ideal)),
    StableHlo.unary main_v0 main_v4 ((extractStridedSlice S1024x512 ![0, 768] · slices_S1024x3336_S1024x512_0_768) : (⟨S1024x3336, .bf16⟩ : BufTy).Contents (Elt Ideal) → (⟨S1024x512, .bf16⟩ : BufTy).Contents (Elt Ideal)),
    StableHlo.unary main_v0 main_v5 ((extractStridedSlice S1024x512 ![0, 1280] · slices_S1024x3336_S1024x512_0_1280) : (⟨S1024x3336, .bf16⟩ : BufTy).Contents (Elt Ideal) → (⟨S1024x512, .bf16⟩ : BufTy).Contents (Elt Ideal)),
    StableHlo.unary main_v0 main_v6 ((extractStridedSlice S1024x512 ![0, 1792] · slices_S1024x3336_S1024x512_0_1792) : (⟨S1024x3336, .bf16⟩ : BufTy).Contents (Elt Ideal) → (⟨S1024x512, .bf16⟩ : BufTy).Contents (Elt Ideal)),
    StableHlo.unary main_v0 main_v7 ((extractStridedSlice S1024x8 ![0, 2304] · slices_S1024x3336_S1024x8_0_2304) : (⟨S1024x3336, .bf16⟩ : BufTy).Contents (Elt Ideal) → (⟨S1024x8, .bf16⟩ : BufTy).Contents (Elt Ideal)),
    StableHlo.unary main_v0 main_v8 ((extractStridedSlice S1024x1024 ![0, 2312] · slices_S1024x3336_S1024x1024_0_2312) : (⟨S1024x3336, .bf16⟩ : BufTy).Contents (Elt Ideal) → (⟨S1024x1024, .bf16⟩ : BufTy).Contents (Elt Ideal)),
    StableHlo.nary ![main_v4, main_v5, main_v6, main_v1, main_v8, main_v2, main_v3] main_v9 (fun u => Cert.Kernel2Ideal.NormBlocks.wcat (u 0) (u 1) (u 2) (u 3) (u 4) (u 5) (u 6)),
    StableHlo.unary main_v7 main_v10 ((transpose S8x1024 [1, 0] · transposes_S1024x8_S8x1024_1_0) : (⟨S1024x8, .bf16⟩ : BufTy).Contents (Elt Ideal) → (⟨S8x1024, .bf16⟩ : BufTy).Contents (Elt Ideal)) ]

/-- The weight as the kernel is given it, rounded. -/
abbrev wbf (c : Dev nD) : FVec Ideal S1024x3336 .bf16 :=
  truncf (F := Ideal) .bf16 (m (c.tc.loc main_arg4)) bitsLt_bf16_f32

theorem v9_eq (c : Dev nD) : (V m c main_v9 : FVec Ideal S1024x3328 .bf16) =
    Cert.Kernel2Ideal.NormBlocks.wcat (extractStridedSlice S1024x512 ![0, 768] (wbf m c) slices_S1024x3336_S1024x512_0_768) (extractStridedSlice S1024x512 ![0, 1280] (wbf m c) slices_S1024x3336_S1024x512_0_1280) (extractStridedSlice S1024x512 ![0, 1792] (wbf m c) slices_S1024x3336_S1024x512_0_1792) (extractStridedSlice S1024x512 ![0, 0] (wbf m c) slices_S1024x3336_S1024x512_0_0) (extractStridedSlice S1024x1024 ![0, 2312] (wbf m c) slices_S1024x3336_S1024x1024_0_2312) (extractStridedSlice S1024x128 ![0, 512] (wbf m c) slices_S1024x3336_S1024x128_0_512) (extractStridedSlice S1024x128 ![0, 640] (wbf m c) slices_S1024x3336_S1024x128_0_640) := by
  show StableHlo.after hostNamed (fun b => m (c, b)) main_v9 = _
  after_reads_simp
  rfl

theorem wcol (c : Dev nD) (t : Fin cfg0.N) (k : Fin 1024) (z : Fin 3328) :
    iblk m c 4 t (ix2 k z) = m (c.tc.loc main_arg4) (ix2 k (colOf z)) := by
  rw [blk4, v9_eq]
  pointwise [Cert.Kernel2Ideal.NormBlocks.wcat]
  split
  · exact congrArg (fun y => m (c.tc.loc main_arg4) (ix2 k y)) (colOf_eq _ _ (by dsimp only; omega))
  split
  · exact congrArg (fun y => m (c.tc.loc main_arg4) (ix2 k y)) (colOf_eq _ _ (by dsimp only; omega))
  split
  · exact congrArg (fun y => m (c.tc.loc main_arg4) (ix2 k y)) (colOf_eq _ _ (by dsimp only; omega))
  split
  · exact congrArg (fun y => m (c.tc.loc main_arg4) (ix2 k y)) (colOf_eq _ _ (by dsimp only; omega))
  split
  · exact congrArg (fun y => m (c.tc.loc main_arg4) (ix2 k y)) (colOf_eq _ _ (by dsimp only; omega))
  split
  · exact congrArg (fun y => m (c.tc.loc main_arg4) (ix2 k y)) (colOf_eq _ _ (by dsimp only; omega))
  · exact congrArg (fun y => m (c.tc.loc main_arg4) (ix2 k y)) (colOf_eq _ _ (by dsimp only; omega))

/-- The forget gate's columns, transposed. -/
theorem blk5 (c : Dev nD) (t : Fin cfg0.N) (i : Fin 8) (k : Fin 1024) :
    iblk m c 5 t (ix2 i k) = m (c.tc.loc main_arg4) (ix2 k ⟨2304 + i.val, by omega⟩) := by
  blk_simp [iblk]
  entry_read
  have e : ((View.whole main_v10).slice (win0_5.rect t)).emb (ix2 i k) = ix2 i k := by blk_ext [index5]
  rw [e]
  pointwise []

/-- The norm of all token rows. -/
abbrev resNorm (c : Dev nD) : Buf (Elt Ideal) ((c.tc : Thread nD τ).loc main_v11_0) := fun y : S8192x1024.Idx =>
  normAt (m (c.tc.loc main_arg0)) (m (c.tc.loc main_arg1)) (m (c.tc.loc main_arg2)) (m (c.tc.loc main_arg3)) (y 0) (y 1)

/-- Its product with the weight's groups of columns, in the kernel's order. -/
abbrev resProd (c : Dev nD) : Buf (Elt Ideal) ((c.tc : Thread nD τ).loc main_v11_1) := fun y : S8192x3328.Idx =>
  prodAt (m (c.tc.loc main_arg0)) (m (c.tc.loc main_arg1)) (m (c.tc.loc main_arg2)) (m (c.tc.loc main_arg3)) (m (c.tc.loc main_arg4)) (y 0) (colOf (y 1))

/-- The forget gate's logits, transposed. -/
abbrev resGate (c : Dev nD) : Buf (Elt Ideal) ((c.tc : Thread nD τ).loc main_v11_2) := fun y : S8x8192.Idx =>
  prodAt (m (c.tc.loc main_arg0)) (m (c.tc.loc main_arg1)) (m (c.tc.loc main_arg2)) (m (c.tc.loc main_arg3)) (m (c.tc.loc main_arg4)) (y 1) ⟨2304 + (y 0).val, Nat.add_lt_add_left (y 0).isLt 2304 |>.trans (by decide)⟩

theorem bnorm_eq (c : Dev nD) (t : Fin cfg0.N) (r : Fin 512) (j : Fin 1024) :
    bnorm (iblk m c 0 t) (iblk m c 1 t) (iblk m c 2 t) (iblk m c 3 t) r j
      = normAt (m (c.tc.loc main_arg0)) (m (c.tc.loc main_arg1)) (m (c.tc.loc main_arg2)) (m (c.tc.loc main_arg3)) (ptok t r) j := by
  unfold bnorm normAt row
  simp only [blk0 m c t, blk1 m c t, blk2 m c t r, blk3 m c t r]

theorem final_norm (c : Dev nD) : (dats m 0 c).arrAt 6 cfg0.N = resNorm m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, Cert.NormValue.eta2 y⟩
  refine (out6_eq r _ _ _ _ _ _ j).trans ((bnorm_eq m c t r j).trans ?_)
  have e : (win0_6.blk t).view.emb (ix2 r j) = ix2 (ptok t r) j := by blk_ext [index6]
  rw [e]
  rfl

theorem final_prod (c : Dev nD) : (dats m 0 c).arrAt 7 cfg0.N = resProd m c := by
  refine (dats m 0 c).arrAt_eq_of_covers 7 _ (by decide +kernel) fun t hf y => ?_
  blk_simp
  rw [after0_7]
  obtain ⟨r, j, rfl⟩ : ∃ (r : Fin 512) (j : Fin 3328), y = ix2 r j := ⟨y 0, y 1, Cert.NormValue.eta2 y⟩
  have e : (win0_7.blk t).view.emb (ix2 r j) = ix2 (ptok t r) j := by blk_ext [index7]
  rw [e]
  refine (out7_eq r _ _ _ _ _ _ j).trans ?_
  refine Finset.sum_congr rfl fun k _ => ?_
  rw [bnorm_eq m c t r k, wcol m c t k j]
  rfl

theorem final_gate (c : Dev nD) : (dats m 0 c).arrAt 8 cfg0.N = resGate m c := by
  refine (dats m 0 c).arrAt_eq_of_covers 8 _ (by decide +kernel) fun t hf y => ?_
  blk_simp
  rw [after0_8]
  obtain ⟨i, r, rfl⟩ : ∃ (i : Fin 8) (r : Fin 512), y = ix2 i r := ⟨y 0, y 1, Cert.NormValue.eta2 y⟩
  have e : (win0_8.blk t).view.emb (ix2 i r) = ix2 i (ptok t r) := by blk_ext [index8]
  rw [e]
  refine (out8_eq r _ _ _ _ _ _ i).trans ?_
  refine Finset.sum_congr rfl fun k _ => ?_
  rw [bnorm_eq m c t r k, blk5 m c t i k]
  rfl

end Cert.Kernel7Ideal.ProjBlocks

namespace Cert.Reference7Ideal.ProjRef

open Cert.Reference7Ideal Cert.Reference7Ideal.Gen Cert.Reference7Ideal.Read Idealize.ShloMosaic Idealize.ShloMosaic.TcCoe Cert.Norm Cert.Proj

variable (x0 : (⟨S8192x1024, .f32⟩ : BufTy).Contents (Elt Ideal)) (x1 : (⟨S1x1024, .f32⟩ : BufTy).Contents (Elt Ideal))
  (x2 x3 : (⟨S4x1x1024, .f32⟩ : BufTy).Contents (Elt Ideal)) (x4 : (⟨S1024x3336, .f32⟩ : BufTy).Contents (Elt Ideal))

/-- The reciprocal root of a token's row. -/
theorem v11_eq (s : Fin 4) (i : Fin 2048) (z : Fin 1) :
    val_main_v11 (F := Ideal) x0 (ix3 s i z) = rstd (row x0 (tok s i)) := by
  pointwise [val_main_v11, val_main_v10, val_main_v9, val_main_v8, val_main_v7, val_main_v6, val_main_v5, val_main_v4,
    val_main_v2, val_main_cst, val_main_cst_0, val_main_cst_1]
  rfl

/-- The modulated norm, sequence by sequence. -/
theorem v24_eq (s : Fin 4) (i : Fin 2048) (j : Fin 1024) :
    val_main_v24 (F := Ideal) x0 x1 x2 x3 (ix3 s i j)
      = x0 (ix2 (tok s i) j) * rstd (row x0 (tok s i)) * x1 (ix2 0 j) * (1 + x3 (ix3 s 0 j)) + x2 (ix3 s 0 j) := by
  pointwise [val_main_v24, val_main_v23, val_main_v22, val_main_v21, val_main_v20, val_main_v19, val_main_v18, val_main_v17,
    val_main_v16, val_main_v15, val_main_v14, val_main_v13, val_main_v12, val_main_v3, val_main_v2, val_main_v1, val_main_v0,
    val_main_cst_2, v11_eq]

/-- The modulated norm, token by token. -/
theorem v25_eq (t : Fin 8192) (j : Fin 1024) :
    val_main_v25 (F := Ideal) x0 x1 x2 x3 (ix2 t j) = normAt x0 x1 x2 x3 t j := by
  pointwise [val_main_v25, v24_eq]
  unfold normAt
  have e : (⟨t.val / 2048 * 2048 + t.val % 2048, by omega⟩ : Fin 8192) = t := Fin.ext (by dsimp only; omega)
  simp only [tok, e]

theorem v35_eq (t : Fin 8192) (j : Fin 1024) :
    val_main_v35 (F := Ideal) x0 x1 x2 x3 (ix2 t j) = normAt x0 x1 x2 x3 t j := by
  pointwise [val_main_v35, v25_eq]

theorem v26_eq (t : Fin 8192) (j : Fin 3336) :
    val_main_v26 (F := Ideal) x0 x1 x2 x3 x4 (ix2 t j) = prodAt x0 x1 x2 x3 x4 t j := by
  pointwise [val_main_v26, v25_eq]
  rfl

theorem v37_eq (t : Fin 8192) (z : Fin 3328) :
    val_main_v37 (F := Ideal) x0 x1 x2 x3 x4 (ix2 t z) = prodAt x0 x1 x2 x3 x4 t (colOf z) := by
  pointwise [val_main_v37, val_main_v36, Cert.Reference7Ideal.Value.fn_main_v36, val_main_v27, val_main_v28, val_main_v29,
    val_main_v30, val_main_v31, val_main_v32, val_main_v34, v26_eq]
  split
  · exact congrArg (prodAt x0 x1 x2 x3 x4 t) (colOf_eq _ _ (by dsimp only; omega))
  split
  · exact congrArg (prodAt x0 x1 x2 x3 x4 t) (colOf_eq _ _ (by dsimp only; omega))
  split
  · exact congrArg (prodAt x0 x1 x2 x3 x4 t) (colOf_eq _ _ (by dsimp only; omega))
  split
  · exact congrArg (prodAt x0 x1 x2 x3 x4 t) (colOf_eq _ _ (by dsimp only; omega))
  split
  · exact congrArg (prodAt x0 x1 x2 x3 x4 t) (colOf_eq _ _ (by dsimp only; omega))
  split
  · exact congrArg (prodAt x0 x1 x2 x3 x4 t) (colOf_eq _ _ (by dsimp only; omega))
  · exact congrArg (prodAt x0 x1 x2 x3 x4 t) (colOf_eq _ _ (by dsimp only; omega))

theorem v38_eq (i : Fin 8) (t : Fin 8192) :
    val_main_v38 (F := Ideal) x0 x1 x2 x3 x4 (ix2 i t) = prodAt x0 x1 x2 x3 x4 t ⟨2304 + i.val, by omega⟩ := by
  pointwise [val_main_v38, val_main_v33, v26_eq]

end Cert.Reference7Ideal.ProjRef

namespace Cert.Proj7Value

open Cert.NormValue Idealize.ShloMosaic Idealize.SL.Sem

/-- On equal arguments the kernel and the reference end with equal results. -/
theorem agree : Cert.algebraic_Kernel7Ideal_Reference7Ideal (hKernel7Ideal := Cert.Kernel7Ideal.Gen.facts) (hReference7Ideal := Cert.Reference7Ideal.Gen.facts) := by
  intro m g m' g' _ hm
  refine ⟨Cert.Kernel7Ideal.ProjBlocks.resNorm m, Cert.Kernel7Ideal.ProjBlocks.resProd m, Cert.Kernel7Ideal.ProjBlocks.resGate m,
    (θ_run _ _ _).mono (fun r h c => ?_) (Cert.Kernel7Ideal.Value.run_blocks m g),
    (θ_run _ _ _).mono (fun r h c => ?_) (Cert.Reference7Ideal.Value.run m' g')⟩
  · obtain ⟨h0, h1, h2, h3⟩ := h c
    exact ⟨h0.trans (Cert.Kernel7Ideal.ProjBlocks.final_norm m c), h1.trans (Cert.Kernel7Ideal.ProjBlocks.final_prod m c),
      h2.trans (Cert.Kernel7Ideal.ProjBlocks.final_gate m c), h3⟩
  · obtain ⟨h0, h1, h2, h3⟩ := h c
    obtain ⟨e0, e1, e2, e3, e4⟩ := hm c
    refine ⟨h0.trans ((Cert.Reference7Ideal.Read.val_main_v35_eq _ _ _ _).trans (funext fun y => ?_)),
      h1.trans ((Cert.Reference7Ideal.Read.val_main_v37_eq m' c).trans (funext fun y => ?_)),
      h2.trans ((Cert.Reference7Ideal.Read.val_main_v38_eq _ _ _ _ _).trans (funext fun y => ?_)), h3⟩
    · refine (congrArg _ (eta2 y)).trans ((Cert.Reference7Ideal.ProjRef.v35_eq _ _ _ _ (y 0) (y 1)).trans ?_)
      rw [e0, e1, e2, e3]
    · refine (congrArg _ (eta2 y)).trans ((Cert.Reference7Ideal.ProjRef.v37_eq _ _ _ _ _ (y 0) (y 1)).trans ?_)
      rw [e0, e1, e2, e3, e4]
    · refine (congrArg _ (eta2 y)).trans ((Cert.Reference7Ideal.ProjRef.v38_eq _ _ _ _ _ (y 0) (y 1)).trans ?_)
      rw [e0, e1, e2, e3, e4]

end Cert.Proj7Value

end
-- ==== Proof.Proj8Value.lean ====
/-
  Layer 1's norm and input product: the kernel's two results and the reference's are the same functions of the arguments.
-/
module

public import proofs.«01_k».proof.Proof.ProjSpec
public import proofs.«01_k».proof.Proof.NormValue
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim

@[expose] public section

noncomputable section

namespace Cert.Kernel8Ideal.ProjBody

open Cert.Kernel8Ideal Cert.Kernel8Ideal.Gen Idealize.ShloMosaic Idealize.ShloMosaic.TcCoe Cert.Norm Cert.Proj

theorem hz : (![0, 0] : Fin 2 → Nat) = fun _ => 0 := funext fun a => by fin_cases a <;> rfl
theorem hz3 : (![0, 0, 0] : Fin 3 → Nat) = fun _ => 0 := funext fun a => by fin_cases a <;> rfl

/-- A row of the block's norm times a column of a plane of the weight. -/
def rowDot (h : FVec Ideal S512x1024 .bf16) (w : Vec Ideal S1x1024x256 .bf16) (r : Fin 512) (j : Fin 256) : EReal :=
  ∑ k : Fin 1024, h (ix2 r k) * w (ix3 0 k j)

section
variable (h : FVec Ideal S512x1024 .bf16) (w : Vec Ideal S1x1024x256 .bf16) (r : Fin 512) (j : Fin 256)
  (x0 : Vec Ideal S512x1024 .f32) (x1 : Vec Ideal S1x1024 .f32) (x2 x3 : Vec Ideal S1x1x1024 .f32) (x4 : Vec Ideal S8x1024x256 .bf16)

theorem pay1_eq : k0_pay1 (F := Ideal) h w (ix2 r j) = rowDot h w r j := by
  pointwise [k0_pay1]
  rfl
theorem pay6_eq : k0_pay6 (F := Ideal) h w (ix2 r j) = rowDot h w r j := pay1_eq h w r j
theorem pay7_eq : k0_pay7 (F := Ideal) h w (ix2 r j) = rowDot h w r j := pay1_eq h w r j
theorem pay8_eq : k0_pay8 (F := Ideal) h w (ix2 r j) = rowDot h w r j := pay1_eq h w r j
theorem pay9_eq : k0_pay9 (F := Ideal) h w (ix2 r j) = rowDot h w r j := pay1_eq h w r j
theorem pay10_eq : k0_pay10 (F := Ideal) h w (ix2 r j) = rowDot h w r j := pay1_eq h w r j
theorem pay5_eq : k0_pay5 (F := Ideal) h (k0_pay4 (F := Ideal) w) (ix2 r j) = rowDot h w r j := pay1_eq h w r j
theorem pay3_eq : k0_pay3 (F := Ideal) x0 x1 x3 x2 w (ix2 r j) = rowDot (k0_pay2 (F := Ideal) x0 x1 x3 x2) w r j :=
  pay1_eq (k0_pay2 (F := Ideal) x0 x1 x3 x2) w r j

theorem pay2_eq (z : Fin 1024) : k0_pay2 (F := Ideal) x0 x1 x3 x2 (ix2 r z) = bnorm x0 x1 x2 x3 r z := by
  pointwise [k0_pay2]
  rfl

/-- The first output block: the norm. -/
theorem out5_eq (z : Fin 1024) : out0_5 (F := Ideal) x0 x1 x2 x3 x4 (ix2 r z) = bnorm x0 x1 x2 x3 r z := by
  unfold out0_5
  rw [View.canon_unit_zero hz]
  simp only [View.ld_unit_zero (S := S512x1024) hz, View.ld_unit_zero (S := S1x1024) hz, View.ld_unit_zero (S := S1x1x1024) hz3]
  exact pay2_eq r x0 x1 x2 x3 z

/-- A plane of the weight, loaded. -/
theorem ld_plane {o : Nat} (inb : ∀ a, (![o, 0, 0] : Fin 3 → Nat) a + S1x1024x256.size a ≤ S8x1024x256.size a)
    (q : Fin 8) (hq : q.val = o) (k : Fin 1024) :
    View.ld x4 (Rect.unit (s := S8x1024x256) ![o, 0, 0] S1x1024x256.size inb) (ix3 (0 : Fin 1) k j) = x4 (ix3 q k j) :=
  congrArg x4 (funext fun a => Fin.ext (by
    match a with
    | ⟨0, _⟩ => show o + 1 * 0 = q.val; omega
    | ⟨1, _⟩ => show 0 + 1 * k.val = k.val; omega
    | ⟨2, _⟩ => show 0 + 1 * j.val = j.val; omega))

/-- The second output block: the norm times the weight, whose column `256 q + j` is column `j` of plane `q`. -/
def bprod (z : Fin 2048) : EReal :=
  ∑ k : Fin 1024, bnorm x0 x1 x2 x3 r k * x4 (ix3 (⟨z.val / 256, by omega⟩ : Fin 8) k (⟨z.val % 256, by omega⟩ : Fin 256))

theorem rowDot_eq {o : Nat} (inb : ∀ a, (![o, 0, 0] : Fin 3 → Nat) a + S1x1024x256.size a ≤ S8x1024x256.size a) (z : Fin 2048)
    (hz : o * 256 ≤ z.val ∧ z.val < o * 256 + 256) (hj : j.val = z.val - o * 256) :
    rowDot (k0_pay2 (F := Ideal) x0 x1 x3 x2) (View.ld x4 (Rect.unit (s := S8x1024x256) ![o, 0, 0] S1x1024x256.size inb)) r j
      = bprod r x0 x1 x2 x3 x4 z := by
  unfold rowDot bprod
  refine Finset.sum_congr rfl fun k _ => ?_
  rw [pay2_eq, ld_plane j x4 inb ⟨z.val / 256, by omega⟩ (by dsimp only; omega)]
  exact congrArg (fun y => _ * x4 (ix3 _ k y)) (Fin.ext (by dsimp only; omega))

theorem out6_eq (z : Fin 2048) : out0_6 (F := Ideal) x0 x1 x2 x3 x4 (ix2 r z) = bprod r x0 x1 x2 x3 x4 z := by
  unfold out0_6 k0_pay11
  simp only [View.ld_unit_zero (S := S512x1024) hz, View.ld_unit_zero (S := S1x1024) hz, View.ld_unit_zero (S := S1x1x1024) hz3]
  rw [canon_cols, canon_cols, canon_cols, canon_cols, canon_cols, canon_cols, canon_cols, canon_cols]
  split
  · exact (pay1_eq ..).trans (rowDot_eq r _ x0 x1 x2 x3 x4 _ z (by omega) rfl)
  split
  · exact (pay10_eq ..).trans (rowDot_eq r _ x0 x1 x2 x3 x4 _ z (by omega) rfl)
  split
  · exact (pay9_eq ..).trans (rowDot_eq r _ x0 x1 x2 x3 x4 _ z (by omega) rfl)
  split
  · exact (pay8_eq ..).trans (rowDot_eq r _ x0 x1 x2 x3 x4 _ z (by omega) rfl)
  split
  · exact (pay7_eq ..).trans (rowDot_eq r _ x0 x1 x2 x3 x4 _ z (by omega) rfl)
  split
  · exact (pay6_eq ..).trans (rowDot_eq r _ x0 x1 x2 x3 x4 _ z (by omega) rfl)
  split
  · exact (pay5_eq ..).trans (rowDot_eq r _ x0 x1 x2 x3 x4 _ z (by omega) rfl)
  split
  · exact (pay3_eq ..).trans (rowDot_eq r _ x0 x1 x2 x3 x4 _ z (by omega) rfl)
  omega
end

end Cert.Kernel8Ideal.ProjBody

namespace Cert.Kernel8Ideal.ProjBlocks

open Cert.Kernel8Ideal Cert.Kernel8Ideal.Gen Cert.Kernel8Ideal.ProjBody Idealize.ShloMosaic Idealize.ShloMosaic.TcCoe Cert.Norm Cert.Proj

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 4, 0, 0] := (by decide +kernel : ∀ t : Fin grid0.N, _)
theorem index3 : ∀ t : Fin cfg0.N, win0_3.index t = ![t.val / 4, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

theorem blk0 (c : Dev nD) (t : Fin cfg0.N) (r : Fin 512) (k : Fin 1024) :
    iblk m c 0 t (ix2 r k) = m (c.tc.loc main_arg0) (ix2 (ptok t r) k) := by
  blk_simp [iblk]
  entry_read
  refine congrArg _ ?_
  blk_ext [index0]

theorem blk1 (c : Dev nD) (t : Fin cfg0.N) (j : Fin 1024) :
    iblk m c 1 t (ix2 0 j) = m (c.tc.loc main_arg1) (ix2 0 j) := by
  blk_simp [iblk]
  entry_read
  refine congrArg _ ?_
  blk_ext [index1]

theorem blk2 (c : Dev nD) (t : Fin cfg0.N) (r : Fin 512) (j : Fin 1024) :
    iblk m c 2 t (ix3 0 0 j) = m (c.tc.loc main_arg2) (ix3 (seqOf (ptok t r)) 0 j) := by
  blk_simp [iblk]
  entry_read
  refine congrArg _ ?_
  blk_ext [index2]

theorem blk3 (c : Dev nD) (t : Fin cfg0.N) (r : Fin 512) (j : Fin 1024) :
    iblk m c 3 t (ix3 0 0 j) = m (c.tc.loc main_arg3) (ix3 (seqOf (ptok t r)) 0 j) := by
  blk_simp [iblk]
  entry_read
  refine congrArg _ ?_
  blk_ext [index3]

theorem blk4 (c : Dev nD) (t : Fin cfg0.N) (q : Fin 8) (k : Fin 1024) (j : Fin 256) (z : Fin 2048) (hz : z.val = q.val * 256 + j.val) :
    iblk m c 4 t (ix3 q k j) = m (c.tc.loc main_arg4) (ix2 k z) := by
  blk_simp [iblk]
  entry_read
  have e : ((View.whole main_v2).slice (win0_4.rect t)).emb (ix3 q k j) = ix3 q k j := by blk_ext [index4]
  rw [e]
  pointwise []
  exact congrArg (fun y => m (c.tc.loc main_arg4) (ix2 k y)) (Fin.ext (by dsimp only; omega))

/-- The norm of all token rows. -/
abbrev resNorm (c : Dev nD) : Buf (Elt Ideal) ((c.tc : Thread nD τ).loc main_v3_0) := fun y : S8192x1024.Idx =>
  normAt (m (c.tc.loc main_arg0)) (m (c.tc.loc main_arg1)) (m (c.tc.loc main_arg2)) (m (c.tc.loc main_arg3)) (y 0) (y 1)

/-- Its product with the weight. -/
abbrev resProd (c : Dev nD) : Buf (Elt Ideal) ((c.tc : Thread nD τ).loc main_v3_1) := fun y : S8192x2048.Idx =>
  prodAt (m (c.tc.loc main_arg0)) (m (c.tc.loc main_arg1)) (m (c.tc.loc main_arg2)) (m (c.tc.loc main_arg3)) (m (c.tc.loc main_arg4)) (y 0) (y 1)

theorem bnorm_eq (c : Dev nD) (t : Fin cfg0.N) (r : Fin 512) (j : Fin 1024) :
    bnorm (iblk m c 0 t) (iblk m c 1 t) (iblk m c 2 t) (iblk m c 3 t) r j
      = normAt (m (c.tc.loc main_arg0)) (m (c.tc.loc main_arg1)) (m (c.tc.loc main_arg2)) (m (c.tc.loc main_arg3)) (ptok t r) j := by
  unfold bnorm normAt row
  simp only [blk0 m c t, blk1 m c t, blk2 m c t r, blk3 m c t r]

theorem final_norm (c : Dev nD) : (dats m 0 c).arrAt 5 cfg0.N = resNorm m c := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, Cert.NormValue.eta2 y⟩
  refine (out5_eq r _ _ _ _ _ j).trans ((bnorm_eq m c t r j).trans ?_)
  have e : (win0_5.blk t).view.emb (ix2 r j) = ix2 (ptok t r) j := by blk_ext [index5]
  rw [e]
  rfl

theorem final_prod (c : Dev nD) : (dats m 0 c).arrAt 6 cfg0.N = resProd m c := by
  refine (dats m 0 c).arrAt_eq_of_covers 6 _ (by decide +kernel) fun t hf y => ?_
  blk_simp
  rw [after0_6]
  obtain ⟨r, j, rfl⟩ : ∃ (r : Fin 512) (j : Fin 2048), y = ix2 r j := ⟨y 0, y 1, Cert.NormValue.eta2 y⟩
  have e : (win0_6.blk t).view.emb (ix2 r j) = ix2 (ptok t r) j := by blk_ext [index6]
  rw [e]
  refine (out6_eq r _ _ _ _ _ j).trans ?_
  refine Finset.sum_congr rfl fun k _ => ?_
  rw [bnorm_eq m c t r k, blk4 m c t _ k _ j (by dsimp only; omega)]
  rfl

end Cert.Kernel8Ideal.ProjBlocks

namespace Cert.Reference8Ideal.ProjRef

open Cert.Reference8Ideal Cert.Reference8Ideal.Gen Cert.Reference8Ideal.Read Idealize.ShloMosaic Idealize.ShloMosaic.TcCoe Cert.Norm Cert.Proj

variable (x0 : (⟨S8192x1024, .f32⟩ : BufTy).Contents (Elt Ideal)) (x1 : (⟨S1x1024, .f32⟩ : BufTy).Contents (Elt Ideal))
  (x2 x3 : (⟨S4x1x1024, .f32⟩ : BufTy).Contents (Elt Ideal)) (x4 : (⟨S1024x2048, .f32⟩ : BufTy).Contents (Elt Ideal))

/-- The reciprocal root of a token's row. -/
theorem v11_eq (s : Fin 4) (i : Fin 2048) (z : Fin 1) :
    val_main_v11 (F := Ideal) x0 (ix3 s i z) = rstd (row x0 (tok s i)) := by
  pointwise [val_main_v11, val_main_v10, val_main_v9, val_main_v8, val_main_v7, val_main_v6, val_main_v5, val_main_v4,
    val_main_v2, val_main_cst, val_main_cst_0, val_main_cst_1]
  rfl

/-- The modulated norm, sequence by sequence. -/
theorem v24_eq (s : Fin 4) (i : Fin 2048) (j : Fin 1024) :
    val_main_v24 (F := Ideal) x0 x1 x2 x3 (ix3 s i j)
      = x0 (ix2 (tok s i) j) * rstd (row x0 (tok s i)) * x1 (ix2 0 j) * (1 + x3 (ix3 s 0 j)) + x2 (ix3 s 0 j) := by
  pointwise [val_main_v24, val_main_v23, val_main_v22, val_main_v21, val_main_v20, val_main_v19, val_main_v18, val_main_v17,
    val_main_v16, val_main_v15, val_main_v14, val_main_v13, val_main_v12, val_main_v3, val_main_v2, val_main_v1, val_main_v0,
    val_main_cst_2, v11_eq]

/-- The modulated norm, token by token. -/
theorem v25_eq (t : Fin 8192) (j : Fin 1024) :
    val_main_v25 (F := Ideal) x0 x1 x2 x3 (ix2 t j) = normAt x0 x1 x2 x3 t j := by
  pointwise [val_main_v25, v24_eq]
  unfold normAt
  have e : (⟨t.val / 2048 * 2048 + t.val % 2048, by omega⟩ : Fin 8192) = t := Fin.ext (by dsimp only; omega)
  simp only [tok, e]

theorem v26_eq (t : Fin 8192) (j : Fin 1024) :
    val_main_v26 (F := Ideal) x0 x1 x2 x3 (ix2 t j) = normAt x0 x1 x2 x3 t j := by
  pointwise [val_main_v26, v25_eq]

theorem v27_eq (t : Fin 8192) (j : Fin 2048) :
    val_main_v27 (F := Ideal) x0 x1 x2 x3 x4 (ix2 t j) = prodAt x0 x1 x2 x3 x4 t j := by
  pointwise [val_main_v27, v25_eq]
  rfl

end Cert.Reference8Ideal.ProjRef

namespace Cert.Proj8Value

open Cert.NormValue Idealize.ShloMosaic Idealize.SL.Sem

/-- On equal arguments the kernel and the reference end with equal results. -/
theorem agree : Cert.algebraic_Kernel8Ideal_Reference8Ideal (hKernel8Ideal := Cert.Kernel8Ideal.Gen.facts) (hReference8Ideal := Cert.Reference8Ideal.Gen.facts) := by
  intro m g m' g' _ hm
  refine ⟨Cert.Kernel8Ideal.ProjBlocks.resNorm m, Cert.Kernel8Ideal.ProjBlocks.resProd m,
    (θ_run _ _ _).mono (fun r h c => ?_) (Cert.Kernel8Ideal.Value.run_blocks m g),
    (θ_run _ _ _).mono (fun r h c => ?_) (Cert.Reference8Ideal.Value.run m' g')⟩
  · obtain ⟨h0, h1, h2⟩ := h c
    exact ⟨h0.trans (Cert.Kernel8Ideal.ProjBlocks.final_norm m c), h1.trans (Cert.Kernel8Ideal.ProjBlocks.final_prod m c), h2⟩
  · obtain ⟨h0, h1, h2⟩ := h c
    obtain ⟨e0, e1, e2, e3, e4⟩ := hm c
    refine ⟨h0.trans ((Cert.Reference8Ideal.Read.val_main_v26_eq _ _ _ _).trans (funext fun y => ?_)),
      h1.trans ((Cert.Reference8Ideal.Read.val_main_v27_eq _ _ _ _ _).trans (funext fun y => ?_)), h2⟩
    · refine (congrArg _ (eta2 y)).trans ((Cert.Reference8Ideal.ProjRef.v26_eq _ _ _ _ (y 0) (y 1)).trans ?_)
      rw [e0, e1, e2, e3]
    · refine (congrArg _ (eta2 y)).trans ((Cert.Reference8Ideal.ProjRef.v27_eq _ _ _ _ _ (y 0) (y 1)).trans ?_)
      rw [e0, e1, e2, e3, e4]

end Cert.Proj8Value

end
-- ==== Proof.Out9Value.lean ====
/-
  Layer 0's gate, output product and residual sum: the kernel's three results and the reference's are the same functions of
  the arguments.
-/
module

public import proofs.«01_k».proof.Proof.NormValue
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise.Select
public import Idealize.ShloMosaic.Lib.Pipeline.ValueKit
public import Idealize.ShloMosaic.Lib.WritesUnit
public import Idealize.ShloMosaic.Lib.Claim

@[expose] public section

noncomputable section

namespace Cert.Out

open Idealize.ShloMosaic Cert.Norm

/-- `silu`. -/
def sil (v : EReal) : EReal := v * Ideal.div 1 (1 + Ideal.exp (-v))

/-- Two rows side by side, at a column. -/
def cat (a b : Fin 512 → EReal) (k : Fin 1024) : EReal :=
  if h : k.val < 512 then a ⟨k.val, h⟩ else b ⟨k.val - 512, by omega⟩

section
variable (a b : (⟨2, ![8192, 512]⟩ : Shape).Idx → EReal) (q : (⟨2, ![8192, 3328]⟩ : Shape).Idx → EReal)
  (w : (⟨2, ![1024, 1024]⟩ : Shape).Idx → EReal) (x : (⟨2, ![8192, 1024]⟩ : Shape).Idx → EReal)
  (g : (⟨3, ![4, 1, 1024]⟩ : Shape).Idx → EReal)

/-- The attentions' outputs, gated. -/
def gatedAt (t : Fin 8192) (k : Fin 1024) : EReal :=
  cat (fun j => a (ix2 t j)) (fun j => b (ix2 t j)) k * sil (q (ix2 t ⟨2048 + k.val, by omega⟩))

/-- Their product with the weight. -/
def outAt (t : Fin 8192) (j : Fin 1024) : EReal := ∑ k : Fin 1024, gatedAt a b q t k * w (ix2 k j)

/-- The residual sum. -/
def sumAt (t : Fin 8192) (j : Fin 1024) : EReal := x (ix2 t j) + g (ix3 (seqOf t) 0 j) * outAt a b q w t j
end

end Cert.Out

namespace Cert.Kernel9Ideal.OutBody

open Cert.Kernel9Ideal Cert.Kernel9Ideal.Gen Idealize.ShloMosaic Idealize.ShloMosaic.TcCoe Cert.Out

theorem hz : (![0, 0] : Fin 2 → Nat) = fun _ => 0 := funext fun a => by fin_cases a <;> rfl
theorem hz3 : (![0, 0, 0] : Fin 3 → Nat) = fun _ => 0 := funext fun a => by fin_cases a <;> rfl

section
variable (x0 x1 : Vec Ideal S512x512 .bf16) (x2 : Vec Ideal S512x1024 .bf16) (x3 : Vec Ideal S1024x1024 .bf16)
  (x4 : Vec Ideal S512x1024 .f32) (x5 : Vec Ideal S1x1x1024 .f32) (r : Fin 512)

/-- The block's gated rows. -/
def bgated (k : Fin 1024) : EReal := cat (fun j => x0 (ix2 r j)) (fun j => x1 (ix2 r j)) k * sil (x2 (ix2 r k))

/-- Their product with the weight. -/
def bout (j : Fin 1024) : EReal := ∑ k : Fin 1024, bgated x0 x1 x2 r k * x3 (ix2 k j)

/-- The residual sum. -/
def bsum (j : Fin 1024) : EReal := x4 (ix2 r j) + x5 (ix3 0 0 j) * bout x0 x1 x2 x3 r j

theorem pay1_eq (k : Fin 1024) : k0_pay1 (F := Ideal) x0 x1 x2 (ix2 r k) = bgated x0 x1 x2 r k := by
  pointwise [k0_pay1]
  unfold bgated cat sil
  simp only [zero_sub]

theorem pay2_eq (j : Fin 1024) : k0_pay2 (F := Ideal) x0 x1 x2 x3 (ix2 r j) = bout x0 x1 x2 x3 r j := by
  pointwise [k0_pay2, pay1_eq]
  rfl

theorem pay3_eq (j : Fin 1024) : k0_pay3 (F := Ideal) x0 x1 x2 x3 (ix2 r j) = bout x0 x1 x2 x3 r j := by
  pointwise [k0_pay3, pay2_eq]

theorem pay4_eq (j : Fin 1024) :
    k0_pay4 (F := Ideal) x0 x1 x2 x3 x4 x5 (ix2 r j) = bsum x0 x1 x2 x3 x4 x5 r j := by
  pointwise [k0_pay4, pay2_eq]
  rfl
end

section
variable (c : Dev nD) (i : grid0.Coords)
  (arg1 : Memref sig .tc .vmem S512x512 .bf16) (harg1 : arg1.IsWhole) (arg2 : Memref sig .tc .vmem S512x512 .bf16) (harg2 : arg2.IsWhole)
  (arg3 : Memref sig .tc .vmem S512x1024 .bf16) (harg3 : arg3.IsWhole) (arg4 : Memref sig .tc .vmem S1024x1024 .bf16) (harg4 : arg4.IsWhole)
  (arg5 : Memref sig .tc .vmem S512x1024 .f32) (harg5 : arg5.IsWhole) (arg6 : Memref sig .tc .vmem S1x1x1024 .f32) (harg6 : arg6.IsWhole)
  (arg7 : Memref sig .tc .vmem S512x1024 .bf16) (harg7 : arg7.IsWhole) (arg8 : Memref sig .tc .vmem S512x1024 .bf16) (harg8 : arg8.IsWhole)
  (arg9 : Memref sig .tc .vmem S512x1024 .f32) (harg9 : arg9.IsWhole)
  (x0 x1 : Vec Ideal S512x512 .bf16) (x2 : Vec Ideal S512x1024 .bf16) (x3 : Vec Ideal S1024x1024 .bf16)
  (x4 : Vec Ideal S512x1024 .f32) (x5 : Vec Ideal S1x1x1024 .f32) (r : Fin 512) (j : Fin 1024)

/-- The first output block: the gated rows. -/
theorem out6_eq : out0_A_6 (F := Ideal) c i arg1 harg1 arg2 harg2 arg3 harg3 arg4 harg4 arg5 harg5 arg6 harg6 arg7 harg7 arg8 harg8 arg9 harg9
    x0 x1 x2 x3 x4 x5 (ix2 r j) = bgated x0 x1 x2 r j := by
  unfold out0_A_6
  rw [View.read_writes_junk_eq_canon]
  unfold kernelRun0_A
  dsimp only
  sl_unfold_words
  rw [View.canon_unit_zero hz]
  simp only [View.readAt_eq_ld, harg1.read_unread, harg2.read_unread, harg3.read_unread,
    View.ld_unit_zero (S := S512x512) hz, View.ld_unit_zero (S := S512x1024) hz]
  exact pay1_eq x0 x1 x2 r j

/-- The second: the product. -/
theorem out7_eq : out0_A_7 (F := Ideal) c i arg1 harg1 arg2 harg2 arg3 harg3 arg4 harg4 arg5 harg5 arg6 harg6 arg7 harg7 arg8 harg8 arg9 harg9
    x0 x1 x2 x3 x4 x5 (ix2 r j) = bout x0 x1 x2 x3 r j := by
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread,
    View.ld_unit_zero (S := S512x512) hz, View.ld_unit_zero (S := S512x1024) hz, View.ld_unit_zero (S := S1024x1024) hz]
  exact pay3_eq x0 x1 x2 x3 r j

/-- The third: the residual sum. -/
theorem out8_eq : out0_A_8 (F := Ideal) c i arg1 harg1 arg2 harg2 arg3 harg3 arg4 harg4 arg5 harg5 arg6 harg6 arg7 harg7 arg8 harg8 arg9 harg9
    x0 x1 x2 x3 x4 x5 (ix2 r j) = bsum x0 x1 x2 x3 x4 x5 r j := by
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x512) hz, View.ld_unit_zero (S := S512x1024) hz, View.ld_unit_zero (S := S1024x1024) hz,
    View.ld_unit_zero (S := S1x1x1024) hz3]
  exact pay4_eq x0 x1 x2 x3 x4 x5 r j
end

end Cert.Kernel9Ideal.OutBody

namespace Cert.Kernel9Ideal.OutBlocks

open Cert.Kernel9Ideal Cert.Kernel9Ideal.Gen Cert.Kernel9Ideal.OutBody Idealize.ShloMosaic Idealize.ShloMosaic.TcCoe Cert.Norm Cert.Out

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 2] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val / 4, 0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

theorem blk0 (c : Dev nD) (t : Fin cfg0.N) (r : Fin 512) (k : Fin 512) :
    iblk m c 0 t (ix2 r k) = m (c.tc.loc main_arg0) (ix2 (ptok t r) k) := by
  blk_simp [iblk]
  entry_read
  refine congrArg _ ?_
  blk_ext [index0]

theorem blk1 (c : Dev nD) (t : Fin cfg0.N) (r : Fin 512) (k : Fin 512) :
    iblk m c 1 t (ix2 r k) = m (c.tc.loc main_arg1) (ix2 (ptok t r) k) := by
  blk_simp [iblk]
  entry_read
  refine congrArg _ ?_
  blk_ext [index1]

theorem blk2 (c : Dev nD) (t : Fin cfg0.N) (r : Fin 512) (k : Fin 1024) :
    X0_2 m c t (ix2 r k) = m (c.tc.loc main_arg2) (ix2 (ptok t r) ⟨2048 + k.val, by omega⟩) := by
  unfold X0_2 Pipeline.Window.fill
  rw [dif_pos (moved0_2 t (ix2 r k))]
  blk_simp [iblk]
  entry_read
  refine congrArg _ ?_
  blk_ext [index2]

theorem blk3 (c : Dev nD) (t : Fin cfg0.N) (k j : Fin 1024) :
    iblk m c 3 t (ix2 k j) = m (c.tc.loc main_arg3) (ix2 k j) := by
  blk_simp [iblk]
  entry_read
  have e : ((View.whole main_v0).slice (win0_3.rect t)).emb (ix2 k j) = ix2 k j := by blk_ext [index3]
  rw [e]
  pointwise []

theorem blk4 (c : Dev nD) (t : Fin cfg0.N) (r : Fin 512) (j : Fin 1024) :
    iblk m c 4 t (ix2 r j) = m (c.tc.loc main_arg4) (ix2 (ptok t r) j) := by
  blk_simp [iblk]
  entry_read
  refine congrArg _ ?_
  blk_ext [index4]

theorem blk5 (c : Dev nD) (t : Fin cfg0.N) (r : Fin 512) (j : Fin 1024) :
    iblk m c 5 t (ix3 0 0 j) = m (c.tc.loc main_arg5) (ix3 (seqOf (ptok t r)) 0 j) := by
  blk_simp [iblk]
  entry_read
  refine congrArg _ ?_
  blk_ext [index5]

theorem bgated_eq (c : Dev nD) (t : Fin cfg0.N) (r : Fin 512) (k : Fin 1024) :
    bgated (iblk m c 0 t) (iblk m c 1 t) (X0_2 m c t) r k
      = gatedAt (m (c.tc.loc main_arg0)) (m (c.tc.loc main_arg1)) (m (c.tc.loc main_arg2)) (ptok t r) k := by
  unfold bgated gatedAt
  simp only [blk0 m c t, blk1 m c t, blk2 m c t]

theorem bout_eq (c : Dev nD) (t : Fin cfg0.N) (r : Fin 512) (j : Fin 1024) :
    bout (iblk m c 0 t) (iblk m c 1 t) (X0_2 m c t) (iblk m c 3 t) r j
      = outAt (m (c.tc.loc main_arg0)) (m (c.tc.loc main_arg1)) (m (c.tc.loc main_arg2)) (m (c.tc.loc main_arg3)) (ptok t r) j := by
  unfold bout outAt
  simp only [bgated_eq m c t, blk3 m c t]

/-- The gated rows' buffer after point `t`. -/
theorem outs_gated (c : Dev nD) (t : Fin cfg0.N) (r : Fin 512) (j : Fin 1024) :
    (outsAt0 m c t).1 (ix2 r j) = bgated (iblk m c 0 t) (iblk m c 1 t) (X0_2 m c t) r j := by
  unfold outsAt0
  dsimp only
  exact out6_eq ..

/-- The product's buffer after point `t`. -/
theorem outs_out (c : Dev nD) (t : Fin cfg0.N) (r : Fin 512) (j : Fin 1024) :
    (outsAt0 m c t).2.1 (ix2 r j) = bout (iblk m c 0 t) (iblk m c 1 t) (X0_2 m c t) (iblk m c 3 t) r j := by
  unfold outsAt0
  dsimp only
  exact out7_eq ..

/-- The residual sum's buffer after point `t`. -/
theorem outs_sum (c : Dev nD) (t : Fin cfg0.N) (r : Fin 512) (j : Fin 1024) :
    (outsAt0 m c t).2.2 (ix2 r j)
      = bsum (iblk m c 0 t) (iblk m c 1 t) (X0_2 m c t) (iblk m c 3 t) (iblk m c 4 t) (iblk m c 5 t) r j := by
  unfold outsAt0
  dsimp only
  exact out8_eq ..

/-- The gated rows of all tokens. -/
abbrev resGated (c : Dev nD) : Buf (Elt Ideal) ((c.tc : Thread nD τ).loc main_v1_0) := fun y : S8192x1024.Idx =>
  gatedAt (m (c.tc.loc main_arg0)) (m (c.tc.loc main_arg1)) (m (c.tc.loc main_arg2)) (y 0) (y 1)

/-- Their product with the weight. -/
abbrev resOut (c : Dev nD) : Buf (Elt Ideal) ((c.tc : Thread nD τ).loc main_v1_1) := fun y : S8192x1024.Idx =>
  outAt (m (c.tc.loc main_arg0)) (m (c.tc.loc main_arg1)) (m (c.tc.loc main_arg2)) (m (c.tc.loc main_arg3)) (y 0) (y 1)

/-- The residual sum. -/
abbrev resSum (c : Dev nD) : Buf (Elt Ideal) ((c.tc : Thread nD τ).loc main_v1_2) := fun y : S8192x1024.Idx =>
  sumAt (m (c.tc.loc main_arg0)) (m (c.tc.loc main_arg1)) (m (c.tc.loc main_arg2)) (m (c.tc.loc main_arg3)) (m (c.tc.loc main_arg4))
    (m (c.tc.loc main_arg5)) (y 0) (y 1)

theorem final_gated (c : Dev nD) : (dats m 0 c).arrAt 6 cfg0.N = resGated m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, Cert.NormValue.eta2 y⟩
  have e : (win0_6.blk t).view.emb (ix2 r j) = ix2 (ptok t r) j := by blk_ext [index6]
  rw [e]
  refine (outs_gated m c t r j).trans ((bgated_eq m c t r j).trans ?_)
  rfl

theorem final_out (c : Dev nD) : (dats m 0 c).arrAt 7 cfg0.N = resOut m c := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, Cert.NormValue.eta2 y⟩
  have e : (win0_7.blk t).view.emb (ix2 r j) = ix2 (ptok t r) j := by blk_ext [index7]
  rw [e]
  refine (outs_out m c t r j).trans ((bout_eq m c t r j).trans ?_)
  rfl

theorem final_sum (c : Dev nD) : (dats m 0 c).arrAt 8 cfg0.N = resSum m c := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, Cert.NormValue.eta2 y⟩
  have e : (win0_8.blk t).view.emb (ix2 r j) = ix2 (ptok t r) j := by blk_ext [index8]
  rw [e]
  refine (outs_sum m c t r j).trans ?_
  unfold bsum
  rw [bout_eq m c t r j, blk4 m c t r j, blk5 m c t r j]
  rfl

end Cert.Kernel9Ideal.OutBlocks

namespace Cert.Reference9Ideal.OutRef

open Cert.Reference9Ideal Cert.Reference9Ideal.Gen Cert.Reference9Ideal.Read Idealize.ShloMosaic Idealize.ShloMosaic.TcCoe Cert.Norm Cert.Out

variable (x0 x1 : (⟨S8192x512, .bf16⟩ : BufTy).Contents (Elt Ideal)) (x2 : (⟨S8192x3328, .bf16⟩ : BufTy).Contents (Elt Ideal))
  (x3 : (⟨S1024x1024, .f32⟩ : BufTy).Contents (Elt Ideal)) (x4 : (⟨S8192x1024, .f32⟩ : BufTy).Contents (Elt Ideal))
  (x5 : (⟨S4x1x1024, .f32⟩ : BufTy).Contents (Elt Ideal))

theorem v5_eq (t : Fin 8192) (k : Fin 1024) : val_main_v5 (F := Ideal) x0 x1 x2 (ix2 t k) = gatedAt x0 x1 x2 t k := by
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  rfl

theorem v6_eq (t : Fin 8192) (j : Fin 1024) : val_main_v6 (F := Ideal) x0 x1 x2 x3 (ix2 t j) = outAt x0 x1 x2 x3 t j := by
  pointwise [val_main_v6, v5_eq]
  rfl

theorem v14_eq (t : Fin 8192) (k : Fin 1024) : val_main_v14 (F := Ideal) x0 x1 x2 (ix2 t k) = gatedAt x0 x1 x2 t k := by
  pointwise [val_main_v14, v5_eq]

theorem v15_eq (t : Fin 8192) (j : Fin 1024) : val_main_v15 (F := Ideal) x0 x1 x2 x3 (ix2 t j) = outAt x0 x1 x2 x3 t j := by
  pointwise [val_main_v15, v6_eq]

theorem v13_eq (s : Fin 4) (i : Fin 2048) (j : Fin 1024) :
    val_main_v13 (F := Ideal) x0 x1 x2 x3 x4 x5 (ix3 s i j)
      = x4 (ix2 (tok s i) j) + x5 (ix3 s 0 j) * outAt x0 x1 x2 x3 (tok s i) j := by
  pointwise [val_main_v13, val_main_v12, val_main_v11, val_main_v10, val_main_v9, val_main_v8, val_main_v7, v6_eq]

theorem v16_eq (t : Fin 8192) (j : Fin 1024) :
    val_main_v16 (F := Ideal) x0 x1 x2 x3 x4 x5 (ix2 t j) = sumAt x0 x1 x2 x3 x4 x5 t j := by
  pointwise [val_main_v16, v13_eq]
  unfold sumAt
  have e : (⟨t.val / 2048 * 2048 + t.val % 2048, by omega⟩ : Fin 8192) = t := Fin.ext (by dsimp only; omega)
  simp only [tok, e]

end Cert.Reference9Ideal.OutRef

namespace Cert.Out9Value

open Cert.NormValue Idealize.ShloMosaic Idealize.SL.Sem

/-- On equal arguments the kernel and the reference end with equal results. -/
theorem agree : Cert.algebraic_Kernel9Ideal_Reference9Ideal (hKernel9Ideal := Cert.Kernel9Ideal.Gen.facts) (hReference9Ideal := Cert.Reference9Ideal.Gen.facts) := by
  intro m g m' g' _ hm
  refine ⟨Cert.Kernel9Ideal.OutBlocks.resGated m, Cert.Kernel9Ideal.OutBlocks.resOut m, Cert.Kernel9Ideal.OutBlocks.resSum m,
    (θ_run _ _ _).mono (fun r h c => ?_) (Cert.Kernel9Ideal.Value.run_blocks m g),
    (θ_run _ _ _).mono (fun r h c => ?_) (Cert.Reference9Ideal.Value.run m' g')⟩
  · obtain ⟨h0, h1, h2, h3⟩ := h c
    exact ⟨h0.trans (Cert.Kernel9Ideal.OutBlocks.final_gated m c), h1.trans (Cert.Kernel9Ideal.OutBlocks.final_out m c),
      h2.trans (Cert.Kernel9Ideal.OutBlocks.final_sum m c), h3⟩
  · obtain ⟨h0, h1, h2, h3⟩ := h c
    obtain ⟨e0, e1, e2, e3, e4, e5⟩ := hm c
    refine ⟨h0.trans ((Cert.Reference9Ideal.Read.val_main_v14_eq _ _ _).trans (funext fun y => ?_)),
      h1.trans ((Cert.Reference9Ideal.Read.val_main_v15_eq _ _ _ _).trans (funext fun y => ?_)),
      h2.trans ((Cert.Reference9Ideal.Read.val_main_v16_eq _ _ _ _ _ _).trans (funext fun y => ?_)), h3⟩
    · refine (congrArg _ (eta2 y)).trans ((Cert.Reference9Ideal.OutRef.v14_eq _ _ _ (y 0) (y 1)).trans ?_)
      rw [e0, e1, e2]
    · refine (congrArg _ (eta2 y)).trans ((Cert.Reference9Ideal.OutRef.v15_eq _ _ _ _ (y 0) (y 1)).trans ?_)
      rw [e0, e1, e2, e3]
    · refine (congrArg _ (eta2 y)).trans ((Cert.Reference9Ideal.OutRef.v16_eq _ _ _ _ _ _ (y 0) (y 1)).trans ?_)
      rw [e0, e1, e2, e3, e4, e5]

end Cert.Out9Value

end
-- ==== Proof.TailSpec.lean ====
/-
  What the last layer's tail computes for one token, on the extended reals, and the arrays of it.

  A row `R` holds the token's scan states, its gate, its residual stream, its modulation gate and its target, the
  final norm's gain and the output weight. Forward: the gated states `u`, their product with the weight `y`, the
  residual sum `xn`, its normalised row `hat` and the distance to the target `dist`. Backward: the cotangents of the
  scaled norm, of the residual sum, of the product and of the gated states.
-/
module

public import proofs.«01_k».proof.Proof.NormSpec

@[expose] public section

noncomputable section

namespace Cert.Tail

open Idealize.ShloMosaic Cert.Norm

/-! ## The literals -/

theorem lit_half : Ideal.ofBits .f32 0x3F000000#32 = ((1/2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_inv_width : Ideal.ofBits .f32 0x3A800000#32 = ((1/1024 : ℝ) : EReal) := by
  simp [Ideal.ofBits, Ideal.ieee, -EReal.coe_mul]; norm_num

theorem lit_half_inv_width : Ideal.ofBits .f32 0x3A000000#32 = ((1/2048 : ℝ) : EReal) := by
  simp [Ideal.ofBits, Ideal.ieee, -EReal.coe_mul]; norm_num

/-- Half of twice a distance over the width is the distance times the width's inverse. -/
theorem dout_lit (d : EReal) :
    Ideal.ofBits .f32 0x3F000000#32 * Ideal.div 1 (Ideal.ofBits .f32 0x44800000#32) * (Ideal.ofBits .f32 0x40000000#32 * d)
      = d * Ideal.ofBits .f32 0x3A800000#32 := by
  rw [lit_half, lit_width, lit_two, lit_inv_width, Ideal.div_coe (by norm_num), one_mul]
  have e : ((1/2 : ℝ) : EReal) * ((1/1024 : ℝ) : EReal) * (((2 : ℝ) : EReal) * d) = d * ((1/2 * (1/1024) * 2 : ℝ) : EReal) := by
    rw [EReal.coe_mul (1/2 * (1/1024)) 2, EReal.coe_mul (1/2) (1/1024)]
    ac_rfl
  rw [e]
  congr 2
  norm_num

/-- Half of a sum over the width is the sum times half the width's inverse. -/
theorem loss_lit (s : EReal) :
    Ideal.div (Ideal.ofBits .f32 0x3F000000#32 * s) (Ideal.ofBits .f32 0x44800000#32) = s * Ideal.ofBits .f32 0x3A000000#32 := by
  rw [lit_half, lit_width, lit_half_inv_width, Ideal.div_coe (by norm_num)]
  have e : ((1/2 : ℝ) : EReal) * s * ((1/1024 : ℝ) : EReal) = s * ((1/2 * (1/1024) : ℝ) : EReal) := by
    rw [EReal.coe_mul (1/2) (1/1024)]
    ac_rfl
  rw [e]
  congr 2
  norm_num

/-- The loss's factor distributes over a finite sum. -/
theorem sum_mul_lit {ι : Type} [Fintype ι] (f : ι → EReal) :
    (∑ i, f i) * Ideal.ofBits .f32 0x3A000000#32 = ∑ i, f i * Ideal.ofBits .f32 0x3A000000#32 := by
  rw [lit_half_inv_width, mul_comm, mul_sum _ _ (by norm_num)]
  exact Finset.sum_congr rfl fun i _ => mul_comm _ _

/-- Token `i` of sequence `s` is in sequence `s`. -/
theorem seqOf_tok (s : Fin 4) (i : Fin 2048) : seqOf (tok s i) = s := Fin.ext (by
  have := i.isLt
  show (s.val * 2048 + i.val) / 2048 = s.val
  omega)

/-- `silu`. -/
def sil (v : EReal) : EReal := v * Ideal.div 1 (1 + Ideal.exp (-v))

/-! ## One token -/

/-- What a token's tail reads: the scan's states `h`, the gate `p`, the residual stream `x`, the modulation's gate `g`,
    the final gain `f`, the target `t` and the output weight `w`. -/
structure Row where
  h : Fin 1024 → EReal
  p : Fin 1024 → EReal
  x : Fin 1024 → EReal
  g : Fin 1024 → EReal
  f : Fin 1024 → EReal
  t : Fin 1024 → EReal
  w : Fin 1024 → Fin 1024 → EReal

namespace Row
variable (R : Row)

/-- The gated states. -/
def u (k : Fin 1024) : EReal := R.h k * sil (R.p k)

/-- Their product with the weight. -/
def y (j : Fin 1024) : EReal := ∑ k : Fin 1024, R.u k * R.w k j

/-- The residual sum. -/
def xn (j : Fin 1024) : EReal := R.x j + R.g j * R.y j

/-- The normalised row. -/
def hat (j : Fin 1024) : EReal := R.xn j * rstd R.xn

/-- The distance to the target. -/
def dist (j : Fin 1024) : EReal := R.hat j * R.f j - R.t j

/-- The cotangent of the scaled norm. -/
def dout (j : Fin 1024) : EReal := R.dist j * Ideal.ofBits .f32 0x3A800000#32

/-- The cotangent of the residual sum. -/
def dx (j : Fin 1024) : EReal := dxFused R.xn (fun k => R.dout k * R.f k) j

/-- The cotangent of the product. -/
def dy (j : Fin 1024) : EReal := R.dx j * R.g j

/-- The cotangent of the gated states. -/
def du (k : Fin 1024) : EReal := ∑ j : Fin 1024, R.dy j * R.w k j

/-- The token's share of row `k` of the loss. -/
def lossRow (k : Fin 8) (j : Fin 1024) : EReal := if k = 0 then R.dist j * R.dist j * Ideal.ofBits .f32 0x3A000000#32 else 0

/-- The token's share of row `k` of the final gain's gradient. -/
def gainRow (k : Fin 8) (j : Fin 1024) : EReal := if k = 0 then R.dout j * R.hat j else 0

end Row

/-! ## All tokens -/

section
variable (hs : (⟨2, ![8192, 1024]⟩ : Shape).Idx → EReal) (proj : (⟨2, ![8192, 2048]⟩ : Shape).Idx → EReal)
  (w : (⟨2, ![1024, 1024]⟩ : Shape).Idx → EReal) (x : (⟨2, ![8192, 1024]⟩ : Shape).Idx → EReal)
  (gm : (⟨3, ![4, 1, 1024]⟩ : Shape).Idx → EReal) (fg : (⟨2, ![1, 1024]⟩ : Shape).Idx → EReal)
  (tg : (⟨2, ![8192, 1024]⟩ : Shape).Idx → EReal)

/-- Token `t`'s row of the arrays. -/
def rowAt (t : Fin 8192) : Row :=
  ⟨fun k => hs (ix2 t k), fun k => proj (ix2 t ⟨1024 + k.val, by have := k.isLt; omega⟩), fun j => x (ix2 t j),
    fun j => gm (ix3 (seqOf t) 0 j), fun j => fg (ix2 0 j), fun j => tg (ix2 t j), fun k j => w (ix2 k j)⟩

/-- The gradient of the modulation's gate: a sequence's sum over its tokens. -/
def dgateAt (s : Fin 4) (j : Fin 1024) : EReal :=
  ∑ i : Fin 2048, (rowAt hs proj w x gm fg tg (tok s i)).dx j * (rowAt hs proj w x gm fg tg (tok s i)).y j

/-- The loss: the sum over all tokens. -/
def lossAt (k : Fin 8) (j : Fin 1024) : EReal := ∑ t : Fin 8192, (rowAt hs proj w x gm fg tg t).lossRow k j

/-- The gradient of the final gain: the sum over all tokens. -/
def gainAt (k : Fin 8) (j : Fin 1024) : EReal := ∑ t : Fin 8192, (rowAt hs proj w x gm fg tg t).gainRow k j

end

end Cert.Tail

end
-- ==== Proof.TailBody.lean ====
/-
  One grid point of the last layer's tail at an element: the seven blocks it leaves, in terms of the blocks it reads.

  Four blocks are written whole. The other three hold what they held before, or zero after a reset, with this block's
  rows added: the modulation gate's gradient its one row, the loss and the final gain's gradient their row 0.
-/
module

public import proofs.«01_k».proof.Proof.Gen.Kernel3Ideal.Value
public import proofs.«01_k».proof.Proof.TailSpec
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import proofs.«01_k».proof.Proof.RowWrites

@[expose] public section

noncomputable section

namespace Cert.Kernel3Ideal.TailBody

open Cert.Kernel3Ideal Cert.Kernel3Ideal.Gen Idealize.ShloMosaic Idealize.ShloMosaic.TcCoe Cert.Norm Cert.Tail Cert.RowWrites

theorem hz : (![0, 0] : Fin 2 → Nat) = fun _ => 0 := funext fun a => by fin_cases a <;> rfl
theorem hz3 : (![0, 0, 0] : Fin 3 → Nat) = fun _ => 0 := funext fun a => by fin_cases a <;> rfl

section
variable (x0 x1 : Vec Ideal S512x1024 .f32) (x2 x3 : Vec Ideal S1024x1024 .bf16) (x4 : Vec Ideal S512x1024 .f32)
  (x5 : Vec Ideal S1x1x1024 .f32) (x6 : Vec Ideal S1x1024 .f32) (x7 : Vec Ideal S512x1024 .f32)

/-- Row `r` of the blocks. -/
def brow (r : Fin 512) : Row :=
  ⟨fun k => x0 (ix2 r k), fun k => x1 (ix2 r k), fun j => x4 (ix2 r j), fun j => x5 (ix3 0 0 j), fun j => x6 (ix2 0 j),
    fun j => x7 (ix2 r j), fun k j => x2 (ix2 k j)⟩

/-- The block's share of the modulation gate's gradient. -/
def bdgate (j : Fin 1024) : EReal := ∑ r : Fin 512, (brow x0 x1 x2 x4 x5 x6 x7 r).dx j * (brow x0 x1 x2 x4 x5 x6 x7 r).y j

/-- The block's share of row `k` of the loss. -/
def bloss (k : Fin 8) (j : Fin 1024) : EReal := ∑ r : Fin 512, (brow x0 x1 x2 x4 x5 x6 x7 r).lossRow k j

/-- The block's share of row `k` of the final gain's gradient. -/
def bgain (k : Fin 8) (j : Fin 1024) : EReal := ∑ r : Fin 512, (brow x0 x1 x2 x4 x5 x6 x7 r).gainRow k j

/-! ## The body's pure steps at an element -/

theorem pay9_eq (r : Fin 512) (k : Fin 1024) : k0_pay9 (F := Ideal) x0 x1 (ix2 r k) = (brow x0 x1 x2 x4 x5 x6 x7 r).u k := by
  pointwise [k0_pay9]
  simp only [zero_sub]
  rfl

theorem pay10_eq (r : Fin 512) (j : Fin 1024) : k0_pay10 (F := Ideal) (k0_pay9 x0 x1) x2 (ix2 r j) = (brow x0 x1 x2 x4 x5 x6 x7 r).y j := by
  pointwise [k0_pay10, pay9_eq x0 x1 x2 x4 x5 x6 x7]
  rfl

theorem pay11_eq (r : Fin 512) (j : Fin 1024) : k0_pay11 (F := Ideal) (k0_pay8 x5) (k0_pay9 x0 x1) x2 x4 (ix2 r j) = (brow x0 x1 x2 x4 x5 x6 x7 r).xn j := by
  pointwise [k0_pay11, k0_pay8, pay10_eq x0 x1 x2 x4 x5 x6 x7]
  rfl

theorem pay12_eq (r : Fin 512) (z : Fin 1) : k0_pay12 (F := Ideal) (k0_pay8 x5) (k0_pay9 x0 x1) x2 x4 (ix2 r z) = rstd (brow x0 x1 x2 x4 x5 x6 x7 r).xn := by
  pointwise [k0_pay12, pay11_eq x0 x1 x2 x4 x5 x6 x7]
  rfl

theorem pay13_eq (r : Fin 512) (j : Fin 1024) : k0_pay13 (F := Ideal) (k0_pay8 x5) (k0_pay9 x0 x1) x2 x4 (ix2 r j) = (brow x0 x1 x2 x4 x5 x6 x7 r).hat j := by
  pointwise [k0_pay13, pay11_eq x0 x1 x2 x4 x5 x6 x7, pay12_eq x0 x1 x2 x4 x5 x6 x7]
  rfl

theorem pay14_eq (r : Fin 512) (j : Fin 1024) : k0_pay14 (F := Ideal) (k0_pay8 x5) (k0_pay9 x0 x1) x2 x4 x6 x7 (ix2 r j) = (brow x0 x1 x2 x4 x5 x6 x7 r).dist j := by
  pointwise [k0_pay14, pay13_eq x0 x1 x2 x4 x5 x6 x7]
  rfl

theorem pay15_eq (v : Vec Ideal S1x1024 .f32) (a : Fin 1) (j : Fin 1024) :
    k0_pay15 (F := Ideal) (k0_pay8 x5) (k0_pay9 x0 x1) x2 x4 x6 x7 v (ix2 a j) = v (ix2 0 j) + ∑ r : Fin 512, (brow x0 x1 x2 x4 x5 x6 x7 r).dist j * (brow x0 x1 x2 x4 x5 x6 x7 r).dist j * Ideal.ofBits .f32 0x3A000000#32 := by
  rw [show a = 0 from Subsingleton.elim _ _, ← sum_mul_lit]
  pointwise [k0_pay15, pay14_eq x0 x1 x2 x4 x5 x6 x7]

theorem pay16_eq (r : Fin 512) (j : Fin 1024) : k0_pay16 (F := Ideal) (k0_pay8 x5) (k0_pay9 x0 x1) x2 x4 x6 x7 (ix2 r j) = (brow x0 x1 x2 x4 x5 x6 x7 r).dout j := by
  pointwise [k0_pay16, pay14_eq x0 x1 x2 x4 x5 x6 x7]
  rfl

theorem pay17_eq (v : Vec Ideal S1x1024 .f32) (a : Fin 1) (j : Fin 1024) :
    k0_pay17 (F := Ideal) (k0_pay8 x5) (k0_pay9 x0 x1) x2 x4 x6 x7 v (ix2 a j) = v (ix2 0 j) + ∑ r : Fin 512, (brow x0 x1 x2 x4 x5 x6 x7 r).dout j * (brow x0 x1 x2 x4 x5 x6 x7 r).hat j := by
  rw [show a = 0 from Subsingleton.elim _ _]
  pointwise [k0_pay17, pay16_eq x0 x1 x2 x4 x5 x6 x7, pay13_eq x0 x1 x2 x4 x5 x6 x7]

theorem pay1_eq (r : Fin 512) (j : Fin 1024) : k0_pay1 (F := Ideal) x6 (k0_pay12 (k0_pay8 x5) (k0_pay9 x0 x1) x2 x4) (k0_pay13 (k0_pay8 x5) (k0_pay9 x0 x1) x2 x4) (k0_pay16 (k0_pay8 x5) (k0_pay9 x0 x1) x2 x4 x6 x7) (ix2 r j) = (brow x0 x1 x2 x4 x5 x6 x7 r).dx j := by
  pointwise [k0_pay1, pay12_eq x0 x1 x2 x4 x5 x6 x7, pay13_eq x0 x1 x2 x4 x5 x6 x7, pay16_eq x0 x1 x2 x4 x5 x6 x7]
  rfl

theorem pay2_eq (v : Vec Ideal S1x1x1024 .f32) (a b : Fin 1) (j : Fin 1024) :
    k0_pay2 (F := Ideal) (k0_pay10 (k0_pay9 x0 x1) x2) x6 (k0_pay12 (k0_pay8 x5) (k0_pay9 x0 x1) x2 x4) (k0_pay13 (k0_pay8 x5) (k0_pay9 x0 x1) x2 x4) (k0_pay16 (k0_pay8 x5) (k0_pay9 x0 x1) x2 x4 x6 x7) v (ix3 a b j) = v (ix3 0 0 j) + bdgate x0 x1 x2 x4 x5 x6 x7 j := by
  pointwise [k0_pay2, pay1_eq x0 x1 x2 x4 x5 x6 x7, pay10_eq x0 x1 x2 x4 x5 x6 x7]
  rfl

theorem pay8_eq (a : Fin 1) (j : Fin 1024) : k0_pay8 (F := Ideal) x5 (ix2 a j) = x5 (ix3 0 0 j) := by pointwise [k0_pay8]

theorem pay3_eq (r : Fin 512) (j : Fin 1024) : k0_pay3 (F := Ideal) (k0_pay8 x5) x6 (k0_pay12 (k0_pay8 x5) (k0_pay9 x0 x1) x2 x4) (k0_pay13 (k0_pay8 x5) (k0_pay9 x0 x1) x2 x4) (k0_pay16 (k0_pay8 x5) (k0_pay9 x0 x1) x2 x4 x6 x7) (ix2 r j) = (brow x0 x1 x2 x4 x5 x6 x7 r).dy j := by
  pointwise [k0_pay3, pay8_eq, pay1_eq x0 x1 x2 x4 x5 x6 x7]
  rfl

theorem pay4_eq (r : Fin 512) (k : Fin 1024) : k0_pay4 (F := Ideal) (k0_pay8 x5) x6 (k0_pay12 (k0_pay8 x5) (k0_pay9 x0 x1) x2 x4) (k0_pay13 (k0_pay8 x5) (k0_pay9 x0 x1) x2 x4) (k0_pay16 (k0_pay8 x5) (k0_pay9 x0 x1) x2 x4 x6 x7) x3 (ix2 r k) = ∑ j : Fin 1024, (brow x0 x1 x2 x4 x5 x6 x7 r).dy j * x3 (ix2 j k) := by
  pointwise [k0_pay4, pay3_eq x0 x1 x2 x4 x5 x6 x7]

theorem pay5_eq (y : S8x1024.Idx) : k0_pay5 (F := Ideal) y = 0 := by pointwise [k0_pay5]

theorem pay6_eq (y : S8x1024.Idx) : k0_pay6 (F := Ideal) y = 0 := by pointwise [k0_pay6]

theorem pay7_eq (a b : Fin 1) (j : Fin 1024) : k0_pay7 (F := Ideal) (ix3 a b j) = 0 := by pointwise [k0_pay7]

theorem pay2_zero (a b : Fin 1) (j : Fin 1024) : k0_pay2 (F := Ideal) (k0_pay10 (k0_pay9 x0 x1) x2) x6 (k0_pay12 (k0_pay8 x5) (k0_pay9 x0 x1) x2 x4) (k0_pay13 (k0_pay8 x5) (k0_pay9 x0 x1) x2 x4) (k0_pay16 (k0_pay8 x5) (k0_pay9 x0 x1) x2 x4 x6 x7) (k0_pay7 (F := Ideal)) (ix3 a b j) = bdgate x0 x1 x2 x4 x5 x6 x7 j := by
  rw [pay2_eq x0 x1 x2 x4 x5 x6 x7, pay7_eq, zero_add]

end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S1x1x1024 .f32) (harg13 : arg13.IsWhole) (arg14 : Memref sig .tc .vmem S8x1024 .f32) (harg14 : arg14.IsWhole) (arg15 : Memref sig .tc .vmem S8x1024 .f32) (harg15 : arg15.IsWhole)
  (x0 x1 : Vec Ideal S512x1024 .f32) (x2 x3 : Vec Ideal S1024x1024 .bf16) (x4 : Vec Ideal S512x1024 .f32)
  (x5 : Vec Ideal S1x1x1024 .f32) (x6 : Vec Ideal S1x1024 .f32) (x7 : Vec Ideal S512x1024 .f32)
  (xo12 : Vec Ideal S1x1x1024 .f32) (xo13 xo14 : Vec Ideal S8x1024 .f32)

/-- Case A: the gated states. -/
theorem u_A (hc0 : cond0_0 i) (hc1 : cond0_1 i) (r : Fin 512) (j : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r j) = (brow x0 x1 x2 x4 x5 x6 x7 r).u j := by
  unfold out0_A_8
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay9_eq x0 x1 x2 x4 x5 x6 x7 r j

/-- Case A: the residual sum's cotangent. -/
theorem dx_A (hc0 : cond0_0 i) (hc1 : cond0_1 i) (r : Fin 512) (j : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r j) = (brow x0 x1 x2 x4 x5 x6 x7 r).dx j := by
  unfold out0_A_9
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay1_eq x0 x1 x2 x4 x5 x6 x7 r j

/-- Case A: the product's cotangent. -/
theorem dy_A (hc0 : cond0_0 i) (hc1 : cond0_1 i) (r : Fin 512) (j : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r j) = (brow x0 x1 x2 x4 x5 x6 x7 r).dy j := by
  unfold out0_A_10
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay3_eq x0 x1 x2 x4 x5 x6 x7 r j

/-- Case A: the gated states' cotangent. -/
theorem du_A (hc0 : cond0_0 i) (hc1 : cond0_1 i) (r : Fin 512) (j : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 r j) = ∑ k : Fin 1024, (brow x0 x1 x2 x4 x5 x6 x7 r).dy k * x3 (ix2 k j) := by
  unfold out0_A_11
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay4_eq x0 x1 x2 x3 x4 x5 x6 x7 r j

/-- Case A: the modulation gate's gradient. -/
theorem dgate_A (hc0 : cond0_0 i) (hc1 : cond0_1 i) (j : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix3 0 0 j) = bdgate x0 x1 x2 x4 x5 x6 x7 j := by
  unfold out0_A_12
  rw [View.read_writes_junk_eq_canon]
  unfold kernelRun0_A
  dsimp only
  sl_unfold_words
  rw [View.canon_cons_unit_zero hz3]
  rw [View.readCov_unit_zero _ hz3]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay2_zero x0 x1 x2 x4 x5 x6 x7 0 0 j

/-- Case A: the loss. -/
theorem loss_A (hc0 : cond0_0 i) (hc1 : cond0_1 i) (k : Fin 8) (j : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 k j) = bloss x0 x1 x2 x4 x5 x6 x7 k j := by
  unfold out0_A_13
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3, canon_row2, pay15_eq x0 x1 x2 x4 x5 x6 x7]
  rw [readCov_row2 (o := 0) inb_S8x1024_S1x1024_0_0 _ _ 0 rfl]
  simp only [View.canon_unit_zero (S := S8x1024) hz, pay5_eq, zero_add]
  unfold bloss Row.lossRow
  match k with
  | 0 => simp
  | ⟨k + 1, hk⟩ => simp [Fin.ext_iff]

/-- Case A: the final gain's gradient. -/
theorem gain_A (hc0 : cond0_0 i) (hc1 : cond0_1 i) (k : Fin 8) (j : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 (ix2 k j) = bgain x0 x1 x2 x4 x5 x6 x7 k j := by
  unfold out0_A_14
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3, canon_row2, pay17_eq x0 x1 x2 x4 x5 x6 x7]
  rw [readCov_row2 (o := 0) inb_S8x1024_S1x1024_0_0 _ _ 0 rfl]
  simp only [View.canon_unit_zero (S := S8x1024) hz, pay6_eq, zero_add]
  unfold bgain Row.gainRow
  match k with
  | 0 => simp
  | ⟨k + 1, hk⟩ => simp [Fin.ext_iff]

/-- Case B: the gated states. -/
theorem u_B (hc0 : ¬cond0_0 i) (hc1 : ¬cond0_1 i) (r : Fin 512) (j : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix2 r j) = (brow x0 x1 x2 x4 x5 x6 x7 r).u j := by
  unfold out0_B_8
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay9_eq x0 x1 x2 x4 x5 x6 x7 r j

/-- Case B: the residual sum's cotangent. -/
theorem dx_B (hc0 : ¬cond0_0 i) (hc1 : ¬cond0_1 i) (r : Fin 512) (j : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix2 r j) = (brow x0 x1 x2 x4 x5 x6 x7 r).dx j := by
  unfold out0_B_9
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay1_eq x0 x1 x2 x4 x5 x6 x7 r j

/-- Case B: the product's cotangent. -/
theorem dy_B (hc0 : ¬cond0_0 i) (hc1 : ¬cond0_1 i) (r : Fin 512) (j : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix2 r j) = (brow x0 x1 x2 x4 x5 x6 x7 r).dy j := by
  unfold out0_B_10
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay3_eq x0 x1 x2 x4 x5 x6 x7 r j

/-- Case B: the gated states' cotangent. -/
theorem du_B (hc0 : ¬cond0_0 i) (hc1 : ¬cond0_1 i) (r : Fin 512) (j : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix2 r j) = ∑ k : Fin 1024, (brow x0 x1 x2 x4 x5 x6 x7 r).dy k * x3 (ix2 k j) := by
  unfold out0_B_11
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay4_eq x0 x1 x2 x3 x4 x5 x6 x7 r j

/-- Case B: the modulation gate's gradient. -/
theorem dgate_B (hc0 : ¬cond0_0 i) (hc1 : ¬cond0_1 i) (j : Fin 1024) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix3 0 0 j) = xo12 (ix3 0 0 j) + bdgate x0 x1 x2 x4 x5 x6 x7 j := by
  unfold out0_B_12
  rw [View.read_writes_junk_eq_canon]
  unfold kernelRun0_B
  dsimp only
  sl_unfold_words
  rw [View.canon_cons_unit_zero hz3]
  simp only [View.readAt_eq_ld, harg1.read_unread, harg2.read_unread, harg3.read_unread, harg4.read_unread, harg5.read_unread, harg6.read_unread, harg7.read_unread, harg8.read_unread, harg13.read_unread,
    View.ld_unit_zero (S := S512x1024) hz, View.ld_unit_zero (S := S1024x1024) hz,
    View.ld_unit_zero (S := S1x1024) hz, View.ld_unit_zero (S := S1x1x1024) hz3]
  exact pay2_eq x0 x1 x2 x4 x5 x6 x7 xo12 0 0 j

/-- Case B: the loss. -/
theorem loss_B (hc0 : ¬cond0_0 i) (hc1 : ¬cond0_1 i) (k : Fin 8) (j : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix2 k j) = xo13 (ix2 k j) + bloss x0 x1 x2 x4 x5 x6 x7 k j := by
  unfold out0_B_13
  unfold kernelRun0_B
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3, read_row2, pay15_eq x0 x1 x2 x4 x5 x6 x7, View.writes_nil, harg14.read_unread]
  rw [ld_row2 (o := 0) inb_S8x1024_S1x1024_0_0 xo13 0 rfl]
  unfold bloss Row.lossRow
  match k with
  | 0 => simp
  | ⟨k + 1, hk⟩ => simp [Fin.ext_iff]

/-- Case B: the final gain's gradient. -/
theorem gain_B (hc0 : ¬cond0_0 i) (hc1 : ¬cond0_1 i) (k : Fin 8) (j : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13 xo14 (ix2 k j) = xo14 (ix2 k j) + bgain x0 x1 x2 x4 x5 x6 x7 k j := by
  unfold out0_B_14
  unfold kernelRun0_B
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3, read_row2, pay17_eq x0 x1 x2 x4 x5 x6 x7, View.writes_nil, harg15.read_unread]
  rw [ld_row2 (o := 0) inb_S8x1024_S1x1024_0_0 xo14 0 rfl]
  unfold bgain Row.gainRow
  match k with
  | 0 => simp
  | ⟨k + 1, hk⟩ => simp [Fin.ext_iff]

/-- Case C: the gated states. -/
theorem u_C (hc0 : ¬cond0_0 i) (hc1 : cond0_1 i) (r : Fin 512) (j : Fin 1024) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix2 r j) = (brow x0 x1 x2 x4 x5 x6 x7 r).u j := by
  unfold out0_C_8
  rw [View.read_writes_junk_eq_canon]
  unfold kernelRun0_C
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay9_eq x0 x1 x2 x4 x5 x6 x7 r j

/-- Case C: the residual sum's cotangent. -/
theorem dx_C (hc0 : ¬cond0_0 i) (hc1 : cond0_1 i) (r : Fin 512) (j : Fin 1024) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix2 r j) = (brow x0 x1 x2 x4 x5 x6 x7 r).dx j := by
  unfold out0_C_9
  rw [View.read_writes_junk_eq_canon]
  unfold kernelRun0_C
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay1_eq x0 x1 x2 x4 x5 x6 x7 r j

/-- Case C: the product's cotangent. -/
theorem dy_C (hc0 : ¬cond0_0 i) (hc1 : cond0_1 i) (r : Fin 512) (j : Fin 1024) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix2 r j) = (brow x0 x1 x2 x4 x5 x6 x7 r).dy j := by
  unfold out0_C_10
  rw [View.read_writes_junk_eq_canon]
  unfold kernelRun0_C
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay3_eq x0 x1 x2 x4 x5 x6 x7 r j

/-- Case C: the gated states' cotangent. -/
theorem du_C (hc0 : ¬cond0_0 i) (hc1 : cond0_1 i) (r : Fin 512) (j : Fin 1024) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix2 r j) = ∑ k : Fin 1024, (brow x0 x1 x2 x4 x5 x6 x7 r).dy k * x3 (ix2 k j) := by
  unfold out0_C_11
  rw [View.read_writes_junk_eq_canon]
  unfold kernelRun0_C
  dsimp only
  sl_unfold_words
  rw [View.canon_cons_unit_zero hz]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay4_eq x0 x1 x2 x3 x4 x5 x6 x7 r j

/-- Case C: the modulation gate's gradient. -/
theorem dgate_C (hc0 : ¬cond0_0 i) (hc1 : cond0_1 i) (j : Fin 1024) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix3 0 0 j) = bdgate x0 x1 x2 x4 x5 x6 x7 j := by
  unfold out0_C_12
  rw [View.read_writes_junk_eq_canon]
  unfold kernelRun0_C
  dsimp only
  sl_unfold_words
  rw [View.canon_cons_unit_zero hz3]
  rw [View.readCov_unit_zero _ hz3]
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3]
  exact pay2_zero x0 x1 x2 x4 x5 x6 x7 0 0 j

/-- Case C: the loss. -/
theorem loss_C (hc0 : ¬cond0_0 i) (hc1 : cond0_1 i) (k : Fin 8) (j : Fin 1024) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix2 k j) = xo13 (ix2 k j) + bloss x0 x1 x2 x4 x5 x6 x7 k j := by
  unfold out0_C_13
  unfold kernelRun0_C
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3, read_row2, pay15_eq x0 x1 x2 x4 x5 x6 x7, View.writes_nil, harg14.read_unread]
  rw [ld_row2 (o := 0) inb_S8x1024_S1x1024_0_0 xo13 0 rfl]
  unfold bloss Row.lossRow
  match k with
  | 0 => simp
  | ⟨k + 1, hk⟩ => simp [Fin.ext_iff]

/-- Case C: the final gain's gradient. -/
theorem gain_C (hc0 : ¬cond0_0 i) (hc1 : cond0_1 i) (k : Fin 8) (j : Fin 1024) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo13 xo14 (ix2 k j) = xo14 (ix2 k j) + bgain x0 x1 x2 x4 x5 x6 x7 k j := by
  unfold out0_C_14
  unfold kernelRun0_C
  dsimp only
  sl_unfold_words
  simp only [View.readAt_eq_ld, harg1.read_unread, harg2.read_unread, harg3.read_unread, harg4.read_unread, harg5.read_unread, harg6.read_unread, harg7.read_unread, harg8.read_unread,
    View.ld_unit_zero (S := S512x1024) hz, View.ld_unit_zero (S := S1024x1024) hz,
    View.ld_unit_zero (S := S1x1024) hz, View.ld_unit_zero (S := S1x1x1024) hz3, read_row2, pay17_eq x0 x1 x2 x4 x5 x6 x7, View.writes_nil, harg15.read_unread]
  rw [ld_row2 (o := 0) inb_S8x1024_S1x1024_0_0 xo14 0 rfl]
  unfold bgain Row.gainRow
  match k with
  | 0 => simp
  | ⟨k + 1, hk⟩ => simp [Fin.ext_iff]

end

end Cert.Kernel3Ideal.TailBody

end
-- ==== Proof.TailRef.lean ====
/-
  The reference's seven results, element by element: `Cert.Tail`'s rows and sums of its arguments.
-/
module

public import proofs.«01_k».proof.Proof.Gen.Reference3Ideal.Read
public import proofs.«01_k».proof.Proof.TailSpec
public import Idealize.ShloMosaic.Lib.Pointwise.Tactic
public import Idealize.ShloMosaic.Lib.Pointwise.Contract
public import Idealize.ShloMosaic.Lib.Pointwise.Reshape
public import Idealize.ShloMosaic.Lib.Pointwise.Select

@[expose] public section

noncomputable section

namespace Cert.Reference3Ideal.TailRef

open Cert.Reference3Ideal Cert.Reference3Ideal.Gen Cert.Reference3Ideal.Read Idealize.ShloMosaic Idealize.ShloMosaic.TcCoe Cert.Norm Cert.Tail

variable (x0 : (⟨S8192x1024, .f32⟩ : BufTy).Contents (Elt Ideal)) (x1 : (⟨S8192x2048, .f32⟩ : BufTy).Contents (Elt Ideal))
  (x2 : (⟨S1024x1024, .f32⟩ : BufTy).Contents (Elt Ideal)) (x3 : (⟨S8192x1024, .f32⟩ : BufTy).Contents (Elt Ideal))
  (x4 : (⟨S4x1x1024, .f32⟩ : BufTy).Contents (Elt Ideal)) (x5 : (⟨S1x1024, .f32⟩ : BufTy).Contents (Elt Ideal))
  (x6 : (⟨S8192x1024, .f32⟩ : BufTy).Contents (Elt Ideal))

/-- The number read from the integer zero is zero. -/
theorem zero_of_int : FloatOps.sitofp (F := Ideal) .f32 0#32 = 0 := by
  show (((0#32 : BitVec 32).toInt : ℝ) : EReal) = 0
  simp

/-- A token of a sequence, among all tokens. -/
theorem tok_eq (t : Fin 8192) : (⟨t.val / 2048 * 2048 + t.val % 2048, by have := t.isLt; omega⟩ : Fin 8192) = t :=
  Fin.ext (Nat.div_add_mod' _ _)

/-- The gated states. -/
theorem v2_eq (t : Fin 8192) (j : Fin 1024) : val_main_v2 (F := Ideal) x0 x1 (ix2 t j) = (rowAt x0 x1 x2 x3 x4 x5 x6 t).u j := by
  pointwise [val_main_v2, val_main_v1, val_main_call0_v5, val_main_call0_v4, val_main_call0_v3, val_main_call0_v2, val_main_call0_v1, val_main_call0_v0, val_main_call0_cst, val_main_call0_cst_0, val_main_v0]
  rfl

/-- Their product with the weight. -/
theorem v3_eq (t : Fin 8192) (j : Fin 1024) : val_main_v3 (F := Ideal) x0 x1 x2 (ix2 t j) = (rowAt x0 x1 x2 x3 x4 x5 x6 t).y j := by
  pointwise [val_main_v3, v2_eq x0 x1 x2 x3 x4 x5 x6]
  rfl

/-- The residual sum. -/
theorem v12_eq (s : Fin 4) (i : Fin 2048) (j : Fin 1024) : val_main_v12 (F := Ideal) x0 x1 x2 x3 x4 (ix3 s i j) = (rowAt x0 x1 x2 x3 x4 x5 x6 (tok s i)).xn j := by
  pointwise [val_main_v12, val_main_v11, val_main_v10, val_main_v9, val_main_v6, val_main_v5, val_main_v4, v3_eq x0 x1 x2 x3 x4 x5 x6]
  unfold Row.xn
  show _ = x3 (ix2 (tok s i) j) + x4 (ix3 (seqOf (tok s i)) 0 j) * (rowAt x0 x1 x2 x3 x4 x5 x6 (tok s i)).y j
  rw [seqOf_tok]

/-- `mean(x²) + ε` of its row. -/
theorem v19_eq (s : Fin 4) (i : Fin 2048) (z : Fin 1) : val_main_v19 (F := Ideal) x0 x1 x2 x3 x4 (ix3 s i z) = meanSq (rowAt x0 x1 x2 x3 x4 x5 x6 (tok s i)).xn := by
  pointwise [val_main_v19, val_main_v18, val_main_v17, val_main_v16, val_main_v15, val_main_v14, val_main_v13, val_main_cst, val_main_cst_0, val_main_cst_1, v12_eq x0 x1 x2 x3 x4 x5 x6]
  rfl

/-- Its reciprocal root. -/
theorem v20_eq (s : Fin 4) (i : Fin 2048) (z : Fin 1) : val_main_v20 (F := Ideal) x0 x1 x2 x3 x4 (ix3 s i z) = rstd (rowAt x0 x1 x2 x3 x4 x5 x6 (tok s i)).xn := by
  pointwise [val_main_v20, v19_eq x0 x1 x2 x3 x4 x5 x6]
  rfl

/-- The normalised row. -/
theorem v25_eq (s : Fin 4) (i : Fin 2048) (j : Fin 1024) : val_main_v25 (F := Ideal) x0 x1 x2 x3 x4 (ix3 s i j) = (rowAt x0 x1 x2 x3 x4 x5 x6 (tok s i)).hat j := by
  pointwise [val_main_v25, val_main_v24, v20_eq x0 x1 x2 x3 x4 x5 x6, v12_eq x0 x1 x2 x3 x4 x5 x6]
  rfl

/-- The distance to the target. -/
theorem v29_eq (s : Fin 4) (i : Fin 2048) (j : Fin 1024) : val_main_v29 (F := Ideal) x0 x1 x2 x3 x4 x5 x6 (ix3 s i j) = (rowAt x0 x1 x2 x3 x4 x5 x6 (tok s i)).dist j := by
  pointwise [val_main_v29, val_main_v28, val_main_v27, val_main_v26, val_main_v7, val_main_v8, v25_eq x0 x1 x2 x3 x4 x5 x6]
  rfl

/-- The cotangent of the scaled norm. -/
theorem v44_eq (s : Fin 4) (i : Fin 2048) (j : Fin 1024) : val_main_v44 (F := Ideal) x0 x1 x2 x3 x4 x5 x6 (ix3 s i j) = (rowAt x0 x1 x2 x3 x4 x5 x6 (tok s i)).dout j := by
  pointwise [val_main_v44, val_main_v43, val_main_v42, val_main_v41, val_main_v40, val_main_v39, val_main_v38, val_main_v32, val_main_v31, val_main_cst_3, val_main_cst_7, val_main_cst_8, val_main_cst_9, v29_eq x0 x1 x2 x3 x4 x5 x6]
  exact dout_lit _

/-- The cotangent of the normalised row. -/
theorem v49_eq (s : Fin 4) (i : Fin 2048) (j : Fin 1024) : val_main_v49 (F := Ideal) x0 x1 x2 x3 x4 x5 x6 (ix3 s i j) = (rowAt x0 x1 x2 x3 x4 x5 x6 (tok s i)).dout j * (rowAt x0 x1 x2 x3 x4 x5 x6 (tok s i)).f j := by
  pointwise [val_main_v49, val_main_v48, val_main_v26, val_main_v27, val_main_v7, v44_eq x0 x1 x2 x3 x4 x5 x6]
  rfl

/-- The chain rule's inner term. -/
theorem v59_eq (s : Fin 4) (i : Fin 2048) : val_main_v59 (F := Ideal) x0 x1 x2 x3 x4 x5 x6 (ix2 s i) = chainTerm (rowAt x0 x1 x2 x3 x4 x5 x6 (tok s i)).xn (fun k => (rowAt x0 x1 x2 x3 x4 x5 x6 (tok s i)).dout k * (rowAt x0 x1 x2 x3 x4 x5 x6 (tok s i)).f k) := by
  pointwise [val_main_v59, val_main_v58, val_main_v57, val_main_v56, val_main_v53, val_main_v52, val_main_v51, val_main_v23, val_main_v22, val_main_v21, val_main_cst_2, val_main_cst_12, val_main_cst_13, val_main_cst_14, v49_eq x0 x1 x2 x3 x4 x5 x6, v20_eq x0 x1 x2 x3 x4 x5 x6, v19_eq x0 x1 x2 x3 x4 x5 x6, v12_eq x0 x1 x2 x3 x4 x5 x6]
  exact Fin.sum_univ_one _

/-- The cotangent of the residual sum, in the fused form. -/
theorem v64_eq (s : Fin 4) (i : Fin 2048) (j : Fin 1024) : val_main_v64 (F := Ideal) x0 x1 x2 x3 x4 x5 x6 (ix3 s i j) = (rowAt x0 x1 x2 x3 x4 x5 x6 (tok s i)).dx j := by
  unfold Row.dx
  rw [dx_eq]
  pointwise [val_main_v64, val_main_v63, val_main_v62, val_main_v61, val_main_v60, val_main_v55, val_main_v54, v59_eq x0 x1 x2 x3 x4 x5 x6, v49_eq x0 x1 x2 x3 x4 x5 x6, v20_eq x0 x1 x2 x3 x4 x5 x6, v12_eq x0 x1 x2 x3 x4 x5 x6]
  rfl

/-- The second result: the cotangent of the residual sum. -/
theorem v74_eq (t : Fin 8192) (j : Fin 1024) : val_main_v74 (F := Ideal) x0 x1 x2 x3 x4 x5 x6 (ix2 t j) = (rowAt x0 x1 x2 x3 x4 x5 x6 t).dx j := by
  pointwise [val_main_v74, v64_eq x0 x1 x2 x3 x4 x5 x6]
  exact congrArg (fun u => (rowAt x0 x1 x2 x3 x4 x5 x6 u).dx j) (tok_eq t)

/-- The product's cotangent. -/
theorem v66_eq (s : Fin 4) (i : Fin 2048) (j : Fin 1024) : val_main_v66 (F := Ideal) x0 x1 x2 x3 x4 x5 x6 (ix3 s i j) = (rowAt x0 x1 x2 x3 x4 x5 x6 (tok s i)).dy j := by
  pointwise [val_main_v66, val_main_v65, val_main_v9, val_main_v6, v64_eq x0 x1 x2 x3 x4 x5 x6]
  unfold Row.dy
  show _ = (rowAt x0 x1 x2 x3 x4 x5 x6 (tok s i)).dx j * x4 (ix3 (seqOf (tok s i)) 0 j)
  rw [seqOf_tok]
  exact mul_comm _ _

/-- The product's cotangent, over all tokens. -/
theorem v71_eq (t : Fin 8192) (j : Fin 1024) : val_main_v71 (F := Ideal) x0 x1 x2 x3 x4 x5 x6 (ix2 t j) = (rowAt x0 x1 x2 x3 x4 x5 x6 t).dy j := by
  pointwise [val_main_v71, v66_eq x0 x1 x2 x3 x4 x5 x6]
  exact congrArg (fun u => (rowAt x0 x1 x2 x3 x4 x5 x6 u).dy j) (tok_eq t)

/-- The third result. -/
theorem v75_eq (t : Fin 8192) (j : Fin 1024) : val_main_v75 (F := Ideal) x0 x1 x2 x3 x4 x5 x6 (ix2 t j) = (rowAt x0 x1 x2 x3 x4 x5 x6 t).dy j := by
  pointwise [val_main_v75, v71_eq x0 x1 x2 x3 x4 x5 x6]

/-- The fourth result: the gated states' cotangent. -/
theorem v72_eq (t : Fin 8192) (j : Fin 1024) : val_main_v72 (F := Ideal) x0 x1 x2 x3 x4 x5 x6 (ix2 t j) = (rowAt x0 x1 x2 x3 x4 x5 x6 t).du j := by
  pointwise [val_main_v72, v71_eq x0 x1 x2 x3 x4 x5 x6]
  rfl

/-- The first result: the gated states. -/
theorem v73_eq (t : Fin 8192) (j : Fin 1024) : val_main_v73 (F := Ideal) x0 x1 (ix2 t j) = (rowAt x0 x1 x2 x3 x4 x5 x6 t).u j := by
  pointwise [val_main_v73, v2_eq x0 x1 x2 x3 x4 x5 x6]

/-- The modulation gate's gradient. -/
theorem v70_eq (s : Fin 4) (j : Fin 1024) : val_main_v70 (F := Ideal) x0 x1 x2 x3 x4 x5 x6 (ix2 s j) = dgateAt x0 x1 x2 x3 x4 x5 x6 s j := by
  pointwise [val_main_v70, val_main_v69, val_main_v68, val_main_v67, val_main_v5, val_main_cst_15, val_main_cst_16, v64_eq x0 x1 x2 x3 x4 x5 x6, v3_eq x0 x1 x2 x3 x4 x5 x6]
  exact Fin.sum_univ_one _

/-- The fifth result: the modulation gate's gradient. -/
theorem v76_eq (s : Fin 4) (z : Fin 1) (j : Fin 1024) : val_main_v76 (F := Ideal) x0 x1 x2 x3 x4 x5 x6 (ix3 s z j) = dgateAt x0 x1 x2 x3 x4 x5 x6 s j := by
  pointwise [val_main_v76, v70_eq x0 x1 x2 x3 x4 x5 x6]

/-- The sixth result: the loss. -/
theorem v78_eq (k : Fin 8) (j : Fin 1024) : val_main_v78 (F := Ideal) x0 x1 x2 x3 x4 x5 x6 (ix2 k j) = lossAt x0 x1 x2 x3 x4 x5 x6 k j := by
  have h33 : val_main_v33 (F := Ideal) x0 x1 x2 x3 x4 x5 x6 (ix1 j) = ∑ s : Fin 4, ∑ i : Fin 2048, (rowAt x0 x1 x2 x3 x4 x5 x6 (tok s i)).dist j * (rowAt x0 x1 x2 x3 x4 x5 x6 (tok s i)).dist j := by
    unfold val_main_v33
    simp only [Host.reduceAdd, Ideal.hostReduceAdd_def]
    rw [hostReduceAdd_first_two _ rfl _ j rfl]
    pointwise [val_main_v30, val_main_cst_4, v29_eq x0 x1 x2 x3 x4 x5 x6]

  pointwise [val_main_v78, val_main_v77, val_main_call1_v0, val_main_c, val_main_v37, val_main_v36, val_main_v35, val_main_v34, val_main_cst_5, val_main_cst_6, h33, zero_of_int]
  unfold lossAt Row.lossRow
  match k with
  | 0 =>
    simp only [if_pos]
    rw [← sum_mul_lit, Fin.sum_univ_tiles 4 2048 rfl]
    exact loss_lit _
  | ⟨k + 1, hk⟩ =>
    have e0 : (⟨k + 1, hk⟩ : Fin 8) ≠ 0 := fun e => by simpa using congrArg Fin.val e
    simp [e0]

/-- The seventh result: the final gain's gradient. -/
theorem v80_eq (k : Fin 8) (j : Fin 1024) : val_main_v80 (F := Ideal) x0 x1 x2 x3 x4 x5 x6 (ix2 k j) = Cert.Tail.gainAt x0 x1 x2 x3 x4 x5 x6 k j := by
  have h46 : ∀ j, val_main_v46 (F := Ideal) x0 x1 x2 x3 x4 x5 x6 (ix1 j) = ∑ s : Fin 4, ∑ i : Fin 2048, (rowAt x0 x1 x2 x3 x4 x5 x6 (tok s i)).dout j * (rowAt x0 x1 x2 x3 x4 x5 x6 (tok s i)).hat j := fun j => by
    unfold val_main_v46
    simp only [Host.reduceAdd, Ideal.hostReduceAdd_def]
    rw [hostReduceAdd_first_two _ rfl _ j rfl]
    pointwise [val_main_v45, val_main_cst_10, v44_eq x0 x1 x2 x3 x4 x5 x6, v25_eq x0 x1 x2 x3 x4 x5 x6]
    exact Finset.sum_congr rfl fun s _ => Finset.sum_congr rfl fun i _ => mul_comm _ _
  have h50 : val_main_v50 (F := Ideal) x0 x1 x2 x3 x4 x5 x6 (ix1 j) = ∑ s : Fin 4, ∑ i : Fin 2048, (rowAt x0 x1 x2 x3 x4 x5 x6 (tok s i)).dout j * (rowAt x0 x1 x2 x3 x4 x5 x6 (tok s i)).hat j := by
    unfold val_main_v50
    simp only [Host.reduceAdd, Ideal.hostReduceAdd_def]
    rw [hostReduceAdd_first_two _ rfl _ j rfl]
    pointwise [val_main_v47, val_main_cst_11, h46]
    exact (Fin.sum_univ_one _).trans (Fin.sum_univ_one _)
  pointwise [val_main_v80, val_main_v79, val_main_call2_v0, val_main_c_17, h50, zero_of_int]
  unfold Cert.Tail.gainAt Row.gainRow
  match k with
  | 0 =>
    simp only [if_pos]
    exact (Fin.sum_univ_tiles 4 2048 rfl (fun t => (rowAt x0 x1 x2 x3 x4 x5 x6 t).dout j * (rowAt x0 x1 x2 x3 x4 x5 x6 t).hat j)).symm
  | ⟨k + 1, hk⟩ =>
    have e0 : (⟨k + 1, hk⟩ : Fin 8) ≠ 0 := fun e => by simpa using congrArg Fin.val e
    simp [e0]

end Cert.Reference3Ideal.TailRef

end
-- ==== Proof.TailValue.lean ====
/-
  The last layer's tail: the kernel's seven results and the reference's are the same functions of the arguments.

  Point `t` of 16 reads token rows `512 t … 512 t + 511`. Four results are written back block by block; the modulation
  gate's gradient is reset at the first of the four points of a sequence and written back at the last, the loss and the
  final gain's gradient run over all 16 points.
-/
module

public import proofs.«01_k».proof.Proof.NormValue
public import proofs.«01_k».proof.Proof.TailBody
public import proofs.«01_k».proof.Proof.TailRef
public import proofs.«01_k».proof.Proof.Gen.Reference3Ideal.Run
public import Idealize.ShloMosaic.Lib.Pipeline.ValueKit
public import Idealize.ShloMosaic.Lib.Claim

@[expose] public section

noncomputable section

namespace Cert.Kernel3Ideal.TailBlocks

open Cert.Kernel3Ideal Cert.Kernel3Ideal.Gen Cert.Kernel3Ideal.TailBody Idealize.ShloMosaic Idealize.ShloMosaic.TcCoe Cert.Norm Cert.Tail

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val / 4, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val / 4, 0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

/-! ## The blocks the windows read, at an element of the argument arrays -/

theorem blk0 (c : Dev nD) (t : Fin cfg0.N) (r : Fin 512) (k : Fin 1024) :
    iblk m c 0 t (ix2 r k) = m (c.tc.loc main_arg0) (ix2 (ptok t r) k) := by
  blk_simp [iblk]
  entry_read
  refine congrArg _ ?_
  blk_ext [index0]

theorem blk1 (c : Dev nD) (t : Fin cfg0.N) (r : Fin 512) (k : Fin 1024) :
    iblk m c 1 t (ix2 r k) = m (c.tc.loc main_arg1) (ix2 (ptok t r) ⟨1024 + k.val, by have := k.isLt; omega⟩) := by
  blk_simp [iblk]
  entry_read
  refine congrArg _ ?_
  blk_ext [index1]

theorem blk2 (c : Dev nD) (t : Fin cfg0.N) (k j : Fin 1024) :
    iblk m c 2 t (ix2 k j) = m (c.tc.loc main_arg2) (ix2 k j) := by
  blk_simp [iblk]
  entry_read
  have e : ((View.whole main_v0).slice (win0_2.rect t)).emb (ix2 k j) = ix2 k j := by blk_ext [index2]
  rw [e]
  pointwise []

theorem blk3 (c : Dev nD) (t : Fin cfg0.N) (k j : Fin 1024) :
    iblk m c 3 t (ix2 k j) = m (c.tc.loc main_arg2) (ix2 j k) := by
  blk_simp [iblk]
  entry_read
  have e : ((View.whole main_v1).slice (win0_3.rect t)).emb (ix2 k j) = ix2 k j := by blk_ext [index3]
  rw [e]
  pointwise []

theorem blk4 (c : Dev nD) (t : Fin cfg0.N) (r : Fin 512) (k : Fin 1024) :
    iblk m c 4 t (ix2 r k) = m (c.tc.loc main_arg3) (ix2 (ptok t r) k) := by
  blk_simp [iblk]
  entry_read
  refine congrArg _ ?_
  blk_ext [index4]

theorem blk5 (c : Dev nD) (t : Fin cfg0.N) (r : Fin 512) (k : Fin 1024) :
    iblk m c 5 t (ix3 0 0 k) = m (c.tc.loc main_arg4) (ix3 (seqOf (ptok t r)) 0 k) := by
  blk_simp [iblk]
  entry_read
  refine congrArg _ ?_
  blk_ext [index5]

theorem blk6 (c : Dev nD) (t : Fin cfg0.N) (k : Fin 1024) :
    iblk m c 6 t (ix2 0 k) = m (c.tc.loc main_arg5) (ix2 0 k) := by
  blk_simp [iblk]
  entry_read
  refine congrArg _ ?_
  blk_ext [index6]

theorem blk7 (c : Dev nD) (t : Fin cfg0.N) (r : Fin 512) (k : Fin 1024) :
    iblk m c 7 t (ix2 r k) = m (c.tc.loc main_arg6) (ix2 (ptok t r) k) := by
  blk_simp [iblk]
  entry_read
  refine congrArg _ ?_
  blk_ext [index7]

/-- The arguments' row of a token. -/
abbrev arow (c : Dev nD) (t : Fin 8192) : Row := rowAt (m (c.tc.loc main_arg0)) (m (c.tc.loc main_arg1)) (m (c.tc.loc main_arg2)) (m (c.tc.loc main_arg3)) (m (c.tc.loc main_arg4)) (m (c.tc.loc main_arg5)) (m (c.tc.loc main_arg6)) t

/-- A row of a point's blocks is its token's row of the arguments. -/
theorem brow_eq (c : Dev nD) (t : Fin cfg0.N) (r : Fin 512) : brow (iblk m c 0 t) (iblk m c 1 t) (iblk m c 2 t) (iblk m c 4 t) (iblk m c 5 t) (iblk m c 6 t) (iblk m c 7 t) r = arow m c (ptok t r) := by
  unfold brow arow rowAt
  simp only [blk0 m c t, blk1 m c t, blk2 m c t, blk4 m c t, blk5 m c t r, blk6 m c t, blk7 m c t]

/-! ## What the buffers hold after a point -/

theorem outs_u (c : Dev nD) (t : Fin cfg0.N) (r : Fin 512) (j : Fin 1024) :
    (outsAt0 m c t.val t.isLt).1 (ix2 r j) = (brow (iblk m c 0 t) (iblk m c 1 t) (iblk m c 2 t) (iblk m c 4 t) (iblk m c 5 t) (iblk m c 6 t) (iblk m c 7 t) r).u j := by
  by_cases h0 : t.val % 16 = 0
  · have h1 : t.val % 4 = 0 := by omega
    rw [outsAt0_A m c t h0 h1]; dsimp only; exact u_A ..
  · by_cases h1 : t.val % 4 = 0
    · rw [outsAt0_C m c t h0 h1]; dsimp only; exact u_C ..
    · rw [outsAt0_B m c t h0 h1]; dsimp only; exact u_B ..

theorem outs_dx (c : Dev nD) (t : Fin cfg0.N) (r : Fin 512) (j : Fin 1024) :
    (outsAt0 m c t.val t.isLt).2.1 (ix2 r j) = (brow (iblk m c 0 t) (iblk m c 1 t) (iblk m c 2 t) (iblk m c 4 t) (iblk m c 5 t) (iblk m c 6 t) (iblk m c 7 t) r).dx j := by
  by_cases h0 : t.val % 16 = 0
  · have h1 : t.val % 4 = 0 := by omega
    rw [outsAt0_A m c t h0 h1]; dsimp only; exact dx_A ..
  · by_cases h1 : t.val % 4 = 0
    · rw [outsAt0_C m c t h0 h1]; dsimp only; exact dx_C ..
    · rw [outsAt0_B m c t h0 h1]; dsimp only; exact dx_B ..

theorem outs_dy (c : Dev nD) (t : Fin cfg0.N) (r : Fin 512) (j : Fin 1024) :
    (outsAt0 m c t.val t.isLt).2.2.1 (ix2 r j) = (brow (iblk m c 0 t) (iblk m c 1 t) (iblk m c 2 t) (iblk m c 4 t) (iblk m c 5 t) (iblk m c 6 t) (iblk m c 7 t) r).dy j := by
  by_cases h0 : t.val % 16 = 0
  · have h1 : t.val % 4 = 0 := by omega
    rw [outsAt0_A m c t h0 h1]; dsimp only; exact dy_A ..
  · by_cases h1 : t.val % 4 = 0
    · rw [outsAt0_C m c t h0 h1]; dsimp only; exact dy_C ..
    · rw [outsAt0_B m c t h0 h1]; dsimp only; exact dy_B ..

theorem outs_du (c : Dev nD) (t : Fin cfg0.N) (r : Fin 512) (j : Fin 1024) :
    (outsAt0 m c t.val t.isLt).2.2.2.1 (ix2 r j) = ∑ k : Fin 1024, (brow (iblk m c 0 t) (iblk m c 1 t) (iblk m c 2 t) (iblk m c 4 t) (iblk m c 5 t) (iblk m c 6 t) (iblk m c 7 t) r).dy k * iblk m c 3 t (ix2 k j) := by
  by_cases h0 : t.val % 16 = 0
  · have h1 : t.val % 4 = 0 := by omega
    rw [outsAt0_A m c t h0 h1]; dsimp only; exact du_A ..
  · by_cases h1 : t.val % 4 = 0
    · rw [outsAt0_C m c t h0 h1]; dsimp only; exact du_C ..
    · rw [outsAt0_B m c t h0 h1]; dsimp only; exact du_B ..

/-- The modulation gate's gradient at the last point of a sequence: the four points' shares. -/
theorem outs_dgate (c : Dev nD) (t : Fin cfg0.N) (hr : t.val % 4 = 3) (j : Fin 1024) :
    (outsAt0 m c t.val t.isLt).2.2.2.2.1 (ix3 0 0 j)
      = ∑ s : Fin 4, bdgate (iblk m c 0 ⟨4 * (t.val / 4) + s.val, by have := s.isLt; have := t.isLt; omega⟩)
          (iblk m c 1 ⟨4 * (t.val / 4) + s.val, by have := s.isLt; have := t.isLt; omega⟩)
          (iblk m c 2 ⟨4 * (t.val / 4) + s.val, by have := s.isLt; have := t.isLt; omega⟩)
          (iblk m c 4 ⟨4 * (t.val / 4) + s.val, by have := s.isLt; have := t.isLt; omega⟩)
          (iblk m c 5 ⟨4 * (t.val / 4) + s.val, by have := s.isLt; have := t.isLt; omega⟩)
          (iblk m c 6 ⟨4 * (t.val / 4) + s.val, by have := s.isLt; have := t.isLt; omega⟩)
          (iblk m c 7 ⟨4 * (t.val / 4) + s.val, by have := s.isLt; have := t.isLt; omega⟩) j := by
  refine (Pipeline.eq_sum_fin_of_reset_step_apply_of_flush
    (fun n h (i : Fin 1024) => (outsAt0 m c n h).2.2.2.2.1 (ix3 0 0 i)) 4 (fun _ => 0)
    (fun p i => bdgate (iblk m c 0 p) (iblk m c 1 p) (iblk m c 2 p) (iblk m c 4 p) (iblk m c 5 p) (iblk m c 6 p) (iblk m c 7 p) i)
    (fun p h1 i => ?_) (fun p h1 i => ?_) t hr j).trans (zero_add _)
  · rw [zero_add]
    by_cases h0 : p.val % 16 = 0
    · rw [outsAt0_A m c p h0 h1]; dsimp only; exact dgate_A ..
    · rw [outsAt0_C m c p h0 h1]; dsimp only; exact dgate_C ..
  · have h0 : ¬p.val % 16 = 0 := by omega
    rw [outsAt0_B m c p h0 h1]; dsimp only; exact dgate_B ..

/-- An accumulator over all points at the last one: the 16 points' shares. -/
theorem outs_loss (c : Dev nD) (t : Fin cfg0.N) (hr : t.val + 1 = cfg0.N) (k : Fin 8) (j : Fin 1024) :
    (outsAt0 m c t.val t.isLt).2.2.2.2.2.1 (ix2 k j)
      = ∑ p : Fin cfg0.N, bloss (iblk m c 0 p) (iblk m c 1 p) (iblk m c 2 p) (iblk m c 4 p) (iblk m c 5 p) (iblk m c 6 p) (iblk m c 7 p) k j := by
  refine (Pipeline.eq_sum_fin_of_reset_step_apply_last
    (fun n h (i : Fin 8 × Fin 1024) => (outsAt0 m c n h).2.2.2.2.2.1 (ix2 i.1 i.2)) 16 (fun _ => 0)
    (fun p i => bloss (iblk m c 0 p) (iblk m c 1 p) (iblk m c 2 p) (iblk m c 4 p) (iblk m c 5 p) (iblk m c 6 p) (iblk m c 7 p) i.1 i.2)
    (fun p h0 i => ?_) (fun p h0 i => ?_) (le_of_eq N_0) t hr (k, j)).trans (zero_add _)
  · rw [zero_add]
    have h1 : p.val % 4 = 0 := by omega
    rw [outsAt0_A m c p h0 h1]; dsimp only; exact loss_A ..
  · by_cases h1 : p.val % 4 = 0
    · rw [outsAt0_C m c p h0 h1]; dsimp only; exact loss_C ..
    · rw [outsAt0_B m c p h0 h1]; dsimp only; exact loss_B ..

/-- An accumulator over all points at the last one: the 16 points' shares. -/
theorem outs_gain (c : Dev nD) (t : Fin cfg0.N) (hr : t.val + 1 = cfg0.N) (k : Fin 8) (j : Fin 1024) :
    (outsAt0 m c t.val t.isLt).2.2.2.2.2.2 (ix2 k j)
      = ∑ p : Fin cfg0.N, bgain (iblk m c 0 p) (iblk m c 1 p) (iblk m c 2 p) (iblk m c 4 p) (iblk m c 5 p) (iblk m c 6 p) (iblk m c 7 p) k j := by
  refine (Pipeline.eq_sum_fin_of_reset_step_apply_last
    (fun n h (i : Fin 8 × Fin 1024) => (outsAt0 m c n h).2.2.2.2.2.2 (ix2 i.1 i.2)) 16 (fun _ => 0)
    (fun p i => bgain (iblk m c 0 p) (iblk m c 1 p) (iblk m c 2 p) (iblk m c 4 p) (iblk m c 5 p) (iblk m c 6 p) (iblk m c 7 p) i.1 i.2)
    (fun p h0 i => ?_) (fun p h0 i => ?_) (le_of_eq N_0) t hr (k, j)).trans (zero_add _)
  · rw [zero_add]
    have h1 : p.val % 4 = 0 := by omega
    rw [outsAt0_A m c p h0 h1]; dsimp only; exact gain_A ..
  · by_cases h1 : p.val % 4 = 0
    · rw [outsAt0_C m c p h0 h1]; dsimp only; exact gain_C ..
    · rw [outsAt0_B m c p h0 h1]; dsimp only; exact gain_B ..

/-! ## The result arrays -/

/-- Result 1. -/
abbrev resU (c : Dev nD) : Buf (Elt Ideal) ((c.tc : Thread nD τ).loc main_v2_0) := fun y : S8192x1024.Idx =>
  (arow m c (y 0)).u (y 1)

/-- Result 2. -/
abbrev resDx (c : Dev nD) : Buf (Elt Ideal) ((c.tc : Thread nD τ).loc main_v2_1) := fun y : S8192x1024.Idx =>
  (arow m c (y 0)).dx (y 1)

/-- Result 3. -/
abbrev resDy (c : Dev nD) : Buf (Elt Ideal) ((c.tc : Thread nD τ).loc main_v2_2) := fun y : S8192x1024.Idx =>
  (arow m c (y 0)).dy (y 1)

/-- Result 4. -/
abbrev resDu (c : Dev nD) : Buf (Elt Ideal) ((c.tc : Thread nD τ).loc main_v2_3) := fun y : S8192x1024.Idx =>
  (arow m c (y 0)).du (y 1)

/-- Result 5. -/
abbrev resGate (c : Dev nD) : Buf (Elt Ideal) ((c.tc : Thread nD τ).loc main_v2_4) := fun y : S4x1x1024.Idx =>
  dgateAt (m (c.tc.loc main_arg0)) (m (c.tc.loc main_arg1)) (m (c.tc.loc main_arg2)) (m (c.tc.loc main_arg3)) (m (c.tc.loc main_arg4)) (m (c.tc.loc main_arg5)) (m (c.tc.loc main_arg6)) (y 0) (y 2)

/-- Result 6. -/
abbrev resLoss (c : Dev nD) : Buf (Elt Ideal) ((c.tc : Thread nD τ).loc main_v2_5) := fun y : S8x1024.Idx =>
  lossAt (m (c.tc.loc main_arg0)) (m (c.tc.loc main_arg1)) (m (c.tc.loc main_arg2)) (m (c.tc.loc main_arg3)) (m (c.tc.loc main_arg4)) (m (c.tc.loc main_arg5)) (m (c.tc.loc main_arg6)) (y 0) (y 1)

/-- Result 7. -/
abbrev resGain (c : Dev nD) : Buf (Elt Ideal) ((c.tc : Thread nD τ).loc main_v2_6) := fun y : S8x1024.Idx =>
  Cert.Tail.gainAt (m (c.tc.loc main_arg0)) (m (c.tc.loc main_arg1)) (m (c.tc.loc main_arg2)) (m (c.tc.loc main_arg3)) (m (c.tc.loc main_arg4)) (m (c.tc.loc main_arg5)) (m (c.tc.loc main_arg6)) (y 0) (y 1)

theorem final_u (c : Dev nD) : (dats m 0 c).arrAt 8 cfg0.N = resU m c := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, Cert.NormValue.eta2 y⟩
  have e : (win0_8.blk t).view.emb (ix2 r j) = ix2 (ptok t r) j := by blk_ext [index8]
  rw [e]
  exact (outs_u m c t r j).trans (congrArg (fun R => Row.u R j) (brow_eq m c t r))

theorem final_dx (c : Dev nD) : (dats m 0 c).arrAt 9 cfg0.N = resDx m c := by
  refine (dats m 0 c).arrAt_eq_of_covers 9 _ (by decide +kernel) fun t hf y => ?_
  blk_simp
  rw [after0_9]
  obtain ⟨r, j, rfl⟩ : ∃ (r : Fin 512) (j : Fin 1024), y = ix2 r j := ⟨y 0, y 1, Cert.NormValue.eta2 y⟩
  have e : (win0_9.blk t).view.emb (ix2 r j) = ix2 (ptok t r) j := by blk_ext [index9]
  rw [e]
  exact (outs_dx m c t r j).trans (congrArg (fun R => Row.dx R j) (brow_eq m c t r))

theorem final_dy (c : Dev nD) : (dats m 0 c).arrAt 10 cfg0.N = resDy m c := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, Cert.NormValue.eta2 y⟩
  have e : (win0_10.blk t).view.emb (ix2 r j) = ix2 (ptok t r) j := by blk_ext [index10]
  rw [e]
  exact (outs_dy m c t r j).trans (congrArg (fun R => Row.dy R j) (brow_eq m c t r))

theorem final_du (c : Dev nD) : (dats m 0 c).arrAt 11 cfg0.N = resDu m c := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, Cert.NormValue.eta2 y⟩
  have e : (win0_11.blk t).view.emb (ix2 r j) = ix2 (ptok t r) j := by blk_ext [index11]
  rw [e]
  refine (outs_du m c t r j).trans ?_
  show _ = ∑ k : Fin 1024, (arow m c (ptok t r)).dy k * m (c.tc.loc main_arg2) (ix2 j k)
  rw [brow_eq]
  exact Finset.sum_congr rfl fun k _ => congrArg (_ * ·) (blk3 m c t k j)

theorem final_dgate (c : Dev nD) : (dats m 0 c).arrAt 12 cfg0.N = resGate m c := by
  refine (dats m 0 c).arrAt_eq_of_covers 12 _ (by decide +kernel) fun t hf y => ?_
  blk_simp
  rw [after0_12]
  have hr : t.val % 4 = 3 := (flush0_12 t).mp hf
  have ht : t.val < 16 := lt_of_lt_of_eq t.isLt N_0
  obtain ⟨j, rfl⟩ : ∃ (j : Fin 1024), y = ix3 0 0 j := ⟨y 2, funext fun a => by
    match a with
    | ⟨0, _⟩ => exact Subsingleton.elim (α := Fin 1) _ _
    | ⟨1, _⟩ => exact Subsingleton.elim (α := Fin 1) _ _
    | ⟨2, _⟩ => rfl⟩
  refine (outs_dgate m c t hr j).trans ?_
  have e : (win0_12.blk t).view.emb (ix3 0 0 j) = ix3 (⟨t.val / 4, by omega⟩ : Fin 4) 0 j := by blk_ext [index12]
  rw [e]
  show _ = dgateAt (m (c.tc.loc main_arg0)) (m (c.tc.loc main_arg1)) (m (c.tc.loc main_arg2)) (m (c.tc.loc main_arg3)) (m (c.tc.loc main_arg4)) (m (c.tc.loc main_arg5)) (m (c.tc.loc main_arg6)) ⟨t.val / 4, by omega⟩ j
  unfold dgateAt
  rw [Fin.sum_univ_tiles 4 512 rfl]
  refine Finset.sum_congr rfl fun s _ => Finset.sum_congr rfl fun r _ => ?_
  rw [brow_eq]
  refine congrArg (fun u => (arow m c u).dx j * (arow m c u).y j) (Fin.ext ?_)
  show (4 * (t.val / 4) + s.val) * 512 + r.val = t.val / 4 * 2048 + (s.val * 512 + r.val)
  omega

theorem final_loss (c : Dev nD) : (dats m 0 c).arrAt 13 cfg0.N = resLoss m c := by
  refine (dats m 0 c).arrAt_eq_of_covers 13 _ (by decide +kernel) fun t hf y => ?_
  blk_simp
  rw [after0_13]
  have hN : cfg0.N = 16 := N_0
  have hr : t.val + 1 = cfg0.N := by
    have h := (flush0_13 t).mp hf
    have := t.isLt
    omega
  obtain ⟨k, j, rfl⟩ : ∃ (k : Fin 8) (j : Fin 1024), y = ix2 k j := ⟨y 0, y 1, Cert.NormValue.eta2 y⟩
  refine (outs_loss m c t hr k j).trans ?_
  have e : (win0_13.blk t).view.emb (ix2 k j) = ix2 k j := by blk_ext [index13]
  rw [e]
  show _ = lossAt (m (c.tc.loc main_arg0)) (m (c.tc.loc main_arg1)) (m (c.tc.loc main_arg2)) (m (c.tc.loc main_arg3)) (m (c.tc.loc main_arg4)) (m (c.tc.loc main_arg5)) (m (c.tc.loc main_arg6)) k j
  unfold lossAt
  rw [Fin.sum_univ_tiles 16 512 rfl]
  refine Fintype.sum_equiv (finCongr hN) _ _ fun p => Finset.sum_congr rfl fun r _ => ?_
  rw [brow_eq]
  rfl

theorem final_gain (c : Dev nD) : (dats m 0 c).arrAt 14 cfg0.N = resGain m c := by
  refine (dats m 0 c).arrAt_eq_of_covers 14 _ (by decide +kernel) fun t hf y => ?_
  blk_simp
  rw [after0_14]
  have hN : cfg0.N = 16 := N_0
  have hr : t.val + 1 = cfg0.N := by
    have h := (flush0_14 t).mp hf
    have := t.isLt
    omega
  obtain ⟨k, j, rfl⟩ : ∃ (k : Fin 8) (j : Fin 1024), y = ix2 k j := ⟨y 0, y 1, Cert.NormValue.eta2 y⟩
  refine (outs_gain m c t hr k j).trans ?_
  have e : (win0_14.blk t).view.emb (ix2 k j) = ix2 k j := by blk_ext [index14]
  rw [e]
  show _ = Cert.Tail.gainAt (m (c.tc.loc main_arg0)) (m (c.tc.loc main_arg1)) (m (c.tc.loc main_arg2)) (m (c.tc.loc main_arg3)) (m (c.tc.loc main_arg4)) (m (c.tc.loc main_arg5)) (m (c.tc.loc main_arg6)) k j
  unfold Cert.Tail.gainAt
  rw [Fin.sum_univ_tiles 16 512 rfl]
  refine Fintype.sum_equiv (finCongr hN) _ _ fun p => Finset.sum_congr rfl fun r _ => ?_
  rw [brow_eq]
  rfl

end Cert.Kernel3Ideal.TailBlocks

namespace Cert.TailValue

open Cert.NormValue Idealize.ShloMosaic Idealize.SL.Sem

/-- On equal arguments the kernel and the reference end with equal results. -/
theorem agree : Cert.algebraic_Kernel3Ideal_Reference3Ideal (hKernel3Ideal := Cert.Kernel3Ideal.Gen.facts) (hReference3Ideal := Cert.Reference3Ideal.Gen.facts) := by
  intro m g m' g' _ hm
  refine ⟨Cert.Kernel3Ideal.TailBlocks.resU m, Cert.Kernel3Ideal.TailBlocks.resDx m, Cert.Kernel3Ideal.TailBlocks.resDy m, Cert.Kernel3Ideal.TailBlocks.resDu m, Cert.Kernel3Ideal.TailBlocks.resGate m, Cert.Kernel3Ideal.TailBlocks.resLoss m, Cert.Kernel3Ideal.TailBlocks.resGain m,
    (θ_run _ _ _).mono (fun r h c => ?_) (Cert.Kernel3Ideal.Value.run_blocks m g),
    (θ_run _ _ _).mono (fun r h c => ?_) (Cert.Reference3Ideal.Value.run m' g')⟩
  · obtain ⟨h0, h1, h2, h3, h4, h5, h6, h7⟩ := h c
    exact ⟨h0.trans (Cert.Kernel3Ideal.TailBlocks.final_u m c),
      h1.trans (Cert.Kernel3Ideal.TailBlocks.final_dx m c),
      h2.trans (Cert.Kernel3Ideal.TailBlocks.final_dy m c),
      h3.trans (Cert.Kernel3Ideal.TailBlocks.final_du m c),
      h4.trans (Cert.Kernel3Ideal.TailBlocks.final_dgate m c),
      h5.trans (Cert.Kernel3Ideal.TailBlocks.final_loss m c),
      h6.trans (Cert.Kernel3Ideal.TailBlocks.final_gain m c), h7⟩
  · obtain ⟨h0, h1, h2, h3, h4, h5, h6, h7⟩ := h c
    obtain ⟨e0, e1, e2, e3, e4, e5, e6⟩ := hm c
    refine ⟨h0.trans ((Cert.Reference3Ideal.Read.val_main_v73_eq _ _).trans (funext fun y => ?_)),
      h1.trans ((Cert.Reference3Ideal.Read.val_main_v74_eq m' c).trans (funext fun y => ?_)),
      h2.trans ((Cert.Reference3Ideal.Read.val_main_v75_eq m' c).trans (funext fun y => ?_)),
      h3.trans ((Cert.Reference3Ideal.Read.val_main_v72_eq m' c).trans (funext fun y => ?_)),
      h4.trans ((Cert.Reference3Ideal.Read.val_main_v76_eq m' c).trans (funext fun y => ?_)),
      h5.trans ((Cert.Reference3Ideal.Read.val_main_v78_eq m' c).trans (funext fun y => ?_)),
      h6.trans ((Cert.Reference3Ideal.Read.val_main_v80_eq m' c).trans (funext fun y => ?_)), h7⟩
    · refine (congrArg _ (eta2 y)).trans ((Cert.Reference3Ideal.TailRef.v73_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1)).trans ?_)
      rw [e0, e1, e2, e3, e4, e5, e6]
    · refine (congrArg _ (eta2 y)).trans ((Cert.Reference3Ideal.TailRef.v74_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1)).trans ?_)
      rw [e0, e1, e2, e3, e4, e5, e6]
    · refine (congrArg _ (eta2 y)).trans ((Cert.Reference3Ideal.TailRef.v75_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1)).trans ?_)
      rw [e0, e1, e2, e3, e4, e5, e6]
    · refine (congrArg _ (eta2 y)).trans ((Cert.Reference3Ideal.TailRef.v72_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1)).trans ?_)
      rw [e0, e1, e2, e3, e4, e5, e6]
    · refine (congrArg _ (eta3 y)).trans ((Cert.Reference3Ideal.TailRef.v76_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1) (y 2)).trans ?_)
      rw [e0, e1, e2, e3, e4, e5, e6]
    · refine (congrArg _ (eta2 y)).trans ((Cert.Reference3Ideal.TailRef.v78_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1)).trans ?_)
      rw [e0, e1, e2, e3, e4, e5, e6]
    · refine (congrArg _ (eta2 y)).trans ((Cert.Reference3Ideal.TailRef.v80_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (y 0) (y 1)).trans ?_)
      rw [e0, e1, e2, e3, e4, e5, e6]

end Cert.TailValue

end
-- ==== Proof.OutBwdValue.lean ====
/-
  The gradient of the gated attentions through layer 0's output product and residual sum: the kernel's four results and the
  reference's are the same functions of the arguments.
-/
module

public import proofs.«01_k».proof.Proof.Out9Value
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise.Select
public import Idealize.ShloMosaic.Lib.Pipeline.ValueKit
public import Idealize.ShloMosaic.Lib.WritesUnit
public import Idealize.ShloMosaic.Lib.Claim

@[expose] public section

noncomputable section

namespace Cert.OutBwd

open Idealize.ShloMosaic Cert.Norm Cert.Out

section
variable (d : (⟨2, ![8192, 1024]⟩ : Shape).Idx → EReal) (g : (⟨3, ![4, 1, 1024]⟩ : Shape).Idx → EReal)
  (y : (⟨2, ![8192, 1024]⟩ : Shape).Idx → EReal) (w : (⟨2, ![1024, 1024]⟩ : Shape).Idx → EReal)
  (q : (⟨2, ![8192, 3328]⟩ : Shape).Idx → EReal)

/-- The output product's gradient. -/
def dyAt (t : Fin 8192) (j : Fin 1024) : EReal := d (ix2 t j) * g (ix3 (seqOf t) 0 j)

/-- A token's share of the modulation gate's gradient. -/
def dgmTerm (t : Fin 8192) (j : Fin 1024) : EReal := d (ix2 t j) * y (ix2 t j)

/-- The modulation gate's gradient of a sequence. -/
def dgmAt (s : Fin 4) (j : Fin 1024) : EReal := ∑ i : Fin 2048, dgmTerm d y (tok s i) j

/-- The gradient of the two attentions' outputs, side by side. -/
def duAt (t : Fin 8192) (k : Fin 1024) : EReal :=
  (∑ j : Fin 1024, dyAt d g t j * w (ix2 k j)) * sil (q (ix2 t ⟨2048 + k.val, by omega⟩))
end

end Cert.OutBwd

namespace Cert.Kernel10Ideal.OutBody

open Cert.Kernel10Ideal Cert.Kernel10Ideal.Gen Idealize.ShloMosaic Idealize.ShloMosaic.TcCoe Cert.Out

theorem hz : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S512x1024 .f32) (x1 : Vec Ideal S1x1x1024 .f32) (x2 : Vec Ideal S512x1024 .bf16)
  (x3 : Vec Ideal S1024x1024 .bf16) (x6 : Vec Ideal S512x1024 .bf16) (xo8 : Vec Ideal S1x1x1024 .f32) (r : Fin 512)

/-- The block's rows of the output product's gradient. -/
def bdy (j : Fin 1024) : EReal := x0 (ix2 r j) * x1 (ix3 0 0 j)

/-- The block's share of the modulation gate's gradient. -/
def bdgm (j : Fin 1024) : EReal := ∑ r : Fin 512, x0 (ix2 r j) * x2 (ix2 r j)

/-- The block's rows of the attentions' gradient. -/
def bdu (k : Fin 1024) : EReal := (∑ j : Fin 1024, bdy x0 x1 r j * x3 (ix2 j k)) * sil (x6 (ix2 r k))

theorem pay2_eq (j : Fin 1024) : k0_pay2 (F := Ideal) x0 x1 (ix2 r j) = bdy x0 x1 r j := by
  pointwise [k0_pay2]
  rfl

theorem pay3_eq (j : Fin 1024) : k0_pay3 (F := Ideal) (ix3 0 0 j) = 0 := by
  pointwise [k0_pay3]

theorem pay4_eq (j : Fin 1024) : k0_pay4 (F := Ideal) x0 xo8 x2 (ix3 0 0 j) = xo8 (ix3 0 0 j) + bdgm x0 x2 j := by
  pointwise [k0_pay4]
  rfl

theorem pay4_zero (j : Fin 1024) : k0_pay4 (F := Ideal) x0 (k0_pay3 (F := Ideal)) x2 (ix3 0 0 j) = bdgm x0 x2 j := by
  rw [pay4_eq, pay3_eq, zero_add]

theorem pay5_eq (k : Fin 1024) :
    k0_pay5 (F := Ideal) (k0_pay2 x0 x1) x3 (ix2 r k) = ∑ j : Fin 1024, bdy x0 x1 r j * x3 (ix2 j k) := by
  pointwise [k0_pay5, pay2_eq]

theorem pay7_eq (k : Fin 1024) : k0_pay7 (F := Ideal) (k0_pay2 x0 x1) x3 x6 (ix2 r k) = bdu x0 x1 x3 x6 r k := by
  pointwise [k0_pay7, k0_pay6, pay5_eq]
  unfold bdu sil
  simp only [zero_sub]

theorem pay8_eq (j : Fin 512) :
    k0_pay8 (F := Ideal) (k0_pay2 x0 x1) x3 x6 (ix2 r j) = bdu x0 x1 x3 x6 r ⟨j.val, by omega⟩ := by
  pointwise [k0_pay8, pay7_eq]

theorem pay9_eq (j : Fin 512) :
    k0_pay9 (F := Ideal) (k0_pay2 x0 x1) x3 x6 (ix2 r j) = bdu x0 x1 x3 x6 r ⟨512 + j.val, by omega⟩ := by
  pointwise [k0_pay9, pay7_eq]
end

section
variable (c : Dev nD) (i : grid0.Coords)
  (arg1 : Memref sig .tc .vmem S512x1024 .f32) (harg1 : arg1.IsWhole)
  (arg2 : Memref sig .tc .vmem S1x1x1024 .f32) (harg2 : arg2.IsWhole)
  (arg3 : Memref sig .tc .vmem S512x1024 .bf16) (harg3 : arg3.IsWhole)
  (arg4 : Memref sig .tc .vmem S1024x1024 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S1x1x1024 .f32) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x1024 .bf16) (harg12 : arg12.IsWhole)
  (x0 : Vec Ideal S512x1024 .f32) (x1 : Vec Ideal S1x1x1024 .f32) (x2 : Vec Ideal S512x1024 .bf16)
  (x3 : Vec Ideal S1024x1024 .bf16) (x4 x5 : Vec Ideal S512x512 .bf16) (x6 : Vec Ideal S512x1024 .bf16) (xo8 : Vec Ideal S1x1x1024 .f32)

/-- The output product's gradient block, at the first point of a sequence. -/
theorem dy_A (hc0 : cond0_0 i) (r : Fin 512) (j : Fin 1024) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r j) = bdy x0 x1 r j := by
  unfold out0_A_7
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay2_eq x0 x1 r j

/-- The modulation gate's gradient, at the first point of a sequence. -/
theorem dgm_A (hc0 : cond0_0 i) (j : Fin 1024) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix3 0 0 j) = bdgm x0 x2 j := by
  unfold out0_A_8
  rw [View.read_writes_junk_eq_canon]
  unfold kernelRun0_A
  dsimp only
  sl_unfold_words
  rw [View.canon_cons_unit_zero hz3]
  rw [View.readCov_unit_zero _ hz3]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay4_zero x0 x2 j

/-- The first attention's gradient block, at the first point of a sequence. -/
theorem da_A (hc0 : cond0_0 i) (r j : Fin 512) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r j) = bdu x0 x1 x3 x6 r ⟨j.val, by omega⟩ := by
  unfold out0_A_9
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay8_eq x0 x1 x3 x6 r j

/-- The second attention's gradient block, at the first point of a sequence. -/
theorem db_A (hc0 : cond0_0 i) (r j : Fin 512) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r j) = bdu x0 x1 x3 x6 r ⟨512 + j.val, by omega⟩ := by
  unfold out0_A_10
  rw [View.read_writes_junk_eq_canon]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay9_eq x0 x1 x3 x6 r j

/-- The output product's gradient block, at a later point. -/
theorem dy_B (hc0 : ¬cond0_0 i) (r : Fin 512) (j : Fin 1024) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 (ix2 r j) = bdy x0 x1 r j := by
  unfold out0_B_7
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay2_eq x0 x1 r j

/-- The modulation gate's gradient, at a later point. -/
theorem dgm_B (hc0 : ¬cond0_0 i) (j : Fin 1024) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 (ix3 0 0 j) = xo8 (ix3 0 0 j) + bdgm x0 x2 j := by
  unfold out0_B_8
  rw [View.read_writes_junk_eq_canon]
  unfold kernelRun0_B
  dsimp only
  sl_unfold_words
  rw [View.canon_cons_unit_zero hz3]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay4_eq x0 x2 xo8 j

/-- The first attention's gradient block, at a later point. -/
theorem da_B (hc0 : ¬cond0_0 i) (r j : Fin 512) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 (ix2 r j) = bdu x0 x1 x3 x6 r ⟨j.val, by omega⟩ := by
  unfold out0_B_9
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay8_eq x0 x1 x3 x6 r j

/-- The second attention's gradient block, at a later point. -/
theorem db_B (hc0 : ¬cond0_0 i) (r j : Fin 512) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 (ix2 r j) = bdu x0 x1 x3 x6 r ⟨512 + j.val, by omega⟩ := by
  unfold out0_B_10
  rw [View.read_writes_junk_eq_canon]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x512) hz, View.ld_unit_zero (S := S1024x1024) hz,
    View.ld_unit_zero (S := S1x1x1024) hz3]
  exact pay9_eq x0 x1 x3 x6 r j

end

end Cert.Kernel10Ideal.OutBody

namespace Cert.Kernel10Ideal.OutBlocks

open Cert.Kernel10Ideal Cert.Kernel10Ideal.Gen Cert.Kernel10Ideal.OutBody Idealize.ShloMosaic Idealize.ShloMosaic.TcCoe Cert.Norm Cert.Out Cert.OutBwd

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index6 : ∀ t : Fin cfg0.N, win0_6.index t = ![t.val, 2] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val / 4, 0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)

/-- Token row `r` of point `t`. -/
abbrev ptok (t : Fin cfg0.N) (r : Fin 512) : Fin 8192 :=
  ⟨t.val * 512 + r.val, by have := t.isLt; have := r.isLt; have : cfg0.N = 16 := N_0; omega⟩

theorem blk0 (c : Dev nD) (t : Fin cfg0.N) (r : Fin 512) (j : Fin 1024) :
    iblk m c 0 t (ix2 r j) = m (c.tc.loc main_arg0) (ix2 (ptok t r) j) := by
  blk_simp [iblk]
  entry_read
  refine congrArg _ ?_
  blk_ext [index0]

theorem blk1 (c : Dev nD) (t : Fin cfg0.N) (r : Fin 512) (j : Fin 1024) :
    iblk m c 1 t (ix3 0 0 j) = m (c.tc.loc main_arg1) (ix3 (seqOf (ptok t r)) 0 j) := by
  blk_simp [iblk]
  entry_read
  refine congrArg _ ?_
  blk_ext [index1]

theorem blk2 (c : Dev nD) (t : Fin cfg0.N) (r : Fin 512) (j : Fin 1024) :
    iblk m c 2 t (ix2 r j) = m (c.tc.loc main_arg2) (ix2 (ptok t r) j) := by
  blk_simp [iblk]
  entry_read
  refine congrArg _ ?_
  blk_ext [index2]

theorem blk3 (c : Dev nD) (t : Fin cfg0.N) (j k : Fin 1024) :
    iblk m c 3 t (ix2 j k) = m (c.tc.loc main_arg3) (ix2 k j) := by
  blk_simp [iblk]
  entry_read
  have e : ((View.whole main_v1).slice (win0_3.rect t)).emb (ix2 j k) = ix2 j k := by blk_ext [index3]
  rw [e]
  pointwise []

theorem blk6 (c : Dev nD) (t : Fin cfg0.N) (r : Fin 512) (k : Fin 1024) :
    X0_6 m c t (ix2 r k) = m (c.tc.loc main_arg6) (ix2 (ptok t r) ⟨2048 + k.val, by omega⟩) := by
  unfold X0_6 Pipeline.Window.fill
  rw [dif_pos (moved0_6 t (ix2 r k))]
  blk_simp [iblk]
  entry_read
  refine congrArg _ ?_
  blk_ext [index6]

theorem bdy_eq (c : Dev nD) (t : Fin cfg0.N) (r : Fin 512) (j : Fin 1024) :
    bdy (iblk m c 0 t) (iblk m c 1 t) r j = dyAt (m (c.tc.loc main_arg0)) (m (c.tc.loc main_arg1)) (ptok t r) j := by
  unfold bdy dyAt
  rw [blk0 m c t, blk1 m c t r j]

theorem bdu_eq (c : Dev nD) (t : Fin cfg0.N) (r : Fin 512) (k : Fin 1024) :
    bdu (iblk m c 0 t) (iblk m c 1 t) (iblk m c 3 t) (X0_6 m c t) r k = duAt (m (c.tc.loc main_arg0)) (m (c.tc.loc main_arg1)) (m (c.tc.loc main_arg3)) (m (c.tc.loc main_arg6)) (ptok t r) k := by
  unfold bdu duAt
  simp only [bdy_eq m c t, blk3 m c t, blk6 m c t]

/-! ## What the buffers hold after a point -/

theorem outs_dy (c : Dev nD) (t : Fin cfg0.N) (r : Fin 512) (j : Fin 1024) :
    (outsAt0 m c t.val t.isLt).1 (ix2 r j) = bdy (iblk m c 0 t) (iblk m c 1 t) r j := by
  by_cases h0 : t.val % 4 = 0
  · rw [outsAt0_A m c t h0]; dsimp only; exact dy_A ..
  · rw [outsAt0_B m c t h0]; dsimp only; exact dy_B ..

theorem outs_da (c : Dev nD) (t : Fin cfg0.N) (r j : Fin 512) :
    (outsAt0 m c t.val t.isLt).2.2.1 (ix2 r j) = bdu (iblk m c 0 t) (iblk m c 1 t) (iblk m c 3 t) (X0_6 m c t) r ⟨j.val, by omega⟩ := by
  by_cases h0 : t.val % 4 = 0
  · rw [outsAt0_A m c t h0]; dsimp only; exact da_A ..
  · rw [outsAt0_B m c t h0]; dsimp only; exact da_B ..

theorem outs_db (c : Dev nD) (t : Fin cfg0.N) (r j : Fin 512) :
    (outsAt0 m c t.val t.isLt).2.2.2.1 (ix2 r j) = bdu (iblk m c 0 t) (iblk m c 1 t) (iblk m c 3 t) (X0_6 m c t) r ⟨512 + j.val, by omega⟩ := by
  by_cases h0 : t.val % 4 = 0
  · rw [outsAt0_A m c t h0]; dsimp only; exact db_A ..
  · rw [outsAt0_B m c t h0]; dsimp only; exact db_B ..

/-- The modulation gate's accumulator at the last point of a sequence: the four points' shares. -/
theorem outs_dgm (c : Dev nD) (t : Fin cfg0.N) (hr : t.val % 4 = 3) (j : Fin 1024) :
    (outsAt0 m c t.val t.isLt).2.1 (ix3 0 0 j)
      = ∑ s : Fin 4, bdgm (iblk m c 0 ⟨4 * (t.val / 4) + s.val, by have := s.isLt; have := t.isLt; omega⟩)
          (iblk m c 2 ⟨4 * (t.val / 4) + s.val, by have := s.isLt; have := t.isLt; omega⟩) j := by
  refine (Pipeline.eq_sum_fin_of_reset_step_apply_of_flush
    (fun n h (i : Fin 1024) => (outsAt0 m c n h).2.1 (ix3 0 0 i)) 4 (fun _ => 0)
    (fun p i => bdgm (iblk m c 0 p) (iblk m c 2 p) i)
    (fun p h0 i => ?_) (fun p h0 i => ?_) t hr j).trans (zero_add _)
  · rw [zero_add]
    rw [outsAt0_A m c p h0]; dsimp only; exact dgm_A ..
  · rw [outsAt0_B m c p h0]; dsimp only; exact dgm_B ..

/-! ## The result arrays -/

/-- The output product's gradient. -/
abbrev resDy (c : Dev nD) : Buf (Elt Ideal) ((c.tc : Thread nD τ).loc main_v2_0) := fun y : S8192x1024.Idx =>
  dyAt (m (c.tc.loc main_arg0)) (m (c.tc.loc main_arg1)) (y 0) (y 1)

/-- The modulation gate's. -/
abbrev resDgm (c : Dev nD) : Buf (Elt Ideal) ((c.tc : Thread nD τ).loc main_v2_1) := fun y : S4x1x1024.Idx =>
  dgmAt (m (c.tc.loc main_arg0)) (m (c.tc.loc main_arg2)) (y 0) (y 2)

/-- The first attention's. -/
abbrev resDa (c : Dev nD) : Buf (Elt Ideal) ((c.tc : Thread nD τ).loc main_v2_2) := fun y : S8192x512.Idx =>
  duAt (m (c.tc.loc main_arg0)) (m (c.tc.loc main_arg1)) (m (c.tc.loc main_arg3)) (m (c.tc.loc main_arg6)) (y 0) ⟨(y 1).val, lt_of_lt_of_le (y 1).isLt (by decide)⟩

/-- The second attention's. -/
abbrev resDb (c : Dev nD) : Buf (Elt Ideal) ((c.tc : Thread nD τ).loc main_v2_3) := fun y : S8192x512.Idx =>
  duAt (m (c.tc.loc main_arg0)) (m (c.tc.loc main_arg1)) (m (c.tc.loc main_arg3)) (m (c.tc.loc main_arg6)) (y 0) ⟨512 + (y 1).val, Nat.add_lt_add_left (y 1).isLt 512⟩

theorem final_dy (c : Dev nD) : (dats m 0 c).arrAt 7 cfg0.N = resDy m c := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, Cert.NormValue.eta2 y⟩
  have e : (win0_7.blk t).view.emb (ix2 r j) = ix2 (ptok t r) j := by blk_ext [index7]
  rw [e]
  refine (outs_dy m c t r j).trans ((bdy_eq m c t r j).trans ?_)
  rfl

theorem final_da (c : Dev nD) : (dats m 0 c).arrAt 9 cfg0.N = resDa m c := by
  refine (dats m 0 c).arrAt_eq_of_covers 9 _ (by decide +kernel) fun t hf y => ?_
  blk_simp
  rw [after0_9]
  obtain ⟨r, j, rfl⟩ : ∃ (r : Fin 512) (j : Fin 512), y = ix2 r j := ⟨y 0, y 1, Cert.NormValue.eta2 y⟩
  have e : (win0_9.blk t).view.emb (ix2 r j) = ix2 (ptok t r) j := by blk_ext [index9]
  rw [e]
  refine (outs_da m c t r j).trans ((bdu_eq m c t r _).trans ?_)
  rfl

theorem final_db (c : Dev nD) : (dats m 0 c).arrAt 10 cfg0.N = resDb m c := by
  refine (dats m 0 c).arrAt_eq_of_covers 10 _ (by decide +kernel) fun t hf y => ?_
  blk_simp
  rw [after0_10]
  obtain ⟨r, j, rfl⟩ : ∃ (r : Fin 512) (j : Fin 512), y = ix2 r j := ⟨y 0, y 1, Cert.NormValue.eta2 y⟩
  have e : (win0_10.blk t).view.emb (ix2 r j) = ix2 (ptok t r) j := by blk_ext [index10]
  rw [e]
  refine (outs_db m c t r j).trans ((bdu_eq m c t r _).trans ?_)
  rfl

theorem final_dgm (c : Dev nD) : (dats m 0 c).arrAt 8 cfg0.N = resDgm m c := by
  refine (dats m 0 c).arrAt_eq_of_covers 8 _ (by decide +kernel) fun t hf y => ?_
  blk_simp
  rw [after0_8]
  have hr : t.val % 4 = 3 := (flush0_8 t).mp hf
  have ht : t.val < 16 := lt_of_lt_of_eq t.isLt N_0
  obtain ⟨j, rfl⟩ : ∃ (j : Fin 1024), y = ix3 0 0 j := ⟨y 2, funext fun a => by
    match a with
    | ⟨0, _⟩ => exact Subsingleton.elim (α := Fin 1) _ _
    | ⟨1, _⟩ => exact Subsingleton.elim (α := Fin 1) _ _
    | ⟨2, _⟩ => rfl⟩
  refine (outs_dgm m c t hr j).trans ?_
  have e : (win0_8.blk t).view.emb (ix3 0 0 j) = ix3 (⟨t.val / 4, by omega⟩ : Fin 4) 0 j := by blk_ext [index8]
  rw [e]
  show _ = dgmAt (m (c.tc.loc main_arg0)) (m (c.tc.loc main_arg2)) ⟨t.val / 4, by omega⟩ j
  unfold dgmAt bdgm
  rw [Fin.sum_univ_tiles 4 512 rfl]
  refine Finset.sum_congr rfl fun s _ => Finset.sum_congr rfl fun r _ => ?_
  rw [blk0, blk2]
  refine congrArg (fun u : Fin 8192 => dgmTerm (m (c.tc.loc main_arg0)) (m (c.tc.loc main_arg2)) u j) (Fin.ext ?_)
  show (4 * (t.val / 4) + s.val) * 512 + r.val = t.val / 4 * 2048 + (s.val * 512 + r.val)
  omega

end Cert.Kernel10Ideal.OutBlocks

namespace Cert.Reference10Ideal.OutRef

open Cert.Reference10Ideal Cert.Reference10Ideal.Gen Cert.Reference10Ideal.Read Idealize.ShloMosaic Idealize.ShloMosaic.TcCoe Cert.Norm Cert.Out Cert.OutBwd

variable (x0 : (⟨S8192x1024, .f32⟩ : BufTy).Contents (Elt Ideal)) (x1 : (⟨S4x1x1024, .f32⟩ : BufTy).Contents (Elt Ideal))
  (x2 : (⟨S8192x1024, .bf16⟩ : BufTy).Contents (Elt Ideal)) (x3 : (⟨S1024x1024, .f32⟩ : BufTy).Contents (Elt Ideal))
  (x6 : (⟨S8192x3328, .bf16⟩ : BufTy).Contents (Elt Ideal))

theorem v12_eq (s : Fin 4) (i : Fin 2048) (j : Fin 1024) :
    val_main_v12 (F := Ideal) x0 x1 (ix3 s i j) = x1 (ix3 s 0 j) * x0 (ix2 (tok s i) j) := by
  pointwise [val_main_v12, val_main_v11, val_main_v10, val_main_v6, val_main_v3]

theorem v17_eq (t : Fin 8192) (j : Fin 1024) : val_main_v17 (F := Ideal) x0 x1 (ix2 t j) = dyAt x0 x1 t j := by
  pointwise [val_main_v17, v12_eq]
  unfold dyAt
  have e : (⟨t.val / 2048 * 2048 + t.val % 2048, by omega⟩ : Fin 8192) = t := Fin.ext (by dsimp only; omega)
  simp only [tok, e]
  exact mul_comm _ _

theorem v28_eq (t : Fin 8192) (j : Fin 1024) : val_main_v28 (F := Ideal) x0 x1 (ix2 t j) = dyAt x0 x1 t j := by
  pointwise [val_main_v28, v17_eq]

theorem v13_eq (s : Fin 4) (i : Fin 2048) (j : Fin 1024) :
    val_main_v13 (F := Ideal) x0 x2 (ix3 s i j) = x0 (ix2 (tok s i) j) * x2 (ix2 (tok s i) j) := by
  pointwise [val_main_v13, val_main_v10, val_main_v5, val_main_v4]

theorem v14_eq (s : Fin 4) (j : Fin 1024) : val_main_v14 (F := Ideal) x0 x2 (ix2 s j) = dgmAt x0 x2 s j := by
  pointwise [val_main_v14, val_main_cst_0, v13_eq]
  rfl

theorem v29_eq (s : Fin 4) (z : Fin 1) (j : Fin 1024) : val_main_v29 (F := Ideal) x0 x2 (ix3 s z j) = dgmAt x0 x2 s j := by
  pointwise [val_main_v29, val_main_v16, val_main_v15, val_main_cst_1, v14_eq]
  exact Fin.sum_univ_one _

theorem v21_eq (t : Fin 8192) (k : Fin 1024) :
    val_main_v21 (F := Ideal) x6 (ix2 t k) = sil (x6 (ix2 t ⟨2048 + k.val, by omega⟩)) := by
  pointwise [val_main_v21, val_main_v1, val_main_v0, val_main_call0_v5, val_main_call0_v4,
    val_main_call0_v3, val_main_call0_v2, val_main_call0_v1, val_main_call0_v0, val_main_call0_cst, val_main_call0_cst_0]
  rfl

theorem v25_eq (t : Fin 8192) (k : Fin 1024) : val_main_v25 (F := Ideal) x0 x1 x3 x6 (ix2 t k) = duAt x0 x1 x3 x6 t k := by
  pointwise [val_main_v25, val_main_v24, v17_eq, v21_eq]
  rfl

theorem v30_eq (t : Fin 8192) (j : Fin 512) :
    val_main_v30 (F := Ideal) x0 x1 x3 x6 (ix2 t j) = duAt x0 x1 x3 x6 t ⟨j.val, by omega⟩ := by
  pointwise [val_main_v30, val_main_v26, v25_eq]

theorem v31_eq (t : Fin 8192) (j : Fin 512) :
    val_main_v31 (F := Ideal) x0 x1 x3 x6 (ix2 t j) = duAt x0 x1 x3 x6 t ⟨512 + j.val, by omega⟩ := by
  pointwise [val_main_v31, val_main_v27, v25_eq]

end Cert.Reference10Ideal.OutRef

namespace Cert.OutBwdValue

open Cert.NormValue Idealize.ShloMosaic Idealize.SL.Sem

/-- On equal arguments the kernel and the reference end with equal results. -/
theorem agree : Cert.algebraic_Kernel10Ideal_Reference10Ideal (hKernel10Ideal := Cert.Kernel10Ideal.Gen.facts) (hReference10Ideal := Cert.Reference10Ideal.Gen.facts) := by
  intro m g m' g' _ hm
  refine ⟨Cert.Kernel10Ideal.OutBlocks.resDy m, Cert.Kernel10Ideal.OutBlocks.resDgm m, Cert.Kernel10Ideal.OutBlocks.resDa m,
    Cert.Kernel10Ideal.OutBlocks.resDb m,
    (θ_run _ _ _).mono (fun r h c => ?_) (Cert.Kernel10Ideal.Value.run_blocks m g),
    (θ_run _ _ _).mono (fun r h c => ?_) (Cert.Reference10Ideal.Value.run m' g')⟩
  · obtain ⟨h0, h1, h2, h3, _, h4⟩ := h c
    exact ⟨h0.trans (Cert.Kernel10Ideal.OutBlocks.final_dy m c), h1.trans (Cert.Kernel10Ideal.OutBlocks.final_dgm m c),
      h2.trans (Cert.Kernel10Ideal.OutBlocks.final_da m c), h3.trans (Cert.Kernel10Ideal.OutBlocks.final_db m c), h4⟩
  · obtain ⟨h0, h1, h2, h3, h4⟩ := h c
    obtain ⟨e0, e1, e2, e3, e4, e5, e6⟩ := hm c
    refine ⟨h0.trans ((Cert.Reference10Ideal.Read.val_main_v28_eq _ _).trans (funext fun y => ?_)),
      h1.trans ((Cert.Reference10Ideal.Read.val_main_v29_eq _ _).trans (funext fun y => ?_)),
      h2.trans ((Cert.Reference10Ideal.Read.val_main_v30_eq _ _ _ _).trans (funext fun y => ?_)),
      h3.trans ((Cert.Reference10Ideal.Read.val_main_v31_eq _ _ _ _).trans (funext fun y => ?_)), h4⟩
    · refine (congrArg _ (eta2 y)).trans ((Cert.Reference10Ideal.OutRef.v28_eq _ _ (y 0) (y 1)).trans ?_)
      rw [e0, e1]
    · refine (congrArg _ (eta3 y)).trans ((Cert.Reference10Ideal.OutRef.v29_eq _ _ (y 0) (y 1) (y 2)).trans ?_)
      rw [e0, e2]
    · refine (congrArg _ (eta2 y)).trans ((Cert.Reference10Ideal.OutRef.v30_eq _ _ _ _ (y 0) (y 1)).trans ?_)
      rw [e0, e1, e3, e6]
    · refine (congrArg _ (eta2 y)).trans ((Cert.Reference10Ideal.OutRef.v31_eq _ _ _ _ (y 0) (y 1)).trans ?_)
      rw [e0, e1, e3, e6]

end Cert.OutBwdValue

end
-- ==== Proof.PostRef.lean ====
/-
  The gradient of the forget gate through the sums of its logarithms: the reference's values.
-/
module

public import proofs.«01_k».proof.Proof.Out9Value
public import proofs.«01_k».proof.Proof.Gen.Reference11Ideal.Run
public import proofs.«01_k».proof.Proof.Gen.Reference11Ideal.Read
public import Idealize.ShloMosaic.Lib.Pointwise.Select

@[expose] public section

noncomputable section

namespace Cert.Post

open Idealize.ShloMosaic Cert.Norm

/-- The sigmoid of the negated logit. -/
def sigNeg (z : EReal) : EReal := Ideal.div 1 (1 + Ideal.exp z)

/-- A forget logit's gradient at token `i` of sequence `s`: the cotangents from that token to the sequence's end, times the
    sigmoid of minus the logit. -/
def flSeq (x0 x1 : (⟨2, ![8, 8192]⟩ : Shape).Idx → EReal) (x2 : (⟨2, ![8, 1]⟩ : Shape).Idx → EReal) (h : Fin 8) (s : Fin 4) (i : Fin 2048) : EReal :=
  (∑ k : Fin 2048, if i.val ≤ k.val then x0 (ix2 h (tok s k)) else 0) * sigNeg (x1 (ix2 h (tok s i)) + x2 (ix2 h 0))

/-- The bias's gradient: the logits' over all tokens. -/
def dbAt (x0 x1 : (⟨2, ![8, 8192]⟩ : Shape).Idx → EReal) (x2 : (⟨2, ![8, 1]⟩ : Shape).Idx → EReal) (h : Fin 8) : EReal :=
  ∑ s : Fin 4, ∑ i : Fin 2048, flSeq x0 x1 x2 h s i

theorem lit_inf : Ideal.ofBits .f32 0x7F800000#32 = ⊤ := by
  simp [Ideal.ofBits, Ideal.ieee]

/-- The softplus of a logit: its maximum with zero, and the logarithm of one plus the exponential of minus its modulus. -/
def softplus (x : EReal) : EReal := max x 0 + Ideal.log1p (Ideal.exp (-(max x (-x))))

/-- An infinite value replaced by zero. -/
def fin0 (x : EReal) : EReal := if x = ⊤ then 0 else x

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

theorem coe_max (a b : ℝ) : ((max a b : ℝ) : EReal) = max (a : EReal) (b : EReal) := EReal.coe_strictMono.monotone.map_max

theorem softplus_coe (r : ℝ) : softplus (-(r : EReal)) = ((Real.log (1 + Real.exp (-r)) : ℝ) : EReal) := by
  have e0 : softplus (-(r : EReal)) = ((max (-r) 0 + Real.log (1 + Real.exp (-(max (-r) (- -r)))) : ℝ) : EReal) := by
    unfold softplus Ideal.log1p
    rw [← EReal.coe_neg, ← EReal.coe_neg, ← EReal.coe_zero, ← coe_max, ← coe_max, ← EReal.coe_neg,
      Ideal.exp_coe, ← EReal.coe_one, ← EReal.coe_add, Ideal.log_coe, if_neg (not_le.mpr (by positivity)), ← EReal.coe_add]
  rw [e0]
  congr 1
  rcases le_total 0 r with h | h
  · rw [max_eq_right (by linarith), max_eq_right (by linarith), neg_neg, zero_add]
  · rw [max_eq_left (by linarith), max_eq_left (by linarith), neg_neg]
    have e2 : 1 + Real.exp (-r) = Real.exp (-r) * (1 + Real.exp r) := by
      rw [mul_add, ← Real.exp_add, neg_add_cancel, Real.exp_zero, mul_one, add_comm]
    rw [e2, Real.log_mul (Real.exp_ne_zero _) (by positivity), Real.log_exp]

/-- The softplus's derivative as it is differentiated: the exponential of the logit less the softplus, infinities replaced by zero. -/
theorem grad_softplus (z : EReal) : Ideal.exp (fin0 (-z) - fin0 (softplus (-z))) = sigNeg z := by
  induction z with
  | bot =>
    have e : softplus (-⊥) = ⊤ := by
      unfold softplus
      simp [Ideal.log1p, log_one]
    rw [e]
    simp [fin0, sigNeg, Ideal.div, exp_zero]
  | top =>
    have e : softplus (-⊤) = 0 := by
      unfold softplus
      simp [Ideal.log1p, log_one]
    rw [e]
    have e1 : (1 : EReal) + ⊤ = ⊤ := EReal.add_top_of_ne_bot (by decide)
    simp [fin0, sigNeg, Ideal.div, e1]
  | coe r =>
    rw [softplus_coe]
    unfold fin0 sigNeg
    rw [← EReal.coe_neg, if_neg (EReal.coe_ne_top _), if_neg (EReal.coe_ne_top _), ← EReal.coe_sub, Ideal.exp_coe, Ideal.exp_coe,
      ← EReal.coe_one, ← EReal.coe_add, Ideal.div_coe (by positivity), ← EReal.coe_mul]
    congr 1
    rw [Real.exp_sub, Real.exp_log (by positivity), one_mul, Real.exp_neg]
    have := Real.exp_pos r
    field_simp
    ring

/-- A sum of terms that begin at `t`, and of zeros past the end, is the sum of the terms from `t` on. -/
theorem sum_shift (f : Nat → EReal) (t : Nat) (ht : t < 2048) :
    (∑ k : Fin 2048, if t + k.val < 2048 then f (t + k.val) else 0) = ∑ i : Fin 2048, if t ≤ i.val then f i.val else 0 := by
  rw [Fin.sum_univ_eq_sum_range (fun k : Nat => if t + k < 2048 then f (t + k) else 0) 2048,
    Fin.sum_univ_eq_sum_range (fun i : Nat => if t ≤ i then f i else 0) 2048, ← Finset.sum_filter, ← Finset.sum_filter]
  have e1 : (Finset.range 2048).filter (fun k => t + k < 2048) = Finset.range (2048 - t) := by
    ext k; simp only [Finset.mem_filter, Finset.mem_range]; omega
  have e2 : (Finset.range 2048).filter (fun i => t ≤ i) = Finset.Ico t 2048 := by
    ext k; simp only [Finset.mem_filter, Finset.mem_range, Finset.mem_Ico]; omega
  rw [e1, e2, Finset.sum_Ico_eq_sum_range]

/-- A fold of a sum is the sum. -/
theorem foldl_sum (n : Nat) (g : Fin n → EReal) : (List.finRange n).foldl (fun r k => r + g k) 0 = ∑ k : Fin n, g k := by
  rw [← List.foldl_map, ← List.sum_eq_foldl, ← List.ofFn_eq_map, List.sum_ofFn]

end Cert.Post

namespace Cert.Reference11Ideal.PostRef

open Cert.Reference11Ideal Cert.Reference11Ideal.Gen Cert.Reference11Ideal.Read Idealize.ShloMosaic Idealize.ShloMosaic.TcCoe Cert.Norm Cert.Out Cert.Post

variable (x0 : (⟨S8x8192, .f32⟩ : BufTy).Contents (Elt Ideal)) (x1 : (⟨S8x8192, .f32⟩ : BufTy).Contents (Elt Ideal))
  (x2 : (⟨S8x1, .f32⟩ : BufTy).Contents (Elt Ideal))

theorem v5_eq (s : Fin 4) (i : Fin 2048) (h : Fin 8) :
    val_main_v5 (F := Ideal) x1 x2 (ix3 s i h) = x1 (ix2 h (tok s i)) + x2 (ix2 h 0) := by
  pointwise [val_main_v5, val_main_v4, val_main_v3, val_main_v2, val_main_v1, val_main_v0]

theorem v6_eq (s : Fin 4) (i : Fin 2048) (h : Fin 8) :
    val_main_v6_1 (F := Ideal) x1 x2 (ix3 s i h) = sigNeg (x1 (ix2 h (tok s i)) + x2 (ix2 h 0)) := by
  rw [← grad_softplus, ← v5_eq]
  generalize hz : val_main_v5 (F := Ideal) x1 x2 (ix3 s i h) = z
  pointwise [val_main_v6_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_v0, val_main_call0_v1_0,
    val_main_call0_call0_cst, val_main_call0_call0_cst_0, val_main_call0_call0_cst_1, val_main_call0_call0_cst_2, val_main_call0_call0_cst_3, hz]
  simp only [ne_eq, not_true_eq_false, if_false, lit_inf]
  rfl

/-- Position `n` of a window of 2048 tokens, one sequence and one head. -/
theorem symm_window (n : Fin (⟨3, ![1, 2048, 1]⟩ : Shape).numel) :
    ((⟨3, ![1, 2048, 1]⟩ : Shape).rowMajor.symm n 0).val = 0 ∧ ((⟨3, ![1, 2048, 1]⟩ : Shape).rowMajor.symm n 1).val = n.val
      ∧ ((⟨3, ![1, 2048, 1]⟩ : Shape).rowMajor.symm n 2).val = 0 := by
  have h0 : ((⟨3, ![1, 2048, 1]⟩ : Shape).rowMajor.symm n 0).val < 1 := ((⟨3, ![1, 2048, 1]⟩ : Shape).rowMajor.symm n 0).isLt
  have h2 : ((⟨3, ![1, 2048, 1]⟩ : Shape).rowMajor.symm n 2).val < 1 := ((⟨3, ![1, 2048, 1]⟩ : Shape).rowMajor.symm n 2).isLt
  have e : ((⟨3, ![1, 2048, 1]⟩ : Shape).rowMajor ((⟨3, ![1, 2048, 1]⟩ : Shape).rowMajor.symm n)).val = n.val :=
    congrArg Fin.val (Equiv.apply_symm_apply _ _)
  rw [Shape.rowMajor_val_three] at e
  change (((⟨3, ![1, 2048, 1]⟩ : Shape).rowMajor.symm n 0).val * 2048 + ((⟨3, ![1, 2048, 1]⟩ : Shape).rowMajor.symm n 1).val) * 1
    + ((⟨3, ![1, 2048, 1]⟩ : Shape).rowMajor.symm n 2).val = n.val at e
  omega

/-- The sums from each token on, as they print. -/
theorem window_sum (x : S4x2048x8.Idx → EReal) (hw : S4x2048x8.ReduceWindows ![1, 2048, 1] ![1, 1, 1] ![0, 0, 0] ![0, 2047, 0] S4x2048x8)
    (s : Fin 4) (i : Fin 2048) (h : Fin 8) :
    Ideal.hostReduceWindowAdd ![1, 2048, 1] ![1, 1, 1] ![0, 0, 0] ![0, 2047, 0] hw x 0 (ix3 s i h)
      = ∑ k : Fin 2048, if i.val ≤ k.val then x (ix3 s k h) else 0 := by
  have hi := i.isLt
  have hs := s.isLt
  have hh := h.isLt
  have hN : (⟨3, ![1, 2048, 1]⟩ : Shape).numel = 2048 := by decide
  unfold Ideal.hostReduceWindowAdd Host.reduceWindow
  dsimp only
  refine (foldl_sum _ _).trans ?_
  have key : ∀ k : Fin 2048, (if i.val ≤ k.val then x (ix3 s k h) else 0)
      = (fun n : Nat => if i.val ≤ n then (if hn : n < 2048 then x (ix3 s ⟨n, hn⟩ h) else 0) else 0) k.val := fun k => by
    dsimp only
    rw [dif_pos k.isLt]
  rw [Finset.sum_congr rfl fun k _ => key k]
  refine Eq.trans ?_ (sum_shift (fun n => if hn : n < 2048 then x (ix3 s ⟨n, hn⟩ h) else 0) i.val hi)
  refine Fintype.sum_equiv (finCongr hN) _ _ fun n => ?_
  obtain ⟨w0, w1, w2⟩ := symm_window n
  have hn : n.val < 2048 := lt_of_lt_of_eq n.isLt hN
  show _ = if i.val + n.val < 2048 then (if hn : i.val + n.val < 2048 then x (ix3 s ⟨i.val + n.val, hn⟩ h) else 0) else 0
  split
  · next hin =>
    have h1 := (hin 1).2
    change i.val * 1 + ((⟨3, ![1, 2048, 1]⟩ : Shape).rowMajor.symm n 1).val - 0 < 2048 at h1
    rw [w1] at h1
    rw [if_pos (by omega), dif_pos (by omega)]
    refine congrArg x (funext fun a => Fin.ext ?_)
    match a with
    | ⟨0, _⟩ =>
      show s.val * 1 + ((⟨3, ![1, 2048, 1]⟩ : Shape).rowMajor.symm n 0).val - 0 = s.val
      rw [w0]; omega
    | ⟨1, _⟩ =>
      show i.val * 1 + ((⟨3, ![1, 2048, 1]⟩ : Shape).rowMajor.symm n 1).val - 0 = i.val + n.val
      rw [w1]; omega
    | ⟨2, _⟩ =>
      show h.val * 1 + ((⟨3, ![1, 2048, 1]⟩ : Shape).rowMajor.symm n 2).val - 0 = h.val
      rw [w2]; omega
  · next hin =>
    rw [if_neg fun hlt => hin fun a => by
      match a with
      | ⟨0, _⟩ =>
        show 0 ≤ s.val * 1 + ((⟨3, ![1, 2048, 1]⟩ : Shape).rowMajor.symm n 0).val
          ∧ s.val * 1 + ((⟨3, ![1, 2048, 1]⟩ : Shape).rowMajor.symm n 0).val - 0 < 4
        rw [w0]; omega
      | ⟨1, _⟩ =>
        show 0 ≤ i.val * 1 + ((⟨3, ![1, 2048, 1]⟩ : Shape).rowMajor.symm n 1).val
          ∧ i.val * 1 + ((⟨3, ![1, 2048, 1]⟩ : Shape).rowMajor.symm n 1).val - 0 < 2048
        rw [w1]; omega
      | ⟨2, _⟩ =>
        show 0 ≤ h.val * 1 + ((⟨3, ![1, 2048, 1]⟩ : Shape).rowMajor.symm n 2).val
          ∧ h.val * 1 + ((⟨3, ![1, 2048, 1]⟩ : Shape).rowMajor.symm n 2).val - 0 < 8
        rw [w2]; omega]

theorem v9_eq (s : Fin 4) (i : Fin 2048) (h : Fin 8) : val_main_v9 (F := Ideal) x0 (ix3 s i h) = x0 (ix2 h (tok s i)) := by
  pointwise [val_main_v9, val_main_v8]

theorem v10_eq (s : Fin 4) (i : Fin 2048) (h : Fin 8) :
    val_main_v10 (F := Ideal) x0 (ix3 s i h) = ∑ k : Fin 2048, if i.val ≤ k.val then x0 (ix2 h (tok s k)) else 0 := by
  unfold val_main_v10 Host.reduceWindowAdd
  rw [Ideal.hostReduceWindowAdd_def]
  have e : val_main_call2_call0_v0 (F := Ideal) (Shape.Idx.first h_S_) = 0 := by
    pointwise [val_main_call2_call0_v0, val_main_call2_call0_cst]
  rw [e, window_sum]
  refine Finset.sum_congr rfl fun k _ => ?_
  rw [v9_eq]

theorem v11_eq (s : Fin 4) (i : Fin 2048) (h : Fin 8) :
    val_main_v11 (F := Ideal) x0 x1 x2 (ix3 s i h)
      = (∑ k : Fin 2048, if i.val ≤ k.val then x0 (ix2 h (tok s k)) else 0) * sigNeg (x1 (ix2 h (tok s i)) + x2 (ix2 h 0)) := by
  pointwise [val_main_v11, val_main_call3_v1, val_main_call3_v0, v10_eq, v6_eq]
  rw [EReal.neg_mul, neg_neg]

theorem v16_eq (h : Fin 8) (t : Fin 8192) :
    val_main_v16 (F := Ideal) x0 x1 x2 (ix2 h t) = flSeq x0 x1 x2 h ⟨t.val / 2048, by omega⟩ ⟨t.val % 2048, by omega⟩ := by
  pointwise [val_main_v16, val_main_v15, v11_eq]
  rfl

theorem v12_eq (h : Fin 8) :
    val_main_v12 (F := Ideal) x0 x1 x2 (ix1 h)
      = ∑ s : Fin 4, ∑ i : Fin 2048, (∑ k : Fin 2048, if i.val ≤ k.val then x0 (ix2 h (tok s k)) else 0) * sigNeg (x1 (ix2 h (tok s i)) + x2 (ix2 h 0)) := by
  unfold val_main_v12
  simp only [Host.reduceAdd, Ideal.hostReduceAdd_def]
  rw [hostReduceAdd_first_two _ rfl _ h rfl]
  pointwise [val_main_cst, v11_eq]

theorem v14_eq (h : Fin 8) : val_main_v14 (F := Ideal) x0 x1 x2 (ix1 h) = val_main_v12 (F := Ideal) x0 x1 x2 (ix1 h) := by
  unfold val_main_v14
  simp only [Host.reduceAdd, Ideal.hostReduceAdd_def]
  rw [hostReduceAdd_first_two _ rfl _ h rfl]
  have e : ∀ a b : Fin 1, val_main_v13 (F := Ideal) x0 x1 x2 (ix3 a b h) = val_main_v12 (F := Ideal) x0 x1 x2 (ix1 h) := fun a b => by
    pointwise [val_main_v13]
  pointwise [val_main_cst_0, e]
  exact (Fin.sum_univ_one _).trans (Fin.sum_univ_one _)

theorem v18_eq (h : Fin 8) (l : Fin 128) :
    val_main_v18 (F := Ideal) x0 x1 x2 (ix2 h l) = dbAt x0 x1 x2 h := by
  pointwise [val_main_v18, val_main_v17]
  exact (v14_eq x0 x1 x2 h).trans (v12_eq x0 x1 x2 h)

end Cert.Reference11Ideal.PostRef

end
-- ==== Proof.PostBody.lean ====
/-
  One grid point of the forget gate's backward kernel at an element: the two blocks it leaves, in terms of the blocks it
  reads.

  A point holds one sequence. Its cotangents are summed from each token to the end in eight pieces of 256 tokens, last
  piece first, each piece a product with a triangle of ones plus what the later pieces sum to.
-/
module

public import proofs.«01_k».proof.Proof.Gen.Kernel11Ideal.Value
public import proofs.«01_k».proof.Proof.PostRef
public import proofs.«01_k».proof.Proof.ProjSpec
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pointwise.Select
public import Idealize.ShloMosaic.Lib.WordCmp

@[expose] public section

noncomputable section

namespace Cert.Post

/-- The sum of a row from position `n` on. -/
def from_ (D : Fin 2048 → EReal) (n : Nat) : EReal := ∑ k : Fin 2048, if n ≤ k.val then D k else 0

theorem sum_ge (g : Nat → EReal) (n a : Nat) : (∑ i : Fin n, if a ≤ i.val then g i.val else 0) = ∑ i ∈ Finset.Ico a n, g i := by
  rw [Fin.sum_univ_eq_sum_range (fun i => if a ≤ i then g i else 0), ← Finset.sum_filter]
  refine Finset.sum_congr (Finset.ext fun x => ?_) fun _ _ => rfl
  simp only [Finset.mem_filter, Finset.mem_range, Finset.mem_Ico]
  omega

/-- A row by position, zero past its end. -/
def ext0 (D : Fin 2048 → EReal) (n : Nat) : EReal := if h : n < 2048 then D ⟨n, h⟩ else 0

theorem from_eq (D : Fin 2048 → EReal) (n : Nat) : from_ D n = ∑ i ∈ Finset.Ico n 2048, ext0 D i := by
  rw [← sum_ge]
  refine Finset.sum_congr rfl fun k _ => ?_
  rw [ext0, dif_pos k.isLt]

theorem from_end (D : Fin 2048 → EReal) : from_ D 2048 = 0 := by
  rw [from_eq, Finset.Ico_self, Finset.sum_empty]

/-- A piece of 256 positions from its `j`-th on, and the rest of the row after it. -/
theorem piece (D : Fin 2048 → EReal) (v : Fin 256 → EReal) (o : Nat) (ho : o + 256 ≤ 2048) (hv : ∀ i : Fin 256, v i = D ⟨o + i.val, by omega⟩) (j : Fin 256) :
    (∑ i : Fin 256, v i * (if j.val ≤ i.val then 1 else 0)) + from_ D (o + 256) = from_ D (o + j.val) := by
  have hj := j.isLt
  have e : (∑ i : Fin 256, v i * (if j.val ≤ i.val then 1 else 0)) = ∑ i : Fin 256, if j.val ≤ i.val then (fun n => ext0 D (o + n)) i.val else 0 := by
    refine Finset.sum_congr rfl fun i _ => ?_
    have : o + i.val < 2048 := by have := i.isLt; omega
    split
    · rw [mul_one, hv]
      show _ = ext0 D (o + i.val)
      rw [ext0, dif_pos this]
    · rw [mul_zero]
  rw [e, sum_ge (fun n => ext0 D (o + n)), Finset.sum_Ico_add (ext0 D) j.val 256 o, from_eq, from_eq, Nat.add_comm 256 o, Nat.add_comm j.val o,
    Finset.sum_Ico_consecutive _ (by omega) ho]

end Cert.Post

namespace Cert.Kernel11Ideal.PostBody

open Cert.Kernel11Ideal Cert.Kernel11Ideal.Gen Idealize.ShloMosaic Idealize.ShloMosaic.TcCoe Cert.Norm Cert.Proj Cert.Post

theorem hz : (![0, 0] : Fin 2 → Nat) = fun _ => 0 := funext fun a => by fin_cases a <;> rfl

/-- The sum of a piece from position `j` on, as a product with the triangle of ones. -/
def suf (v : S8x256.Idx → EReal) (h : Fin 8) (j : Fin 256) : EReal := ∑ i : Fin 256, v (ix2 h i) * (if j.val ≤ i.val then 1 else 0)

theorem pay4_eq (i j : Fin 256) : k0_pay4 (F := Ideal) (ix2 i j) = if j.val ≤ i.val then 1 else 0 := by
  pointwise [k0_pay4]
  have hi := i.isLt
  have hj := j.isLt
  rw [WordCmp.cmpi_sge_ofNat (by norm_num; omega) (by norm_num; omega)]
  by_cases h : j.val ≤ i.val
  · rw [decide_eq_true h, if_pos h]
    show (((1#32 : BitVec 32).toInt : ℝ) : EReal) = 1
    norm_num
  · rw [decide_eq_false h, if_neg h]
    show (((0#32 : BitVec 32).toInt : ℝ) : EReal) = 0
    norm_num

theorem pay3_eq (x1 : Vec Ideal S8x2048 .f32) (x2 : Vec Ideal S8x1 .f32) (h : Fin 8) (z : Fin 2048) :
    k0_pay3 (F := Ideal) x1 x2 (ix2 h z) = sigNeg (x1 (ix2 h z) + x2 (ix2 h 0)) := by
  pointwise [k0_pay3]
  rfl

section
variable (v19 v30 v41 v52 v63 v74 v85 v96 : Vec Ideal S8x256 .f32) (v34 v67 : FVec Ideal S8x1 .f32)

theorem pay5_eq (h : Fin 8) (j : Fin 256) : k0_pay5 (F := Ideal) v19 (ix2 h j) = suf v19 h j := by
  pointwise [k0_pay5, pay4_eq]
  rfl

theorem pay8_eq (h : Fin 8) (j : Fin 256) : k0_pay8 (F := Ideal) v19 v30 (ix2 h j) = suf v30 h j + suf v19 h 0 := by
  pointwise [k0_pay8, pay4_eq, pay5_eq]
  rfl

theorem pay9_eq (h : Fin 8) (z : Fin 1) : k0_pay9 (F := Ideal) v19 v30 (ix2 h z) = suf v30 h 0 + suf v19 h 0 := by
  pointwise [k0_pay9, pay8_eq]

theorem pay11_eq (h : Fin 8) (j : Fin 256) : k0_pay11 (F := Ideal) k0_pay4 v34 v41 (ix2 h j) = suf v41 h j + v34 (ix2 h 0) := by
  pointwise [k0_pay11, pay4_eq]
  rfl

theorem pay13_eq (h : Fin 8) (j : Fin 256) : k0_pay13 (F := Ideal) k0_pay4 v34 v41 v52 (ix2 h j) = suf v52 h j + (suf v41 h 0 + v34 (ix2 h 0)) := by
  pointwise [k0_pay13, pay4_eq, pay11_eq]
  rfl

theorem pay16_eq (h : Fin 8) (j : Fin 256) :
    k0_pay16 (F := Ideal) k0_pay4 v34 v41 v52 v63 (ix2 h j) = suf v63 h j + (suf v52 h 0 + (suf v41 h 0 + v34 (ix2 h 0))) := by
  pointwise [k0_pay16, pay4_eq, pay13_eq]
  rfl

theorem pay17_eq (h : Fin 8) (z : Fin 1) :
    k0_pay17 (F := Ideal) k0_pay4 v34 v41 v52 v63 (ix2 h z) = suf v63 h 0 + (suf v52 h 0 + (suf v41 h 0 + v34 (ix2 h 0))) := by
  pointwise [k0_pay17, pay16_eq]

theorem pay20_eq (h : Fin 8) (j : Fin 256) : k0_pay20 (F := Ideal) k0_pay4 v67 v74 (ix2 h j) = suf v74 h j + v67 (ix2 h 0) := by
  pointwise [k0_pay20, pay4_eq]
  rfl

theorem pay22_eq (h : Fin 8) (j : Fin 256) : k0_pay22 (F := Ideal) k0_pay4 v67 v74 v85 (ix2 h j) = suf v85 h j + (suf v74 h 0 + v67 (ix2 h 0)) := by
  pointwise [k0_pay22, pay4_eq, pay20_eq]
  rfl
end

/-- Column `o + k` of a block, of the 256 columns from `o` on. -/
theorem ld_cols {o : Nat} (inb : ∀ a, (![0, o] : Fin 2 → Nat) a + S8x256.size a ≤ S8x2048.size a) (X : Vec Ideal S8x2048 .f32)
    (h : Fin 8) (k : Fin 256) (z : Fin 2048) (hk : z.val = o + k.val) :
    View.ld X (Rect.unit (s := S8x2048) ![0, o] S8x256.size inb) (ix2 h k) = X (ix2 h z) :=
  congrArg X (funext fun a => Fin.ext (by
    match a with
    | ⟨0, _⟩ => show 0 + 1 * h.val = h.val; omega
    | ⟨1, _⟩ => show o + 1 * k.val = z.val; omega))

section
variable (x0 x1 : Vec Ideal S8x2048 .f32) (x2 : Vec Ideal S8x1 .f32)

abbrev p7 : Vec Ideal S8x256 .f32 := View.ld x0 (Rect.unit (s := S8x2048) ![0, 1792] S8x256.size inb_S8x2048_S8x256_0_1792)
abbrev p6 : Vec Ideal S8x256 .f32 := View.ld x0 (Rect.unit (s := S8x2048) ![0, 1536] S8x256.size inb_S8x2048_S8x256_0_1536)
abbrev p5 : Vec Ideal S8x256 .f32 := View.ld x0 (Rect.unit (s := S8x2048) ![0, 1280] S8x256.size inb_S8x2048_S8x256_0_1280)
abbrev p4 : Vec Ideal S8x256 .f32 := View.ld x0 (Rect.unit (s := S8x2048) ![0, 1024] S8x256.size inb_S8x2048_S8x256_0_1024)
abbrev p3 : Vec Ideal S8x256 .f32 := View.ld x0 (Rect.unit (s := S8x2048) ![0, 768] S8x256.size inb_S8x2048_S8x256_0_768)
abbrev p2 : Vec Ideal S8x256 .f32 := View.ld x0 (Rect.unit (s := S8x2048) ![0, 512] S8x256.size inb_S8x2048_S8x256_0_512)
abbrev p1 : Vec Ideal S8x256 .f32 := View.ld x0 (Rect.unit (s := S8x2048) ![0, 256] S8x256.size inb_S8x2048_S8x256_0_256)
abbrev p0 : Vec Ideal S8x256 .f32 := View.ld x0 (Rect.unit (s := S8x2048) ![0, 0] S8x256.size inb_S8x2048_S8x256_0_0)

/-- A row of the cotangents. -/
abbrev drow (h : Fin 8) : Fin 2048 → EReal := fun k => x0 (ix2 h k)

theorem suf_piece {o : Nat} (inb : ∀ a, (![0, o] : Fin 2 → Nat) a + S8x256.size a ≤ S8x2048.size a) (ho : o + 256 ≤ 2048) (h : Fin 8) (j : Fin 256) :
    suf (View.ld x0 (Rect.unit (s := S8x2048) ![0, o] S8x256.size inb)) h j + from_ (drow x0 h) (o + 256) = from_ (drow x0 h) (o + j.val) :=
  piece (drow x0 h) _ o ho (fun i => ld_cols inb x0 h i _ rfl) j

theorem d7 (h : Fin 8) (j : Fin 256) : suf (p7 x0) h j = from_ (drow x0 h) (1792 + j.val) := by
  have := suf_piece x0 inb_S8x2048_S8x256_0_1792 (by omega) h j
  rw [from_end, add_zero] at this
  exact this

theorem d6 (h : Fin 8) (j : Fin 256) : suf (p6 x0) h j + suf (p7 x0) h 0 = from_ (drow x0 h) (1536 + j.val) := by
  rw [d7]; exact suf_piece x0 inb_S8x2048_S8x256_0_1536 (by omega) h j
theorem d5 (h : Fin 8) (j : Fin 256) : suf (p5 x0) h j + (suf (p6 x0) h 0 + suf (p7 x0) h 0) = from_ (drow x0 h) (1280 + j.val) := by
  rw [d6]; exact suf_piece x0 inb_S8x2048_S8x256_0_1280 (by omega) h j
theorem d4 (h : Fin 8) (j : Fin 256) : suf (p4 x0) h j + (suf (p5 x0) h 0 + (suf (p6 x0) h 0 + suf (p7 x0) h 0)) = from_ (drow x0 h) (1024 + j.val) := by
  rw [d5]; exact suf_piece x0 inb_S8x2048_S8x256_0_1024 (by omega) h j
theorem d3 (h : Fin 8) (j : Fin 256) : suf (p3 x0) h j + (suf (p4 x0) h 0 + (suf (p5 x0) h 0 + (suf (p6 x0) h 0 + suf (p7 x0) h 0))) = from_ (drow x0 h) (768 + j.val) := by
  rw [d4]; exact suf_piece x0 inb_S8x2048_S8x256_0_768 (by omega) h j

/-- What the kernel leaves at position `z`: the sum from there on, times the sigmoid of minus the logit. -/
def dfl (h : Fin 8) (z : Fin 2048) : EReal := from_ (drow x0 h) z.val * sigNeg (x1 (ix2 h z) + x2 (ix2 h 0))

abbrev S : FVec Ideal S8x2048 .f32 := k0_pay3 (F := Ideal) x1 x2
abbrev c5 : FVec Ideal S8x1 .f32 := k0_pay9 (F := Ideal) (p7 x0) (p6 x0)
abbrev c2 : FVec Ideal S8x1 .f32 := k0_pay17 (F := Ideal) k0_pay4 (c5 x0) (p5 x0) (p4 x0) (p3 x0)

theorem c2_eq (h : Fin 8) (z : Fin 1) : c2 x0 (ix2 h z) = from_ (drow x0 h) 768 := by
  unfold c2 c5
  rw [pay17_eq, pay9_eq]
  exact d3 x0 h 0

theorem d2 (h : Fin 8) (j : Fin 256) : suf (p2 x0) h j + c2 x0 (ix2 h 0) = from_ (drow x0 h) (512 + j.val) := by
  rw [c2_eq]; exact suf_piece x0 inb_S8x2048_S8x256_0_512 (by omega) h j
theorem d1 (h : Fin 8) (j : Fin 256) : suf (p1 x0) h j + (suf (p2 x0) h 0 + c2 x0 (ix2 h 0)) = from_ (drow x0 h) (256 + j.val) := by
  rw [d2]; exact suf_piece x0 inb_S8x2048_S8x256_0_256 (by omega) h j
theorem d0 (h : Fin 8) (j : Fin 256) : suf (p0 x0) h j + (suf (p1 x0) h 0 + (suf (p2 x0) h 0 + c2 x0 (ix2 h 0))) = from_ (drow x0 h) (0 + j.val) := by
  rw [d1]; exact suf_piece x0 inb_S8x2048_S8x256_0_0 (by omega) h j

theorem dfl_of (h : Fin 8) (a b : EReal) (n : Nat) (z : Fin 2048) (hz : z.val = n) (ha : a = from_ (drow x0 h) n) (hb : b = sigNeg (x1 (ix2 h z) + x2 (ix2 h 0))) :
    a * b = dfl x0 x1 x2 h z := by
  rw [ha, hb, ← hz]; rfl

theorem o7 (h : Fin 8) (j : Fin 256) : k0_pay6 (F := Ideal) x1 x2 (p7 x0) (ix2 h j) = dfl x0 x1 x2 h ⟨1792 + j.val, by omega⟩ := by
  pointwise [k0_pay6, pay5_eq, pay3_eq, d7]
  rfl
theorem o6 (h : Fin 8) (j : Fin 256) : k0_pay10 (F := Ideal) x1 x2 (p7 x0) (p6 x0) (ix2 h j) = dfl x0 x1 x2 h ⟨1536 + j.val, by omega⟩ := by
  pointwise [k0_pay10, pay8_eq, pay3_eq, d6]
  rfl
theorem o5 (h : Fin 8) (j : Fin 256) : k0_pay12 (F := Ideal) (S x1 x2) k0_pay4 (c5 x0) (p5 x0) (ix2 h j) = dfl x0 x1 x2 h ⟨1280 + j.val, by omega⟩ := by
  pointwise [k0_pay12, pay11_eq, pay9_eq, pay3_eq, d5]
  rfl
theorem o4 (h : Fin 8) (j : Fin 256) : k0_pay14 (F := Ideal) (S x1 x2) k0_pay4 (c5 x0) (p5 x0) (p4 x0) (ix2 h j) = dfl x0 x1 x2 h ⟨1024 + j.val, by omega⟩ := by
  pointwise [k0_pay14, pay13_eq, pay9_eq, pay3_eq, d4]
  rfl
theorem o3 (h : Fin 8) (j : Fin 256) : k0_pay18 (F := Ideal) (S x1 x2) k0_pay4 (c5 x0) (p5 x0) (p4 x0) (p3 x0) (ix2 h j) = dfl x0 x1 x2 h ⟨768 + j.val, by omega⟩ := by
  pointwise [k0_pay18, pay16_eq, pay9_eq, pay3_eq, d3]
  rfl
theorem o2 (h : Fin 8) (j : Fin 256) : k0_pay21 (F := Ideal) (S x1 x2) k0_pay4 (c2 x0) (p2 x0) (ix2 h j) = dfl x0 x1 x2 h ⟨512 + j.val, by omega⟩ := by
  pointwise [k0_pay21, pay20_eq, pay3_eq, d2]
  rfl
theorem o1 (h : Fin 8) (j : Fin 256) : k0_pay23 (F := Ideal) (S x1 x2) k0_pay4 (c2 x0) (p2 x0) (p1 x0) (ix2 h j) = dfl x0 x1 x2 h ⟨256 + j.val, by omega⟩ := by
  pointwise [k0_pay23, pay22_eq, pay3_eq, d1]
  rfl
theorem o0 (h : Fin 8) (j : Fin 256) : k0_pay24 (F := Ideal) (S x1 x2) k0_pay4 (c2 x0) (p2 x0) (p1 x0) (p0 x0) (ix2 h j) = dfl x0 x1 x2 h ⟨0 + j.val, by omega⟩ := by
  pointwise [k0_pay24, pay22_eq, pay4_eq, pay3_eq]
  exact dfl_of x0 x1 x2 h _ _ j.val _ rfl ((d0 x0 h j).trans (congrArg (from_ _) (Nat.zero_add _))) rfl

/-- A point's total of a head. -/
def tot (h : Fin 8) : EReal := ∑ z : Fin 2048, dfl x0 x1 x2 h z

abbrev t4 : FVec Ideal S8x1 .f32 := k0_pay15 (F := Ideal) (S x1 x2) k0_pay4 (k0_pay7 x1 x2 (p7 x0)) (c5 x0) (k0_pay10 x1 x2 (p7 x0) (p6 x0)) (p5 x0) (p4 x0)

theorem t4_eq (h : Fin 8) (z : Fin 1) : t4 x0 x1 x2 (ix2 h z)
    = (((∑ j : Fin 256, dfl x0 x1 x2 h ⟨1792 + j.val, by omega⟩) + ∑ j : Fin 256, dfl x0 x1 x2 h ⟨1536 + j.val, by omega⟩)
      + ∑ j : Fin 256, dfl x0 x1 x2 h ⟨1280 + j.val, by omega⟩) + ∑ j : Fin 256, dfl x0 x1 x2 h ⟨1024 + j.val, by omega⟩ := by
  pointwise [t4, k0_pay15, k0_pay7, o7, o6, o5, o4]

theorem tot_eq (h : Fin 8) (l : Fin 128) :
    k0_pay26 (F := Ideal) (S x1 x2) k0_pay4 (t4 x0 x1 x2) (c2 x0) (k0_pay19 (S x1 x2) k0_pay4 (c5 x0) (p5 x0) (p4 x0) (p3 x0)) (p2 x0) (p1 x0) (p0 x0) (ix2 h l)
      = tot x0 x1 x2 h := by
  unfold tot
  rw [Fin.sum_univ_tiles 8 256 rfl, Fin.sum_univ_eight]
  pointwise [k0_pay26, k0_pay19, t4_eq, o3, o2, o1, o0]
  abel

end

theorem pay2_eq (y : S8x128.Idx) : k0_pay2 (F := Ideal) y = 0 := by pointwise [k0_pay2]

theorem pay1_eq (u v : Vec Ideal S8x128 .f32) (h : Fin 8) (l : Fin 128) :
    k0_pay1 (F := Ideal) (k0_pay25 u) v (ix2 h l) = u (ix2 h l) + v (ix2 h l) := by
  pointwise [k0_pay1, k0_pay25]

section
variable (c : Dev nD) (i : grid0.Coords) (arg1 : Memref sig .tc .vmem S8x2048 .f32) (harg1 : arg1.IsWhole) (arg2 : Memref sig .tc .vmem S8x2048 .f32) (harg2 : arg2.IsWhole) (arg3 : Memref sig .tc .vmem S8x1 .f32) (harg3 : arg3.IsWhole) (arg4 : Memref sig .tc .vmem S8x2048 .f32) (harg4 : arg4.IsWhole) (arg5 : Memref sig .tc .vmem S8x128 .f32) (harg5 : arg5.IsWhole)
  (x0 x1 : Vec Ideal S8x2048 .f32) (x2 : Vec Ideal S8x1 .f32) (xo4 : Vec Ideal S8x128 .f32)

/-- Case A: the logits' gradient. -/
theorem fl_A (hc0 : cond0_0 i) (h : Fin 8) (z : Fin 2048) :
    out0_A_3 (F := Ideal) c i arg1 harg1 arg2 harg2 arg3 harg3 arg4 harg4 arg5 harg5 hc0 x0 x1 x2 (ix2 h z) = dfl x0 x1 x2 h z := by
  unfold out0_A_3
  rw [View.read_writes_junk_eq_canon]
  unfold kernelRun0_A
  dsimp only
  sl_unfold_words
  simp only [View.readAt_eq_ld, harg1.read_unread, harg2.read_unread, harg3.read_unread,
    View.ld_unit_zero (S := S8x2048) hz, View.ld_unit_zero (S := S8x1) hz]
  refine canon_cols_cases _ _ _ h z _ (fun hh => (o0 x0 x1 x2 h _).trans (congrArg (dfl x0 x1 x2 h) (Fin.ext (by dsimp only; omega)))) fun h0 => ?_
  refine canon_cols_cases _ _ _ h z _ (fun hh => (o1 x0 x1 x2 h _).trans (congrArg (dfl x0 x1 x2 h) (Fin.ext (by dsimp only; omega)))) fun h1 => ?_
  refine canon_cols_cases _ _ _ h z _ (fun hh => (o2 x0 x1 x2 h _).trans (congrArg (dfl x0 x1 x2 h) (Fin.ext (by dsimp only; omega)))) fun h2 => ?_
  refine canon_cols_cases _ _ _ h z _ (fun hh => (o3 x0 x1 x2 h _).trans (congrArg (dfl x0 x1 x2 h) (Fin.ext (by dsimp only; omega)))) fun h3 => ?_
  refine canon_cols_cases _ _ _ h z _ (fun hh => (o4 x0 x1 x2 h _).trans (congrArg (dfl x0 x1 x2 h) (Fin.ext (by dsimp only; omega)))) fun h4 => ?_
  refine canon_cols_cases _ _ _ h z _ (fun hh => (o5 x0 x1 x2 h _).trans (congrArg (dfl x0 x1 x2 h) (Fin.ext (by dsimp only; omega)))) fun h5 => ?_
  refine canon_cols_cases _ _ _ h z _ (fun hh => (o6 x0 x1 x2 h _).trans (congrArg (dfl x0 x1 x2 h) (Fin.ext (by dsimp only; omega)))) fun h6 => ?_
  refine canon_cols_cases _ _ _ h z _ (fun hh => (o7 x0 x1 x2 h _).trans (congrArg (dfl x0 x1 x2 h) (Fin.ext (by dsimp only; omega)))) fun h7 => ?_
  omega

/-- Case B: the logits' gradient. -/
theorem fl_B (hc0 : ¬cond0_0 i) (h : Fin 8) (z : Fin 2048) :
    out0_B_3 (F := Ideal) c i arg1 harg1 arg2 harg2 arg3 harg3 arg4 harg4 arg5 harg5 hc0 x0 x1 x2 xo4 (ix2 h z) = dfl x0 x1 x2 h z := by
  unfold out0_B_3
  rw [View.read_writes_junk_eq_canon]
  unfold kernelRun0_B
  dsimp only
  sl_unfold_words
  simp only [View.readAt_eq_ld, harg1.read_unread, harg2.read_unread, harg3.read_unread,
    View.ld_unit_zero (S := S8x2048) hz, View.ld_unit_zero (S := S8x1) hz]
  refine canon_cols_cases _ _ _ h z _ (fun hh => (o0 x0 x1 x2 h _).trans (congrArg (dfl x0 x1 x2 h) (Fin.ext (by dsimp only; omega)))) fun h0 => ?_
  refine canon_cols_cases _ _ _ h z _ (fun hh => (o1 x0 x1 x2 h _).trans (congrArg (dfl x0 x1 x2 h) (Fin.ext (by dsimp only; omega)))) fun h1 => ?_
  refine canon_cols_cases _ _ _ h z _ (fun hh => (o2 x0 x1 x2 h _).trans (congrArg (dfl x0 x1 x2 h) (Fin.ext (by dsimp only; omega)))) fun h2 => ?_
  refine canon_cols_cases _ _ _ h z _ (fun hh => (o3 x0 x1 x2 h _).trans (congrArg (dfl x0 x1 x2 h) (Fin.ext (by dsimp only; omega)))) fun h3 => ?_
  refine canon_cols_cases _ _ _ h z _ (fun hh => (o4 x0 x1 x2 h _).trans (congrArg (dfl x0 x1 x2 h) (Fin.ext (by dsimp only; omega)))) fun h4 => ?_
  refine canon_cols_cases _ _ _ h z _ (fun hh => (o5 x0 x1 x2 h _).trans (congrArg (dfl x0 x1 x2 h) (Fin.ext (by dsimp only; omega)))) fun h5 => ?_
  refine canon_cols_cases _ _ _ h z _ (fun hh => (o6 x0 x1 x2 h _).trans (congrArg (dfl x0 x1 x2 h) (Fin.ext (by dsimp only; omega)))) fun h6 => ?_
  refine canon_cols_cases _ _ _ h z _ (fun hh => (o7 x0 x1 x2 h _).trans (congrArg (dfl x0 x1 x2 h) (Fin.ext (by dsimp only; omega)))) fun h7 => ?_
  omega

/-- Case A: the total over the point's tokens. -/
theorem db_A (hc0 : cond0_0 i) (h : Fin 8) (l : Fin 128) :
    out0_A_4 (F := Ideal) c i arg1 harg1 arg2 harg2 arg3 harg3 arg4 harg4 arg5 harg5 hc0 x0 x1 x2 (ix2 h l) = tot x0 x1 x2 h := by
  unfold out0_A_4
  rw [View.read_writes_junk_eq_canon]
  unfold kernelRun0_A
  dsimp only
  sl_unfold_words
  rw [View.canon_cons_unit_zero hz]
  simp only [View.readAt_eq_ld, harg1.read_unread, harg2.read_unread, harg3.read_unread,
    View.ld_unit_zero (S := S8x2048) hz, View.ld_unit_zero (S := S8x1) hz]
  rw [View.readCov_unit_zero _ hz]
  refine (pay1_eq _ _ h l).trans ?_
  rw [pay2_eq, zero_add]
  exact tot_eq x0 x1 x2 h l

/-- Case B: what was there, and the total over the point's tokens. -/
theorem db_B (hc0 : ¬cond0_0 i) (h : Fin 8) (l : Fin 128) :
    out0_B_4 (F := Ideal) c i arg1 harg1 arg2 harg2 arg3 harg3 arg4 harg4 arg5 harg5 hc0 x0 x1 x2 xo4 (ix2 h l) = xo4 (ix2 h l) + tot x0 x1 x2 h := by
  unfold out0_B_4
  rw [View.read_writes_junk_eq_canon]
  unfold kernelRun0_B
  dsimp only
  sl_unfold_words
  rw [View.canon_cons_unit_zero hz]
  simp only [View.readAt_eq_ld, harg1.read_unread, harg2.read_unread, harg3.read_unread, harg5.read_unread,
    View.ld_unit_zero (S := S8x2048) hz, View.ld_unit_zero (S := S8x1) hz, View.ld_unit_zero (S := S8x128) hz]
  refine (pay1_eq _ _ h l).trans ?_
  exact congrArg (xo4 (ix2 h l) + ·) (tot_eq x0 x1 x2 h l)

end

end Cert.Kernel11Ideal.PostBody

end
-- ==== Proof.Post11Value.lean ====
/-
  The forget gate's backward: the kernel's two results and the reference's are the same functions of the arguments.

  Point `t` of 4 holds sequence `t`. The logits' gradient is written back block by block; the bias's gradient runs over
  all points.
-/
module

public import proofs.«01_k».proof.Proof.NormValue
public import proofs.«01_k».proof.Proof.PostBody
public import Idealize.ShloMosaic.Lib.Pipeline.ValueKit
public import Idealize.ShloMosaic.Lib.Claim

@[expose] public section

noncomputable section

namespace Cert.Kernel11Ideal.PostBlocks

open Cert.Kernel11Ideal Cert.Kernel11Ideal.Gen Cert.Kernel11Ideal.PostBody Idealize.ShloMosaic Idealize.ShloMosaic.TcCoe Cert.Norm Cert.Post

variable (m : (ℓ : Loc nD τ sig) → Buf (Elt Ideal) ℓ)

theorem index0 : ∀ t : Fin cfg0.N, win0_0.index t = ![0, t.val] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, 0] := (by decide +kernel : ∀ t : Fin grid0.N, _)

/-- The sequence of point `t`. -/
abbrev pseq (t : Fin cfg0.N) : Fin 4 := ⟨t.val, lt_of_lt_of_eq t.isLt N_0⟩

theorem blk0 (c : Dev nD) (t : Fin cfg0.N) (h : Fin 8) (k : Fin 2048) :
    iblk m c 0 t (ix2 h k) = m (c.tc.loc main_arg0) (ix2 h (tok (pseq t) k)) := by
  blk_simp [iblk]
  entry_read
  refine congrArg _ ?_
  unfold tok
  blk_ext [index0]

theorem blk1 (c : Dev nD) (t : Fin cfg0.N) (h : Fin 8) (k : Fin 2048) :
    iblk m c 1 t (ix2 h k) = m (c.tc.loc main_arg1) (ix2 h (tok (pseq t) k)) := by
  blk_simp [iblk]
  entry_read
  refine congrArg _ ?_
  unfold tok
  blk_ext [index1]

theorem blk2 (c : Dev nD) (t : Fin cfg0.N) (h : Fin 8) :
    iblk m c 2 t (ix2 h 0) = m (c.tc.loc main_arg2) (ix2 h 0) := by
  blk_simp [iblk]
  entry_read
  refine congrArg _ ?_
  blk_ext [index2]

/-- A point's gradients are its sequence's. -/
theorem dfl_eq (c : Dev nD) (t : Fin cfg0.N) (h : Fin 8) (z : Fin 2048) :
    dfl (iblk m c 0 t) (iblk m c 1 t) (iblk m c 2 t) h z
      = flSeq (m (c.tc.loc main_arg0)) (m (c.tc.loc main_arg1)) (m (c.tc.loc main_arg2)) h (pseq t) z := by
  unfold dfl flSeq from_ drow
  rw [blk1, blk2]
  simp only [blk0]

theorem outs_fl (c : Dev nD) (t : Fin cfg0.N) (h : Fin 8) (z : Fin 2048) :
    (outsAt0 m c t.val t.isLt).1 (ix2 h z) = dfl (iblk m c 0 t) (iblk m c 1 t) (iblk m c 2 t) h z := by
  by_cases h0 : t.val % 4 = 0
  · rw [outsAt0_A m c t h0]; dsimp only; exact fl_A ..
  · rw [outsAt0_B m c t h0]; dsimp only; exact fl_B ..

/-- The bias's gradient at the last point: the four points' totals. -/
theorem outs_db (c : Dev nD) (t : Fin cfg0.N) (hr : t.val + 1 = cfg0.N) (h : Fin 8) (l : Fin 128) :
    (outsAt0 m c t.val t.isLt).2 (ix2 h l) = ∑ p : Fin cfg0.N, tot (iblk m c 0 p) (iblk m c 1 p) (iblk m c 2 p) h := by
  refine (Pipeline.eq_sum_fin_of_reset_step_apply_last
    (fun n hn (i : Fin 8 × Fin 128) => (outsAt0 m c n hn).2 (ix2 i.1 i.2)) 4 (fun _ => 0)
    (fun p i => tot (iblk m c 0 p) (iblk m c 1 p) (iblk m c 2 p) i.1)
    (fun p h0 i => ?_) (fun p h0 i => ?_) (le_of_eq N_0) t hr (h, l)).trans (zero_add _)
  · rw [zero_add, outsAt0_A m c p h0]; dsimp only; exact db_A ..
  · rw [outsAt0_B m c p h0]; dsimp only; exact db_B ..

/-- Result 1. -/
abbrev resFl (c : Dev nD) : Buf (Elt Ideal) ((c.tc : Thread nD τ).loc main_v0_0) := fun y : S8x8192.Idx =>
  flSeq (m (c.tc.loc main_arg0)) (m (c.tc.loc main_arg1)) (m (c.tc.loc main_arg2)) (y 0)
    ⟨(y 1).val / 2048, by have h : (y 1).val < 8192 := (y 1).isLt; omega⟩ ⟨(y 1).val % 2048, Nat.mod_lt _ (by decide)⟩

/-- Result 2. -/
abbrev resDb (c : Dev nD) : Buf (Elt Ideal) ((c.tc : Thread nD τ).loc main_v0_1) := fun y : S8x128.Idx =>
  dbAt (m (c.tc.loc main_arg0)) (m (c.tc.loc main_arg1)) (m (c.tc.loc main_arg2)) (y 0)

theorem final_fl (c : Dev nD) : (dats m 0 c).arrAt 3 cfg0.N = resFl m c := by
  refine (dats m 0 c).arrAt_eq_of_covers 3 _ (by decide +kernel) fun t hf y => ?_
  blk_simp
  rw [after0_3]
  obtain ⟨h, z, rfl⟩ : ∃ (h : Fin 8) (z : Fin 2048), y = ix2 h z := ⟨y 0, y 1, Cert.NormValue.eta2 y⟩
  have e : (win0_3.blk t).view.emb (ix2 h z) = ix2 h (tok (pseq t) z) := by unfold tok; blk_ext [index3]
  rw [e]
  refine (outs_fl m c t h z).trans ((dfl_eq m c t h z).trans ?_)
  have hz := z.isLt
  refine congrArg₂ (flSeq (m (c.tc.loc main_arg0)) (m (c.tc.loc main_arg1)) (m (c.tc.loc main_arg2)) h) (Fin.ext ?_) (Fin.ext ?_)
  · show t.val = (t.val * 2048 + z.val) / 2048
    omega
  · show z.val = (t.val * 2048 + z.val) % 2048
    omega

theorem final_db (c : Dev nD) : (dats m 0 c).arrAt 4 cfg0.N = resDb m c := by
  refine (dats m 0 c).arrAt_eq_of_covers 4 _ (by decide +kernel) fun t hf y => ?_
  blk_simp
  rw [after0_4]
  have hN : cfg0.N = 4 := N_0
  have hr : t.val + 1 = cfg0.N := by
    have h := (flush0_4 t).mp hf
    have := t.isLt
    omega
  obtain ⟨h, l, rfl⟩ : ∃ (h : Fin 8) (l : Fin 128), y = ix2 h l := ⟨y 0, y 1, Cert.NormValue.eta2 y⟩
  refine (outs_db m c t hr h l).trans ?_
  have e : (win0_4.blk t).view.emb (ix2 h l) = ix2 h l := by blk_ext [index4]
  rw [e]
  show _ = dbAt (m (c.tc.loc main_arg0)) (m (c.tc.loc main_arg1)) (m (c.tc.loc main_arg2)) h
  unfold dbAt
  refine Fintype.sum_equiv (finCongr hN) _ _ fun p => Finset.sum_congr rfl fun z _ => ?_
  exact dfl_eq m c p h z

end Cert.Kernel11Ideal.PostBlocks

namespace Cert.Post11Value

open Cert.NormValue Idealize.ShloMosaic Idealize.SL.Sem

/-- On equal arguments the kernel and the reference end with equal results. -/
theorem agree : Cert.algebraic_Kernel11Ideal_Reference11Ideal (hKernel11Ideal := Cert.Kernel11Ideal.Gen.facts) (hReference11Ideal := Cert.Reference11Ideal.Gen.facts) := by
  intro m g m' g' _ hm
  refine ⟨Cert.Kernel11Ideal.PostBlocks.resFl m, Cert.Kernel11Ideal.PostBlocks.resDb m,
    (θ_run _ _ _).mono (fun r h c => ?_) (Cert.Kernel11Ideal.Value.run_blocks m g),
    (θ_run _ _ _).mono (fun r h c => ?_) (Cert.Reference11Ideal.Value.run m' g')⟩
  · obtain ⟨h0, h1, h2⟩ := h c
    exact ⟨h0.trans (Cert.Kernel11Ideal.PostBlocks.final_fl m c), h1.trans (Cert.Kernel11Ideal.PostBlocks.final_db m c), h2⟩
  · obtain ⟨h0, h1, h2⟩ := h c
    obtain ⟨e0, e1, e2⟩ := hm c
    refine ⟨h0.trans ((Cert.Reference11Ideal.Read.val_main_v16_eq m' c).trans (funext fun y => ?_)),
      h1.trans ((Cert.Reference11Ideal.Read.val_main_v18_eq m' c).trans (funext fun y => ?_)), h2⟩
    · refine (congrArg _ (eta2 y)).trans ((Cert.Reference11Ideal.PostRef.v16_eq (m' (c.tc.loc Cert.Reference11Ideal.main_arg0)) (m' (c.tc.loc Cert.Reference11Ideal.main_arg1)) (m' (c.tc.loc Cert.Reference11Ideal.main_arg2)) (y 0) (y 1)).trans ?_)
      rw [e0, e1, e2]
    · refine (congrArg _ (eta2 y)).trans ((Cert.Reference11Ideal.PostRef.v18_eq (m' (c.tc.loc Cert.Reference11Ideal.main_arg0)) (m' (c.tc.loc Cert.Reference11Ideal.main_arg1)) (m' (c.tc.loc Cert.Reference11Ideal.main_arg2)) (y 0) (y 1)).trans ?_)
      rw [e0, e1, e2]

end Cert.Post11Value

end
-- ==== Proof.AdamSpec.lean ====
/-
  One AdamW step of an entry of a weight, as a function of the weight, its gradient and its two moments.
-/
module

public import proofs.«01_k».proof.Proof.NormValue
public import Idealize.ShloMosaic.Lib.Pipeline.Value

@[expose] public section

noncomputable section

namespace Cert.Adam

open Idealize.ShloMosaic

/-- A float constant, by its bits. -/
abbrev lit (b : BitVec 32) : Ideal .f32 := FloatOps.ofBits (F := Ideal) .f32 b

/-- The first moment: `b1 m + (1 - b1) g`. -/
def moment1 (g m : Ideal .f32) : Ideal .f32 :=
  FloatOps.addf (FloatOps.mulf (lit 0x3F666666#32) m) (FloatOps.mulf (lit 0x3DCCCCCD#32) g)

/-- The second moment: `b2 v + (1 - b2) g²`. -/
def moment2 (g v : Ideal .f32) : Ideal .f32 :=
  FloatOps.addf (FloatOps.mulf (lit 0x3F7FBE77#32) v) (FloatOps.mulf (lit 0x3A83126F#32) (FloatOps.mulf g g))

/-- The weight's change: the corrected first moment over the corrected second one's root, and the decay, times the rate. -/
def delta (g w m v : Ideal .f32) : Ideal .f32 :=
  FloatOps.mulf (lit 0xBA83126F#32) (FloatOps.addf
    (FloatOps.divf (FloatOps.divf (moment1 g m) (lit 0x3F26BD02#32))
      (FloatOps.addf (FloatOps.sqrt (FloatOps.divf (moment2 g v) (lit 0x3C231ACC#32))) (lit 0x322BCC77#32)))
    (FloatOps.mulf (lit 0x3C23D70A#32) w))

/-- The sum of an entry's eight parts. -/
def parts {R C : Nat} (p : (⟨3, ![8, R, C]⟩ : Shape).Idx → EReal) (i : Fin R) (j : Fin C) : EReal := ∑ d : Fin 8, p (ix3 d i j)

end Cert.Adam

end
-- ==== Proof.Adam13Value.lean ====
/-
  Layer 1's input product's weight: the optimiser's step, of the kernel and of the reference, is the same function of the arguments.
-/
module

public import proofs.«01_k».proof.Proof.AdamSpec
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise.Select
public import Idealize.ShloMosaic.Lib.Pipeline.ValueKit
public import Idealize.ShloMosaic.Lib.Claim

@[expose] public section

noncomputable section

namespace Cert.Kernel13Ideal.AdamBlocks

open Cert.Kernel13Ideal Cert.Kernel13Ideal.Gen Idealize.ShloMosaic Idealize.ShloMosaic.TcCoe Cert.Adam

theorem hz : (![0, 0] : Fin 2 → Nat) = fun _ => 0 := funext fun a => by fin_cases a <;> rfl

section
variable (x0 x1 x2 : Vec Ideal S256x256 .f32) (x3 : Vec Ideal S8x256x256 .bf16) (g : FVec Ideal S256x256 .f32) (r : Fin 256) (j : Fin 256)

theorem pay1_eq : k0_pay1 (F := Ideal) g x1 (ix2 r j) = moment1 (g (ix2 r j)) (x1 (ix2 r j)) := rfl
theorem pay2_eq : k0_pay2 (F := Ideal) g x2 (ix2 r j) = moment2 (g (ix2 r j)) (x2 (ix2 r j)) := rfl
theorem pay3_eq : k0_pay3 (F := Ideal) g x0 x1 x2 (ix2 r j) = delta (g (ix2 r j)) (x0 (ix2 r j)) (x1 (ix2 r j)) (x2 (ix2 r j)) := rfl

/-- The eight parts' sum, one after the other. -/
theorem pay5_eq : k0_pay5 (F := Ideal) x0 x1 x2 x3 (ix2 r j) = parts (x3) r j := by
  unfold k0_pay5
  pointwise [k0_pay4]
  unfold parts
  rw [Fin.sum_univ_eight]

theorem out4_eq : out0_4 (F := Ideal) x0 x1 x2 x3 (ix2 r j) = parts (x3) r j := by
  unfold out0_4
  rw [View.canon_unit_zero hz]
  exact pay5_eq x0 x1 x2 x3 r j

theorem out5_eq : out0_5 (F := Ideal) x0 x1 x2 x3 (ix2 r j) = delta (parts (x3) r j) (x0 (ix2 r j)) (x1 (ix2 r j)) (x2 (ix2 r j)) := by
  unfold out0_5
  rw [View.canon_unit_zero hz]
  simp only [View.ld_unit_zero (S := S256x256) hz]
  rw [← pay5_eq x0 x1 x2 x3 r j]
  exact pay3_eq x0 x1 x2 (k0_pay5 (F := Ideal) x0 x1 x2 x3) r j

theorem out6_eq : out0_6 (F := Ideal) x0 x1 x2 x3 (ix2 r j) = moment1 (parts (x3) r j) (x1 (ix2 r j)) := by
  unfold out0_6
  rw [View.canon_unit_zero hz]
  simp only [View.ld_unit_zero (S := S256x256) hz]
  rw [← pay5_eq x0 x1 x2 x3 r j]
  exact pay1_eq x1 (k0_pay5 (F := Ideal) x0 x1 x2 x3) r j

theorem out7_eq : out0_7 (F := Ideal) x0 x1 x2 x3 (ix2 r j) = moment2 (parts (x3) r j) (x2 (ix2 r j)) := by
  unfold out0_7
  rw [View.canon_unit_zero hz]
  simp only [View.ld_unit_zero (S := S256x256) hz]
  rw [← pay5_eq x0 x1 x2 x3 r j]
  exact pay2_eq x2 (k0_pay5 (F := Ideal) x0 x1 x2 x3) r j

end

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`. -/
abbrev row (t : Fin cfg0.N) (r : Fin 256) : Fin 1024 :=
  ⟨t.val * 256 + r.val, by have := t.isLt; have := r.isLt; have : cfg0.N = 4 := N_0; omega⟩

theorem blk0 (c : Dev nD) (t : Fin cfg0.N) (r : Fin 256) (j : Fin 256) :
    iblk m c 0 t (ix2 r j) = m (c.tc.loc main_arg0) (ix2 (row t r) j) := by
  blk_simp [iblk]
  entry_read
  refine congrArg _ ?_
  blk_ext [index0]

theorem blk1 (c : Dev nD) (t : Fin cfg0.N) (r : Fin 256) (j : Fin 256) :
    iblk m c 1 t (ix2 r j) = m (c.tc.loc main_arg1) (ix2 (row t r) j) := by
  blk_simp [iblk]
  entry_read
  refine congrArg _ ?_
  blk_ext [index1]

theorem blk2 (c : Dev nD) (t : Fin cfg0.N) (r : Fin 256) (j : Fin 256) :
    iblk m c 2 t (ix2 r j) = m (c.tc.loc main_arg2) (ix2 (row t r) j) := by
  blk_simp [iblk]
  entry_read
  refine congrArg _ ?_
  blk_ext [index2]

theorem blk3 (c : Dev nD) (t : Fin cfg0.N) (d : Fin 8) (r : Fin 256) (j : Fin 256) :
    iblk m c 3 t (ix3 d r j) = m (c.tc.loc main_arg3) (ix3 d (row t r) j) := by
  blk_simp [iblk]
  entry_read
  refine congrArg _ ?_
  blk_ext [index3]

theorem parts_eq (c : Dev nD) (t : Fin cfg0.N) (r : Fin 256) (j : Fin 256) :
    parts (iblk m c 3 t) r j = parts (m (c.tc.loc main_arg3)) (row t r) j :=
  Finset.sum_congr rfl fun d _ => blk3 m c t d r j

/-- The gradient, whole. -/
abbrev resGrad (c : Dev nD) : Buf (Elt Ideal) ((c.tc : Thread nD τ).loc main_v0_0) := fun y : S1024x256.Idx =>
  parts (m (c.tc.loc main_arg3)) (y 0) (y 1)

theorem final4 (c : Dev nD) : (dats m 0 c).arrAt 4 cfg0.N = resGrad m c := by
  refine (dats m 0 c).arrAt_eq_of_covers 4 _ (by decide +kernel) fun t hf y => ?_
  blk_simp
  rw [after0_4]
  obtain ⟨r, j, rfl⟩ : ∃ (r : Fin 256) (j : Fin 256), y = ix2 r j := ⟨y 0, y 1, Cert.NormValue.eta2 y⟩
  have e : (win0_4.blk t).view.emb (ix2 r j) = ix2 (row t r) j := by blk_ext [index4]
  rw [e]
  refine (out4_eq ..).trans ?_
  rw [parts_eq m c t r]
  rfl

/-- The weight's change, whole. -/
abbrev resDelta (c : Dev nD) : Buf (Elt Ideal) ((c.tc : Thread nD τ).loc main_v0_1) := fun y : S1024x256.Idx =>
  delta (parts (m (c.tc.loc main_arg3)) (y 0) (y 1)) (m (c.tc.loc main_arg0) (ix2 (y 0) (y 1))) (m (c.tc.loc main_arg1) (ix2 (y 0) (y 1))) (m (c.tc.loc main_arg2) (ix2 (y 0) (y 1)))

theorem final5 (c : Dev nD) : (dats m 0 c).arrAt 5 cfg0.N = resDelta m c := by
  refine (dats m 0 c).arrAt_eq_of_covers 5 _ (by decide +kernel) fun t hf y => ?_
  blk_simp
  rw [after0_5]
  obtain ⟨r, j, rfl⟩ : ∃ (r : Fin 256) (j : Fin 256), y = ix2 r j := ⟨y 0, y 1, Cert.NormValue.eta2 y⟩
  have e : (win0_5.blk t).view.emb (ix2 r j) = ix2 (row t r) j := by blk_ext [index5]
  rw [e]
  refine (out5_eq ..).trans ?_
  rw [parts_eq m c t r, blk0 m c t r j, blk1 m c t r j, blk2 m c t r j]
  rfl

/-- The first moment, whole. -/
abbrev resFirst (c : Dev nD) : Buf (Elt Ideal) ((c.tc : Thread nD τ).loc main_v0_2) := fun y : S1024x256.Idx =>
  moment1 (parts (m (c.tc.loc main_arg3)) (y 0) (y 1)) (m (c.tc.loc main_arg1) (ix2 (y 0) (y 1)))

theorem final6 (c : Dev nD) : (dats m 0 c).arrAt 6 cfg0.N = resFirst m c := by
  refine (dats m 0 c).arrAt_eq_of_covers 6 _ (by decide +kernel) fun t hf y => ?_
  blk_simp
  rw [after0_6]
  obtain ⟨r, j, rfl⟩ : ∃ (r : Fin 256) (j : Fin 256), y = ix2 r j := ⟨y 0, y 1, Cert.NormValue.eta2 y⟩
  have e : (win0_6.blk t).view.emb (ix2 r j) = ix2 (row t r) j := by blk_ext [index6]
  rw [e]
  refine (out6_eq ..).trans ?_
  rw [parts_eq m c t r, blk1 m c t r j]
  rfl

/-- The second moment, whole. -/
abbrev resSecond (c : Dev nD) : Buf (Elt Ideal) ((c.tc : Thread nD τ).loc main_v0_3) := fun y : S1024x256.Idx =>
  moment2 (parts (m (c.tc.loc main_arg3)) (y 0) (y 1)) (m (c.tc.loc main_arg2) (ix2 (y 0) (y 1)))

theorem final7 (c : Dev nD) : (dats m 0 c).arrAt 7 cfg0.N = resSecond m c := by
  refine (dats m 0 c).arrAt_eq_of_covers 7 _ (by decide +kernel) fun t hf y => ?_
  blk_simp
  rw [after0_7]
  obtain ⟨r, j, rfl⟩ : ∃ (r : Fin 256) (j : Fin 256), y = ix2 r j := ⟨y 0, y 1, Cert.NormValue.eta2 y⟩
  have e : (win0_7.blk t).view.emb (ix2 r j) = ix2 (row t r) j := by blk_ext [index7]
  rw [e]
  refine (out7_eq ..).trans ?_
  rw [parts_eq m c t r, blk2 m c t r j]
  rfl

end Cert.Kernel13Ideal.AdamBlocks

namespace Cert.Reference13Ideal.AdamRef

open Cert.Reference13Ideal Cert.Reference13Ideal.Gen Cert.Reference13Ideal.Read Idealize.ShloMosaic Idealize.ShloMosaic.TcCoe Cert.Adam

variable (x0 x1 x2 : (⟨S1024x256, .f32⟩ : BufTy).Contents (Elt Ideal)) (x3 : (⟨S8x1024x256, .bf16⟩ : BufTy).Contents (Elt Ideal))
  (i : Fin 1024) (j : Fin 256)

theorem g_eq : val_main_v1 (F := Ideal) x3 (ix2 i j) = parts x3 i j := by
  pointwise [val_main_v1, val_main_v0, val_main_cst]
  rfl

theorem first_eq : val_main_v6 (F := Ideal) x1 x3 (ix2 i j) = moment1 (parts x3 i j) (x1 (ix2 i j)) := by
  rw [← g_eq x3 i j]
  rfl

theorem second_eq : val_main_v12 (F := Ideal) x2 x3 (ix2 i j) = moment2 (parts x3 i j) (x2 (ix2 i j)) := by
  rw [← g_eq x3 i j]
  rfl

theorem delta_eq : val_main_v25 (F := Ideal) x0 x1 x2 x3 (ix2 i j) = delta (parts x3 i j) (x0 (ix2 i j)) (x1 (ix2 i j)) (x2 (ix2 i j)) := by
  rw [← g_eq x3 i j]
  rfl

end Cert.Reference13Ideal.AdamRef

namespace Cert.Adam13Value

open Cert.NormValue Idealize.ShloMosaic Idealize.SL.Sem Cert.Adam

/-- On equal arguments the kernel and the reference end with equal results. -/
theorem agree : Cert.algebraic_Kernel13Ideal_Reference13Ideal (hKernel13Ideal := Cert.Kernel13Ideal.Gen.facts) (hReference13Ideal := Cert.Reference13Ideal.Gen.facts) := by
  intro m g m' g' _ hm
  refine ⟨Cert.Kernel13Ideal.AdamBlocks.resGrad m, Cert.Kernel13Ideal.AdamBlocks.resDelta m, Cert.Kernel13Ideal.AdamBlocks.resFirst m, Cert.Kernel13Ideal.AdamBlocks.resSecond m,
    (θ_run _ _ _).mono (fun r h c => ?_) (Cert.Kernel13Ideal.Value.run_blocks m g),
    (θ_run _ _ _).mono (fun r h c => ?_) (Cert.Reference13Ideal.Value.run m' g')⟩
  · obtain ⟨h0, h1, h2, h3, h4⟩ := h c
    exact ⟨h0.trans (Cert.Kernel13Ideal.AdamBlocks.final4 m c), h1.trans (Cert.Kernel13Ideal.AdamBlocks.final5 m c), h2.trans (Cert.Kernel13Ideal.AdamBlocks.final6 m c), h3.trans (Cert.Kernel13Ideal.AdamBlocks.final7 m c), h4⟩
  · obtain ⟨h0, h1, h2, h3, h4⟩ := h c
    obtain ⟨e0, e1, e2, e3⟩ := hm c
    refine ⟨h0.trans ((Cert.Reference13Ideal.Read.val_main_v1_eq _).trans (funext fun y => ?_)),
      h1.trans ((Cert.Reference13Ideal.Read.val_main_v25_eq _ _ _ _).trans (funext fun y => ?_)),
      h2.trans ((Cert.Reference13Ideal.Read.val_main_v6_eq _ _).trans (funext fun y => ?_)),
      h3.trans ((Cert.Reference13Ideal.Read.val_main_v12_eq _ _).trans (funext fun y => ?_)), h4⟩
    · refine (congrArg _ (eta2 y)).trans ((Cert.Reference13Ideal.AdamRef.g_eq _ (y 0) (y 1)).trans ?_)
      rw [e3]
    · refine (congrArg _ (eta2 y)).trans ((Cert.Reference13Ideal.AdamRef.delta_eq _ _ _ _ (y 0) (y 1)).trans ?_)
      rw [e0, e1, e2, e3]
    · refine (congrArg _ (eta2 y)).trans ((Cert.Reference13Ideal.AdamRef.first_eq _ _ (y 0) (y 1)).trans ?_)
      rw [e1, e3]
    · refine (congrArg _ (eta2 y)).trans ((Cert.Reference13Ideal.AdamRef.second_eq _ _ (y 0) (y 1)).trans ?_)
      rw [e2, e3]

end Cert.Adam13Value

end
-- ==== Proof.Adam14Value.lean ====
/-
  An output product's weight: the optimiser's step, of the kernel and of the reference, is the same function of the arguments.
-/
module

public import proofs.«01_k».proof.Proof.AdamSpec
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise.Select
public import Idealize.ShloMosaic.Lib.Pipeline.ValueKit
public import Idealize.ShloMosaic.Lib.Claim

@[expose] public section

noncomputable section

namespace Cert.Kernel14Ideal.AdamBlocks

open Cert.Kernel14Ideal Cert.Kernel14Ideal.Gen Idealize.ShloMosaic Idealize.ShloMosaic.TcCoe Cert.Adam

theorem hz : (![0, 0] : Fin 2 → Nat) = fun _ => 0 := funext fun a => by fin_cases a <;> rfl

section
variable (x0 x1 x2 : Vec Ideal S128x1024 .f32) (x3 : Vec Ideal S8x128x1024 .bf16) (g : FVec Ideal S128x1024 .f32) (r : Fin 128) (j : Fin 1024)

theorem pay1_eq : k0_pay1 (F := Ideal) g x1 (ix2 r j) = moment1 (g (ix2 r j)) (x1 (ix2 r j)) := rfl
theorem pay2_eq : k0_pay2 (F := Ideal) g x2 (ix2 r j) = moment2 (g (ix2 r j)) (x2 (ix2 r j)) := rfl
theorem pay3_eq : k0_pay3 (F := Ideal) g x0 x1 x2 (ix2 r j) = delta (g (ix2 r j)) (x0 (ix2 r j)) (x1 (ix2 r j)) (x2 (ix2 r j)) := rfl

/-- The eight parts' sum, one after the other. -/
theorem pay5_eq : k0_pay5 (F := Ideal) x0 x1 x2 x3 (ix2 r j) = parts (x3) r j := by
  unfold k0_pay5
  pointwise [k0_pay4]
  unfold parts
  rw [Fin.sum_univ_eight]

theorem out4_eq : out0_4 (F := Ideal) x0 x1 x2 x3 (ix2 r j) = parts (x3) r j := by
  unfold out0_4
  rw [View.canon_unit_zero hz]
  exact pay5_eq x0 x1 x2 x3 r j

theorem out5_eq : out0_5 (F := Ideal) x0 x1 x2 x3 (ix2 r j) = delta (parts (x3) r j) (x0 (ix2 r j)) (x1 (ix2 r j)) (x2 (ix2 r j)) := by
  unfold out0_5
  rw [View.canon_unit_zero hz]
  simp only [View.ld_unit_zero (S := S128x1024) hz]
  rw [← pay5_eq x0 x1 x2 x3 r j]
  exact pay3_eq x0 x1 x2 (k0_pay5 (F := Ideal) x0 x1 x2 x3) r j

theorem out6_eq : out0_6 (F := Ideal) x0 x1 x2 x3 (ix2 r j) = moment1 (parts (x3) r j) (x1 (ix2 r j)) := by
  unfold out0_6
  rw [View.canon_unit_zero hz]
  simp only [View.ld_unit_zero (S := S128x1024) hz]
  rw [← pay5_eq x0 x1 x2 x3 r j]
  exact pay1_eq x1 (k0_pay5 (F := Ideal) x0 x1 x2 x3) r j

theorem out7_eq : out0_7 (F := Ideal) x0 x1 x2 x3 (ix2 r j) = moment2 (parts (x3) r j) (x2 (ix2 r j)) := by
  unfold out0_7
  rw [View.canon_unit_zero hz]
  simp only [View.ld_unit_zero (S := S128x1024) hz]
  rw [← pay5_eq x0 x1 x2 x3 r j]
  exact pay2_eq x2 (k0_pay5 (F := Ideal) x0 x1 x2 x3) r j

end

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`. -/
abbrev row (t : Fin cfg0.N) (r : Fin 128) : Fin 128 :=
  ⟨t.val * 128 + r.val, by have := t.isLt; have := r.isLt; have : cfg0.N = 1 := N_0; omega⟩

theorem blk0 (c : Dev nD) (t : Fin cfg0.N) (r : Fin 128) (j : Fin 1024) :
    iblk m c 0 t (ix2 r j) = m (c.tc.loc main_arg0) (ix2 (row t r) j) := by
  blk_simp [iblk]
  entry_read
  refine congrArg _ ?_
  blk_ext [index0]

theorem blk1 (c : Dev nD) (t : Fin cfg0.N) (r : Fin 128) (j : Fin 1024) :
    iblk m c 1 t (ix2 r j) = m (c.tc.loc main_arg1) (ix2 (row t r) j) := by
  blk_simp [iblk]
  entry_read
  refine congrArg _ ?_
  blk_ext [index1]

theorem blk2 (c : Dev nD) (t : Fin cfg0.N) (r : Fin 128) (j : Fin 1024) :
    iblk m c 2 t (ix2 r j) = m (c.tc.loc main_arg2) (ix2 (row t r) j) := by
  blk_simp [iblk]
  entry_read
  refine congrArg _ ?_
  blk_ext [index2]

theorem blk3 (c : Dev nD) (t : Fin cfg0.N) (d : Fin 8) (r : Fin 128) (j : Fin 1024) :
    iblk m c 3 t (ix3 d r j) = m (c.tc.loc main_arg3) (ix3 d (row t r) j) := by
  blk_simp [iblk]
  entry_read
  refine congrArg _ ?_
  blk_ext [index3]

theorem parts_eq (c : Dev nD) (t : Fin cfg0.N) (r : Fin 128) (j : Fin 1024) :
    parts (iblk m c 3 t) r j = parts (m (c.tc.loc main_arg3)) (row t r) j :=
  Finset.sum_congr rfl fun d _ => blk3 m c t d r j

/-- The gradient, whole. -/
abbrev resGrad (c : Dev nD) : Buf (Elt Ideal) ((c.tc : Thread nD τ).loc main_v0_0) := fun y : S128x1024.Idx =>
  parts (m (c.tc.loc main_arg3)) (y 0) (y 1)

theorem final4 (c : Dev nD) : (dats m 0 c).arrAt 4 cfg0.N = resGrad m c := by
  refine (dats m 0 c).arrAt_eq_of_covers 4 _ (by decide +kernel) fun t hf y => ?_
  blk_simp
  rw [after0_4]
  obtain ⟨r, j, rfl⟩ : ∃ (r : Fin 128) (j : Fin 1024), y = ix2 r j := ⟨y 0, y 1, Cert.NormValue.eta2 y⟩
  have e : (win0_4.blk t).view.emb (ix2 r j) = ix2 (row t r) j := by blk_ext [index4]
  rw [e]
  refine (out4_eq ..).trans ?_
  rw [parts_eq m c t r]
  rfl

/-- The weight's change, whole. -/
abbrev resDelta (c : Dev nD) : Buf (Elt Ideal) ((c.tc : Thread nD τ).loc main_v0_1) := fun y : S128x1024.Idx =>
  delta (parts (m (c.tc.loc main_arg3)) (y 0) (y 1)) (m (c.tc.loc main_arg0) (ix2 (y 0) (y 1))) (m (c.tc.loc main_arg1) (ix2 (y 0) (y 1))) (m (c.tc.loc main_arg2) (ix2 (y 0) (y 1)))

theorem final5 (c : Dev nD) : (dats m 0 c).arrAt 5 cfg0.N = resDelta m c := by
  refine (dats m 0 c).arrAt_eq_of_covers 5 _ (by decide +kernel) fun t hf y => ?_
  blk_simp
  rw [after0_5]
  obtain ⟨r, j, rfl⟩ : ∃ (r : Fin 128) (j : Fin 1024), y = ix2 r j := ⟨y 0, y 1, Cert.NormValue.eta2 y⟩
  have e : (win0_5.blk t).view.emb (ix2 r j) = ix2 (row t r) j := by blk_ext [index5]
  rw [e]
  refine (out5_eq ..).trans ?_
  rw [parts_eq m c t r, blk0 m c t r j, blk1 m c t r j, blk2 m c t r j]
  rfl

/-- The first moment, whole. -/
abbrev resFirst (c : Dev nD) : Buf (Elt Ideal) ((c.tc : Thread nD τ).loc main_v0_2) := fun y : S128x1024.Idx =>
  moment1 (parts (m (c.tc.loc main_arg3)) (y 0) (y 1)) (m (c.tc.loc main_arg1) (ix2 (y 0) (y 1)))

theorem final6 (c : Dev nD) : (dats m 0 c).arrAt 6 cfg0.N = resFirst m c := by
  refine (dats m 0 c).arrAt_eq_of_covers 6 _ (by decide +kernel) fun t hf y => ?_
  blk_simp
  rw [after0_6]
  obtain ⟨r, j, rfl⟩ : ∃ (r : Fin 128) (j : Fin 1024), y = ix2 r j := ⟨y 0, y 1, Cert.NormValue.eta2 y⟩
  have e : (win0_6.blk t).view.emb (ix2 r j) = ix2 (row t r) j := by blk_ext [index6]
  rw [e]
  refine (out6_eq ..).trans ?_
  rw [parts_eq m c t r, blk1 m c t r j]
  rfl

/-- The second moment, whole. -/
abbrev resSecond (c : Dev nD) : Buf (Elt Ideal) ((c.tc : Thread nD τ).loc main_v0_3) := fun y : S128x1024.Idx =>
  moment2 (parts (m (c.tc.loc main_arg3)) (y 0) (y 1)) (m (c.tc.loc main_arg2) (ix2 (y 0) (y 1)))

theorem final7 (c : Dev nD) : (dats m 0 c).arrAt 7 cfg0.N = resSecond m c := by
  refine (dats m 0 c).arrAt_eq_of_covers 7 _ (by decide +kernel) fun t hf y => ?_
  blk_simp
  rw [after0_7]
  obtain ⟨r, j, rfl⟩ : ∃ (r : Fin 128) (j : Fin 1024), y = ix2 r j := ⟨y 0, y 1, Cert.NormValue.eta2 y⟩
  have e : (win0_7.blk t).view.emb (ix2 r j) = ix2 (row t r) j := by blk_ext [index7]
  rw [e]
  refine (out7_eq ..).trans ?_
  rw [parts_eq m c t r, blk2 m c t r j]
  rfl

end Cert.Kernel14Ideal.AdamBlocks

namespace Cert.Reference14Ideal.AdamRef

open Cert.Reference14Ideal Cert.Reference14Ideal.Gen Cert.Reference14Ideal.Read Idealize.ShloMosaic Idealize.ShloMosaic.TcCoe Cert.Adam

variable (x0 x1 x2 : (⟨S128x1024, .f32⟩ : BufTy).Contents (Elt Ideal)) (x3 : (⟨S8x128x1024, .bf16⟩ : BufTy).Contents (Elt Ideal))
  (i : Fin 128) (j : Fin 1024)

theorem g_eq : val_main_v1 (F := Ideal) x3 (ix2 i j) = parts x3 i j := by
  pointwise [val_main_v1, val_main_v0, val_main_cst]
  rfl

theorem first_eq : val_main_v6 (F := Ideal) x1 x3 (ix2 i j) = moment1 (parts x3 i j) (x1 (ix2 i j)) := by
  rw [← g_eq x3 i j]
  rfl

theorem second_eq : val_main_v12 (F := Ideal) x2 x3 (ix2 i j) = moment2 (parts x3 i j) (x2 (ix2 i j)) := by
  rw [← g_eq x3 i j]
  rfl

theorem delta_eq : val_main_v25 (F := Ideal) x0 x1 x2 x3 (ix2 i j) = delta (parts x3 i j) (x0 (ix2 i j)) (x1 (ix2 i j)) (x2 (ix2 i j)) := by
  rw [← g_eq x3 i j]
  rfl

end Cert.Reference14Ideal.AdamRef

namespace Cert.Adam14Value

open Cert.NormValue Idealize.ShloMosaic Idealize.SL.Sem Cert.Adam

/-- On equal arguments the kernel and the reference end with equal results. -/
theorem agree : Cert.algebraic_Kernel14Ideal_Reference14Ideal (hKernel14Ideal := Cert.Kernel14Ideal.Gen.facts) (hReference14Ideal := Cert.Reference14Ideal.Gen.facts) := by
  intro m g m' g' _ hm
  refine ⟨Cert.Kernel14Ideal.AdamBlocks.resGrad m, Cert.Kernel14Ideal.AdamBlocks.resDelta m, Cert.Kernel14Ideal.AdamBlocks.resFirst m, Cert.Kernel14Ideal.AdamBlocks.resSecond m,
    (θ_run _ _ _).mono (fun r h c => ?_) (Cert.Kernel14Ideal.Value.run_blocks m g),
    (θ_run _ _ _).mono (fun r h c => ?_) (Cert.Reference14Ideal.Value.run m' g')⟩
  · obtain ⟨h0, h1, h2, h3, h4⟩ := h c
    exact ⟨h0.trans (Cert.Kernel14Ideal.AdamBlocks.final4 m c), h1.trans (Cert.Kernel14Ideal.AdamBlocks.final5 m c), h2.trans (Cert.Kernel14Ideal.AdamBlocks.final6 m c), h3.trans (Cert.Kernel14Ideal.AdamBlocks.final7 m c), h4⟩
  · obtain ⟨h0, h1, h2, h3, h4⟩ := h c
    obtain ⟨e0, e1, e2, e3⟩ := hm c
    refine ⟨h0.trans ((Cert.Reference14Ideal.Read.val_main_v1_eq _).trans (funext fun y => ?_)),
      h1.trans ((Cert.Reference14Ideal.Read.val_main_v25_eq _ _ _ _).trans (funext fun y => ?_)),
      h2.trans ((Cert.Reference14Ideal.Read.val_main_v6_eq _ _).trans (funext fun y => ?_)),
      h3.trans ((Cert.Reference14Ideal.Read.val_main_v12_eq _ _).trans (funext fun y => ?_)), h4⟩
    · refine (congrArg _ (eta2 y)).trans ((Cert.Reference14Ideal.AdamRef.g_eq _ (y 0) (y 1)).trans ?_)
      rw [e3]
    · refine (congrArg _ (eta2 y)).trans ((Cert.Reference14Ideal.AdamRef.delta_eq _ _ _ _ (y 0) (y 1)).trans ?_)
      rw [e0, e1, e2, e3]
    · refine (congrArg _ (eta2 y)).trans ((Cert.Reference14Ideal.AdamRef.first_eq _ _ (y 0) (y 1)).trans ?_)
      rw [e1, e3]
    · refine (congrArg _ (eta2 y)).trans ((Cert.Reference14Ideal.AdamRef.second_eq _ _ (y 0) (y 1)).trans ?_)
      rw [e2, e3]

end Cert.Adam14Value

end
-- ==== Proof.Adam15Value.lean ====
/-
  Layer 0's input product's weight: the optimiser's step, of the kernel and of the reference, is the same function of the arguments.
-/
module

public import proofs.«01_k».proof.Proof.AdamSpec
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise.Select
public import Idealize.ShloMosaic.Lib.Pipeline.ValueKit
public import Idealize.ShloMosaic.Lib.Claim

@[expose] public section

noncomputable section

namespace Cert.Kernel15Ideal.AdamBlocks

open Cert.Kernel15Ideal Cert.Kernel15Ideal.Gen Idealize.ShloMosaic Idealize.ShloMosaic.TcCoe Cert.Adam

theorem hz : (![0, 0] : Fin 2 → Nat) = fun _ => 0 := funext fun a => by fin_cases a <;> rfl

section
variable (x0 x1 x2 : Vec Ideal S256x417 .f32) (x3 : Vec Ideal S8x256x512 .bf16) (g : FVec Ideal S256x417 .f32) (r : Fin 256) (j : Fin 417)

theorem pay1_eq : k0_pay1 (F := Ideal) g x1 (ix2 r j) = moment1 (g (ix2 r j)) (x1 (ix2 r j)) := rfl
theorem pay2_eq : k0_pay2 (F := Ideal) g x2 (ix2 r j) = moment2 (g (ix2 r j)) (x2 (ix2 r j)) := rfl
theorem pay3_eq : k0_pay3 (F := Ideal) g x0 x1 x2 (ix2 r j) = delta (g (ix2 r j)) (x0 (ix2 r j)) (x1 (ix2 r j)) (x2 (ix2 r j)) := rfl

/-- The eight parts' sum, one after the other. -/
theorem pay5_eq : k0_pay5 (F := Ideal) x0 x1 x2 x3 (ix2 r j) = parts (x3) r (⟨j.val, by omega⟩ : Fin 512) := by
  unfold k0_pay5
  pointwise [k0_pay4]
  unfold parts
  rw [Fin.sum_univ_eight]

theorem out4_eq : out0_4 (F := Ideal) x0 x1 x2 x3 (ix2 r j) = parts (x3) r (⟨j.val, by omega⟩ : Fin 512) := by
  unfold out0_4
  rw [View.canon_unit_zero hz]
  exact pay5_eq x0 x1 x2 x3 r j

theorem out5_eq : out0_5 (F := Ideal) x0 x1 x2 x3 (ix2 r j) = delta (parts (x3) r (⟨j.val, by omega⟩ : Fin 512)) (x0 (ix2 r j)) (x1 (ix2 r j)) (x2 (ix2 r j)) := by
  unfold out0_5
  rw [View.canon_unit_zero hz]
  simp only [View.ld_unit_zero (S := S256x417) hz]
  rw [← pay5_eq x0 x1 x2 x3 r j]
  exact pay3_eq x0 x1 x2 (k0_pay5 (F := Ideal) x0 x1 x2 x3) r j

theorem out6_eq : out0_6 (F := Ideal) x0 x1 x2 x3 (ix2 r j) = moment1 (parts (x3) r (⟨j.val, by omega⟩ : Fin 512)) (x1 (ix2 r j)) := by
  unfold out0_6
  rw [View.canon_unit_zero hz]
  simp only [View.ld_unit_zero (S := S256x417) hz]
  rw [← pay5_eq x0 x1 x2 x3 r j]
  exact pay1_eq x1 (k0_pay5 (F := Ideal) x0 x1 x2 x3) r j

theorem out7_eq : out0_7 (F := Ideal) x0 x1 x2 x3 (ix2 r j) = moment2 (parts (x3) r (⟨j.val, by omega⟩ : Fin 512)) (x2 (ix2 r j)) := by
  unfold out0_7
  rw [View.canon_unit_zero hz]
  simp only [View.ld_unit_zero (S := S256x417) hz]
  rw [← pay5_eq x0 x1 x2 x3 r j]
  exact pay2_eq x2 (k0_pay5 (F := Ideal) x0 x1 x2 x3) r j

end

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`. -/
abbrev row (t : Fin cfg0.N) (r : Fin 256) : Fin 1024 :=
  ⟨t.val * 256 + r.val, by have := t.isLt; have := r.isLt; have : cfg0.N = 4 := N_0; omega⟩

theorem blk0 (c : Dev nD) (t : Fin cfg0.N) (r : Fin 256) (j : Fin 417) :
    iblk m c 0 t (ix2 r j) = m (c.tc.loc main_arg0) (ix2 (row t r) j) := by
  blk_simp [iblk]
  entry_read
  refine congrArg _ ?_
  blk_ext [index0]

theorem blk1 (c : Dev nD) (t : Fin cfg0.N) (r : Fin 256) (j : Fin 417) :
    iblk m c 1 t (ix2 r j) = m (c.tc.loc main_arg1) (ix2 (row t r) j) := by
  blk_simp [iblk]
  entry_read
  refine congrArg _ ?_
  blk_ext [index1]

theorem blk2 (c : Dev nD) (t : Fin cfg0.N) (r : Fin 256) (j : Fin 417) :
    iblk m c 2 t (ix2 r j) = m (c.tc.loc main_arg2) (ix2 (row t r) j) := by
  blk_simp [iblk]
  entry_read
  refine congrArg _ ?_
  blk_ext [index2]

theorem blk3 (c : Dev nD) (t : Fin cfg0.N) (d : Fin 8) (r : Fin 256) (j : Fin 512) :
    iblk m c 3 t (ix3 d r j) = m (c.tc.loc main_arg3) (ix3 d (row t r) j) := by
  blk_simp [iblk]
  entry_read
  refine congrArg _ ?_
  blk_ext [index3]

theorem parts_eq (c : Dev nD) (t : Fin cfg0.N) (r : Fin 256) (j : Fin 512) :
    parts (iblk m c 3 t) r j = parts (m (c.tc.loc main_arg3)) (row t r) j :=
  Finset.sum_congr rfl fun d _ => blk3 m c t d r j

/-- The gradient, whole. -/
abbrev resGrad (c : Dev nD) : Buf (Elt Ideal) ((c.tc : Thread nD τ).loc main_v0_0) := fun y : S1024x417.Idx =>
  parts (m (c.tc.loc main_arg3)) (y 0) (⟨(y 1).val, lt_of_lt_of_le (y 1).isLt (by decide)⟩ : Fin 512)

theorem final4 (c : Dev nD) : (dats m 0 c).arrAt 4 cfg0.N = resGrad m c := by
  refine (dats m 0 c).arrAt_eq_of_covers 4 _ (by decide +kernel) fun t hf y => ?_
  blk_simp
  rw [after0_4]
  obtain ⟨r, j, rfl⟩ : ∃ (r : Fin 256) (j : Fin 417), y = ix2 r j := ⟨y 0, y 1, Cert.NormValue.eta2 y⟩
  have e : (win0_4.blk t).view.emb (ix2 r j) = ix2 (row t r) j := by blk_ext [index4]
  rw [e]
  refine (out4_eq ..).trans ?_
  rw [parts_eq m c t r]
  rfl

/-- The weight's change, whole. -/
abbrev resDelta (c : Dev nD) : Buf (Elt Ideal) ((c.tc : Thread nD τ).loc main_v0_1) := fun y : S1024x417.Idx =>
  delta (parts (m (c.tc.loc main_arg3)) (y 0) (⟨(y 1).val, lt_of_lt_of_le (y 1).isLt (by decide)⟩ : Fin 512)) (m (c.tc.loc main_arg0) (ix2 (y 0) (y 1))) (m (c.tc.loc main_arg1) (ix2 (y 0) (y 1))) (m (c.tc.loc main_arg2) (ix2 (y 0) (y 1)))

theorem final5 (c : Dev nD) : (dats m 0 c).arrAt 5 cfg0.N = resDelta m c := by
  refine (dats m 0 c).arrAt_eq_of_covers 5 _ (by decide +kernel) fun t hf y => ?_
  blk_simp
  rw [after0_5]
  obtain ⟨r, j, rfl⟩ : ∃ (r : Fin 256) (j : Fin 417), y = ix2 r j := ⟨y 0, y 1, Cert.NormValue.eta2 y⟩
  have e : (win0_5.blk t).view.emb (ix2 r j) = ix2 (row t r) j := by blk_ext [index5]
  rw [e]
  refine (out5_eq ..).trans ?_
  rw [parts_eq m c t r, blk0 m c t r j, blk1 m c t r j, blk2 m c t r j]
  rfl

/-- The first moment, whole. -/
abbrev resFirst (c : Dev nD) : Buf (Elt Ideal) ((c.tc : Thread nD τ).loc main_v0_2) := fun y : S1024x417.Idx =>
  moment1 (parts (m (c.tc.loc main_arg3)) (y 0) (⟨(y 1).val, lt_of_lt_of_le (y 1).isLt (by decide)⟩ : Fin 512)) (m (c.tc.loc main_arg1) (ix2 (y 0) (y 1)))

theorem final6 (c : Dev nD) : (dats m 0 c).arrAt 6 cfg0.N = resFirst m c := by
  refine (dats m 0 c).arrAt_eq_of_covers 6 _ (by decide +kernel) fun t hf y => ?_
  blk_simp
  rw [after0_6]
  obtain ⟨r, j, rfl⟩ : ∃ (r : Fin 256) (j : Fin 417), y = ix2 r j := ⟨y 0, y 1, Cert.NormValue.eta2 y⟩
  have e : (win0_6.blk t).view.emb (ix2 r j) = ix2 (row t r) j := by blk_ext [index6]
  rw [e]
  refine (out6_eq ..).trans ?_
  rw [parts_eq m c t r, blk1 m c t r j]
  rfl

/-- The second moment, whole. -/
abbrev resSecond (c : Dev nD) : Buf (Elt Ideal) ((c.tc : Thread nD τ).loc main_v0_3) := fun y : S1024x417.Idx =>
  moment2 (parts (m (c.tc.loc main_arg3)) (y 0) (⟨(y 1).val, lt_of_lt_of_le (y 1).isLt (by decide)⟩ : Fin 512)) (m (c.tc.loc main_arg2) (ix2 (y 0) (y 1)))

theorem final7 (c : Dev nD) : (dats m 0 c).arrAt 7 cfg0.N = resSecond m c := by
  refine (dats m 0 c).arrAt_eq_of_covers 7 _ (by decide +kernel) fun t hf y => ?_
  blk_simp
  rw [after0_7]
  obtain ⟨r, j, rfl⟩ : ∃ (r : Fin 256) (j : Fin 417), y = ix2 r j := ⟨y 0, y 1, Cert.NormValue.eta2 y⟩
  have e : (win0_7.blk t).view.emb (ix2 r j) = ix2 (row t r) j := by blk_ext [index7]
  rw [e]
  refine (out7_eq ..).trans ?_
  rw [parts_eq m c t r, blk2 m c t r j]
  rfl

end Cert.Kernel15Ideal.AdamBlocks

namespace Cert.Reference15Ideal.AdamRef

open Cert.Reference15Ideal Cert.Reference15Ideal.Gen Cert.Reference15Ideal.Read Idealize.ShloMosaic Idealize.ShloMosaic.TcCoe Cert.Adam

variable (x0 x1 x2 : (⟨S1024x417, .f32⟩ : BufTy).Contents (Elt Ideal)) (x3 : (⟨S8x1024x512, .bf16⟩ : BufTy).Contents (Elt Ideal))
  (i : Fin 1024) (j : Fin 417)

theorem g_eq : val_main_v2 (F := Ideal) x3 (ix2 i j) = parts x3 i (⟨j.val, by omega⟩ : Fin 512) := by
  pointwise [val_main_v2, val_main_v1, val_main_v0, val_main_cst]
  rfl

theorem first_eq : val_main_v7 (F := Ideal) x1 x3 (ix2 i j) = moment1 (parts x3 i (⟨j.val, by omega⟩ : Fin 512)) (x1 (ix2 i j)) := by
  rw [← g_eq x3 i j]
  rfl

theorem second_eq : val_main_v13 (F := Ideal) x2 x3 (ix2 i j) = moment2 (parts x3 i (⟨j.val, by omega⟩ : Fin 512)) (x2 (ix2 i j)) := by
  rw [← g_eq x3 i j]
  rfl

theorem delta_eq : val_main_v26 (F := Ideal) x0 x1 x2 x3 (ix2 i j) = delta (parts x3 i (⟨j.val, by omega⟩ : Fin 512)) (x0 (ix2 i j)) (x1 (ix2 i j)) (x2 (ix2 i j)) := by
  rw [← g_eq x3 i j]
  rfl

end Cert.Reference15Ideal.AdamRef

namespace Cert.Adam15Value

open Cert.NormValue Idealize.ShloMosaic Idealize.SL.Sem Cert.Adam

/-- On equal arguments the kernel and the reference end with equal results. -/
theorem agree : Cert.algebraic_Kernel15Ideal_Reference15Ideal (hKernel15Ideal := Cert.Kernel15Ideal.Gen.facts) (hReference15Ideal := Cert.Reference15Ideal.Gen.facts) := by
  intro m g m' g' _ hm
  refine ⟨Cert.Kernel15Ideal.AdamBlocks.resGrad m, Cert.Kernel15Ideal.AdamBlocks.resDelta m, Cert.Kernel15Ideal.AdamBlocks.resFirst m, Cert.Kernel15Ideal.AdamBlocks.resSecond m,
    (θ_run _ _ _).mono (fun r h c => ?_) (Cert.Kernel15Ideal.Value.run_blocks m g),
    (θ_run _ _ _).mono (fun r h c => ?_) (Cert.Reference15Ideal.Value.run m' g')⟩
  · obtain ⟨h0, h1, h2, h3, h4⟩ := h c
    exact ⟨h0.trans (Cert.Kernel15Ideal.AdamBlocks.final4 m c), h1.trans (Cert.Kernel15Ideal.AdamBlocks.final5 m c), h2.trans (Cert.Kernel15Ideal.AdamBlocks.final6 m c), h3.trans (Cert.Kernel15Ideal.AdamBlocks.final7 m c), h4⟩
  · obtain ⟨h0, h1, h2, h3, h4⟩ := h c
    obtain ⟨e0, e1, e2, e3⟩ := hm c
    refine ⟨h0.trans ((Cert.Reference15Ideal.Read.val_main_v2_eq _).trans (funext fun y => ?_)),
      h1.trans ((Cert.Reference15Ideal.Read.val_main_v26_eq _ _ _ _).trans (funext fun y => ?_)),
      h2.trans ((Cert.Reference15Ideal.Read.val_main_v7_eq _ _).trans (funext fun y => ?_)),
      h3.trans ((Cert.Reference15Ideal.Read.val_main_v13_eq _ _).trans (funext fun y => ?_)), h4⟩
    · refine (congrArg _ (eta2 y)).trans ((Cert.Reference15Ideal.AdamRef.g_eq _ (y 0) (y 1)).trans ?_)
      rw [e3]
    · refine (congrArg _ (eta2 y)).trans ((Cert.Reference15Ideal.AdamRef.delta_eq _ _ _ _ (y 0) (y 1)).trans ?_)
      rw [e0, e1, e2, e3]
    · refine (congrArg _ (eta2 y)).trans ((Cert.Reference15Ideal.AdamRef.first_eq _ _ (y 0) (y 1)).trans ?_)
      rw [e1, e3]
    · refine (congrArg _ (eta2 y)).trans ((Cert.Reference15Ideal.AdamRef.second_eq _ _ (y 0) (y 1)).trans ?_)
      rw [e2, e3]

end Cert.Adam15Value

end
-- ==== Proof.Adam16Value.lean ====
/-
  The conditioning's weight: the optimiser's step, of the kernel and of the reference, is the same function of the arguments.
-/
module

public import proofs.«01_k».proof.Proof.AdamSpec
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise.Select
public import Idealize.ShloMosaic.Lib.Pipeline.ValueKit
public import Idealize.ShloMosaic.Lib.Claim

@[expose] public section

noncomputable section

namespace Cert.Kernel16Ideal.AdamBlocks

open Cert.Kernel16Ideal Cert.Kernel16Ideal.Gen Idealize.ShloMosaic Idealize.ShloMosaic.TcCoe Cert.Adam

theorem hz : (![0, 0] : Fin 2 → Nat) = fun _ => 0 := funext fun a => by fin_cases a <;> rfl

section
variable (x0 x1 x2 : Vec Ideal S256x384 .f32) (x3 : Vec Ideal S256x384 .f32) (g : FVec Ideal S256x384 .f32) (r : Fin 256) (j : Fin 384)

theorem pay1_eq : k0_pay1 (F := Ideal) g x1 (ix2 r j) = moment1 (g (ix2 r j)) (x1 (ix2 r j)) := rfl
theorem pay2_eq : k0_pay2 (F := Ideal) g x2 (ix2 r j) = moment2 (g (ix2 r j)) (x2 (ix2 r j)) := rfl
theorem pay3_eq : k0_pay3 (F := Ideal) g x0 x1 x2 (ix2 r j) = delta (g (ix2 r j)) (x0 (ix2 r j)) (x1 (ix2 r j)) (x2 (ix2 r j)) := rfl

theorem out4_eq : out0_4 (F := Ideal) x0 x1 x2 x3 (ix2 r j) = (x3) (ix2 r j) := by
  unfold out0_4
  rw [View.canon_unit_zero hz]
  rw [View.ld_unit_zero (S := S256x384) hz]

theorem out5_eq : out0_5 (F := Ideal) x0 x1 x2 x3 (ix2 r j) = delta ((x3) (ix2 r j)) (x0 (ix2 r j)) (x1 (ix2 r j)) (x2 (ix2 r j)) := by
  unfold out0_5
  rw [View.canon_unit_zero hz]
  simp only [View.ld_unit_zero (S := S256x384) hz]
  exact pay3_eq x0 x1 x2 x3 r j

theorem out6_eq : out0_6 (F := Ideal) x0 x1 x2 x3 (ix2 r j) = moment1 ((x3) (ix2 r j)) (x1 (ix2 r j)) := by
  unfold out0_6
  rw [View.canon_unit_zero hz]
  simp only [View.ld_unit_zero (S := S256x384) hz]
  exact pay1_eq x1 x3 r j

theorem out7_eq : out0_7 (F := Ideal) x0 x1 x2 x3 (ix2 r j) = moment2 ((x3) (ix2 r j)) (x2 (ix2 r j)) := by
  unfold out0_7
  rw [View.canon_unit_zero hz]
  simp only [View.ld_unit_zero (S := S256x384) hz]
  exact pay2_eq x2 x3 r j

end

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`. -/
abbrev row (t : Fin cfg0.N) (r : Fin 256) : Fin 2048 :=
  ⟨t.val * 256 + r.val, by have := t.isLt; have := r.isLt; have : cfg0.N = 8 := N_0; omega⟩

theorem blk0 (c : Dev nD) (t : Fin cfg0.N) (r : Fin 256) (j : Fin 384) :
    iblk m c 0 t (ix2 r j) = m (c.tc.loc main_arg0) (ix2 (row t r) j) := by
  blk_simp [iblk]
  entry_read
  refine congrArg _ ?_
  blk_ext [index0]

theorem blk1 (c : Dev nD) (t : Fin cfg0.N) (r : Fin 256) (j : Fin 384) :
    iblk m c 1 t (ix2 r j) = m (c.tc.loc main_arg1) (ix2 (row t r) j) := by
  blk_simp [iblk]
  entry_read
  refine congrArg _ ?_
  blk_ext [index1]

theorem blk2 (c : Dev nD) (t : Fin cfg0.N) (r : Fin 256) (j : Fin 384) :
    iblk m c 2 t (ix2 r j) = m (c.tc.loc main_arg2) (ix2 (row t r) j) := by
  blk_simp [iblk]
  entry_read
  refine congrArg _ ?_
  blk_ext [index2]

theorem blk3 (c : Dev nD) (t : Fin cfg0.N) (r : Fin 256) (j : Fin 384) :
    iblk m c 3 t (ix2 r j) = m (c.tc.loc main_arg3) (ix2 (row t r) j) := by
  blk_simp [iblk]
  entry_read
  refine congrArg _ ?_
  blk_ext [index3]

/-- The gradient, whole. -/
abbrev resGrad (c : Dev nD) : Buf (Elt Ideal) ((c.tc : Thread nD τ).loc main_v0_0) := fun y : S2048x384.Idx =>
  m (c.tc.loc main_arg3) (ix2 (y 0) (y 1))

theorem final4 (c : Dev nD) : (dats m 0 c).arrAt 4 cfg0.N = resGrad m c := by
  refine (dats m 0 c).arrAt_eq_of_covers 4 _ (by decide +kernel) fun t hf y => ?_
  blk_simp
  rw [after0_4]
  obtain ⟨r, j, rfl⟩ : ∃ (r : Fin 256) (j : Fin 384), y = ix2 r j := ⟨y 0, y 1, Cert.NormValue.eta2 y⟩
  have e : (win0_4.blk t).view.emb (ix2 r j) = ix2 (row t r) j := by blk_ext [index4]
  rw [e]
  refine (out4_eq ..).trans ?_
  rw [blk3 m c t r j]
  rfl

/-- The weight's change, whole. -/
abbrev resDelta (c : Dev nD) : Buf (Elt Ideal) ((c.tc : Thread nD τ).loc main_v0_1) := fun y : S2048x384.Idx =>
  delta (m (c.tc.loc main_arg3) (ix2 (y 0) (y 1))) (m (c.tc.loc main_arg0) (ix2 (y 0) (y 1))) (m (c.tc.loc main_arg1) (ix2 (y 0) (y 1))) (m (c.tc.loc main_arg2) (ix2 (y 0) (y 1)))

theorem final5 (c : Dev nD) : (dats m 0 c).arrAt 5 cfg0.N = resDelta m c := by
  refine (dats m 0 c).arrAt_eq_of_covers 5 _ (by decide +kernel) fun t hf y => ?_
  blk_simp
  rw [after0_5]
  obtain ⟨r, j, rfl⟩ : ∃ (r : Fin 256) (j : Fin 384), y = ix2 r j := ⟨y 0, y 1, Cert.NormValue.eta2 y⟩
  have e : (win0_5.blk t).view.emb (ix2 r j) = ix2 (row t r) j := by blk_ext [index5]
  rw [e]
  refine (out5_eq ..).trans ?_
  rw [blk3 m c t r j, blk0 m c t r j, blk1 m c t r j, blk2 m c t r j]
  rfl

/-- The first moment, whole. -/
abbrev resFirst (c : Dev nD) : Buf (Elt Ideal) ((c.tc : Thread nD τ).loc main_v0_2) := fun y : S2048x384.Idx =>
  moment1 (m (c.tc.loc main_arg3) (ix2 (y 0) (y 1))) (m (c.tc.loc main_arg1) (ix2 (y 0) (y 1)))

theorem final6 (c : Dev nD) : (dats m 0 c).arrAt 6 cfg0.N = resFirst m c := by
  refine (dats m 0 c).arrAt_eq_of_covers 6 _ (by decide +kernel) fun t hf y => ?_
  blk_simp
  rw [after0_6]
  obtain ⟨r, j, rfl⟩ : ∃ (r : Fin 256) (j : Fin 384), y = ix2 r j := ⟨y 0, y 1, Cert.NormValue.eta2 y⟩
  have e : (win0_6.blk t).view.emb (ix2 r j) = ix2 (row t r) j := by blk_ext [index6]
  rw [e]
  refine (out6_eq ..).trans ?_
  rw [blk3 m c t r j, blk1 m c t r j]
  rfl

/-- The second moment, whole. -/
abbrev resSecond (c : Dev nD) : Buf (Elt Ideal) ((c.tc : Thread nD τ).loc main_v0_3) := fun y : S2048x384.Idx =>
  moment2 (m (c.tc.loc main_arg3) (ix2 (y 0) (y 1))) (m (c.tc.loc main_arg2) (ix2 (y 0) (y 1)))

theorem final7 (c : Dev nD) : (dats m 0 c).arrAt 7 cfg0.N = resSecond m c := by
  refine (dats m 0 c).arrAt_eq_of_covers 7 _ (by decide +kernel) fun t hf y => ?_
  blk_simp
  rw [after0_7]
  obtain ⟨r, j, rfl⟩ : ∃ (r : Fin 256) (j : Fin 384), y = ix2 r j := ⟨y 0, y 1, Cert.NormValue.eta2 y⟩
  have e : (win0_7.blk t).view.emb (ix2 r j) = ix2 (row t r) j := by blk_ext [index7]
  rw [e]
  refine (out7_eq ..).trans ?_
  rw [blk3 m c t r j, blk2 m c t r j]
  rfl

end Cert.Kernel16Ideal.AdamBlocks

namespace Cert.Reference16Ideal.AdamRef

open Cert.Reference16Ideal Cert.Reference16Ideal.Gen Cert.Reference16Ideal.Read Idealize.ShloMosaic Idealize.ShloMosaic.TcCoe Cert.Adam

variable (x0 x1 x2 : (⟨S2048x384, .f32⟩ : BufTy).Contents (Elt Ideal)) (x3 : (⟨S2048x384, .f32⟩ : BufTy).Contents (Elt Ideal))
  (i : Fin 2048) (j : Fin 384)

theorem first_eq : val_main_v4 (F := Ideal) x1 x3 (ix2 i j) = moment1 (x3 (ix2 i j)) (x1 (ix2 i j)) := by
  rfl

theorem second_eq : val_main_v10 (F := Ideal) x2 x3 (ix2 i j) = moment2 (x3 (ix2 i j)) (x2 (ix2 i j)) := by
  rfl

theorem delta_eq : val_main_v23 (F := Ideal) x0 x1 x2 x3 (ix2 i j) = delta (x3 (ix2 i j)) (x0 (ix2 i j)) (x1 (ix2 i j)) (x2 (ix2 i j)) := by
  rfl

end Cert.Reference16Ideal.AdamRef

namespace Cert.Adam16Value

open Cert.NormValue Idealize.ShloMosaic Idealize.SL.Sem Cert.Adam

/-- On equal arguments the kernel and the reference end with equal results. -/
theorem agree : Cert.algebraic_Kernel16Ideal_Reference16Ideal (hKernel16Ideal := Cert.Kernel16Ideal.Gen.facts) (hReference16Ideal := Cert.Reference16Ideal.Gen.facts) := by
  intro m g m' g' _ hm
  refine ⟨Cert.Kernel16Ideal.AdamBlocks.resGrad m, Cert.Kernel16Ideal.AdamBlocks.resDelta m, Cert.Kernel16Ideal.AdamBlocks.resFirst m, Cert.Kernel16Ideal.AdamBlocks.resSecond m,
    (θ_run _ _ _).mono (fun r h c => ?_) (Cert.Kernel16Ideal.Value.run_blocks m g),
    (θ_run _ _ _).mono (fun r h c => ?_) (Cert.Reference16Ideal.Value.run m' g')⟩
  · obtain ⟨h0, h1, h2, h3, h4⟩ := h c
    exact ⟨h0.trans (Cert.Kernel16Ideal.AdamBlocks.final4 m c), h1.trans (Cert.Kernel16Ideal.AdamBlocks.final5 m c), h2.trans (Cert.Kernel16Ideal.AdamBlocks.final6 m c), h3.trans (Cert.Kernel16Ideal.AdamBlocks.final7 m c), h4⟩
  · obtain ⟨h0, h1, h2, h3, h4⟩ := h c
    obtain ⟨e0, e1, e2, e3⟩ := hm c
    refine ⟨h0.trans ((funext fun y => ?_)),
      h1.trans ((Cert.Reference16Ideal.Read.val_main_v23_eq _ _ _ _).trans (funext fun y => ?_)),
      h2.trans ((Cert.Reference16Ideal.Read.val_main_v4_eq _ _).trans (funext fun y => ?_)),
      h3.trans ((Cert.Reference16Ideal.Read.val_main_v10_eq _ _).trans (funext fun y => ?_)), h4⟩
    · refine (congrArg _ (eta2 y)).trans ?_
      rw [e3]
    · refine (congrArg _ (eta2 y)).trans ((Cert.Reference16Ideal.AdamRef.delta_eq _ _ _ _ (y 0) (y 1)).trans ?_)
      rw [e0, e1, e2, e3]
    · refine (congrArg _ (eta2 y)).trans ((Cert.Reference16Ideal.AdamRef.first_eq _ _ (y 0) (y 1)).trans ?_)
      rw [e1, e3]
    · refine (congrArg _ (eta2 y)).trans ((Cert.Reference16Ideal.AdamRef.second_eq _ _ (y 0) (y 1)).trans ?_)
      rw [e2, e3]

end Cert.Adam16Value

end
-- ==== Proof.AdaSpec.lean ====
/-
  The conditioning: `silu`, and the reading of a buffer of planes stored one by one.
-/
module

public import Idealize.ShloMosaic.Lib.ValueIdx
public import Idealize.ShloMosaic.Lib.Pointwise.Sums
public import Idealize.ShloMosaic.Lib.Pointwise.Reduce
public import Idealize.ShloMosaic.Lib.WritesUnit
public import Idealize.ShloMosaic.Lib.Pipeline.Value

@[expose] public section

noncomputable section

namespace Cert.Ada

open Idealize.ShloMosaic

/-- `silu`. -/
def sil (v : EReal) : EReal := v * Ideal.div 1 (1 + Ideal.exp (-v))

theorem eta2 {n0 n1 : Nat} (y : (⟨2, ![n0, n1]⟩ : Shape).Idx) : y = ix2 (n0 := n0) (n1 := n1) (y 0) (y 1) := funext fun a => by
  match a with
  | ⟨0, _⟩ => rfl
  | ⟨1, _⟩ => rfl

/-- Every index of a rank-3 array is a triple. -/
theorem eta3 {n0 n1 n2 : Nat} (y : (⟨3, ![n0, n1, n2]⟩ : Shape).Idx) : y = ix3 (n0 := n0) (n1 := n1) (n2 := n2) (y 0) (y 1) (y 2) := funext fun a => by
  match a with
  | ⟨0, _⟩ => rfl
  | ⟨1, _⟩ => rfl
  | ⟨2, _⟩ => rfl

section
variable {e : EltTy} {Val : EltTy → Type} [∀ e, Nonempty (Val e)]

/-- What a list of stores leaves, the last of them one plane: that plane reads the stored one, another what the others left. -/
theorem canon_plane {q n w o : Nat} (inb : ∀ a, (![o, 0, 0] : Fin 3 → Nat) a + (![1, n, w] : Fin 3 → Nat) a ≤ (⟨3, ![q, n, w]⟩ : Shape).size a)
    (p : (Rect.unit (s := ⟨3, ![q, n, w]⟩) ![o, 0, 0] ![1, n, w] inb).shape.Idx → Val e) (L : List (View.Piece Val ⟨3, ![q, n, w]⟩ e))
    (k : Fin q) (i : Fin n) (j : Fin w) :
    View.canon (⟨Rect.unit ![o, 0, 0] ![1, n, w] inb, p⟩ :: L) (ix3 k i j)
      = if k.val = o then p (ix3 (0 : Fin 1) i j) else View.canon L (ix3 k i j) := by
  split
  · rename_i h
    have hy : (Rect.unit (s := ⟨3, ![q, n, w]⟩) ![o, 0, 0] ![1, n, w] inb).emb (ix3 (0 : Fin 1) i j) = ix3 k i j :=
      funext fun a => Fin.ext (by
        match a with
        | ⟨0, _⟩ => exact h.symm
        | ⟨1, _⟩ => show 0 + 1 * i.val = i.val; omega
        | ⟨2, _⟩ => show 0 + 1 * j.val = j.val; omega)
    rw [← hy]
    exact View.canon_cons_emb _ p L _
  · rename_i h
    refine View.canon_cons_of_not_mem _ L ?_
    rw [Rect.mem_set_unit]
    intro hall
    have := hall (0 : Fin 3)
    have h1 : o ≤ k.val := this.1
    have h2 : k.val < o + 1 := this.2
    omega
end

end Cert.Ada

end
-- ==== Proof.AdaWGrad17Value.lean ====
/-
  The gradient of the conditioning's weight, of the kernel and of the reference, is the same function of the arguments.
-/
module

public import proofs.«01_k».proof.Defs
public import proofs.«01_k».proof.Proof.AdaSpec
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise.Select
public import Idealize.ShloMosaic.Lib.Pipeline.ValueKit
public import Idealize.ShloMosaic.Lib.Claim

@[expose] public section

noncomputable section

namespace Cert.Kernel17Ideal.AdaBlocks

open Cert.Kernel17Ideal Cert.Kernel17Ideal.Gen Idealize.ShloMosaic Idealize.ShloMosaic.TcCoe Cert.Ada

theorem hz : (![0, 0] : Fin 2 → Nat) = fun _ => 0 := funext fun a => by fin_cases a <;> rfl

theorem pay1_eq (c : Vec Ideal S32x1024 .f32) (b : Fin 32) (i : Fin 1024) : k0_pay1 (F := Ideal) c (ix2 b i) = sil (c (ix2 b i)) := by
  pointwise [k0_pay1]
  unfold sil
  simp only [zero_sub]

/-- Layer `l`'s gradient at a row and a column: the sum over the 32 sequences. -/
def gradAt (c : (⟨2, ![32, 1024]⟩ : Shape).Idx → EReal) (d : (⟨3, ![2, 32, 384]⟩ : Shape).Idx → EReal) (l : Fin 2) (i : Fin 1024) (j : Fin 384) : EReal :=
  ∑ b : Fin 32, sil (c (ix2 b i)) * d (ix3 l b j)

theorem pay2_eq (c : Vec Ideal S32x1024 .f32) (p : Vec Ideal S1x32x384 .f32) (i : Fin 1024) (j : Fin 384) :
    k0_pay2 (F := Ideal) c p (ix3 0 i j) = ∑ b : Fin 32, sil (c (ix2 b i)) * p (ix3 0 b j) := by
  pointwise [k0_pay2, pay1_eq]

theorem pay3_eq (c : Vec Ideal S32x1024 .f32) (p : Vec Ideal S1x32x384 .f32) (i : Fin 1024) (j : Fin 384) :
    k0_pay3 (F := Ideal) c p (ix3 0 i j) = ∑ b : Fin 32, sil (c (ix2 b i)) * p (ix3 0 b j) := by
  pointwise [k0_pay3, pay1_eq]

theorem plane (x : Vec Ideal S2x32x384 .f32) (b : Fin 32) (j : Fin 384) :
    View.ld x r0_1 (ix3 0 b j) = x (ix3 0 b j) ∧ View.ld x r0_3 (ix3 0 b j) = x (ix3 1 b j) := by
  constructor <;> pointwise []

theorem out_eq (x0 : Vec Ideal S32x1024 .f32) (x1 : Vec Ideal S2x32x384 .f32) (l : Fin 2) (i : Fin 1024) (j : Fin 384) :
    out0_2 (F := Ideal) x0 x1 (ix3 l i j) = gradAt x0 x1 l i j := by
  unfold out0_2
  rw [Cert.Ada.canon_plane, Cert.Ada.canon_plane, View.ld_unit_zero (S := S32x1024) hz]
  split
  · rename_i h
    obtain rfl : l = 1 := Fin.ext h
    refine (pay3_eq x0 _ i j).trans (Finset.sum_congr rfl fun b _ => ?_)
    rw [(plane x1 b j).2]
  rename_i h1
  split
  · rename_i h
    obtain rfl : l = 0 := Fin.ext h
    refine (pay2_eq x0 _ i j).trans (Finset.sum_congr rfl fun b _ => ?_)
    rw [(plane x1 b j).1]
  rename_i h0
  exfalso
  omega

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)

theorem blk0 (c : Dev nD) (t : Fin cfg0.N) : iblk m c 0 t = m (c.tc.loc main_arg0) := by
  funext y
  obtain ⟨p, q, rfl⟩ : ∃ (p : Fin 32) (q : Fin 1024), y = ix2 p q := ⟨y 0, y 1, Cert.Ada.eta2 y⟩
  blk_simp [iblk]
  entry_read
  refine congrArg _ ?_
  blk_ext [index0]

theorem blk1 (c : Dev nD) (t : Fin cfg0.N) : iblk m c 1 t = m (c.tc.loc main_arg1) := by
  funext y
  obtain ⟨p, q, r, rfl⟩ : ∃ (p : Fin 2) (q : Fin 32) (r : Fin 384), y = ix3 p q r := ⟨y 0, y 1, y 2, Cert.Ada.eta3 y⟩
  blk_simp [iblk]
  entry_read
  refine congrArg _ ?_
  blk_ext [index1]

/-- The result, whole. -/
abbrev res (c : Dev nD) : Buf (Elt Ideal) ((c.tc : Thread nD τ).loc main_v0) := fun y : S2x1024x384.Idx =>
  gradAt (m (c.tc.loc main_arg0)) (m (c.tc.loc main_arg1)) (y 0) (y 1) (y 2)

theorem final (c : Dev nD) : (dats m 0 c).arrAt 2 cfg0.N = res m c := by
  refine (dats m 0 c).arrAt_eq_of_covers 2 _ (by decide +kernel) fun t hf y => ?_
  blk_simp
  rw [after0_2]
  obtain ⟨l, i, j, rfl⟩ : ∃ (l : Fin 2) (i : Fin 1024) (j : Fin 384), y = ix3 l i j := ⟨y 0, y 1, y 2, Cert.Ada.eta3 y⟩
  have e : (win0_2.blk t).view.emb (ix3 l i j) = ix3 l i j := by blk_ext [index2]
  rw [e]
  refine (out_eq ..).trans ?_
  rw [blk0 m c t, blk1 m c t]
  rfl

end Cert.Kernel17Ideal.AdaBlocks

namespace Cert.AdaWGrad17Value

open Cert.Ada Idealize.ShloMosaic Idealize.SL.Sem Cert.Kernel17Ideal.AdaBlocks Cert.Ada

section
open Cert.Reference17Ideal Cert.Reference17Ideal.Read

theorem act_eq (x0 : FVec Ideal S32x1024 .f32) (b : Fin 32) (i : Fin 1024) : val_main_v0 (F := Ideal) x0 (ix2 b i) = sil (x0 (ix2 b i)) := by
  pointwise [val_main_v0, val_main_call0_v5, val_main_call0_v4, val_main_call0_v3, val_main_call0_v2, val_main_call0_v1, val_main_call0_v0, val_main_call0_cst, val_main_call0_cst_0]
  rfl

theorem grad0_eq (x0 : FVec Ideal S32x1024 .f32) (x1 : FVec Ideal S2x32x384 .f32) (i : Fin 1024) (j : Fin 384) :
    val_main_v6 (F := Ideal) x0 x1 (ix2 i j) = gradAt x0 x1 0 i j := by
  pointwise [val_main_v6, val_main_v5, val_main_v2, val_main_v1, act_eq]
  exact Finset.sum_congr rfl fun b _ => mul_comm _ _

theorem grad1_eq (x0 : FVec Ideal S32x1024 .f32) (x1 : FVec Ideal S2x32x384 .f32) (i : Fin 1024) (j : Fin 384) :
    val_main_v12 (F := Ideal) x0 x1 (ix2 i j) = gradAt x0 x1 1 i j := by
  pointwise [val_main_v12, val_main_v11, val_main_v8, val_main_v7, act_eq]
  exact Finset.sum_congr rfl fun b _ => mul_comm _ _

theorem ref_apply (x0 : FVec Ideal S32x1024 .f32) (x1 : FVec Ideal S2x32x384 .f32) (l : Fin 2) (i : Fin 1024) (j : Fin 384) :
    val_main_v15 (F := Ideal) x0 x1 (ix3 l i j) = gradAt x0 x1 l i j := by
  fin_cases l
  · pointwise [val_main_v15, val_main_v13, grad0_eq]
  · pointwise [val_main_v15, val_main_v14, grad1_eq]
end

/-- On equal arguments the kernel and the reference end with equal results. -/
theorem agree : Cert.algebraic_Kernel17Ideal_Reference17Ideal (hKernel17Ideal := Cert.Kernel17Ideal.Gen.facts) (hReference17Ideal := Cert.Reference17Ideal.Gen.facts) := by
  intro m g m' g' _ hm
  refine ⟨res m,
    (θ_run _ _ _).mono (fun r h c => ?_) (Cert.Kernel17Ideal.Value.run_blocks m g),
    (θ_run _ _ _).mono (fun r h c => ?_) (Cert.Reference17Ideal.Value.run m' g')⟩
  · obtain ⟨h0, h1⟩ := h c
    exact ⟨h0.trans (final m c), h1⟩
  · obtain ⟨h0, h1⟩ := h c
    obtain ⟨e0, e1⟩ := hm c
    refine ⟨h0.trans ((Cert.Reference17Ideal.Read.val_main_v15_eq _ _).trans (funext fun y => ?_)), h1⟩
    refine (congrArg _ (eta3 y)).trans ((ref_apply _ _ (y 0) (y 1) (y 2)).trans ?_)
    rw [e0, e1]

end Cert.AdaWGrad17Value

end
-- ==== Proof.Sum18Value.lean ====
/-
  The gradient of the conditioning's bias: the sum over the sequences, of the kernel and of the reference, is the same function of the arguments.
-/
module

public import proofs.«01_k».proof.Defs
public import proofs.«01_k».proof.Proof.AdaSpec
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise.Select
public import Idealize.ShloMosaic.Lib.Pipeline.ValueKit
public import Idealize.ShloMosaic.Lib.Claim

@[expose] public section

noncomputable section

namespace Cert.Kernel18Ideal.SumBlocks

open Cert.Kernel18Ideal Cert.Kernel18Ideal.Gen Idealize.ShloMosaic Idealize.ShloMosaic.TcCoe

theorem hz : (![0, 0] : Fin 2 → Nat) = fun _ => 0 := funext fun a => by fin_cases a <;> rfl

/-- The sum over the leading axis. -/
def lead {R C : Nat} (p : (⟨3, ![32, R, C]⟩ : Shape).Idx → EReal) (i : Fin R) (j : Fin C) : EReal := ∑ d : Fin 32, p (ix3 d i j)

theorem out_eq (x0 : Vec Ideal S32x48x128 .f32) (r : Fin 48) (j : Fin 128) : out0_1 (F := Ideal) x0 (ix2 r j) = lead x0 r j := by
  unfold out0_1
  rw [View.canon_unit_zero hz]
  pointwise [k0_pay1, k0_pay4, k0_pay3, k0_pay2]
  unfold lead
  simp only [Fin.sum_univ_castSucc, Finset.univ_eq_empty, Finset.sum_empty, zero_add]
  rfl

variable (m : (ℓ : Loc nD τ sig) → Buf (Elt Ideal) ℓ)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)

/-- Row `r` of point `t`. -/
abbrev row (t : Fin cfg0.N) (r : Fin 48) : Fin 48 :=
  ⟨t.val * 48 + r.val, by have := t.isLt; have := r.isLt; have : cfg0.N = 1 := N_0; omega⟩

theorem blk0 (c : Dev nD) (t : Fin cfg0.N) (d : Fin 32) (r : Fin 48) (j : Fin 128) :
    iblk m c 0 t (ix3 d r j) = m (c.tc.loc main_arg0) (ix3 d (row t r) j) := by
  blk_simp [iblk]
  entry_read
  refine congrArg _ ?_
  blk_ext [index0]

theorem lead_eq (c : Dev nD) (t : Fin cfg0.N) (r : Fin 48) (j : Fin 128) :
    lead (iblk m c 0 t) r j = lead (m (c.tc.loc main_arg0)) (row t r) j :=
  Finset.sum_congr rfl fun d _ => blk0 m c t d r j

/-- The sum, whole. -/
abbrev res (c : Dev nD) : Buf (Elt Ideal) ((c.tc : Thread nD τ).loc main_v0) := fun y : S48x128.Idx =>
  lead (m (c.tc.loc main_arg0)) (y 0) (y 1)

theorem final (c : Dev nD) : (dats m 0 c).arrAt 1 cfg0.N = res m c := by
  refine (dats m 0 c).arrAt_eq_of_covers 1 _ (by decide +kernel) fun t hf y => ?_
  blk_simp
  rw [after0_1]
  obtain ⟨r, j, rfl⟩ : ∃ (r : Fin 48) (j : Fin 128), y = ix2 r j := ⟨y 0, y 1, Cert.Ada.eta2 y⟩
  have e : (win0_1.blk t).view.emb (ix2 r j) = ix2 (row t r) j := by blk_ext [index1]
  rw [e]
  refine (out_eq ..).trans ?_
  rw [lead_eq m c t r j]
  rfl

end Cert.Kernel18Ideal.SumBlocks

namespace Cert.Sum18Value

open Cert.Ada Idealize.ShloMosaic Idealize.SL.Sem Cert.Kernel18Ideal.SumBlocks

open Cert.Reference18Ideal Cert.Reference18Ideal.Read in
theorem ref_apply (x0 : FVec Ideal S32x48x128 .f32) (i : Fin 48) (j : Fin 128) :
    val_main_v0 (F := Ideal) x0 (ix2 i j) = lead x0 i j := by
  pointwise [val_main_v0, val_main_cst]
  rfl

/-- On equal arguments the kernel and the reference end with equal results. -/
theorem agree : Cert.algebraic_Kernel18Ideal_Reference18Ideal (hKernel18Ideal := Cert.Kernel18Ideal.Gen.facts) (hReference18Ideal := Cert.Reference18Ideal.Gen.facts) := by
  intro m g m' g' _ hm
  refine ⟨res m,
    (θ_run _ _ _).mono (fun r h c => ?_) (Cert.Kernel18Ideal.Value.run_blocks m g),
    (θ_run _ _ _).mono (fun r h c => ?_) (Cert.Reference18Ideal.Value.run m' g')⟩
  · obtain ⟨h0, h1⟩ := h c
    exact ⟨h0.trans (final m c), h1⟩
  · obtain ⟨h0, h1⟩ := h c
    have e0 := hm c
    refine ⟨h0.trans ((Cert.Reference18Ideal.Read.val_main_v0_eq _).trans (funext fun y => ?_)), h1⟩
    refine (congrArg _ (eta2 y)).trans ((ref_apply _ (y 0) (y 1)).trans ?_)
    rw [e0]

end Cert.Sum18Value

end
-- ==== Proof.Sum19Value.lean ====
/-
  The gradients of the recurrence's two weights: the sum of the devices' parts, of the kernel and of the reference, is the same function of the arguments.
-/
module

public import proofs.«01_k».proof.Defs
public import proofs.«01_k».proof.Proof.AdaSpec
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise.Select
public import Idealize.ShloMosaic.Lib.Pipeline.ValueKit
public import Idealize.ShloMosaic.Lib.Claim

@[expose] public section

noncomputable section

namespace Cert.Kernel19Ideal.SumBlocks

open Cert.Kernel19Ideal Cert.Kernel19Ideal.Gen Idealize.ShloMosaic Idealize.ShloMosaic.TcCoe

theorem hz : (![0, 0] : Fin 2 → Nat) = fun _ => 0 := funext fun a => by fin_cases a <;> rfl

/-- The sum over the leading axis. -/
def lead {R C : Nat} (p : (⟨3, ![8, R, C]⟩ : Shape).Idx → EReal) (i : Fin R) (j : Fin C) : EReal := ∑ d : Fin 8, p (ix3 d i j)

theorem out_eq (x0 : Vec Ideal S8x256x128 .bf16) (r : Fin 256) (j : Fin 128) : out0_1 (F := Ideal) x0 (ix2 r j) = lead x0 r j := by
  unfold out0_1
  rw [View.canon_unit_zero hz]
  unfold k0_pay1
  pointwise []
  unfold lead
  rw [Fin.sum_univ_eight]

variable (m : (ℓ : Loc nD τ sig) → Buf (Elt Ideal) ℓ)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)

/-- Row `r` of point `t`. -/
abbrev row (t : Fin cfg0.N) (r : Fin 256) : Fin 2048 :=
  ⟨t.val * 256 + r.val, by have := t.isLt; have := r.isLt; have : cfg0.N = 8 := N_0; omega⟩

theorem blk0 (c : Dev nD) (t : Fin cfg0.N) (d : Fin 8) (r : Fin 256) (j : Fin 128) :
    iblk m c 0 t (ix3 d r j) = m (c.tc.loc main_arg0) (ix3 d (row t r) j) := by
  blk_simp [iblk]
  entry_read
  refine congrArg _ ?_
  blk_ext [index0]

theorem lead_eq (c : Dev nD) (t : Fin cfg0.N) (r : Fin 256) (j : Fin 128) :
    lead (iblk m c 0 t) r j = lead (m (c.tc.loc main_arg0)) (row t r) j :=
  Finset.sum_congr rfl fun d _ => blk0 m c t d r j

/-- The sum, whole. -/
abbrev res (c : Dev nD) : Buf (Elt Ideal) ((c.tc : Thread nD τ).loc main_v0) := fun y : S2048x128.Idx =>
  lead (m (c.tc.loc main_arg0)) (y 0) (y 1)

theorem final (c : Dev nD) : (dats m 0 c).arrAt 1 cfg0.N = res m c := by
  refine (dats m 0 c).arrAt_eq_of_covers 1 _ (by decide +kernel) fun t hf y => ?_
  blk_simp
  rw [after0_1]
  obtain ⟨r, j, rfl⟩ : ∃ (r : Fin 256) (j : Fin 128), y = ix2 r j := ⟨y 0, y 1, Cert.Ada.eta2 y⟩
  have e : (win0_1.blk t).view.emb (ix2 r j) = ix2 (row t r) j := by blk_ext [index1]
  rw [e]
  refine (out_eq ..).trans ?_
  rw [lead_eq m c t r j]
  rfl

end Cert.Kernel19Ideal.SumBlocks

namespace Cert.Sum19Value

open Cert.Ada Idealize.ShloMosaic Idealize.SL.Sem Cert.Kernel19Ideal.SumBlocks

open Cert.Reference19Ideal Cert.Reference19Ideal.Read in
theorem ref_apply (x0 : FVec Ideal S8x2048x128 .bf16) (i : Fin 2048) (j : Fin 128) :
    val_main_v1 (F := Ideal) x0 (ix2 i j) = lead x0 i j := by
  pointwise [val_main_v1, val_main_v0, val_main_cst]
  rfl

/-- On equal arguments the kernel and the reference end with equal results. -/
theorem agree : Cert.algebraic_Kernel19Ideal_Reference19Ideal (hKernel19Ideal := Cert.Kernel19Ideal.Gen.facts) (hReference19Ideal := Cert.Reference19Ideal.Gen.facts) := by
  intro m g m' g' _ hm
  refine ⟨res m,
    (θ_run _ _ _).mono (fun r h c => ?_) (Cert.Kernel19Ideal.Value.run_blocks m g),
    (θ_run _ _ _).mono (fun r h c => ?_) (Cert.Reference19Ideal.Value.run m' g')⟩
  · obtain ⟨h0, h1⟩ := h c
    exact ⟨h0.trans (final m c), h1⟩
  · obtain ⟨h0, h1⟩ := h c
    have e0 := hm c
    refine ⟨h0.trans ((Cert.Reference19Ideal.Read.val_main_v1_eq _).trans (funext fun y => ?_)), h1⟩
    refine (congrArg _ (eta2 y)).trans ((ref_apply _ (y 0) (y 1)).trans ?_)
    rw [e0]

end Cert.Sum19Value

end
-- ==== Proof.AdaMod20Value.lean ====
/-
  The conditioning's product, of the kernel and of the reference, is the same function of the arguments.
-/
module

public import proofs.«01_k».proof.Defs
public import proofs.«01_k».proof.Proof.AdaSpec
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise.Select
public import Idealize.ShloMosaic.Lib.Pipeline.ValueKit
public import Idealize.ShloMosaic.Lib.Claim

@[expose] public section

noncomputable section

namespace Cert.Kernel20Ideal.AdaBlocks

open Cert.Kernel20Ideal Cert.Kernel20Ideal.Gen Idealize.ShloMosaic Idealize.ShloMosaic.TcCoe Cert.Ada

theorem hz : (![0, 0] : Fin 2 → Nat) = fun _ => 0 := funext fun a => by fin_cases a <;> rfl

theorem pay1_eq (c : Vec Ideal S32x1024 .f32) (b : Fin 32) (i : Fin 1024) : k0_pay1 (F := Ideal) c (ix2 b i) = sil (c (ix2 b i)) := by
  pointwise [k0_pay1]
  unfold sil
  simp only [zero_sub]

/-- Layer `l`'s modulation of sequence `b`, at a column. -/
def modAt (c : (⟨2, ![32, 1024]⟩ : Shape).Idx → EReal) (w : (⟨3, ![2, 1024, 384]⟩ : Shape).Idx → EReal)
    (a : (⟨3, ![2, 1, 384]⟩ : Shape).Idx → EReal) (l : Fin 2) (b : Fin 32) (j : Fin 384) : EReal :=
  (∑ k : Fin 1024, sil (c (ix2 b k)) * w (ix3 l k j)) + a (ix3 l 0 j)

theorem pay2_eq (c : Vec Ideal S32x1024 .f32) (p : Vec Ideal S1x1024x384 .f32) (a : Vec Ideal S1x1x384 .f32) (b : Fin 32) (j : Fin 384) :
    k0_pay2 (F := Ideal) c p a (ix3 0 b j) = (∑ k : Fin 1024, sil (c (ix2 b k)) * p (ix3 0 k j)) + a (ix3 0 0 j) := by
  pointwise [k0_pay2, pay1_eq]

theorem pay3_eq (c : Vec Ideal S32x1024 .f32) (p : Vec Ideal S1x1024x384 .f32) (a : Vec Ideal S1x1x384 .f32) (b : Fin 32) (j : Fin 384) :
    k0_pay3 (F := Ideal) c p a (ix3 0 b j) = (∑ k : Fin 1024, sil (c (ix2 b k)) * p (ix3 0 k j)) + a (ix3 0 0 j) := by
  pointwise [k0_pay3, pay1_eq]

theorem plane (x : Vec Ideal S2x1024x384 .f32) (k : Fin 1024) (j : Fin 384) :
    View.ld x r0_1 (ix3 0 k j) = x (ix3 0 k j) ∧ View.ld x r0_4 (ix3 0 k j) = x (ix3 1 k j) := by
  constructor <;> pointwise []

theorem bias (x : Vec Ideal S2x1x384 .f32) (j : Fin 384) :
    View.ld x r0_2 (ix3 0 0 j) = x (ix3 0 0 j) ∧ View.ld x r0_5 (ix3 0 0 j) = x (ix3 1 0 j) := by
  constructor <;> pointwise []

theorem out_eq (x0 : Vec Ideal S32x1024 .f32) (x1 : Vec Ideal S2x1024x384 .f32) (x2 : Vec Ideal S2x1x384 .f32) (l : Fin 2) (b : Fin 32) (j : Fin 384) :
    out0_3 (F := Ideal) x0 x1 x2 (ix3 l b j) = modAt x0 x1 x2 l b j := by
  unfold out0_3
  rw [Cert.Ada.canon_plane, Cert.Ada.canon_plane, View.ld_unit_zero (S := S32x1024) hz]
  split
  · rename_i h
    obtain rfl : l = 1 := Fin.ext h
    refine (pay3_eq x0 _ _ b j).trans ?_
    rw [(bias x2 j).2]
    exact congrArg (· + x2 (ix3 1 0 j)) (Finset.sum_congr rfl fun k _ => by rw [(plane x1 k j).2])
  rename_i h1
  split
  · rename_i h
    obtain rfl : l = 0 := Fin.ext h
    refine (pay2_eq x0 _ _ b j).trans ?_
    rw [(bias x2 j).1]
    exact congrArg (· + x2 (ix3 0 0 j)) (Finset.sum_congr rfl fun k _ => by rw [(plane x1 k j).1])
  rename_i h0
  exfalso
  omega

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)

theorem blk0 (c : Dev nD) (t : Fin cfg0.N) : iblk m c 0 t = m (c.tc.loc main_arg0) := by
  funext y
  obtain ⟨p, q, rfl⟩ : ∃ (p : Fin 32) (q : Fin 1024), y = ix2 p q := ⟨y 0, y 1, Cert.Ada.eta2 y⟩
  blk_simp [iblk]
  entry_read
  refine congrArg _ ?_
  blk_ext [index0]

theorem blk1 (c : Dev nD) (t : Fin cfg0.N) : iblk m c 1 t = m (c.tc.loc main_arg1) := by
  funext y
  obtain ⟨p, q, r, rfl⟩ : ∃ (p : Fin 2) (q : Fin 1024) (r : Fin 384), y = ix3 p q r := ⟨y 0, y 1, y 2, Cert.Ada.eta3 y⟩
  blk_simp [iblk]
  entry_read
  refine congrArg _ ?_
  blk_ext [index1]

theorem blk2 (c : Dev nD) (t : Fin cfg0.N) : iblk m c 2 t = m (c.tc.loc main_arg2) := by
  funext y
  obtain ⟨p, q, r, rfl⟩ : ∃ (p : Fin 2) (q : Fin 1) (r : Fin 384), y = ix3 p q r := ⟨y 0, y 1, y 2, Cert.Ada.eta3 y⟩
  blk_simp [iblk]
  entry_read
  refine congrArg _ ?_
  blk_ext [index2]

/-- The result, whole. -/
abbrev res (c : Dev nD) : Buf (Elt Ideal) ((c.tc : Thread nD τ).loc main_v0) := fun y : S2x32x384.Idx =>
  modAt (m (c.tc.loc main_arg0)) (m (c.tc.loc main_arg1)) (m (c.tc.loc main_arg2)) (y 0) (y 1) (y 2)

theorem final (c : Dev nD) : (dats m 0 c).arrAt 3 cfg0.N = res m c := by
  refine (dats m 0 c).arrAt_eq_of_covers 3 _ (by decide +kernel) fun t hf y => ?_
  blk_simp
  rw [after0_3]
  obtain ⟨l, i, j, rfl⟩ : ∃ (l : Fin 2) (i : Fin 32) (j : Fin 384), y = ix3 l i j := ⟨y 0, y 1, y 2, Cert.Ada.eta3 y⟩
  have e : (win0_3.blk t).view.emb (ix3 l i j) = ix3 l i j := by blk_ext [index3]
  rw [e]
  refine (out_eq ..).trans ?_
  rw [blk0 m c t, blk1 m c t, blk2 m c t]
  rfl

end Cert.Kernel20Ideal.AdaBlocks

namespace Cert.AdaMod20Value

open Cert.Ada Idealize.ShloMosaic Idealize.SL.Sem Cert.Kernel20Ideal.AdaBlocks Cert.Ada

section
open Cert.Reference20Ideal Cert.Reference20Ideal.Read

theorem act_eq (x0 : FVec Ideal S32x1024 .f32) (b : Fin 32) (i : Fin 1024) : val_main_v0 (F := Ideal) x0 (ix2 b i) = sil (x0 (ix2 b i)) := by
  pointwise [val_main_v0, val_main_call0_v5, val_main_call0_v4, val_main_call0_v3, val_main_call0_v2, val_main_call0_v1, val_main_call0_v0, val_main_call0_cst, val_main_call0_cst_0]
  rfl

theorem mod0_eq (x0 : FVec Ideal S32x1024 .f32) (x1 : FVec Ideal S2x1024x384 .f32) (x2 : FVec Ideal S2x1x384 .f32) (b : Fin 32) (j : Fin 384) :
    val_main_v7 (F := Ideal) x0 x1 x2 (ix2 b j) = modAt x0 x1 x2 0 b j := by
  pointwise [val_main_v7, val_main_v6, val_main_v5, val_main_v4, val_main_v3, val_main_v2, val_main_v1, act_eq]
  rfl

theorem mod1_eq (x0 : FVec Ideal S32x1024 .f32) (x1 : FVec Ideal S2x1024x384 .f32) (x2 : FVec Ideal S2x1x384 .f32) (b : Fin 32) (j : Fin 384) :
    val_main_v14 (F := Ideal) x0 x1 x2 (ix2 b j) = modAt x0 x1 x2 1 b j := by
  pointwise [val_main_v14, val_main_v13, val_main_v12, val_main_v11, val_main_v10, val_main_v9, val_main_v8, act_eq]
  rfl

theorem ref_apply (x0 : FVec Ideal S32x1024 .f32) (x1 : FVec Ideal S2x1024x384 .f32) (x2 : FVec Ideal S2x1x384 .f32) (l : Fin 2) (b : Fin 32) (j : Fin 384) :
    val_main_v17 (F := Ideal) x0 x1 x2 (ix3 l b j) = modAt x0 x1 x2 l b j := by
  fin_cases l
  · pointwise [val_main_v17, val_main_v15, mod0_eq]
  · pointwise [val_main_v17, val_main_v16, mod1_eq]
end

/-- On equal arguments the kernel and the reference end with equal results. -/
theorem agree : Cert.algebraic_Kernel20Ideal_Reference20Ideal (hKernel20Ideal := Cert.Kernel20Ideal.Gen.facts) (hReference20Ideal := Cert.Reference20Ideal.Gen.facts) := by
  intro m g m' g' _ hm
  refine ⟨res m,
    (θ_run _ _ _).mono (fun r h c => ?_) (Cert.Kernel20Ideal.Value.run_blocks m g),
    (θ_run _ _ _).mono (fun r h c => ?_) (Cert.Reference20Ideal.Value.run m' g')⟩
  · obtain ⟨h0, h1⟩ := h c
    exact ⟨h0.trans (final m c), h1⟩
  · obtain ⟨h0, h1⟩ := h c
    obtain ⟨e0, e1, e2⟩ := hm c
    refine ⟨h0.trans ((Cert.Reference20Ideal.Read.val_main_v17_eq _ _ _).trans (funext fun y => ?_)), h1⟩
    refine (congrArg _ (eta3 y)).trans ((ref_apply _ _ _ (y 0) (y 1) (y 2)).trans ?_)
    rw [e0, e1, e2]

end Cert.AdaMod20Value

end
-- ==== Proof.lean ====
/-
  The claims of the programs that the statement states: each kernel, its idealisation and the reference terminate and leave their arguments,
  the idealisation rewrote nothing, and the kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.NormValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Norm0Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Dw4Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Dw5Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Dw6Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Proj7Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Proj8Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Out9Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.TailValue
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.OutBwdValue
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Post11Value
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Adam13Value
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Adam14Value
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Adam15Value
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Adam16Value
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.AdaWGrad17Value
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Sum18Value
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Sum19Value
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.AdaMod20Value
public import Idealize.ShloMosaic.Adequacy
public import Idealize.ShloMosaic.Lib.Quiescent
public import Idealize.ShloMosaic.Init

@[expose] public section

noncomputable section

namespace Cert.Proof

open Idealize.ShloMosaic Idealize.SL.Sem

/-- The gradient of layer 1's norm: the reference terminates and leaves its arguments as they were. -/
theorem frameReference : Cert.quiescent_ReferenceIdeal (hReferenceIdeal := Cert.ReferenceIdeal.Gen.facts) := fun m g _ =>
  (θ_run _ _ _).mono (fun r h => ⟨fun c => (h c).2.2.2, sem_eq_zero_of_no_sems rfl r.2⟩) (Cert.ReferenceIdeal.Value.run m g)

/-- The gradient of layer 0's norm: the reference terminates and leaves its arguments as they were. -/
theorem frameReference2 : Cert.quiescent_Reference2Ideal (hReference2Ideal := Cert.Reference2Ideal.Gen.facts) := fun m g _ =>
  (θ_run _ _ _).mono (fun r h => ⟨fun c => (h c).2.2.2, sem_eq_zero_of_no_sems rfl r.2⟩) (Cert.Reference2Ideal.Value.run m g)

/-- The gradient of layer 1's output product's weight: the reference terminates and leaves its arguments as they were. -/
theorem frameReference4 : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)

/-- The gradient of layer 1's input product's weight: the reference terminates and leaves its arguments as they were. -/
theorem frameReference5 : Cert.quiescent_Reference5Ideal (hReference5Ideal := Cert.Reference5Ideal.Gen.facts) := fun m g _ =>
  (θ_run _ _ _).mono (fun r h => ⟨fun c => (h c).2, sem_eq_zero_of_no_sems rfl r.2⟩) (Cert.Reference5Ideal.Value.run m g)

/-- The gradient of layer 0's input product's weight: the reference terminates and leaves its arguments as they were. -/
theorem frameReference6 : Cert.quiescent_Reference6Ideal (hReference6Ideal := Cert.Reference6Ideal.Gen.facts) := fun m g _ =>
  (θ_run _ _ _).mono (fun r h => ⟨fun c => (h c).2.2.2.2.2.2.2, sem_eq_zero_of_no_sems rfl r.2⟩) (Cert.Reference6Ideal.Value.run m g)

/-- Layer 0's norm and input product: the reference terminates and leaves its arguments as they were. -/
theorem frameReference7 : Cert.quiescent_Reference7Ideal (hReference7Ideal := Cert.Reference7Ideal.Gen.facts) := fun m g _ =>
  (θ_run _ _ _).mono (fun r h => ⟨fun c => (h c).2.2.2, sem_eq_zero_of_no_sems rfl r.2⟩) (Cert.Reference7Ideal.Value.run m g)

/-- Layer 1's norm and input product: the reference terminates and leaves its arguments as they were. -/
theorem frameReference8 : Cert.quiescent_Reference8Ideal (hReference8Ideal := Cert.Reference8Ideal.Gen.facts) := fun m g _ =>
  (θ_run _ _ _).mono (fun r h => ⟨fun c => (h c).2.2, sem_eq_zero_of_no_sems rfl r.2⟩) (Cert.Reference8Ideal.Value.run m g)

/-- Layer 0's output product: the reference terminates and leaves its arguments as they were. -/
theorem frameReference9 : Cert.quiescent_Reference9Ideal (hReference9Ideal := Cert.Reference9Ideal.Gen.facts) := fun m g _ =>
  (θ_run _ _ _).mono (fun r h => ⟨fun c => (h c).2.2.2, sem_eq_zero_of_no_sems rfl r.2⟩) (Cert.Reference9Ideal.Value.run m g)

/-- The last layer's tail: the reference terminates and leaves its arguments as they were. -/
theorem frameReference3 : Cert.quiescent_Reference3Ideal (hReference3Ideal := Cert.Reference3Ideal.Gen.facts) := fun m g _ =>
  (θ_run _ _ _).mono (fun r h => ⟨fun c => (h c).2.2.2.2.2.2.2, sem_eq_zero_of_no_sems rfl r.2⟩) (Cert.Reference3Ideal.Value.run m g)

/-- The gradient of the gated attentions: the reference terminates and leaves its arguments as they were. -/
theorem frameReference10 : Cert.quiescent_Reference10Ideal (hReference10Ideal := Cert.Reference10Ideal.Gen.facts) := fun m g _ =>
  (θ_run _ _ _).mono (fun r h => ⟨fun c => (h c).2.2.2.2, sem_eq_zero_of_no_sems rfl r.2⟩) (Cert.Reference10Ideal.Value.run m g)

/-- The gradient of the forget gate: the reference terminates and leaves its arguments as they were. -/
theorem frameReference11 : Cert.quiescent_Reference11Ideal (hReference11Ideal := Cert.Reference11Ideal.Gen.facts) := fun m g _ =>
  (θ_run _ _ _).mono (fun r h => ⟨fun c => (h c).2.2, sem_eq_zero_of_no_sems rfl r.2⟩) (Cert.Reference11Ideal.Value.run m g)

/-- Layer 1's input product's weight's step: the reference terminates and leaves its arguments as they were. -/
theorem frameReference13 : Cert.quiescent_Reference13Ideal (hReference13Ideal := Cert.Reference13Ideal.Gen.facts) := fun m g _ =>
  (θ_run _ _ _).mono (fun r h => ⟨fun c => (h c).2.2.2.2, sem_eq_zero_of_no_sems rfl r.2⟩) (Cert.Reference13Ideal.Value.run m g)

/-- An output product's weight's step: the reference terminates and leaves its arguments as they were. -/
theorem frameReference14 : Cert.quiescent_Reference14Ideal (hReference14Ideal := Cert.Reference14Ideal.Gen.facts) := fun m g _ =>
  (θ_run _ _ _).mono (fun r h => ⟨fun c => (h c).2.2.2.2, sem_eq_zero_of_no_sems rfl r.2⟩) (Cert.Reference14Ideal.Value.run m g)

/-- Layer 0's input product's weight's step: the reference terminates and leaves its arguments as they were. -/
theorem frameReference15 : Cert.quiescent_Reference15Ideal (hReference15Ideal := Cert.Reference15Ideal.Gen.facts) := fun m g _ =>
  (θ_run _ _ _).mono (fun r h => ⟨fun c => (h c).2.2.2.2, sem_eq_zero_of_no_sems rfl r.2⟩) (Cert.Reference15Ideal.Value.run m g)

/-- The conditioning's weight's step: the reference terminates and leaves its arguments as they were. -/
theorem frameReference16 : Cert.quiescent_Reference16Ideal (hReference16Ideal := Cert.Reference16Ideal.Gen.facts) := fun m g _ =>
  (θ_run _ _ _).mono (fun r h => ⟨fun c => (h c).2.2.2.2, sem_eq_zero_of_no_sems rfl r.2⟩) (Cert.Reference16Ideal.Value.run m g)

/-- The gradient of the conditioning's weight: the reference terminates and leaves its arguments as they were. -/
theorem frameReference17 : Cert.quiescent_Reference17Ideal (hReference17Ideal := Cert.Reference17Ideal.Gen.facts) := fun m g _ =>
  (θ_run _ _ _).mono (fun r h => ⟨fun c => (h c).2, sem_eq_zero_of_no_sems rfl r.2⟩) (Cert.Reference17Ideal.Value.run m g)

/-- The gradient of the conditioning's bias: the reference terminates and leaves its arguments as they were. -/
theorem frameReference18 : Cert.quiescent_Reference18Ideal (hReference18Ideal := Cert.Reference18Ideal.Gen.facts) := fun m g _ =>
  (θ_run _ _ _).mono (fun r h => ⟨fun c => (h c).2, sem_eq_zero_of_no_sems rfl r.2⟩) (Cert.Reference18Ideal.Value.run m g)

/-- The gradients of the recurrence's weights: the reference terminates and leaves its arguments as they were. -/
theorem frameReference19 : Cert.quiescent_Reference19Ideal (hReference19Ideal := Cert.Reference19Ideal.Gen.facts) := fun m g _ =>
  (θ_run _ _ _).mono (fun r h => ⟨fun c => (h c).2, sem_eq_zero_of_no_sems rfl r.2⟩) (Cert.Reference19Ideal.Value.run m g)

/-- The conditioning: the reference terminates and leaves its arguments as they were. -/
theorem frameReference20 : Cert.quiescent_Reference20Ideal (hReference20Ideal := Cert.Reference20Ideal.Gen.facts) := fun m g _ =>
  (θ_run _ _ _).mono (fun r h => ⟨fun c => (h c).2, sem_eq_zero_of_no_sems rfl r.2⟩) (Cert.Reference20Ideal.Value.run m g)

/-- For each program three frames, then the idealisation of the kernel (nothing was rewritten) and the equality of the results. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel3.Gen.facts, Cert.Kernel3Ideal.Gen.facts, Cert.Reference3Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  fun m ρ _ => Cert.Kernel.Gen.frame m ρ, fun m ρ _ => Cert.KernelIdeal.Gen.frame m ρ, frameReference,
  fun m ρ _ => Cert.Kernel2.Gen.frame m ρ, fun m ρ _ => Cert.Kernel2Ideal.Gen.frame m ρ, frameReference2,
  fun m ρ _ => Cert.Kernel4.Gen.frame m ρ, fun m ρ _ => Cert.Kernel4Ideal.Gen.frame m ρ, frameReference4,
  fun m ρ _ => Cert.Kernel5.Gen.frame m ρ, fun m ρ _ => Cert.Kernel5Ideal.Gen.frame m ρ, frameReference5,
  fun m ρ _ => Cert.Kernel6.Gen.frame m ρ, fun m ρ _ => Cert.Kernel6Ideal.Gen.frame m ρ, frameReference6,
  fun m ρ _ => Cert.Kernel7.Gen.frame m ρ, fun m ρ _ => Cert.Kernel7Ideal.Gen.frame m ρ, frameReference7,
  fun m ρ _ => Cert.Kernel8.Gen.frame m ρ, fun m ρ _ => Cert.Kernel8Ideal.Gen.frame m ρ, frameReference8,
  fun m ρ _ => Cert.Kernel9.Gen.frame m ρ, fun m ρ _ => Cert.Kernel9Ideal.Gen.frame m ρ, frameReference9,
  fun m ρ _ => Cert.Kernel3.Gen.frame m ρ, fun m ρ _ => Cert.Kernel3Ideal.Gen.frame m ρ, frameReference3,
  fun m ρ _ => Cert.Kernel10.Gen.frame m ρ, fun m ρ _ => Cert.Kernel10Ideal.Gen.frame m ρ, frameReference10,
  fun m ρ _ => Cert.Kernel11.Gen.frame m ρ, fun m ρ _ => Cert.Kernel11Ideal.Gen.frame m ρ, frameReference11,
  fun m ρ _ => Cert.Kernel13.Gen.frame m ρ, fun m ρ _ => Cert.Kernel13Ideal.Gen.frame m ρ, frameReference13,
  fun m ρ _ => Cert.Kernel14.Gen.frame m ρ, fun m ρ _ => Cert.Kernel14Ideal.Gen.frame m ρ, frameReference14,
  fun m ρ _ => Cert.Kernel15.Gen.frame m ρ, fun m ρ _ => Cert.Kernel15Ideal.Gen.frame m ρ, frameReference15,
  fun m ρ _ => Cert.Kernel16.Gen.frame m ρ, fun m ρ _ => Cert.Kernel16Ideal.Gen.frame m ρ, frameReference16,
  fun m ρ _ => Cert.Kernel17.Gen.frame m ρ, fun m ρ _ => Cert.Kernel17Ideal.Gen.frame m ρ, frameReference17,
  fun m ρ _ => Cert.Kernel18.Gen.frame m ρ, fun m ρ _ => Cert.Kernel18Ideal.Gen.frame m ρ, frameReference18,
  fun m ρ _ => Cert.Kernel19.Gen.frame m ρ, fun m ρ _ => Cert.Kernel19Ideal.Gen.frame m ρ, frameReference19,
  fun m ρ _ => Cert.Kernel20.Gen.frame m ρ, fun m ρ _ => Cert.Kernel20Ideal.Gen.frame m ρ, frameReference20,
  trivial, Cert.NormValue.agree,
  trivial, Cert.Norm0Value.agree,
  trivial, Cert.Dw4Value.agree,
  trivial, Cert.Dw5Value.agree,
  trivial, Cert.Dw6Value.agree,
  trivial, Cert.Proj7Value.agree,
  trivial, Cert.Proj8Value.agree,
  trivial, Cert.Out9Value.agree,
  trivial, Cert.TailValue.agree,
  trivial, Cert.OutBwdValue.agree,
  trivial, Cert.Post11Value.agree,
  trivial, Cert.Adam13Value.agree,
  trivial, Cert.Adam14Value.agree,
  trivial, Cert.Adam15Value.agree,
  trivial, Cert.Adam16Value.agree,
  trivial, Cert.AdaWGrad17Value.agree,
  trivial, Cert.Sum18Value.agree,
  trivial, Cert.Sum19Value.agree,
  trivial, Cert.AdaMod20Value.agree⟩

end Cert.Proof

end
